-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_weights [hPre_finite_weights : Cert.Pre_finite_weights.Facts] (m : (ℓ : Loc Cert.RouterIdeal.nD Cert.RouterIdeal.τ Cert.RouterIdeal.sig) → Buf (Elt Ideal) ℓ) : Prop :=
  ∀ c : Dev Cert.RouterIdeal.nD,
    (Cert.Pre_finite_weights.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))).1 = (fun _ => 1#1)
    ∧ (Cert.Pre_finite_weights.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))).2.1 = (fun _ => 1#1)
    ∧ (Cert.Pre_finite_weights.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))).2.2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_weights [hPre_finite_weights : Cert.Pre_finite_weights.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_weights.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3))).1 = (fun _ => 1#1)
    ∧ (Cert.Pre_finite_weights.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3))).2.1 = (fun _ => 1#1)
    ∧ (Cert.Pre_finite_weights.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterIdeal_pre_finite_weights [hRouterIdeal : Cert.RouterIdeal.Facts] [hPre_finite_weights : Cert.Pre_finite_weights.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_weights m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_RouterRefIdeal_pre_finite_weights [hRouterRefIdeal : Cert.RouterRefIdeal.Facts] [hPre_finite_weights : Cert.Pre_finite_weights.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_weights m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v23) = v0 c
          ∧ r.2.mem ((c.tc : Thread Cert.InprojRefIdeal.nD Cert.InprojRefIdeal.τ).loc Cert.InprojRefIdeal.main_v25) = v1 c
          ∧ r.2.mem ((c.tc : Thread Cert.InprojRefIdeal.nD Cert.InprojRefIdeal.τ).loc Cert.InprojRefIdeal.main_v22) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)) →
    ∃ (v0 : (c : Dev Cert.MixoutIdeal.nD) → Buf (Elt Ideal) ((c.tc : Thread Cert.MixoutIdeal.nD Cert.MixoutIdeal.τ).loc Cert.MixoutIdeal.main_v0)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v0) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v2) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2))

def preserves_Fox_FoxIdeal : Prop :=
  True

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v19)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v19) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v34) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Gates_GatesIdeal : Prop :=
  IdealRules.named_const.Statement Cert.GatesIdeal.κ "log2e" .f32 0x3FB8AA3B#32 (((Real.log 2)⁻¹ : ℝ) : EReal)

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v11) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Router_RouterIdeal : Prop :=
  True

def algebraic_RouterIdeal_RouterRefIdeal_pre_finite_weights [hRouterIdeal : Cert.RouterIdeal.Facts] [hRouterRefIdeal : Cert.RouterRefIdeal.Facts] [hPre_finite_weights : Cert.Pre_finite_weights.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_weights m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v15_0)) (v1 : (c : Dev Cert.RouterIdeal.nD) → Buf (Elt Ideal) ((c.tc : Thread Cert.RouterIdeal.nD Cert.RouterIdeal.τ).loc Cert.RouterIdeal.main_v15_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v15_0) = v0 c
          ∧ r.2.mem ((c.tc : Thread Cert.RouterIdeal.nD Cert.RouterIdeal.τ).loc Cert.RouterIdeal.main_v15_2) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v43) = v0 c
          ∧ r.2.mem ((c.tc : Thread Cert.RouterRefIdeal.nD Cert.RouterRefIdeal.τ).loc Cert.RouterRefIdeal.main_v44) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hMixout : Cert.Mixout.Facts) (hMixoutIdeal : Cert.MixoutIdeal.Facts) (hMixoutRefIdeal : Cert.MixoutRefIdeal.Facts) (hFox : Cert.Fox.Facts) (hFoxIdeal : Cert.FoxIdeal.Facts) (hFoxRefIdeal : Cert.FoxRefIdeal.Facts) (hGates : Cert.Gates.Facts) (hGatesIdeal : Cert.GatesIdeal.Facts) (hGatesRefIdeal : Cert.GatesRefIdeal.Facts) (hRouter : Cert.Router.Facts) (hRouterIdeal : Cert.RouterIdeal.Facts) (hRouterRefIdeal : Cert.RouterRefIdeal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Gates (hGates := hGates)
    ∧ quiescent_GatesIdeal (hGatesIdeal := hGatesIdeal)
    ∧ quiescent_GatesRefIdeal (hGatesRefIdeal := hGatesRefIdeal)
    ∧ quiescent_Router (hRouter := hRouter)
    ∧ quiescent_RouterIdeal (hRouterIdeal := hRouterIdeal)
    ∧ quiescent_RouterIdeal_pre_finite_weights (hRouterIdeal := hRouterIdeal) (hPre_finite_weights := hPre_finite_weights)
    ∧ quiescent_RouterRefIdeal (hRouterRefIdeal := hRouterRefIdeal)
    ∧ quiescent_RouterRefIdeal_pre_finite_weights (hRouterRefIdeal := hRouterRefIdeal) (hPre_finite_weights := hPre_finite_weights)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Mixout_MixoutIdeal
    ∧ algebraic_MixoutIdeal_MixoutRefIdeal (hMixoutIdeal := hMixoutIdeal) (hMixoutRefIdeal := hMixoutRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Gates_GatesIdeal
    ∧ algebraic_GatesIdeal_GatesRefIdeal (hGatesIdeal := hGatesIdeal) (hGatesRefIdeal := hGatesRefIdeal)
    ∧ preserves_Router_RouterIdeal
    ∧ algebraic_RouterIdeal_RouterRefIdeal_pre_finite_weights (hRouterIdeal := hRouterIdeal) (hRouterRefIdeal := hRouterRefIdeal) (hPre_finite_weights := hPre_finite_weights)
-- ==== Pre_finite.lean ====
abbrev S2x4096x8x128 : Shape := ⟨4, ![2, 4096, 8, 128]⟩
abbrev S2x4096x8 : Shape := ⟨3, ![2, 4096, 8]⟩
abbrev S_ : Shape := ⟨0, ![]⟩

class Facts : Prop where
  bcast_S_S2x4096x8x128 : S_.BroadcastsInDim S2x4096x8x128 (![] : Fin 0 → Fin S2x4096x8x128.rank)
  bcast_S_S2x4096x8 : S_.BroadcastsInDim S2x4096x8 (![] : Fin 0 → Fin S2x4096x8.rank)

variable [Facts]

def fn {F : FTy → Type} [FloatOps F] (main_arg0 : FVec F S2x4096x8x128 .f32) (main_arg1 : FVec F S2x4096x8x128 .f32) (main_arg2 : FVec F S2x4096x8x128 .f32) (main_arg3 : FVec F S2x4096x8 .f32) : IVec S2x4096x8x128 1 × IVec S2x4096x8x128 1 × IVec S2x4096x8 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_v3 : FVec F S2x4096x8x128 .f32 := Host.absf main_arg1
  let main_cst_0 : FVec F S_ .f32 := constant S_ .f32 0x7F800000#32
  let main_v4 : FVec F S2x4096x8x128 .f32 := broadcastInDim S2x4096x8x128 ![] bcast_S_S2x4096x8x128 main_cst_0
  let main_v5 : IVec S2x4096x8x128 1 := cmpf .olt main_v3 main_v4
  let main_v6 : FVec F S2x4096x8 .f32 := Host.absf main_arg3
  let main_cst_1 : FVec F S_ .f32 := constant S_ .f32 0x7F800000#32
  let main_v7 : FVec F S2x4096x8 .f32 := broadcastInDim S2x4096x8 ![] bcast_S_S2x4096x8 main_cst_1
  let main_v8 : IVec S2x4096x8 1 := cmpf .olt main_v6 main_v7
  (main_v2, main_v5, main_v8)
-- ==== Pre_finite_weights.lean ====
abbrev S8192x2048 : Shape := ⟨2, ![8192, 2048]⟩
abbrev S1x2048 : Shape := ⟨2, ![1, 2048]⟩
abbrev S2048x4 : Shape := ⟨2, ![2048, 4]⟩
abbrev S2048x32 : Shape := ⟨2, ![2048, 32]⟩
abbrev S_ : Shape := ⟨0, ![]⟩

class Facts : Prop where
  bcast_S_S1x2048 : S_.BroadcastsInDim S1x2048 (![] : Fin 0 → Fin S1x2048.rank)
  bcast_S_S2048x4 : S_.BroadcastsInDim S2048x4 (![] : Fin 0 → Fin S2048x4.rank)
  bcast_S_S2048x32 : S_.BroadcastsInDim S2048x32 (![] : Fin 0 → Fin S2048x32.rank)

variable [Facts]

def fn {F : FTy → Type} [FloatOps F] (main_arg0 : FVec F S8192x2048 .f32) (main_arg1 : FVec F S1x2048 .f32) (main_arg2 : FVec F S2048x4 .f32) (main_arg3 : FVec F S2048x32 .f32) : IVec S1x2048 1 × IVec S2048x4 1 × IVec S2048x32 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S2048x4 .f32 := Host.absf main_arg2
  let main_cst_0 : FVec F S_ .f32 := constant S_ .f32 0x7F800000#32
  let main_v4 : FVec F S2048x4 .f32 := broadcastInDim S2048x4 ![] bcast_S_S2048x4 main_cst_0
  let main_v5 : IVec S2048x4 1 := cmpf .olt main_v3 main_v4
  let main_v6 : FVec F S2048x32 .f32 := Host.absf main_arg3
  let main_cst_1 : FVec F S_ .f32 := constant S_ .f32 0x7F800000#32
  let main_v7 : FVec F S2048x32 .f32 := broadcastInDim S2048x32 ![] bcast_S_S2048x32 main_cst_1
  let main_v8 : IVec S2048x32 1 := cmpf .olt main_v6 main_v7
  (main_v2, main_v5, main_v8)
-- ==== Kernel.lean ====
abbrev S1x2048x10248 : Shape := ⟨3, ![1, 2048, 10248]⟩
abbrev S20 : Shape := ⟨1, ![20]⟩
abbrev S2048x10248 : Shape := ⟨2, ![2048, 10248]⟩
abbrev S10248x2048 : Shape := ⟨2, ![10248, 2048]⟩
abbrev S10240x2048 : Shape := ⟨2, ![10240, 2048]⟩
abbrev S128x2048 : Shape := ⟨2, ![128, 2048]⟩
abbrev S512x2048 : Shape := ⟨2, ![512, 2048]⟩
abbrev S1 : Shape := ⟨1, ![1]⟩
abbrev S8x2048 : Shape := ⟨2, ![8, 2048]⟩

abbrev nBuf : Space → Nat
  | .hbm => 6
  | .vmem => 6
  | .smem => 2
  | _ => 0

abbrev bufTy : (tb : Table) → Fin (tcTables nBuf tb) → BufTy
  | .hbm, ⟨0, _⟩ => ⟨S1x2048x10248, .f32⟩
  | .hbm, ⟨1, _⟩ => ⟨S20, .f32⟩
  | .hbm, ⟨2, _⟩ => ⟨S2048x10248, .f32⟩
  | .hbm, ⟨3, _⟩ => ⟨S10248x2048, .f32⟩
  | .hbm, ⟨4, _⟩ => ⟨S10240x2048, .bf16⟩
  | .hbm, ⟨5, _⟩ => ⟨S128x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S512x2048, .bf16⟩
  | .local _ .vmem, ⟨4, _⟩ => ⟨S512x2048, .bf16⟩
  | .local _ .vmem, ⟨5, _⟩ => ⟨S128x2048, .bf16⟩
  | .local _ .smem, ⟨0, _⟩ => ⟨S20, .i32⟩
  | .local _ .smem, ⟨1, _⟩ => ⟨S20, .f32⟩
  | _, _ => ⟨S1x2048x10248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_c : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c8_i32 : BitVec 32 := 8#32
  let v2 : BitVec 32 := Scalar.muli v1 c8_i32
  v2

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S20) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x2048x10248 : Shape := ⟨3, ![1, 2048, 10248]⟩
abbrev S2048x10248 : Shape := ⟨2, ![2048, 10248]⟩
abbrev S2048x1024 : Shape := ⟨2, ![2048, 1024]⟩
abbrev S2048x8 : Shape := ⟨2, ![2048, 8]⟩
abbrev S2048x4096 : Shape := ⟨2, ![2048, 4096]⟩
abbrev S_ : Shape := ⟨0, ![]⟩
abbrev S2048x10240 : Shape := ⟨2, ![2048, 10240]⟩
abbrev S2048x120 : Shape := ⟨2, ![2048, 120]⟩
abbrev S2048x128 : Shape := ⟨2, ![2048, 128]⟩
abbrev S10240x2048 : Shape := ⟨2, ![10240, 2048]⟩
abbrev S128x2048 : Shape := ⟨2, ![128, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1x2048x10248, .f32⟩
  | .hbm, ⟨1, _⟩ => ⟨S2048x10248, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x8, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x4096, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x10240, .f32⟩
  | .hbm, ⟨17, _⟩ => ⟨S_, .f32⟩
  | .hbm, ⟨18, _⟩ => ⟨S2048x120, .f32⟩
  | .hbm, ⟨19, _⟩ => ⟨S2048x128, .f32⟩
  | .hbm, ⟨20, _⟩ => ⟨S10240x2048, .f32⟩
  | .hbm, ⟨21, _⟩ => ⟨S10240x2048, .bf16⟩
  | .hbm, ⟨22, _⟩ => ⟨S128x2048, .f32⟩
  | .hbm, ⟨23, _⟩ => ⟨S128x2048, .bf16⟩
  | _, _ => ⟨S1x2048x10248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Inproj.lean ====
abbrev S8192x2048 : Shape := ⟨2, ![8192, 2048]⟩
abbrev S1x2048 : Shape := ⟨2, ![1, 2048]⟩
abbrev S10240x2048 : Shape := ⟨2, ![10240, 2048]⟩
abbrev S128x2048 : Shape := ⟨2, ![128, 2048]⟩
abbrev S8192x8192 : Shape := ⟨2, ![8192, 8192]⟩
abbrev S2048x8192 : Shape := ⟨2, ![2048, 8192]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S10240x2048, .bf16⟩
  | .hbm, ⟨3, _⟩ => ⟨S128x2048, .bf16⟩
  | .hbm, ⟨4, _⟩ => ⟨S8192x8192, .bf16⟩
  | .hbm, ⟨5, _⟩ => ⟨S2048x8192, .bf16⟩
  | .hbm, ⟨6, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InprojRefIdeal.lean ====
abbrev S8192x2048 : Shape := ⟨2, ![8192, 2048]⟩
abbrev S1x2048 : Shape := ⟨2, ![1, 2048]⟩
abbrev S10240x2048 : Shape := ⟨2, ![10240, 2048]⟩
abbrev S128x2048 : Shape := ⟨2, ![128, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩
abbrev S2048x2048 : Shape := ⟨2, ![2048, 2048]⟩
abbrev S2048x128 : Shape := ⟨2, ![2048, 128]⟩
abbrev S8192x128 : Shape := ⟨2, ![8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S10240x2048, .bf16⟩
  | .hbm, ⟨3, _⟩ => ⟨S128x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x2048, .bf16⟩
  | .hbm, ⟨21, _⟩ => ⟨S2048x8192, .bf16⟩
  | .hbm, ⟨22, _⟩ => ⟨S8192x8192, .f32⟩
  | .hbm, ⟨23, _⟩ => ⟨S8192x2048, .bf16⟩
  | .hbm, ⟨24, _⟩ => ⟨S2048x2048, .bf16⟩
  | .hbm, ⟨25, _⟩ => ⟨S2048x2048, .bf16⟩
  | .hbm, ⟨26, _⟩ => ⟨S8192x2048, .f32⟩
  | .hbm, ⟨27, _⟩ => ⟨S8192x2048, .bf16⟩
  | .hbm, ⟨28, _⟩ => ⟨S2048x128, .bf16⟩
  | .hbm, ⟨29, _⟩ => ⟨S8192x128, .f32⟩
  | .hbm, ⟨30, _⟩ => ⟨S8192x8192, .bf16⟩
  | .hbm, ⟨31, _⟩ => ⟨S2048x8192, .f32⟩
  | .hbm, ⟨32, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Merge.lean ====
abbrev S8192x1024 : Shape := ⟨2, ![8192, 1024]⟩
abbrev S1024x2048 : Shape := ⟨2, ![1024, 2048]⟩
abbrev S8192x8192 : Shape := ⟨2, ![8192, 8192]⟩
abbrev S8192x2048 : Shape := ⟨2, ![8192, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x8192, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let c0_1 : Index := 0#32
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  ![0, v3.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x1024 : Shape := ⟨2, ![8192, 1024]⟩
abbrev S1024x2048 : Shape := ⟨2, ![1024, 2048]⟩
abbrev S8192x8192 : Shape := ⟨2, ![8192, 8192]⟩
abbrev S8192x2048 : Shape := ⟨2, ![8192, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x8192, .bf16⟩
  | .hbm, ⟨5, _⟩ => ⟨S1024x2048, .bf16⟩
  | .hbm, ⟨6, _⟩ => ⟨S8192x2048, .f32⟩
  | .hbm, ⟨7, _⟩ => ⟨S1024x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Mixout.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixoutRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Fox.lean ====
abbrev S2x4096x8x128 : Shape := ⟨4, ![2, 4096, 8, 128]⟩
abbrev S2x4096x8 : Shape := ⟨3, ![2, 4096, 8]⟩
abbrev S_ : Shape := ⟨0, ![]⟩
abbrev S8192x1024 : Shape := ⟨2, ![8192, 1024]⟩
abbrev S8192x2048 : Shape := ⟨2, ![8192, 2048]⟩
abbrev S1024x8192 : Shape := ⟨2, ![1024, 8192]⟩
abbrev S8192x8 : Shape := ⟨2, ![8192, 8]⟩
abbrev S8x8192 : Shape := ⟨2, ![8, 8192]⟩
abbrev S8x8192x1 : Shape := ⟨3, ![8, 8192, 1]⟩
abbrev S8x8192x128 : Shape := ⟨3, ![8, 8192, 128]⟩
abbrev S512x512 : Shape := ⟨2, ![512, 512]⟩
abbrev S4096x512 : Shape := ⟨2, ![4096, 512]⟩
abbrev S512x4096 : Shape := ⟨2, ![512, 4096]⟩
abbrev S4x4096x128 : Shape := ⟨3, ![4, 4096, 128]⟩
abbrev S4x1x512 : Shape := ⟨3, ![4, 1, 512]⟩
abbrev S4x128x512 : Shape := ⟨3, ![4, 128, 512]⟩
abbrev S512x128 : Shape := ⟨2, ![512, 128]⟩
abbrev S1x512x128 : Shape := ⟨3, ![1, 512, 128]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩
abbrev S1x128x512 : Shape := ⟨3, ![1, 128, 512]⟩
abbrev S256x512 : Shape := ⟨2, ![256, 512]⟩
abbrev S256x128 : Shape := ⟨2, ![256, 128]⟩
abbrev S1x256x128 : Shape := ⟨3, ![1, 256, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩

abbrev nBuf : Space → Nat
  | .hbm => 26
  | .vmem => 13
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S_, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x2048, .bf16⟩
  | .hbm, ⟨16, _⟩ => ⟨S8192x1024, .f32⟩
  | .hbm, ⟨17, _⟩ => ⟨S1024x8192, .f32⟩
  | .hbm, ⟨18, _⟩ => ⟨S1024x8192, .bf16⟩
  | .hbm, ⟨19, _⟩ => ⟨S8192x8, .f32⟩
  | .hbm, ⟨20, _⟩ => ⟨S8x8192, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x128, .f32⟩
  | .hbm, ⟨25, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S4x4096x128, .f32⟩
  | .local _ .vmem, ⟨7, _⟩ => ⟨S4x4096x128, .f32⟩
  | .local _ .vmem, ⟨8, _⟩ => ⟨S512x512, .bf16⟩
  | .local _ .vmem, ⟨9, _⟩ => ⟨S512x512, .bf16⟩
  | .local _ .vmem, ⟨10, _⟩ => ⟨S4x1x512, .f32⟩
  | .local _ .vmem, ⟨11, _⟩ => ⟨S4x1x512, .f32⟩
  | .local _ .vmem, ⟨12, _⟩ => ⟨S4x128x512, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_17 : BitVec 32 := 1#32
  ⟨c0_i32_15, v33, c1_i32_17⟩
def k0_mult1 (i : grid0.Coords) (k0_t1 : Fin (k0_t1_loop i).trips) : BitVec 32 :=
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  v497
def k0_off1 (i : grid0.Coords) (k0_t1 : Fin (k0_t1_loop i).trips) : Fin 2 → Nat :=
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v499 : Index := Scalar.indexCast v498
  let c0_298 : Index := 0#32
  ![v499.toNat, 0]
def k0_off2 (i : grid0.Coords) (k0_t1 : Fin (k0_t1_loop i).trips) : Fin 2 → Nat :=
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v505 : Index := Scalar.indexCast v498
  let c128_302 : Index := 128#32
  ![v505.toNat, 128]
def k0_off3 (i : grid0.Coords) (k0_t1 : Fin (k0_t1_loop i).trips) : Fin 2 → Nat :=
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v511 : Index := Scalar.indexCast v498
  let c256_306 : Index := 256#32
  ![v511.toNat, 256]
def k0_off4 (i : grid0.Coords) (k0_t1 : Fin (k0_t1_loop i).trips) : Fin 2 → Nat :=
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v517 : Index := Scalar.indexCast v498
  let c384_310 : Index := 384#32
  ![v517.toNat, 384]
def k0_off5 (i : grid0.Coords) (k0_t1 : Fin (k0_t1_loop i).trips) : Fin 3 → Nat :=
  let c0_314 : Index := 0#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v523 : Index := Scalar.indexCast v498
  let c0_315 : Index := 0#32
  ![0, v523.toNat, 0]
def k0_off6 (i : grid0.Coords) (k0_t1 : Fin (k0_t1_loop i).trips) : Fin 2 → Nat :=
  let c0_327 : Index := 0#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v547 : Index := Scalar.indexCast v498
  ![0, v547.toNat]
def k0_off7 (i : grid0.Coords) (k0_t1 : Fin (k0_t1_loop i).trips) : Fin 3 → Nat :=
  let c1_338 : Index := 1#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v563 : Index := Scalar.indexCast v498
  let c0_339 : Index := 0#32
  ![1, v563.toNat, 0]
def k0_off8 (i : grid0.Coords) (k0_t1 : Fin (k0_t1_loop i).trips) : Fin 2 → Nat :=
  let c128_351 : Index := 128#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v587 : Index := Scalar.indexCast v498
  ![128, v587.toNat]
def k0_off9 (i : grid0.Coords) (k0_t1 : Fin (k0_t1_loop i).trips) : Fin 3 → Nat :=
  let c2_362 : Index := 2#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v603 : Index := Scalar.indexCast v498
  let c0_363 : Index := 0#32
  ![2, v603.toNat, 0]
def k0_off10 (i : grid0.Coords) (k0_t1 : Fin (k0_t1_loop i).trips) : Fin 2 → Nat :=
  let c256_375 : Index := 256#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v627 : Index := Scalar.indexCast v498
  ![256, v627.toNat]
def k0_off11 (i : grid0.Coords) (k0_t1 : Fin (k0_t1_loop i).trips) : Fin 3 → Nat :=
  let c3_386 : Index := 3#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v643 : Index := Scalar.indexCast v498
  let c0_387 : Index := 0#32
  ![3, v643.toNat, 0]
def k0_off12 (i : grid0.Coords) (k0_t1 : Fin (k0_t1_loop i).trips) : Fin 2 → Nat :=
  let c384_399 : Index := 384#32
  let c2_i32_295 : BitVec 32 := 2#32
  let c0_i32_15 : BitVec 32 := 0#32
  let c1_i32_17 : BitVec 32 := 1#32
  let arg11 : BitVec 32 := Scf.iv c0_i32_15 c1_i32_17 k0_t1
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v667 : Index := Scalar.indexCast v498
  ![384, v667.toNat]
def k0_mult2 (i : grid0.Coords) (k0_t1 : Fin (k0_t1_loop i).trips) : BitVec 32 :=
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  v686
def k0_off13 (i : grid0.Coords) (k0_t1 : Fin (k0_t1_loop i).trips) : Fin 2 → Nat :=
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v688 : Index := Scalar.indexCast v687
  let c0_414 : Index := 0#32
  ![v688.toNat, 0]
def k0_off14 (i : grid0.Coords) (k0_t1 : Fin (k0_t1_loop i).trips) : Fin 2 → Nat :=
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v694 : Index := Scalar.indexCast v687
  let c128_418 : Index := 128#32
  ![v694.toNat, 128]
def k0_off15 (i : grid0.Coords) (k0_t1 : Fin (k0_t1_loop i).trips) : Fin 2 → Nat :=
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v700 : Index := Scalar.indexCast v687
  let c256_422 : Index := 256#32
  ![v700.toNat, 256]
def k0_off16 (i : grid0.Coords) (k0_t1 : Fin (k0_t1_loop i).trips) : Fin 2 → Nat :=
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v706 : Index := Scalar.indexCast v687
  let c384_426 : Index := 384#32
  ![v706.toNat, 384]
def k0_off17 (i : grid0.Coords) (k0_t1 : Fin (k0_t1_loop i).trips) : Fin 3 → Nat :=
  let c0_430 : Index := 0#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v712 : Index := Scalar.indexCast v687
  let c0_431 : Index := 0#32
  ![0, v712.toNat, 0]
def k0_off18 (i : grid0.Coords) (k0_t1 : Fin (k0_t1_loop i).trips) : Fin 2 → Nat :=
  let c0_443 : Index := 0#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v736 : Index := Scalar.indexCast v687
  ![0, v736.toNat]
def k0_off19 (i : grid0.Coords) (k0_t1 : Fin (k0_t1_loop i).trips) : Fin 3 → Nat :=
  let c1_454 : Index := 1#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v752 : Index := Scalar.indexCast v687
  let c0_455 : Index := 0#32
  ![1, v752.toNat, 0]
def k0_off20 (i : grid0.Coords) (k0_t1 : Fin (k0_t1_loop i).trips) : Fin 2 → Nat :=
  let c128_467 : Index := 128#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v776 : Index := Scalar.indexCast v687
  ![128, v776.toNat]
def k0_off21 (i : grid0.Coords) (k0_t1 : Fin (k0_t1_loop i).trips) : Fin 3 → Nat :=
  let c2_478 : Index := 2#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v792 : Index := Scalar.indexCast v687
  let c0_479 : Index := 0#32
  ![2, v792.toNat, 0]
def k0_off22 (i : grid0.Coords) (k0_t1 : Fin (k0_t1_loop i).trips) : Fin 2 → Nat :=
  let c256_491 : Index := 256#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v816 : Index := Scalar.indexCast v687
  ![256, v816.toNat]
def k0_off23 (i : grid0.Coords) (k0_t1 : Fin (k0_t1_loop i).trips) : Fin 3 → Nat :=
  let c3_502 : Index := 3#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v832 : Index := Scalar.indexCast v687
  let c0_503 : Index := 0#32
  ![3, v832.toNat, 0]
def k0_off24 (i : grid0.Coords) (k0_t1 : Fin (k0_t1_loop i).trips) : Fin 2 → Nat :=
  let c384_515 : Index := 384#32
  let c2_i32_410 : BitVec 32 := 2#32
  let c0_i32_15 : BitVec 32 := 0#32
  let c1_i32_17 : BitVec 32 := 1#32
  let arg11 : BitVec 32 := Scf.iv c0_i32_15 c1_i32_17 k0_t1
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v856 : Index := Scalar.indexCast v687
  ![384, v856.toNat]
@[reducible] def k0_t2_loop (i : grid0.Coords) : Scf.Loop 32 :=
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let v30 : BitVec 32 := Scalar.addi c0_i32_15 v29
  let c1_i32_18 : BitVec 32 := 1#32
  ⟨v33, v30, c1_i32_18⟩
def k0_mult3 (i : grid0.Coords) (k0_t2 : Fin (k0_t2_loop i).trips) : BitVec 32 :=
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  v497
def k0_off25 (i : grid0.Coords) (k0_t2 : Fin (k0_t2_loop i).trips) : Fin 2 → Nat :=
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v499 : Index := Scalar.indexCast v498
  let c0_298 : Index := 0#32
  ![v499.toNat, 0]
def k0_off26 (i : grid0.Coords) (k0_t2 : Fin (k0_t2_loop i).trips) : Fin 2 → Nat :=
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v505 : Index := Scalar.indexCast v498
  let c128_302 : Index := 128#32
  ![v505.toNat, 128]
def k0_off27 (i : grid0.Coords) (k0_t2 : Fin (k0_t2_loop i).trips) : Fin 2 → Nat :=
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v511 : Index := Scalar.indexCast v498
  let c256_306 : Index := 256#32
  ![v511.toNat, 256]
def k0_off28 (i : grid0.Coords) (k0_t2 : Fin (k0_t2_loop i).trips) : Fin 2 → Nat :=
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v517 : Index := Scalar.indexCast v498
  let c384_310 : Index := 384#32
  ![v517.toNat, 384]
def k0_off29 (i : grid0.Coords) (k0_t2 : Fin (k0_t2_loop i).trips) : Fin 3 → Nat :=
  let c0_314 : Index := 0#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v523 : Index := Scalar.indexCast v498
  let c0_315 : Index := 0#32
  ![0, v523.toNat, 0]
def k0_off30 (i : grid0.Coords) (k0_t2 : Fin (k0_t2_loop i).trips) : Fin 2 → Nat :=
  let c0_327 : Index := 0#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v547 : Index := Scalar.indexCast v498
  ![0, v547.toNat]
def k0_off31 (i : grid0.Coords) (k0_t2 : Fin (k0_t2_loop i).trips) : Fin 3 → Nat :=
  let c1_338 : Index := 1#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v563 : Index := Scalar.indexCast v498
  let c0_339 : Index := 0#32
  ![1, v563.toNat, 0]
def k0_off32 (i : grid0.Coords) (k0_t2 : Fin (k0_t2_loop i).trips) : Fin 2 → Nat :=
  let c128_351 : Index := 128#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v587 : Index := Scalar.indexCast v498
  ![128, v587.toNat]
def k0_off33 (i : grid0.Coords) (k0_t2 : Fin (k0_t2_loop i).trips) : Fin 3 → Nat :=
  let c2_362 : Index := 2#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v603 : Index := Scalar.indexCast v498
  let c0_363 : Index := 0#32
  ![2, v603.toNat, 0]
def k0_off34 (i : grid0.Coords) (k0_t2 : Fin (k0_t2_loop i).trips) : Fin 2 → Nat :=
  let c256_375 : Index := 256#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v627 : Index := Scalar.indexCast v498
  ![256, v627.toNat]
def k0_off35 (i : grid0.Coords) (k0_t2 : Fin (k0_t2_loop i).trips) : Fin 3 → Nat :=
  let c3_386 : Index := 3#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v643 : Index := Scalar.indexCast v498
  let c0_387 : Index := 0#32
  ![3, v643.toNat, 0]
def k0_off36 (i : grid0.Coords) (k0_t2 : Fin (k0_t2_loop i).trips) : Fin 2 → Nat :=
  let c384_399 : Index := 384#32
  let c2_i32_295 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v495 : BitVec 32 := Scalar.muli c2_i32_295 arg11
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v667 : Index := Scalar.indexCast v498
  ![384, v667.toNat]
def k0_mult4 (i : grid0.Coords) (k0_t2 : Fin (k0_t2_loop i).trips) : BitVec 32 :=
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  v686
def k0_off37 (i : grid0.Coords) (k0_t2 : Fin (k0_t2_loop i).trips) : Fin 2 → Nat :=
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v688 : Index := Scalar.indexCast v687
  let c0_414 : Index := 0#32
  ![v688.toNat, 0]
def k0_off38 (i : grid0.Coords) (k0_t2 : Fin (k0_t2_loop i).trips) : Fin 2 → Nat :=
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v694 : Index := Scalar.indexCast v687
  let c128_418 : Index := 128#32
  ![v694.toNat, 128]
def k0_off39 (i : grid0.Coords) (k0_t2 : Fin (k0_t2_loop i).trips) : Fin 2 → Nat :=
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v700 : Index := Scalar.indexCast v687
  let c256_422 : Index := 256#32
  ![v700.toNat, 256]
def k0_off40 (i : grid0.Coords) (k0_t2 : Fin (k0_t2_loop i).trips) : Fin 2 → Nat :=
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v706 : Index := Scalar.indexCast v687
  let c384_426 : Index := 384#32
  ![v706.toNat, 384]
def k0_off41 (i : grid0.Coords) (k0_t2 : Fin (k0_t2_loop i).trips) : Fin 3 → Nat :=
  let c0_430 : Index := 0#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v712 : Index := Scalar.indexCast v687
  let c0_431 : Index := 0#32
  ![0, v712.toNat, 0]
def k0_off42 (i : grid0.Coords) (k0_t2 : Fin (k0_t2_loop i).trips) : Fin 2 → Nat :=
  let c0_443 : Index := 0#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v736 : Index := Scalar.indexCast v687
  ![0, v736.toNat]
def k0_off43 (i : grid0.Coords) (k0_t2 : Fin (k0_t2_loop i).trips) : Fin 3 → Nat :=
  let c1_454 : Index := 1#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v752 : Index := Scalar.indexCast v687
  let c0_455 : Index := 0#32
  ![1, v752.toNat, 0]
def k0_off44 (i : grid0.Coords) (k0_t2 : Fin (k0_t2_loop i).trips) : Fin 2 → Nat :=
  let c128_467 : Index := 128#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v776 : Index := Scalar.indexCast v687
  ![128, v776.toNat]
def k0_off45 (i : grid0.Coords) (k0_t2 : Fin (k0_t2_loop i).trips) : Fin 3 → Nat :=
  let c2_478 : Index := 2#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v792 : Index := Scalar.indexCast v687
  let c0_479 : Index := 0#32
  ![2, v792.toNat, 0]
def k0_off46 (i : grid0.Coords) (k0_t2 : Fin (k0_t2_loop i).trips) : Fin 2 → Nat :=
  let c256_491 : Index := 256#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v816 : Index := Scalar.indexCast v687
  ![256, v816.toNat]
def k0_off47 (i : grid0.Coords) (k0_t2 : Fin (k0_t2_loop i).trips) : Fin 3 → Nat :=
  let c3_502 : Index := 3#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v832 : Index := Scalar.indexCast v687
  let c0_503 : Index := 0#32
  ![3, v832.toNat, 0]
def k0_off48 (i : grid0.Coords) (k0_t2 : Fin (k0_t2_loop i).trips) : Fin 2 → Nat :=
  let c384_515 : Index := 384#32
  let c2_i32_410 : BitVec 32 := 2#32
  let c0_i32_15 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_10 : BitVec 32 := 0#32
  let v15 : BitVec 1 := Scalar.cmpi .slt arg2 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg2 c2_i32
  let c0_i32_13 : BitVec 32 := 0#32
  let v25 : BitVec 1 := Scalar.cmpi .ne v24 c0_i32_13
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg11 : BitVec 32 := Scf.iv v33 c1_i32_18 k0_t2
  let v683 : BitVec 32 := Scalar.muli c2_i32_410 arg11
  let c1_i32_411 : BitVec 32 := 1#32
  let v684 : BitVec 32 := Scalar.addi v683 c1_i32_411
  let c512_i32_412 : BitVec 32 := 512#32
  let v685 : BitVec 32 := Scalar.muli v684 c512_i32_412
  let c0_i32_413 : BitVec 32 := 0#32
  let v686 : BitVec 32 := Scalar.addi v685 c0_i32_413
  let v687 : BitVec 32 := v686
  let v856 : Index := Scalar.indexCast v687
  ![384, v856.toNat]
def k0_cond1 (i : grid0.Coords) : BitVec 1 :=
  let arg2 : BitVec 32 := BitVec.ofNat 32 (i 2).val
  let c2_i32_19 : BitVec 32 := 2#32
  let c0_i32_20 : BitVec 32 := 0#32
  let v34 : BitVec 1 := Scalar.cmpi .eq c2_i32_19 c0_i32_20
  let c1_i32_21 : BitVec 32 := 1#32
  let v35 : BitVec 32 := Scalar.select v34 c1_i32_21 c2_i32_19
  let v36 : BitVec 32 := Scalar.remsi arg2 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c1_i32_25 : BitVec 32 := 1#32
  let v44 : BitVec 1 := Scalar.cmpi .eq v43 c1_i32_25
  let v45 : BitVec 32 := Scalar.extui v44
  let c0_i32_26 : BitVec 32 := 0#32
  let v46 : BitVec 1 := Scalar.cmpi .ne v45 c0_i32_26
  v46

def k0_mult5 (i : grid0.Coords) : BitVec 32 :=
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  v497
def k0_off49 (i : grid0.Coords) : Fin 2 → Nat :=
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v499 : Index := Scalar.indexCast v498
  let c0_298 : Index := 0#32
  ![v499.toNat, 0]
def k0_off50 (i : grid0.Coords) : Fin 2 → Nat :=
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v505 : Index := Scalar.indexCast v498
  let c128_302 : Index := 128#32
  ![v505.toNat, 128]
def k0_off51 (i : grid0.Coords) : Fin 2 → Nat :=
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v511 : Index := Scalar.indexCast v498
  let c256_306 : Index := 256#32
  ![v511.toNat, 256]
def k0_off52 (i : grid0.Coords) : Fin 2 → Nat :=
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v517 : Index := Scalar.indexCast v498
  let c384_310 : Index := 384#32
  ![v517.toNat, 384]
def k0_off53 (i : grid0.Coords) : Fin 3 → Nat :=
  let c0_314 : Index := 0#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v523 : Index := Scalar.indexCast v498
  let c0_315 : Index := 0#32
  ![0, v523.toNat, 0]
def k0_off54 (i : grid0.Coords) : Fin 2 → Nat :=
  let c0_327 : Index := 0#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v547 : Index := Scalar.indexCast v498
  ![0, v547.toNat]
def k0_off55 (i : grid0.Coords) : Fin 3 → Nat :=
  let c1_338 : Index := 1#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v563 : Index := Scalar.indexCast v498
  let c0_339 : Index := 0#32
  ![1, v563.toNat, 0]
def k0_off56 (i : grid0.Coords) : Fin 2 → Nat :=
  let c128_351 : Index := 128#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v587 : Index := Scalar.indexCast v498
  ![128, v587.toNat]
def k0_off57 (i : grid0.Coords) : Fin 3 → Nat :=
  let c2_362 : Index := 2#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v603 : Index := Scalar.indexCast v498
  let c0_363 : Index := 0#32
  ![2, v603.toNat, 0]
def k0_off58 (i : grid0.Coords) : Fin 2 → Nat :=
  let c256_375 : Index := 256#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v627 : Index := Scalar.indexCast v498
  ![256, v627.toNat]
def k0_off59 (i : grid0.Coords) : Fin 3 → Nat :=
  let c3_386 : Index := 3#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v643 : Index := Scalar.indexCast v498
  let c0_387 : Index := 0#32
  ![3, v643.toNat, 0]
def k0_off60 (i : grid0.Coords) : Fin 2 → Nat :=
  let c384_399 : Index := 384#32
  let arg2 : BitVec 32 := BitVec.ofNat 32 (i 2).val
  let c1_i32_295 : BitVec 32 := 1#32
  let v495 : BitVec 32 := Scalar.subi arg2 c1_i32_295
  let c512_i32_296 : BitVec 32 := 512#32
  let v496 : BitVec 32 := Scalar.muli v495 c512_i32_296
  let c0_i32_297 : BitVec 32 := 0#32
  let v497 : BitVec 32 := Scalar.addi v496 c0_i32_297
  let v498 : BitVec 32 := v497
  let v667 : Index := Scalar.indexCast v498
  ![384, v667.toNat]
def k0_mult6 (i : grid0.Coords) : BitVec 32 :=
  let arg2 : BitVec 32 := BitVec.ofNat 32 (i 2).val
  let c512_i32 : BitVec 32 := 512#32
  let v47 : BitVec 32 := Scalar.muli arg2 c512_i32
  let c0_i32_27 : BitVec 32 := 0#32
  let v48 : BitVec 32 := Scalar.addi v47 c0_i32_27
  v48
def k0_off61 (i : grid0.Coords) (c0_i32_27 : BitVec 32) : Fin 2 → Nat :=
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v61 : Index := Scalar.indexCast v49
  let c0_32 : Index := 0#32
  ![v61.toNat, 0]
def k0_off62 (i : grid0.Coords) (c0_i32_27 : BitVec 32) : Fin 2 → Nat :=
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v67 : Index := Scalar.indexCast v49
  let c128 : Index := 128#32
  ![v67.toNat, 128]
def k0_off63 (i : grid0.Coords) (c0_i32_27 : BitVec 32) : Fin 2 → Nat :=
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v73 : Index := Scalar.indexCast v49
  let c256 : Index := 256#32
  ![v73.toNat, 256]
def k0_off64 (i : grid0.Coords) (c0_i32_27 : BitVec 32) : Fin 2 → Nat :=
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v79 : Index := Scalar.indexCast v49
  let c384 : Index := 384#32
  ![v79.toNat, 384]
def k0_off65 (i : grid0.Coords) (c0_i32_27 : BitVec 32) : Fin 3 → Nat :=
  let c0_45 : Index := 0#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v85 : Index := Scalar.indexCast v49
  let c0_46 : Index := 0#32
  ![0, v85.toNat, 0]
def k0_off66 (i : grid0.Coords) (c0_i32_27 : BitVec 32) : Fin 2 → Nat :=
  let c0_59 : Index := 0#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v111 : Index := Scalar.indexCast v49
  ![0, v111.toNat]
def k0_off67 (i : grid0.Coords) (c0_i32_27 : BitVec 32) : Fin 3 → Nat :=
  let c1 : Index := 1#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v127 : Index := Scalar.indexCast v49
  let c0_70 : Index := 0#32
  ![1, v127.toNat, 0]
def k0_off68 (i : grid0.Coords) (c0_i32_27 : BitVec 32) : Fin 2 → Nat :=
  let c128_83 : Index := 128#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v153 : Index := Scalar.indexCast v49
  ![128, v153.toNat]
def k0_off69 (i : grid0.Coords) (c0_i32_27 : BitVec 32) : Fin 3 → Nat :=
  let c2 : Index := 2#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v169 : Index := Scalar.indexCast v49
  let c0_94 : Index := 0#32
  ![2, v169.toNat, 0]
def k0_off70 (i : grid0.Coords) (c0_i32_27 : BitVec 32) : Fin 2 → Nat :=
  let c256_107 : Index := 256#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v195 : Index := Scalar.indexCast v49
  ![256, v195.toNat]
def k0_off71 (i : grid0.Coords) (c0_i32_27 : BitVec 32) : Fin 3 → Nat :=
  let c3 : Index := 3#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v211 : Index := Scalar.indexCast v49
  let c0_118 : Index := 0#32
  ![3, v211.toNat, 0]
def k0_off72 (i : grid0.Coords) (c0_i32_27 : BitVec 32) : Fin 2 → Nat :=
  let c384_131 : Index := 384#32
  let arg2 : BitVec 32 := BitVec.ofNat 32 (i 2).val
  let c512_i32 : BitVec 32 := 512#32
  let v47 : BitVec 32 := Scalar.muli arg2 c512_i32
  let v48 : BitVec 32 := Scalar.addi v47 c0_i32_27
  let v49 : BitVec 32 := v48
  let v237 : Index := Scalar.indexCast v49
  ![384, v237.toNat]
def k0_mult7 (i : grid0.Coords) : BitVec 32 :=
  let arg2 : BitVec 32 := BitVec.ofNat 32 (i 2).val
  let c512_i32_142 : BitVec 32 := 512#32
  let v253 : BitVec 32 := Scalar.muli arg2 c512_i32_142
  let c256_i32 : BitVec 32 := 256#32
  let v254 : BitVec 32 := Scalar.addi v253 c256_i32
  v254
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxRefIdeal.lean ====
abbrev S2x4096x8x128 : Shape := ⟨4, ![2, 4096, 8, 128]⟩
abbrev S2x4096x8 : Shape := ⟨3, ![2, 4096, 8]⟩
abbrev S2x8x4096x128 : Shape := ⟨4, ![2, 8, 4096, 128]⟩
abbrev S2x8x4096 : Shape := ⟨3, ![2, 8, 4096]⟩
abbrev S4096 : Shape := ⟨1, ![4096]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S2x8x4096x128, .f32⟩
  | .hbm, ⟨5, _⟩ => ⟨S2x8x4096x128, .f32⟩
  | .hbm, ⟨6, _⟩ => ⟨S2x8x4096x128, .f32⟩
  | .hbm, ⟨7, _⟩ => ⟨S2x8x4096, .f32⟩
  | .hbm, ⟨8, _⟩ => ⟨S4096, .i32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S2x8x4096x1, .f32⟩
  | .hbm, ⟨14, _⟩ => ⟨S2x8x4096x4096, .f32⟩
  | .hbm, ⟨15, _⟩ => ⟨S2x8x4096x4096, .f32⟩
  | .hbm, ⟨16, _⟩ => ⟨S2x8x1x4096, .f32⟩
  | .hbm, ⟨17, _⟩ => ⟨S2x8x4096x4096, .f32⟩
  | .hbm, ⟨18, _⟩ => ⟨S2x8x4096x4096, .f32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S2x8x4096x4096, .i1⟩
  | .hbm, ⟨27, _⟩ => ⟨S2x8x4096x4096, .f32⟩
  | .hbm, ⟨28, _⟩ => ⟨S2x8x4096x4096, .f32⟩
  | .hbm, ⟨29, _⟩ => ⟨S_, .f32⟩
  | .hbm, ⟨30, _⟩ => ⟨S2x8x4096, .f32⟩
  | .hbm, ⟨31, _⟩ => ⟨S_, .f32⟩
  | .hbm, ⟨32, _⟩ => ⟨S2x8x4096, .f32⟩
  | .hbm, ⟨33, _⟩ => ⟨S2x8x4096, .f32⟩
  | .hbm, ⟨34, _⟩ => ⟨S2x8x4096x1, .f32⟩
  | .hbm, ⟨35, _⟩ => ⟨S2x8x4096x4096, .f32⟩
  | .hbm, ⟨36, _⟩ => ⟨S2x8x4096x4096, .f32⟩
  | .hbm, ⟨37, _⟩ => ⟨S2x8x4096x4096, .f32⟩
  | .hbm, ⟨38, _⟩ => ⟨S_, .f32⟩
  | .hbm, ⟨39, _⟩ => ⟨S2x8x4096, .f32⟩
  | .hbm, ⟨40, _⟩ => ⟨S2x8x4096x1, .f32⟩
  | .hbm, ⟨41, _⟩ => ⟨S2x8x4096x4096, .f32⟩
  | .hbm, ⟨42, _⟩ => ⟨S2x8x4096x4096, .f32⟩
  | .hbm, ⟨43, _⟩ => ⟨S2x8x4096x128, .f32⟩
  | .hbm, ⟨44, _⟩ => ⟨S2x4096x8x128, .f32⟩
  | .hbm, ⟨45, _⟩ => ⟨S8192x1024, .f32⟩
  | .hbm, ⟨46, _⟩ => ⟨S8192x1024, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Gates.lean ====
abbrev S2x4096x8 : Shape := ⟨3, ![2, 4096, 8]⟩
abbrev S8 : Shape := ⟨1, ![8]⟩
abbrev S8192x8 : Shape := ⟨2, ![8192, 8]⟩
abbrev S_ : Shape := ⟨0, ![]⟩
abbrev S8192x128 : Shape := ⟨2, ![8192, 128]⟩
abbrev S128 : Shape := ⟨1, ![128]⟩
abbrev S1x128 : Shape := ⟨2, ![1, 128]⟩
abbrev S256x256 : Shape := ⟨2, ![256, 256]⟩
abbrev S8x8192x128 : Shape := ⟨3, ![8, 8192, 128]⟩
abbrev S1024x128 : Shape := ⟨2, ![1024, 128]⟩
abbrev S8x1024x128 : Shape := ⟨3, ![8, 1024, 128]⟩
abbrev S256x128 : Shape := ⟨2, ![256, 128]⟩
abbrev S256x1 : Shape := ⟨2, ![256, 1]⟩
abbrev S1x256x128 : Shape := ⟨3, ![1, 256, 128]⟩

abbrev nBuf : Space → Nat
  | .hbm => 22
  | .vmem => 7
  | .smem => 0
  | _ => 0

abbrev bufTy : (tb : Table) → Fin (tcTables nBuf tb) → BufTy
  | .hbm, ⟨0, _⟩ => ⟨S2x4096x8, .f32⟩
  | .hbm, ⟨1, _⟩ => ⟨S8, .f32⟩
  | .hbm, ⟨2, _⟩ => ⟨S8192x8, .f32⟩
  | .hbm, ⟨3, _⟩ => ⟨S_, .i32⟩
  | .hbm, ⟨4, _⟩ => ⟨S_, .f32⟩
  | .hbm, ⟨5, _⟩ => ⟨S8192x128, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S_, .bf16⟩
  | .hbm, ⟨11, _⟩ => ⟨S256x256, .bf16⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S_, .bf16⟩
  | .hbm, ⟨19, _⟩ => ⟨S256x256, .bf16⟩
  | .hbm, ⟨20, _⟩ => ⟨S256x256, .bf16⟩
  | .hbm, ⟨21, _⟩ => ⟨S8x8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S256x256, .bf16⟩
  | .local _ .vmem, ⟨4, _⟩ => ⟨S8x1024x128, .f32⟩
  | .local _ .vmem, ⟨5, _⟩ => ⟨S8x1024x128, .f32⟩
  | .local _ .vmem, ⟨6, _⟩ => ⟨S1x128, .f32⟩
  | _, _ => ⟨S2x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_call2_v0 : Ref sig .tc := ⟨.hbm, 12, rfl⟩
abbrev main_call2_c : Ref sig .tc := ⟨.hbm, 13, rfl⟩
abbrev main_call2_v1 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_cst : Ref sig .tc := ⟨.hbm, 18, rfl⟩
abbrev main_call2_v5 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesIdeal.lean ====
variable {F : FTy → Type} [FloatOps F] [Named F]
def κ : String → Option EReal := fun
  | "log2e" => some (((Real.log 2)⁻¹ : ℝ) : EReal)
  | _ => none
-- ==== GatesRefIdeal.lean ====
abbrev S2x4096x8 : Shape := ⟨3, ![2, 4096, 8]⟩
abbrev S8 : Shape := ⟨1, ![8]⟩
abbrev S1x1x8 : Shape := ⟨3, ![1, 1, 8]⟩
abbrev S_ : Shape := ⟨0, ![]⟩
abbrev S8192x8 : Shape := ⟨2, ![8192, 8]⟩
abbrev S8x8192 : Shape := ⟨2, ![8, 8192]⟩
abbrev S8x8192x1 : Shape := ⟨3, ![8, 8192, 1]⟩
abbrev S8x8192x128 : Shape := ⟨3, ![8, 8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x8, .f32⟩
  | .hbm, ⟨1, _⟩ => ⟨S8, .f32⟩
  | .hbm, ⟨2, _⟩ => ⟨S1x1x8, .f32⟩
  | .hbm, ⟨3, _⟩ => ⟨S2x4096x8, .f32⟩
  | .hbm, ⟨4, _⟩ => ⟨S2x4096x8, .f32⟩
  | .hbm, ⟨5, _⟩ => ⟨S2x4096x8, .f32⟩
  | .hbm, ⟨6, _⟩ => ⟨S_, .f32⟩
  | .hbm, ⟨7, _⟩ => ⟨S2x4096x8, .f32⟩
  | .hbm, ⟨8, _⟩ => ⟨S2x4096x8, .f32⟩
  | .hbm, ⟨9, _⟩ => ⟨S2x4096x8, .f32⟩
  | .hbm, ⟨10, _⟩ => ⟨S2x4096x8, .f32⟩
  | .hbm, ⟨11, _⟩ => ⟨S2x4096x8, .i1⟩
  | .hbm, ⟨12, _⟩ => ⟨S2x4096x8, .f32⟩
  | .hbm, ⟨13, _⟩ => ⟨S2x4096x8, .f32⟩
  | .hbm, ⟨14, _⟩ => ⟨S2x4096x8, .f32⟩
  | .hbm, ⟨15, _⟩ => ⟨S2x4096x8, .f32⟩
  | .hbm, ⟨16, _⟩ => ⟨S2x4096x8, .f32⟩
  | .hbm, ⟨17, _⟩ => ⟨S2x4096x8, .f32⟩
  | .hbm, ⟨18, _⟩ => ⟨S2x4096x8, .f32⟩
  | .hbm, ⟨19, _⟩ => ⟨S2x4096x8, .f32⟩
  | .hbm, ⟨20, _⟩ => ⟨S2x4096x8, .f32⟩
  | .hbm, ⟨21, _⟩ => ⟨S_, .f32⟩
  | .hbm, ⟨22, _⟩ => ⟨S_, .f32⟩
  | .hbm, ⟨23, _⟩ => ⟨S2x4096x8, .f32⟩
  | .hbm, ⟨24, _⟩ => ⟨S_, .f32⟩
  | .hbm, ⟨25, _⟩ => ⟨S_, .f32⟩
  | .hbm, ⟨26, _⟩ => ⟨S2x4096x8, .f32⟩
  | .hbm, ⟨27, _⟩ => ⟨S2x4096x8, .f32⟩
  | .hbm, ⟨28, _⟩ => ⟨S8192x8, .f32⟩
  | .hbm, ⟨29, _⟩ => ⟨S8x8192, .f32⟩
  | .hbm, ⟨30, _⟩ => ⟨S8x8192x1, .f32⟩
  | .hbm, ⟨31, _⟩ => ⟨S8x8192x128, .f32⟩
  | _, _ => ⟨S2x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Router.lean ====
abbrev S8192x2048 : Shape := ⟨2, ![8192, 2048]⟩
abbrev S1x2048 : Shape := ⟨2, ![1, 2048]⟩
abbrev S2048x4 : Shape := ⟨2, ![2048, 4]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S512x512 : Shape := ⟨2, ![512, 512]⟩
abbrev S8x128 : Shape := ⟨2, ![8, 128]⟩
abbrev S8x8192 : Shape := ⟨2, ![8, 8192]⟩
abbrev S8192x128 : Shape := ⟨2, ![8192, 128]⟩
abbrev S512x2048 : Shape := ⟨2, ![512, 2048]⟩
abbrev S8x512 : Shape := ⟨2, ![8, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S512x256 : Shape := ⟨2, ![512, 256]⟩
abbrev S128 : Shape := ⟨1, ![128]⟩

abbrev nBuf : Space → Nat
  | .hbm => 35
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4, .f32⟩
  | .hbm, ⟨3, _⟩ => ⟨S2048x32, .f32⟩
  | .hbm, ⟨4, _⟩ => ⟨S2048x36, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S2048x256, .bf16⟩
  | .hbm, ⟨13, _⟩ => ⟨S_, .bf16⟩
  | .hbm, ⟨14, _⟩ => ⟨S512x512, .bf16⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S_, .bf16⟩
  | .hbm, ⟨22, _⟩ => ⟨S512x512, .bf16⟩
  | .hbm, ⟨23, _⟩ => ⟨S512x512, .bf16⟩
  | .hbm, ⟨24, _⟩ => ⟨S8x128, .i32⟩
  | .hbm, ⟨25, _⟩ => ⟨S8x128, .i32⟩
  | .hbm, ⟨26, _⟩ => ⟨S_, .i32⟩
  | .hbm, ⟨27, _⟩ => ⟨S8x128, .i32⟩
  | .hbm, ⟨28, _⟩ => ⟨S8x128, .i32⟩
  | .hbm, ⟨29, _⟩ => ⟨S8x128, .i1⟩
  | .hbm, ⟨30, _⟩ => ⟨S8x128, .bf16⟩
  | .hbm, ⟨31, _⟩ => ⟨S8192x2048, .bf16⟩
  | .hbm, ⟨32, _⟩ => ⟨S8x8192, .f32⟩
  | .hbm, ⟨33, _⟩ => ⟨S8192x128, .f32⟩
  | .hbm, ⟨34, _⟩ => ⟨S8x128, .i32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .bf16⟩
  | .local _ .vmem, ⟨4, _⟩ => ⟨S512x512, .bf16⟩
  | .local _ .vmem, ⟨5, _⟩ => ⟨S8x128, .bf16⟩
  | .local _ .vmem, ⟨6, _⟩ => ⟨S512x2048, .bf16⟩
  | .local _ .vmem, ⟨7, _⟩ => ⟨S512x2048, .bf16⟩
  | .local _ .vmem, ⟨8, _⟩ => ⟨S8x512, .f32⟩
  | .local _ .vmem, ⟨9, _⟩ => ⟨S8x512, .f32⟩
  | .local _ .vmem, ⟨10, _⟩ => ⟨S512x128, .f32⟩
  | .local _ .vmem, ⟨11, _⟩ => ⟨S512x128, .f32⟩
  | .local _ .vmem, ⟨12, _⟩ => ⟨S8x128, .i32⟩
  | .local _ .vmem, ⟨13, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call1_v0 : Ref sig .tc := ⟨.hbm, 15, rfl⟩
abbrev main_call1_c : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_cst : Ref sig .tc := ⟨.hbm, 21, rfl⟩
abbrev main_call1_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RouterRefIdeal.lean ====
abbrev S8192x2048 : Shape := ⟨2, ![8192, 2048]⟩
abbrev S1x2048 : Shape := ⟨2, ![1, 2048]⟩
abbrev S2048x4 : Shape := ⟨2, ![2048, 4]⟩
abbrev S2048x32 : Shape := ⟨2, ![2048, 32]⟩
abbrev S_ : Shape := ⟨0, ![]⟩
abbrev S8192 : Shape := ⟨1, ![8192]⟩
abbrev S8192x1 : Shape := ⟨2, ![8192, 1]⟩
abbrev S8192x4 : Shape := ⟨2, ![8192, 4]⟩
abbrev S8192x1x1 : Shape := ⟨3, ![8192, 1, 1]⟩
abbrev S1 : Shape := ⟨1, ![1]⟩
abbrev S1x1x1 : Shape := ⟨3, ![1, 1, 1]⟩
abbrev S8192x32 : Shape := ⟨2, ![8192, 32]⟩
abbrev S8192x4x8 : Shape := ⟨3, ![8192, 4, 8]⟩
abbrev S8192x1x8 : Shape := ⟨3, ![8192, 1, 8]⟩
abbrev S8192x8 : Shape := ⟨2, ![8192, 8]⟩
abbrev S8192x2 : Shape := ⟨2, ![8192, 2]⟩
abbrev S8192x128 : Shape := ⟨2, ![8192, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4, .f32⟩
  | .hbm, ⟨3, _⟩ => ⟨S2048x32, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x4, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x4, .f32⟩
  | .hbm, ⟨27, _⟩ => ⟨S8192x4, .f32⟩
  | .hbm, ⟨28, _⟩ => ⟨S8192x4, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x4, .f32⟩
  | .hbm, ⟨33, _⟩ => ⟨S8192x4, .f32⟩
  | .hbm, ⟨34, _⟩ => ⟨S8192x1, .f32⟩
  | .hbm, ⟨35, _⟩ => ⟨S8192x1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S8192x1x1, .i32⟩
  | .hbm, ⟨44, _⟩ => ⟨S1, .i32⟩
  | .hbm, ⟨45, _⟩ => ⟨S_, .i32⟩
  | .hbm, ⟨46, _⟩ => ⟨S8192x1x1, .i32⟩
  | .hbm, ⟨47, _⟩ => ⟨S8192x1x1, .i1⟩
  | .hbm, ⟨48, _⟩ => ⟨S1x1x1, .i32⟩
  | .hbm, ⟨49, _⟩ => ⟨S8192x1x1, .i32⟩
  | .hbm, ⟨50, _⟩ => ⟨S8192x1x1, .i1⟩
  | .hbm, ⟨51, _⟩ => ⟨S8192x1x1, .i1⟩
  | .hbm, ⟨52, _⟩ => ⟨S_, .i1⟩
  | .hbm, ⟨53, _⟩ => ⟨S8192x1, .i1⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x32, .f32⟩
  | .hbm, ⟨59, _⟩ => ⟨S8192x4x8, .f32⟩
  | .hbm, ⟨60, _⟩ => ⟨S8192x1x1, .i32⟩
  | .hbm, ⟨61, _⟩ => ⟨S_, .i32⟩
  | .hbm, ⟨62, _⟩ => ⟨S8192x1x1, .i32⟩
  | .hbm, ⟨63, _⟩ => ⟨S8192x1x1, .i1⟩
  | .hbm, ⟨64, _⟩ => ⟨S_, .i32⟩
  | .hbm, ⟨65, _⟩ => ⟨S8192x1x1, .i32⟩
  | .hbm, ⟨66, _⟩ => ⟨S8192x1x1, .i32⟩
  | .hbm, ⟨67, _⟩ => ⟨S8192x1x1, .i32⟩
  | .hbm, ⟨68, _⟩ => ⟨S1, .i32⟩
  | .hbm, ⟨69, _⟩ => ⟨S_, .i32⟩
  | .hbm, ⟨70, _⟩ => ⟨S8192x1x1, .i32⟩
  | .hbm, ⟨71, _⟩ => ⟨S8192x1x1, .i1⟩
  | .hbm, ⟨72, _⟩ => ⟨S1x1x1, .i32⟩
  | .hbm, ⟨73, _⟩ => ⟨S8192x1x1, .i32⟩
  | .hbm, ⟨74, _⟩ => ⟨S8192x1x1, .i1⟩
  | .hbm, ⟨75, _⟩ => ⟨S8192x1x1, .i1⟩
  | .hbm, ⟨76, _⟩ => ⟨S_, .i1⟩
  | .hbm, ⟨77, _⟩ => ⟨S8192x1, .i1⟩
  | .hbm, ⟨78, _⟩ => ⟨S8192x1x8, .f32⟩
  | .hbm, ⟨79, _⟩ => ⟨S8192x1x8, .i1⟩
  | .hbm, ⟨80, _⟩ => ⟨S_, .f32⟩
  | .hbm, ⟨81, _⟩ => ⟨S8192x1x8, .f32⟩
  | .hbm, ⟨82, _⟩ => ⟨S8192x1x8, .f32⟩
  | .hbm, ⟨83, _⟩ => ⟨S8192x8, .f32⟩
  | .hbm, ⟨84, _⟩ => ⟨S8192x2, .f32⟩
  | .hbm, ⟨85, _⟩ => ⟨S8192x2, .i32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192x1, .f32⟩
  | .hbm, ⟨92, _⟩ => ⟨S8192x2, .f32⟩
  | .hbm, ⟨93, _⟩ => ⟨S8192x2, .f32⟩
  | .hbm, ⟨94, _⟩ => ⟨S8192x2, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x2, .f32⟩
  | .hbm, ⟨99, _⟩ => ⟨S8192x2, .f32⟩
  | .hbm, ⟨100, _⟩ => ⟨S8192x2, .f32⟩
  | .hbm, ⟨101, _⟩ => ⟨S8192x2, .f32⟩
  | .hbm, ⟨102, _⟩ => ⟨S8192x2048, .bf16⟩
  | .hbm, ⟨103, _⟩ => ⟨S_, .i32⟩
  | .hbm, ⟨104, _⟩ => ⟨S_, .f32⟩
  | .hbm, ⟨105, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_values : Ref sig .tc := ⟨.hbm, 34, rfl⟩
abbrev main_indices : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_c_2 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_c_3 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v28 : Ref sig .tc := ⟨.hbm, 82, rfl⟩
abbrev main_v29 : Ref sig .tc := ⟨.hbm, 83, rfl⟩
abbrev main_values_5 : Ref sig .tc := ⟨.hbm, 84, rfl⟩
abbrev main_indices_6 : Ref sig .tc := ⟨.hbm, 85, rfl⟩
abbrev main_cst_7 : Ref sig .tc := ⟨.hbm, 86, rfl⟩
abbrev main_v30 : Ref sig .tc := ⟨.hbm, 87, rfl⟩
abbrev main_cst_8 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_9 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c : Ref sig .tc := ⟨.hbm, 103, rfl⟩
abbrev main_call2_v0 : Ref sig .tc := ⟨.hbm, 104, rfl⟩
abbrev main_v44 : Ref sig .tc := ⟨.hbm, 105, rfl⟩

abbrev nD : Nat := 1
abbrev τ : Topo := Topo.v7x

variable {F : FTy → Type} [FloatOps F]
-- ==== Proof.WprepKit.lean ====
/-
  Launch set-up for the run of the weight preparation: the program up to its one region, the tables and the
  pipeline at them, the windows' blocks, and the body as the pipeline calls it.
-/
module

public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WprepKit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 4 (result 1 (%2#1)) is written back at the last point only, at any contents of the tables (its index map reads none). -/
theorem flush0_4 (a : (pcfg0 (F := F)).Adm) : ∀ t : Fin (cfg0 a).N, ((cfg0 a).win 4).flush t = true ↔ t.val % 20 = 19 :=
  (fun t => Pipeline.Window.flushOf_const cc0_transform_4 (fun _ _ => rfl) (n := 20) (by decide) rfl t : ∀ t : Fin grid0.N, Pipeline.Window.flushOf grid0 true cc0_transform_4 t = true ↔ t.val % 20 = 19)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_inproj_weights (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_c
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the scalar chain substituted). -/
abbrev cond0_0 (i : grid0.Coords) : Prop := k0_cond1 i = 1#1
/-- It holds at the first point only — by arithmetic of the point. -/
theorem hcond0_0 : ∀ t : Fin grid0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

/-- Each window's current staging memref at point `t`, spelled as the pipeline passes it (`bodyAt0`), and its wholeness. -/
abbrev ms0_0 (hO : Ok m) (t : Fin (cfgM m hO).N) : Memref sig .tc .smem S20 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S8x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x2048 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

end Cert.WprepKit

end
-- ==== Proof.Blocks.lean ====
/-
  Small facts about buffers and blocks that every call's proof uses: a buffer written once as a whole,
  loads of a whole buffer and of a rectangle of it, and 32-bit arithmetic on small offsets.
-/
module

public import Idealize.ShloMosaic.Lib.Pipeline.ValueKit
public import Idealize.ShloMosaic.Lib.WholeRead
public import Idealize.ShloMosaic.Lib.MatmulPlain
public import Idealize.ShloMosaic.Lib.StackMember
public import Idealize.ShloMosaic.PureOps.Ideal.Laws

@[expose] public section

set_option maxRecDepth 16384

noncomputable section

namespace Cert.Blocks

open Idealize.ShloMosaic Idealize.ShloMosaic.TcCoe

variable {F : FTy → Type} [FloatOps F] {sig : RefSig}

/-- A buffer written once, over its whole extent, reads as what was written. -/
theorem read_store_whole {S : Shape} {e : EltTy} {sp : Space} (v : View sig .tc sp S e) (f : v.ty.Contents (Elt F))
    {off : Fin S.rank → Nat} (h0 : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h0 inb y⟩),
    View.canon_unit_zero h0 inb w]

/-- A load over a buffer's whole extent is its contents. -/
theorem readAt_whole {S : Shape} {e : EltTy} {sp : Space} {M : Memref sig .tc sp S e} (h : M.IsWhole)
    {off : Fin S.rank → Nat} (h0 : off = fun _ => 0) (inb : ∀ a, off a + S.size a ≤ S.size a) (X : S.Idx → Elt F e) :
    View.readAt (Elt F) M.view (Rect.unit off S.size inb).toLoadRect (h.unread X) = X := by
  subst h0
  funext x
  refine (h.readAt_unread X _ x).trans (congrArg X (funext fun a => Fin.ext ?_))
  show 0 + 1 * (x a).val = (x a).val
  omega

/-- Two zero offsets. -/
theorem zeros2 : (![0, 0] : Fin 2 → Nat) = fun _ => 0 := by
  funext a; fin_cases a <;> rfl

/-- A rectangle of a matrix, cut at its offsets. -/
def cut {e : EltTy} {M N m n : Nat} (off : Fin 2 → Nat) (inb : ∀ a, off a + (⟨2, ![m, n]⟩ : Shape).size a ≤ (⟨2, ![M, N]⟩ : Shape).size a)
    (X : (⟨2, ![M, N]⟩ : Shape).Idx → Elt F e) : (⟨2, ![m, n]⟩ : Shape).Idx → Elt F e := fun y =>
  X fun a => ⟨off a + (y a).val, lt_of_lt_of_le (Nat.add_lt_add_left (y a).isLt (off a)) (inb a)⟩

/-- A load of a rectangle of a matrix. -/
theorem readAt_cut {e : EltTy} {M N m n : Nat} {sp : Space} {R : Memref sig .tc sp ⟨2, ![M, N]⟩ e} (h : R.IsWhole)
    (off : Fin 2 → Nat) (inb : ∀ a, off a + (⟨2, ![m, n]⟩ : Shape).size a ≤ (⟨2, ![M, N]⟩ : Shape).size a)
    (X : (⟨2, ![M, N]⟩ : Shape).Idx → Elt F e) :
    View.readAt (Elt F) R.view (Rect.unit (s := ⟨2, ![M, N]⟩) off (⟨2, ![m, n]⟩ : Shape).size inb).toLoadRect (h.unread X)
      = cut off inb X := by
  funext x
  refine (h.readAt_unread X _ x).trans (congrArg X (funext fun a => Fin.ext ?_))
  show off a + 1 * (x a).val = off a + (x a).val
  omega

/-- A cut read at a place whose coordinates are known. -/
theorem cut_at {e : EltTy} {M N m n : Nat} (off : Fin 2 → Nat) (inb : ∀ a, off a + (⟨2, ![m, n]⟩ : Shape).size a ≤ (⟨2, ![M, N]⟩ : Shape).size a)
    (X : (⟨2, ![M, N]⟩ : Shape).Idx → Elt F e) (r : Fin m) (c : Fin n) (R : Fin M) (C : Fin N)
    (hr : R.val = off 0 + r.val) (hc : C.val = off 1 + c.val) : cut off inb X (ix2 r c) = X (ix2 R C) :=
  congrArg X (funext fun a => Fin.ext (match a with
    | ⟨0, _⟩ => hr.symm
    | ⟨1, _⟩ => hc.symm))

/-- Two matrix places with the same coordinates. -/
theorem idx2_eq {n0 n1 : Nat} (j : (⟨2, ![n0, n1]⟩ : Shape).Idx) (r : Fin n0) (c : Fin n1) (h0 : (j 0).val = r.val)
    (h1 : (j 1).val = c.val) : j = ix2 r c :=
  funext fun a => Fin.ext (match a with
    | ⟨0, _⟩ => h0
    | ⟨1, _⟩ => h1)

/-- A small number is its own 32-bit word's value. -/
theorem word (n : Nat) (h : n < 1048576) : (BitVec.ofNat 32 n).toNat = n :=
  (BitVec.toNat_ofNat _ _).trans (Nat.mod_eq_of_lt (by omega))

end Cert.Blocks

end
-- ==== Proof.WprepRun.lean ====
/-
  The run of the weight preparation, over any floats: what its two results hold.
  Point `t` of the grid writes rows `512 t … 512 t + 511` of the first result: the block of the transposed
  weights that the offset table names for `t`, times the scale of `t`, rounded. The second result is stored
  at the first point only, and kept in its buffer until the last point writes it back.
-/
module

public import proofs.«01_k».proof.Proof.WprepKit
public import Idealize.ShloMosaic.Lib.Pipeline.ValueKit
public import proofs.«01_k».proof.Proof.Blocks

@[expose] public section

set_option maxRecDepth 16384

noncomputable section

namespace Cert.WprepRun

open Cert.Kernel Cert.Kernel.Gen Cert.WprepKit Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point's place in a table of one entry per point. -/
def tabIdx (i : grid0.Coords) : S20.Idx := fun a => ⟨(i 0).val, by
  have := (i 0).isLt; fin_cases a; exact this⟩

/-- The word the body loads from the table of scales is the grid point's own. -/
theorem off1_eq (i : grid0.Coords) : k0_off1 i 0 = (i 0).val := by
  have h : (i 0).val < 20 := (i 0).isLt
  simp only [k0_off1, Scalar.indexCast, Matrix.cons_val_zero]
  simp
  omega

/-- The scale of a grid point, read off the table of scales. -/
def scaleAt (x0 : Vec F S20 .f32) (i : grid0.Coords) : Elt F .f32 := x0 (tabIdx i)

/-- The one word loaded from the table of scales. -/
theorem load_scale {M : Memref sig .tc .smem S20 .f32} (h : M.IsWhole) (x0 : Vec F S20 .f32) (i : grid0.Coords)
    (inb : ∀ a, k0_off1 i a + S1.size a ≤ S20.size a) (p : 0 < S1.numel) :
    View.readAt (Elt F) M.view (Rect.unit (s := S20) (k0_off1 i) S1.size inb).toLoadRect (h.unread x0)
      (Shape.Idx.first p) = scaleAt x0 i := by
  refine (h.readAt_unread x0 _ _).trans (congrArg x0 (funext fun a => Fin.ext ?_))
  fin_cases a
  have := off1_eq i
  show k0_off1 i 0 + 1 * 0 = (i 0).val
  omega

set_option maxHeartbeats 1000000 in
/-- The body at the first point. -/
theorem run_first (c : Dev nD) (i : grid0.Coords) (arg2 : Memref sig .tc .smem S20 .f32) (harg2 : arg2.IsWhole) (arg3 : Memref sig .tc .vmem S512x2048 .f32) (harg3 : arg3.IsWhole) (arg4 : Memref sig .tc .vmem S8x2048 .f32) (harg4 : arg4.IsWhole) (arg5 : Memref sig .tc .vmem S512x2048 .bf16) (harg5 : arg5.IsWhole) (arg6 : Memref sig .tc .vmem S128x2048 .bf16) (harg6 : arg6.IsWhole) (hc0 : cond0_0 i)
    (x0 : Vec F S20 .f32) (x1 : Vec F S512x2048 .f32) (x2 : Vec F S8x2048 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (k0_pay1 x1 (scaleAt x0 i)) ∗ owns (c : Thread nD τ) arg6 fullShare (k0_pay2 x2) ∗ tbPt0 c tbM0_0 xt0) -∗ K ⟨⟩))
          ⊢ wp frame (wpE (defs₀ (F := F)) Variants.none c none) E (cc0_inproj_weights i tbM0_0 htbM0_0 arg2 harg2 arg3 harg3 arg4 harg4 arg5 harg5 arg6 harg6) K := by
    intro E K
    simp only [cc0_inproj_weights_eq_skeleton]; unfold cc0_inproj_weights_skel
    unfold owns
    iintro ⟨⟨%f0, %hf0, H0⟩, ⟨%f1, %hf1, H1⟩, ⟨%f2, %hf2, H2⟩, ⟨%d3, %f3, -, H3⟩, ⟨%d4, %f4, -, H4⟩, HT0, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_store_whole _ _ zeros2, readAt_whole _ zeros2]
      congr 1
      unfold run_first.sl.r
      exact load_scale harg2 x0 i _ _
    isplitl [H4]
    · iexists _; isplitr; swap; · iexact H4
      ipureintro
      rw [read_store_whole _ _ zeros2, readAt_whole _ zeros2]
    iexact HT0

set_option maxHeartbeats 1000000 in
/-- The body at any later point. -/
theorem run_rest (c : Dev nD) (i : grid0.Coords) (arg2 : Memref sig .tc .smem S20 .f32) (harg2 : arg2.IsWhole) (arg3 : Memref sig .tc .vmem S512x2048 .f32) (harg3 : arg3.IsWhole) (arg4 : Memref sig .tc .vmem S8x2048 .f32) (harg4 : arg4.IsWhole) (arg5 : Memref sig .tc .vmem S512x2048 .bf16) (harg5 : arg5.IsWhole) (arg6 : Memref sig .tc .vmem S128x2048 .bf16) (harg6 : arg6.IsWhole) (hc0 : ¬ cond0_0 i)
    (x0 : Vec F S20 .f32) (x1 : Vec F S512x2048 .f32) (x2 : Vec F S8x2048 .f32) (x4 : Vec F S128x2048 .bf16) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (k0_pay1 x1 (scaleAt x0 i)) ∗ owns (c : Thread nD τ) arg6 fullShare x4 ∗ tbPt0 c tbM0_0 xt0) -∗ K ⟨⟩))
          ⊢ wp frame (wpE (defs₀ (F := F)) Variants.none c none) E (cc0_inproj_weights i tbM0_0 htbM0_0 arg2 harg2 arg3 harg3 arg4 harg4 arg5 harg5 arg6 harg6) K := by
    intro E K
    simp only [cc0_inproj_weights_eq_skeleton]; unfold cc0_inproj_weights_skel
    unfold owns
    iintro ⟨⟨%f0, %hf0, H0⟩, ⟨%f1, %hf1, H1⟩, ⟨%f2, %hf2, H2⟩, ⟨%d3, %f3, -, H3⟩, ⟨%f4, %hf4, H4⟩, HT0, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_store_whole _ _ zeros2, readAt_whole _ zeros2]
      congr 1
      unfold run_rest.sl.r
      exact load_scale harg2 x0 i _ _
    isplitl [H4]
    · iexists _; isplitr; swap; · iexact H4
      ipureintro; exact hf4
    iexact HT0

/-! ## The proof data -/

/-- What the first result's block holds after point `t`. -/
def mainBlk (hO : Ok m) (c : Dev nD) (t : Fin (cfgM m hO).N) : Vec F S512x2048 .bf16 :=
  k0_pay1 (iblk m hO c 1 t) (scaleAt (iblk m hO c 0 t) ((cfgM m hO).grid.coords t))

/-- The first point of the grid. -/
def t0 (hO : Ok m) : Fin (cfgM m hO).N := ⟨0, by rw [show (cfgM m hO).N = 20 from N_0]; omega⟩

/-- What the second result holds from the first point on. -/
def forgetBlk (hO : Ok m) (c : Dev nD) : Vec F S128x2048 .bf16 := k0_pay2 (iblk m hO c 2 (t0 m hO))

/-- The proof data: the inputs' buffers at their blocks, the first result's at its block of the point, the
    second's at the one block of the run. -/
def wdats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => mainBlk m hO c t
    | ⟨4, _⟩ => forgetBlk m hO c
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (wdats m hO 0 c).A w = V m c (Pipeline.arrRef spec0 w) := by
  dsimp only [wdats]

theorem after0 (hO : Ok m) (c : Dev nD) (t : Fin (cfgM m hO).N) : (wdats m hO 0 c).after 0 t = iblk m hO c 0 t := by dsimp only [wdats]; try rfl
theorem after1 (hO : Ok m) (c : Dev nD) (t : Fin (cfgM m hO).N) : (wdats m hO 0 c).after 1 t = iblk m hO c 1 t := by dsimp only [wdats]; try rfl
theorem after2 (hO : Ok m) (c : Dev nD) (t : Fin (cfgM m hO).N) : (wdats m hO 0 c).after 2 t = iblk m hO c 2 t := by dsimp only [wdats]; try rfl
theorem after3 (hO : Ok m) (c : Dev nD) (t : Fin (cfgM m hO).N) : (wdats m hO 0 c).after 3 t = mainBlk m hO c t := by dsimp only [wdats]; try rfl
theorem after4 (hO : Ok m) (c : Dev nD) (t : Fin (cfgM m hO).N) : (wdats m hO 0 c).after 4 t = forgetBlk m hO c := by dsimp only [wdats]; try rfl

theorem before0 (hO : Ok m) (c : Dev nD) (t : Fin (cfgM m hO).N) (d) : (wdats m hO 0 c).before 0 t d = iblk m hO c 0 t :=
  before0_0_of m hO (wdats m hO 0 c) (A_eq m hO c 0) (after0 m hO c) t d
theorem before1 (hO : Ok m) (c : Dev nD) (t : Fin (cfgM m hO).N) (d) : (wdats m hO 0 c).before 1 t d = iblk m hO c 1 t :=
  before0_1_of m hO (wdats m hO 0 c) (A_eq m hO c 1) (after1 m hO c) t d
theorem before2 (hO : Ok m) (c : Dev nD) (t : Fin (cfgM m hO).N) (d) : (wdats m hO 0 c).before 2 t d = iblk m hO c 2 t :=
  before0_2_of m hO (wdats m hO 0 c) (A_eq m hO c 2) (after2 m hO c) t d

/-- The second result's window is idle at every point but the first. -/
theorem idle4 (hO : Ok m) (t : Fin (cfgM m hO).N) : (cfgM m hO).idle 4 ((cfgM m hO).grid.coords t) = decide (t.val % 20 ≠ 0) := by
  have h := hcond0_0 t
  show (!(k0_cond1 (grid0.coords t) == 1#1)) = _
  by_cases hc : t.val % 20 = 0
  · have h' := h.mpr hc
    simp only [cond0_0] at h'
    rw [h']; simp [hc]
  · have h' : ¬ k0_cond1 (grid0.coords t) = 1#1 := fun e => hc (h.mp e)
    simp [hc, h']

/-- It is written back at the last point only. -/
theorem flush4 (hO : Ok m) (t : Fin (cfgM m hO).N) (ht : t.val ≠ 19) : ((cfgM m hO).win 4).flush t = false := by
  have := flush0_4 (adm m hO) t
  have hN : t.val < 20 := lt_of_lt_of_eq t.isLt (show (cfgM m hO).N = 20 from N_0)
  rw [Bool.eq_false_iff]
  intro h
  have := this.mp h
  omega

/-- From the second point on the second result's buffer holds its block. -/
theorem before4 (hO : Ok m) (c : Dev nD) : ∀ (n : Nat) (h : n < (cfgM m hO).N) (_ : 0 < n) (d),
    (wdats m hO 0 c).before 4 ⟨n, h⟩ d = forgetBlk m hO c
  | 0, _, h0, _ => absurd h0 (Nat.lt_irrefl _)
  | n + 1, h, _, d => by
    have hN : n + 1 < 20 := lt_of_lt_of_eq h (show (cfgM m hO).N = 20 from N_0)
    rw [(wdats m hO 0 c).before_of_pos 4 ⟨n + 1, h⟩ (Nat.succ_ne_zero n) rfl d]
    rw [if_neg (by rw [flush4 m hO _ (by show n + 1 - 1 ≠ 19; omega)]; exact Bool.false_ne_true)]
    unfold Dat.left
    rw [idle4 m hO]
    have e : (⟨n + 1 - 1, Nat.lt_of_le_of_lt (Nat.sub_le _ _) h⟩ : Fin (cfgM m hO).N) = ⟨n, Nat.lt_of_succ_lt h⟩ := rfl
    by_cases hn : n = 0
    · subst hn
      exact after4 m hO c _
    · have : decide ((⟨n + 1 - 1, Nat.lt_of_le_of_lt (Nat.sub_le _ _) h⟩ : Fin (cfgM m hO).N).val % 20 ≠ 0) = true := by
        show decide (n % 20 ≠ 0) = true
        rw [decide_eq_true_iff]; omega
      rw [this]
      exact before4 hO c n (Nat.lt_of_succ_lt h) (Nat.pos_of_ne_zero hn) d

/-! ## The body at every point -/

/-- What the body is called with at point `t`, -/
def bodyPre (hO : Ok m) (c : Dev nD) (t : Fin (cfgM m hO).N) : sProp 𝕄 :=
  iprop((wdats m hO 0 c).Φ t.castSucc ∗ (wdats m hO 0 c).owesAt () t.castSucc
    ∗ (∃ d, owns (c : Thread nD τ) (ms0_0 m hO t) fullShare ((wdats m hO 0 c).before 0 t d))
    ∗ (∃ d, owns (c : Thread nD τ) (ms0_1 m hO t) fullShare ((wdats m hO 0 c).before 1 t d))
    ∗ (∃ d, owns (c : Thread nD τ) (ms0_2 m hO t) fullShare ((wdats m hO 0 c).before 2 t d))
    ∗ (∃ d, owns (c : Thread nD τ) (ms0_3 m hO t) fullShare ((wdats m hO 0 c).before 3 t d))
    ∗ (∃ d, owns (c : Thread nD τ) (ms0_4 m hO t) fullShare ((wdats m hO 0 c).before 4 t d)))

/-- and what it returns. -/
def bodyPost (hO : Ok m) (c : Dev nD) (t : Fin (cfgM m hO).N) : sProp 𝕄 :=
  iprop((wdats m hO 0 c).Φ t.succ ∗ (wdats m hO 0 c).owesAt () t.succ
    ∗ (wdats m hO 0 c).leavesExact 0 t ∗ (wdats m hO 0 c).leavesExact 1 t ∗ (wdats m hO 0 c).leavesExact 2 t
    ∗ (wdats m hO 0 c).leavesExact 3 t ∗ (wdats m hO 0 c).leavesExact 4 t)

/-- A window that is not idle at a point is left at what the proof data say. -/
theorem leaves_live (hO : Ok m) (c : Dev nD) (w : Fin (cfgM m hO).W) (t : Fin (cfgM m hO).N)
    (h : (cfgM m hO).idle w ((cfgM m hO).grid.coords t) = false) :
    (wdats m hO 0 c).leavesExact w t = owns (c : Thread nD τ) (((cfgM m hO).win w).stage ((cfgM m hO).slots t w)) fullShare ((wdats m hO 0 c).after w t) := by
  unfold Dat.leavesExact; rw [h]

/-- Holding the second result's block is leaving its window as a later point must. -/
theorem leaves4 (hO : Ok m) (c : Dev nD) (t : Fin (cfgM m hO).N) (ht : t.val % 20 ≠ 0) :
    owns (c : Thread nD τ) (ms0_4 m hO t) fullShare (forgetBlk m hO c) ⊢ (wdats m hO 0 c).leavesExact 4 t := by
  unfold Dat.leavesExact
  rw [idle4 m hO t, decide_eq_true ht]
  have hN : t.val < 20 := lt_of_lt_of_eq t.isLt (show (cfgM m hO).N = 20 from N_0)
  by_cases hf : ((cfgM m hO).win 4).flush t = true
  · rw [hf, after4]; exact .rfl
  · rw [Bool.eq_false_iff.mpr hf]
    iintro H
    iexists (fun _ => Classical.arbitrary _)
    rw [before4 m hO c t.val t.isLt (by omega)]
    iexact H

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0, before1, before2]
  rw [show (wdats m hO 0 c).Φ t.succ = (wdats m hO 0 c).Φ t.castSucc from rfl,
    show (wdats m hO 0 c).owesAt () t.succ = (wdats m hO 0 c).owesAt () t.castSucc from rfl]
  rw [show (wdats m hO 0 c).Φ t.castSucc = iprop(Pipeline.ΦA spec0 c ∗ Pipeline.ΦT pre0 (tbl m) c) from rfl, PhiT0_eq]
  rw [leaves_live m hO c 0 t rfl, leaves_live m hO c 1 t rfl, leaves_live m hO c 2 t rfl, leaves_live m hO c 3 t rfl,
    after0, after1, after2, after3]
  have hN : t.val < 20 := lt_of_lt_of_eq t.isLt (show (cfgM m hO).N = 20 from N_0)
  by_cases h0 : t.val % 20 = 0
  · rw [leaves_live m hO c 4 t (by rw [idle4 m hO t]; simp [h0]), after4]
    have e : t = t0 m hO := Fin.ext (by show t.val = 0; omega)
    iintro ⟨⟨HΦ, HT0⟩, Ho, ⟨%d0, H0⟩, ⟨%d1, H1⟩, ⟨%d2, H2⟩, ⟨%d3, H3⟩, ⟨%d4, H4⟩⟩
    iapply ((run_first c (grid0.coords t) _ _ _ _ _ _ _ _ _ _ ((hcond0_0 t).mpr h0) (iblk m hO c 0 t) (iblk m hO c 1 t) (iblk m hO c 2 t) (tbl m 0)) Set.univ _)
    isplitl [H0]; · iexact H0
    isplitl [H1]; · iexact H1
    isplitl [H2]; · iexact H2
    isplitl [H3]; · iexists _; iexact H3
    isplitl [H4]; · iexists _; iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    subst e
    iexact H4
  · simp only [fun d => before4 m hO c t.val t.isLt (by omega) d]
    iintro ⟨⟨HΦ, HT0⟩, Ho, ⟨%d0, H0⟩, ⟨%d1, H1⟩, ⟨%d2, H2⟩, ⟨%d3, H3⟩, ⟨%d4, H4⟩⟩
    iapply ((run_rest c (grid0.coords t) _ _ _ _ _ _ _ _ _ _ (fun h => h0 ((hcond0_0 t).mp h)) (iblk m hO c 0 t) (iblk m hO c 1 t) (iblk m hO c 2 t) (forgetBlk m hO c) (tbl m 0)) Set.univ _)
    isplitl [H0]; · iexact H0
    isplitl [H1]; · iexact H1
    isplitl [H2]; · iexact H2
    isplitl [H3]; · iexists _; iexact H3
    isplitl [H4]; · iexact H4
    isplitl [HT0]; · iexact HT0
    iintro ⟨H0, H1, H2, H3, H4, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    iapply (leaves4 m hO c t h0)
    iexact H4

theorem body_obligation (hO : Ok m) (c : Dev nD) : BodyObligation (wdats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- The launch: every fair execution ends, with the two results' arrays as the proof data make them and every
    counter at zero. -/
theorem run_wprep (hO : Ok m) : θ_run defs (onTc (τ := τ) (main (F := F))) (s₀ m ρ) (fun r => Pipeline.FramePost (Pipeline.pin pcfgs fun _ => adm m hO) (wdats m hO) 0 (V m) r ∧ r.2.sem = fun _ => 0) :=
  Pipeline.θ_run_frameP_shared (Q' := _) pcfgs (fun _ => adm m hO) (wdats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

end Cert.WprepRun

end
-- ==== Proof.WprepOut.lean ====
/-
  What the weight preparation's two results hold after the run, over any floats, as functions of its argument:
  row `512 t + r` of the first is row `8 · lit0 t + r` of the transposed weights times the scale of `t`, rounded;
  row `r < 8` of the second is row `3072 + r` of the transposed weights, rounded, and its other rows are zero.
-/
module

public import proofs.«01_k».proof.Proof.WprepRun
public import Idealize.ShloMosaic.Lib.Pipeline.Covers

@[expose] public section

set_option maxRecDepth 16384

noncomputable section

namespace Cert.WprepOut

open Cert.Kernel Cert.Kernel.Gen Cert.WprepRun Cert.WprepKit
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The offset table -/

theorem tbl_eq : tbl m 0 = fun i => lit0 (S20.rowMajor i) := by
  funext i
  rfl

theorem rowMajor_tab (i : S20.Idx) (k : Fin 20) (h : (i 0).val = k.val) : (S20.rowMajor i : Fin 20) = k := by
  apply Fin.ext
  rw [← h]
  exact Shape.rowMajor_val_one _

/-- The table read at the word a point loads. -/
theorem tbl_at (i : grid0.Coords) (j : S20.Idx) (h : (j 0).val = k0_off1 i 0) : tbl m 0 j = lit0 (i 0) := by
  rw [tbl_eq]
  exact congrArg lit0 (rowMajor_tab j (i 0) (h.trans (off1_eq i)))

/-- The row at which the block of point `i` begins in the transposed weights. -/
theorem index1_row (i : grid0.Coords) :
    cc0_transform_1 Facts₀.k0_off1_inb Facts₀.numel1_S1 (tbl m) i 0 = (lit0 (i 0) * 8#32).toNat :=
  congrArg (fun x : BitVec 32 => (Scalar.muli x 8#32).toNat) (tbl_at m i _ (Nat.add_zero (k0_off1 i 0)))

theorem index1_col (i : grid0.Coords) :
    cc0_transform_1 Facts₀.k0_off1_inb Facts₀.numel1_S1 (tbl m) i 1 = 0 := rfl

theorem mult1 (i : grid0.Coords) : k0_mult1 (tbl m) i = lit0 (i 0) * 8#32 := by
  have l : ∀ a : Fin (pre0.ref 0).ty.shape.rank, k0_off1 i a + 1 ≤ (pre0.ref 0).ty.shape.size a := fun a => by
    have e := off1_eq i
    have l : (i 0).val < 20 := (i 0).isLt
    fin_cases a
    show k0_off1 i 0 + 1 ≤ 20
    omega
  have e : (tbl m).atD 0 (k0_off1 i) = lit0 (i 0) := (dif_pos l).trans (tbl_at m i _ rfl)
  exact congrArg (fun x : BitVec 32 => Scalar.muli x 8#32) e

theorem row_le : ∀ t : Fin 20, (lit0 t * 8#32).toNat + 512 ≤ 10248 := by decide
theorem row_dvd : ∀ t : Fin 20, (8 : Int) ∣ (lit0 t * 8#32).toInt := by decide

/-- The table meets the region's side condition. -/
theorem ok : Ok m := by
  refine ⟨fun i => ?_, fun i => ⟨fun a => ?_, .inl rfl⟩⟩
  · rw [mult1]; exact row_dvd (i 0)
  · match a with
    | ⟨0, _⟩ => exact (congrArg (· + 512) (index1_row m i)).trans_le (row_le (i 0))
    | ⟨1, _⟩ => exact Nat.le_refl 2048

/-! ## The results -/

/-- The transposed weights at row `n`. -/
def wT (w : Vec F S1x2048x10248 .f32) (n : Nat) (hn : n < 10248) (k : Fin 2048) : Elt F .f32 :=
  w fun a => match a with
    | ⟨0, _⟩ => ⟨0, Nat.one_pos⟩
    | ⟨1, _⟩ => k
    | ⟨2, _⟩ => ⟨n, hn⟩

theorem V_main_v1 (c : Dev nD) (j : S10248x2048.Idx) :
    V m c main_v1 j = wT (m ((c : Thread nD τ).loc main_arg0)) (j 0).val (j 0).isLt (j 1) := by
  have e : V m c main_v1 = transpose S10248x2048 [1, 0]
      (shapeCast S2048x10248 (m ((c : Thread nD τ).loc main_arg0)) Facts₀.shapeCasts_S1x2048x10248_S2048x10248)
      Facts₀.transposes_S2048x10248_S10248x2048_1_0 := rfl
  rw [e]
  have h0 : (j 0).val < 10248 := (j 0).isLt
  have h1 : (j 1).val < 2048 := (j 1).isLt
  let k : S2048x10248.Idx := fun a => match a with
    | ⟨0, _⟩ => ⟨(j 1).val, h1⟩
    | ⟨1, _⟩ => ⟨(j 0).val, h0⟩
  rw [transpose_apply _ _ _ j k (fun b => by fin_cases b <;> rfl)]
  refine shapeCast_apply _ _ k _ ?_
  rw [Shape.rowMajor_val_two]
  refine (Shape.rowMajor_val_three _).trans ?_
  show (0 * 2048 + (j 1).val) * 10248 + (j 0).val = (j 1).val * 10248 + (j 0).val
  omega

/-- The scale of a grid point's rows. -/
def scl (t : Fin 20) : Elt F .f32 := FloatOps.ofBits .f32 (lit1 t)

/-- The point whose block a row of the first result lies in. -/
def ptOf (r : Nat) (h : r < 10240) : Fin 20 := ⟨r / 512, by omega⟩

theorem src_lt (r : Nat) (h : r < 10240) : (lit0 (ptOf r h) * 8#32).toNat + r % 512 < 10248 := by
  have := row_le (ptOf r h); omega

/-- The first result. -/
def outMain (w : Vec F S1x2048x10248 .f32) : Vec F S10240x2048 .bf16 := fun j =>
  FloatOps.truncf .bf16 Facts₀.bitsLt_bf16_f32 (FloatOps.mulf
    (wT w ((lit0 (ptOf (j 0).val (j 0).isLt) * 8#32).toNat + (j 0).val % 512) (src_lt _ (j 0).isLt) (j 1))
    (scl (ptOf (j 0).val (j 0).isLt)))

/-- The second. -/
def outForget (w : Vec F S1x2048x10248 .f32) : Vec F S128x2048 .bf16 := fun j =>
  FloatOps.truncf .bf16 Facts₀.bitsLt_bf16_f32 (if (j 0).val < 8
    then wT w (3072 + (j 0).val % 8) (by omega) (j 1) else FloatOps.ofBits .f32 0x00000000#32)

/-- A block of rows times its scale, rounded, at one place. -/
theorem pay1_apply (x : Vec F S512x2048 .f32) (s : Elt F .f32) (y : S512x2048.Idx) :
    k0_pay1 x s y = FloatOps.truncf .bf16 Facts₀.bitsLt_bf16_f32 (FloatOps.mulf (x y) s) := by
  unfold k0_pay1
  rw [shapeCast_self]
  rfl

theorem slt_eight : ∀ r : Fin 128, Scalar.cmpi .slt (BitVec.ofNat 32 r.val) 8#32 = if r.val < 8 then 1#1 else 0#1 := by decide

/-- The padded forget rows, rounded, at one place. -/
theorem pay2_apply (x : Vec F S8x2048 .f32) (y : S128x2048.Idx) (z : S8x2048.Idx) (h0 : (z 0).val = (y 0).val % 8)
    (h1 : (z 1).val = (y 1).val) :
    k0_pay2 x y = FloatOps.truncf .bf16 Facts₀.bitsLt_bf16_f32
      (if (y 0).val < 8 then x z else FloatOps.ofBits .f32 0x00000000#32) := by
  unfold k0_pay2
  rw [shapeCast_self]
  have hy : (y 0).val < 128 := (y 0).isLt
  show FloatOps.truncf .bf16 Facts₀.bitsLt_bf16_f32 (Scalar.select (Scalar.cmpi .slt (iota Kind.tc S128x2048 32 [0] Facts₀.iota_S128x2048_d0_w32 y) 8#32)
    (concatenate S128x2048 0 (List.replicate 16 ⟨S8x2048, x⟩) _ y) _) = _
  rw [iota_single_apply, concatenate_replicate_apply (0 : Fin S128x2048.rank) 16 x _ rfl y z h0 (fun b hb => by
    match b, hb with
    | ⟨0, _⟩, hb => exact absurd rfl hb
    | ⟨1, _⟩, _ => exact h1)]
  rw [slt_eight ⟨(y 0).val, hy⟩]
  unfold Scalar.select
  by_cases h : (y 0).val < 8
  · simp only [if_pos h]
    exact congrArg _ (if_pos rfl)
  · simp only [if_neg h]
    rfl

/-- The transposed weights as the region finds them, at a place named by its two coordinates. -/
theorem V_at (c : Dev nD) (j : S10248x2048.Idx) (n : Nat) (hn : n < 10248) (k : Fin 2048) (e0 : (j 0).val = n)
    (e1 : (j 1).val = k.val) : V m c main_v1 j = wT (m ((c : Thread nD τ).loc main_arg0)) n hn k := by
  subst e0
  rw [V_main_v1]
  exact congrArg (wT _ _ _) (Fin.ext e1)

/-- The block of rows a point reads begins at the row the offset table names. -/
theorem iblk1_apply (hO : Ok m) (c : Dev nD) (t : Fin (cfgM m hO).N) (y : S512x2048.Idx) (n : Nat) (hn : n < 10248)
    (e : n = (lit0 ((cfgM m hO).grid.coords t 0) * 8#32).toNat + (y 0).val) :
    iblk m hO c 1 t y = wT (m ((c : Thread nD τ).loc main_arg0)) n hn (y 1) := by
  refine V_at m c _ n hn (y 1) ?_ ?_
  · refine (((cfgM m hO).win 1).rect_emb_val_off t y ⟨0, Nat.zero_lt_succ 1⟩).trans ?_
    rw [e]
    exact congrArg (· + (y 0).val) (index1_row m ((cfgM m hO).grid.coords t))
  · refine (((cfgM m hO).win 1).rect_emb_val_off t y ⟨1, Nat.lt_succ_self 1⟩).trans ?_
    exact (congrArg (· + (y 1).val) (index1_col m ((cfgM m hO).grid.coords t))).trans (Nat.zero_add _)

theorem iblk0_apply (hO : Ok m) (c : Dev nD) (t : Fin (cfgM m hO).N) :
    scaleAt (iblk m hO c 0 t) ((cfgM m hO).grid.coords t) = scl ((cfgM m hO).grid.coords t 0) := by
  have e : V m c main_cst = fun i => FloatOps.ofBits .f32 (lit1 (S20.rowMajor i)) := rfl
  show V m c main_cst _ = _
  rw [e]
  refine congrArg (fun k : Fin 20 => FloatOps.ofBits .f32 (lit1 k)) (rowMajor_tab _ _ ?_)
  exact (((cfgM m hO).win 0).rect_emb_val_off t (tabIdx ((cfgM m hO).grid.coords t)) ⟨0, Nat.zero_lt_succ 0⟩).trans (Nat.zero_add _)

/-- The block of forget rows begins at row 3072. -/
theorem iblk2_apply (hO : Ok m) (c : Dev nD) (t : Fin (cfgM m hO).N) (y : S8x2048.Idx) (n : Nat) (hn : n < 10248) (k : Fin 2048)
    (e : n = 3072 + (y 0).val) (ek : (y 1).val = k.val) :
    iblk m hO c 2 t y = wT (m ((c : Thread nD τ).loc main_arg0)) n hn k := by
  refine V_at m c _ n hn k ?_ ?_
  · exact (((cfgM m hO).win 2).rect_emb_val_off t y ⟨0, Nat.zero_lt_succ 1⟩).trans e.symm
  · exact ((((cfgM m hO).win 2).rect_emb_val_off t y ⟨1, Nat.lt_succ_self 1⟩).trans (Nat.zero_add _)).trans ek

/-- The block a point leaves for the first result, at one place. -/
theorem mainBlk_apply (hO : Ok m) (c : Dev nD) (t : Fin (cfgM m hO).N) (y : S512x2048.Idx) (n : Nat) (hn : n < 10248)
    (e : n = (lit0 ((cfgM m hO).grid.coords t 0) * 8#32).toNat + (y 0).val) :
    mainBlk m hO c t y = FloatOps.truncf .bf16 Facts₀.bitsLt_bf16_f32
      (FloatOps.mulf (wT (m ((c : Thread nD τ).loc main_arg0)) n hn (y 1)) (scl ((cfgM m hO).grid.coords t 0))) :=
  (pay1_apply (iblk m hO c 1 t) _ y).trans (congrArg (FloatOps.truncf .bf16 Facts₀.bitsLt_bf16_f32)
    (congrArg₂ FloatOps.mulf (iblk1_apply m hO c t y n hn e) (iblk0_apply m hO c t)))

theorem size_pos3 (hO : Ok m) : ∀ a, 0 < ((cfgM m hO).win 3).size a := fun a => match a with
  | ⟨0, _⟩ => (by decide : 0 < 512)
  | ⟨1, _⟩ => (by decide : 0 < 2048)
theorem size_pos4 (hO : Ok m) : ∀ a, 0 < ((cfgM m hO).win 4).size a := fun a => match a with
  | ⟨0, _⟩ => (by decide : 0 < 128)
  | ⟨1, _⟩ => (by decide : 0 < 2048)

/-- The grid point with a given coordinate. -/
def pt (n : Nat) (h : n < 20) : grid0.Coords := fun a => ⟨n, by fin_cases a; exact h⟩

/-- Where a place of block `t` lies in the first result, -/
def emb3 (hO : Ok m) (t : Fin (cfgM m hO).N) (y : S512x2048.Idx) : S10240x2048.Idx := (((cfgM m hO).win 3).blk t).view.emb y
theorem emb3_row (hO : Ok m) (t : Fin (cfgM m hO).N) (y : S512x2048.Idx) :
    (emb3 m hO t y 0).val = ((cfgM m hO).grid.coords t 0).val * 512 + (y 0).val := by
  have hc : ((cfgM m hO).grid.coords t 0).val < 20 := ((cfgM m hO).grid.coords t 0).isLt
  refine (((cfgM m hO).win 3).rect_emb_val t y ⟨0, Nat.zero_lt_succ 1⟩).trans ?_
  refine congrArg (· * 512 + (y 0).val) ?_
  show (BitVec.ofNat 32 ((cfgM m hO).grid.coords t 0).val).toNat = _
  simp; omega
theorem emb3_col (hO : Ok m) (t : Fin (cfgM m hO).N) (y : S512x2048.Idx) : (emb3 m hO t y 1).val = (y 1).val :=
  (((cfgM m hO).win 3).rect_emb_val t y ⟨1, Nat.lt_succ_self 1⟩).trans ((congrArg (· + (y 1).val) (Nat.zero_mul 2048)).trans (Nat.zero_add _))

/-- and in the second. -/
def emb4 (hO : Ok m) (t : Fin (cfgM m hO).N) (y : S128x2048.Idx) : S128x2048.Idx := (((cfgM m hO).win 4).blk t).view.emb y
theorem emb4_row (hO : Ok m) (t : Fin (cfgM m hO).N) (y : S128x2048.Idx) : (emb4 m hO t y 0).val = (y 0).val :=
  (((cfgM m hO).win 4).rect_emb_val t y ⟨0, Nat.zero_lt_succ 1⟩).trans ((congrArg (· + (y 0).val) (Nat.zero_mul 128)).trans (Nat.zero_add _))
theorem emb4_col (hO : Ok m) (t : Fin (cfgM m hO).N) (y : S128x2048.Idx) : (emb4 m hO t y 1).val = (y 1).val :=
  (((cfgM m hO).win 4).rect_emb_val t y ⟨1, Nat.lt_succ_self 1⟩).trans ((congrArg (· + (y 1).val) (Nat.zero_mul 2048)).trans (Nat.zero_add _))

/-- The first result's array after the run. -/
theorem arr_main (hO : Ok m) (c : Dev nD) :
    (wdats m hO 0 c).arrAt 3 (cfgM m hO).N = outMain (m ((c : Thread nD τ).loc main_arg0)) := by
  refine (wdats m hO 0 c).arrAt_eq_of_covers 3 _ ?_ fun t hf y => ?_
  · refine ((cfgM m hO).win 3).covers_of_indexMap_surj rfl (size_pos3 m hO) fun β => ?_
    have h0 : (β ⟨0, Nat.zero_lt_succ 1⟩).val < (10240 + 512 - 1) / 512 := (β ⟨0, Nat.zero_lt_succ 1⟩).isLt
    have h1 : (β ⟨1, Nat.lt_succ_self 1⟩).val < (2048 + 2048 - 1) / 2048 := (β ⟨1, Nat.lt_succ_self 1⟩).isLt
    have h32 : (β ⟨0, Nat.zero_lt_succ 1⟩).val < 2 ^ 32 := by omega
    refine ⟨pt (β ⟨0, Nat.zero_lt_succ 1⟩).val (by omega), fun a => ?_⟩
    match a with
    | ⟨0, _⟩ => exact (BitVec.toNat_ofNat _ _).trans (Nat.mod_eq_of_lt h32)
    | ⟨1, _⟩ => show 0 = (β ⟨1, Nat.lt_succ_self 1⟩).val; omega
  · blk_simp
    rw [after3]
    have ht : t.val < 20 := lt_of_lt_of_eq t.isLt (show (cfgM m hO).N = 20 from N_0)
    change S512x2048.Idx at y
    have hy : (y 0).val < 512 := (y 0).isLt
    have hc : ((cfgM m hO).grid.coords t 0).val < 20 := ((cfgM m hO).grid.coords t 0).isLt
    let j : S10240x2048.Idx := emb3 m hO t y
    have e0 : (j 0).val = _ := emb3_row m hO t y
    have e1 : (j 1).val = _ := emb3_col m hO t y
    show mainBlk m hO c t y = outMain (m ((c : Thread nD τ).loc main_arg0)) j
    have ep : ptOf (j 0).val (j 0).isLt = (cfgM m hO).grid.coords t 0 := Fin.ext (by
      show (j 0).val / 512 = _
      omega)
    rw [mainBlk_apply m hO c t y _ (src_lt _ (j 0).isLt) (by rw [ep]; omega), ← ep, show y 1 = j 1 from (Fin.ext e1).symm]
    rfl

/-- The second result's array after the run. -/
theorem arr_forget (hO : Ok m) (c : Dev nD) :
    (wdats m hO 0 c).arrAt 4 (cfgM m hO).N = outForget (m ((c : Thread nD τ).loc main_arg0)) := by
  refine (wdats m hO 0 c).arrAt_eq_of_covers 4 _ ?_ fun t hf y => ?_
  · refine ((cfgM m hO).win 4).covers_of_indexMap_surj rfl (size_pos4 m hO) fun β => ?_
    have h0 : (β ⟨0, Nat.zero_lt_succ 1⟩).val < (128 + 128 - 1) / 128 := (β ⟨0, Nat.zero_lt_succ 1⟩).isLt
    have h1 : (β ⟨1, Nat.lt_succ_self 1⟩).val < (2048 + 2048 - 1) / 2048 := (β ⟨1, Nat.lt_succ_self 1⟩).isLt
    refine ⟨pt 0 (by omega), fun a => ?_⟩
    match a with
    | ⟨0, _⟩ => show 0 = (β ⟨0, Nat.zero_lt_succ 1⟩).val; omega
    | ⟨1, _⟩ => show 0 = (β ⟨1, Nat.lt_succ_self 1⟩).val; omega
  · blk_simp
    rw [after4]
    change S128x2048.Idx at y
    let j : S128x2048.Idx := emb4 m hO t y
    have e0 : (j 0).val = _ := emb4_row m hO t y
    have e1 : (j 1).val = _ := emb4_col m hO t y
    show forgetBlk m hO c y = outForget (m ((c : Thread nD τ).loc main_arg0)) j
    let z : S8x2048.Idx := fun a => match a with
      | ⟨0, _⟩ => ⟨(j 0).val % 8, Nat.mod_lt _ (by decide)⟩
      | ⟨1, _⟩ => j 1
    refine (pay2_apply (iblk m hO c 2 (t0 m hO)) y z (congrArg (· % 8) e0) e1).trans ?_
    rw [← e0]
    refine congrArg (FloatOps.truncf .bf16 Facts₀.bitsLt_bf16_f32) ?_
    exact congrArg (fun v => if (j 0).val < 8 then v else FloatOps.ofBits .f32 0x00000000#32)
      (iblk2_apply m hO c _ z (3072 + (j 0).val % 8) (by omega) (j 1) rfl rfl)

/-- The run, its results named: the claim's shape over any floats. -/
theorem run : θ_run defs (onTc (τ := τ) (main (F := F))) ⟨m, fun _ => 0, ρ⟩ fun r => (∀ c : Dev nD,
      r.2.mem ((c.tc : Thread nD τ).loc main_v2_0) = outMain (m ((c.tc : Thread nD τ).loc main_arg0))
      ∧ r.2.mem ((c.tc : Thread nD τ).loc main_v2_1) = outForget (m ((c.tc : Thread nD τ).loc main_arg0))
      ∧ r.2.mem ((c.tc : Thread nD τ).loc main_arg0) = m ((c.tc : Thread nD τ).loc main_arg0))
      ∧ r.2.sem = fun _ => 0 :=
  (θ_run defs _ _).mono (fun r h => ⟨fun c => ⟨(h.1.out_eq c 3).trans (arr_main m (ok m) c),
      (h.1.out_eq c 4).trans (arr_forget m (ok m) c),
      ((h.1 c).2 main_arg0 (by decide : main_arg0 ∈ Pipeline.restRefs sig spec0)).trans (V_main_arg0 m c)⟩, h.2⟩)
    (run_wprep m ρ (ok m))

end Cert.WprepOut

end
-- ==== Proof.WprepRef.lean ====
/-
  The reference's two results are the kernel's over the extended reals. Each of the seven column groups of the
  weights, put side by side and transposed, is a run of whole blocks of the kernel's first result: the offset
  table names where the group's columns begin, and the scale table is the query scale on the two query groups
  and one on the others.
-/
module

public import proofs.«01_k».proof.Proof.WprepOut
public import proofs.«01_k».proof.Proof.Gen.ReferenceIdeal.Run
public import Idealize.ShloMosaic.Lib.IdealHost

@[expose] public section

set_option maxRecDepth 16384

noncomputable section

namespace Cert.WprepRef

open Cert.ReferenceIdeal Cert.ReferenceIdeal.Gen
open Idealize.ShloMosaic Idealize.ShloMosaic.TcCoe Idealize.SL.Sem
open Cert.WprepOut (wT outMain outForget ptOf scl src_lt)

variable (w : Vec Ideal S1x2048x10248 .f32)

/-- The weights without their unit axis. -/
abbrev w2 : Vec Ideal S2048x10248 .f32 := shapeCast S2048x10248 w shapeCasts_S1x2048x10248_S2048x10248

theorem w2_apply (k : S2048x10248.Idx) : w2 w k = wT w (k 1).val (k 1).isLt (k 0) := by
  refine shapeCast_apply _ _ k _ ?_
  rw [Shape.rowMajor_val_two]
  refine (Shape.rowMajor_val_three _).trans ?_
  have h0 : (k 0).val < 2048 := (k 0).isLt
  show (0 * 2048 + (k 0).val) * 10248 + (k 1).val = (k 0).val * 10248 + (k 1).val
  omega

/-- A group of columns of the weights, at one place. -/
theorem slice_apply (S : Shape) (hS : S.rank = 2) (off : Nat) (h : S2048x10248.Slices ![0, off] S) (i : S.Idx) (n : Nat)
    (hn : n < 10248) (k : Fin 2048) (e0 : (i ⟨0, by omega⟩).val = k.val) (e1 : off + (i ⟨1, by omega⟩).val = n) :
    extractStridedSlice S ![0, off] (w2 w) h i = wT w n hn k := by
  let z : S2048x10248.Idx := fun a => match a with
    | ⟨0, _⟩ => k
    | ⟨1, _⟩ => ⟨n, hn⟩
  refine (extractStridedSlice_apply _ _ _ i z fun a => ?_).trans (w2_apply w z)
  match a with
  | ⟨0, _⟩ => exact e0.symm.trans (Nat.zero_add _).symm
  | ⟨1, _⟩ => exact e1.symm

/-- The query scale, everywhere. -/
abbrev qs : Vec Ideal S2048x1024 .f32 := broadcastInDim S2048x1024 ![] bcast_S_S2048x1024 (constant (F := Ideal) S_ .f32 0x3E0293EE#32)

/-- The reference's column groups, side by side. -/
abbrev cols : List ((s : Shape) × (s.Idx → Elt Ideal .f32)) :=
  [⟨S2048x1024, extractStridedSlice S2048x1024 ![0, 2048] (w2 w) slices_S2048x10248_S2048x1024_0_2048⟩,
   ⟨S2048x1024, extractStridedSlice S2048x1024 ![0, 5128] (w2 w) slices_S2048x10248_S2048x1024_0_5128⟩,
   ⟨S2048x1024, mulf (F := Ideal) (φ := .f32) (extractStridedSlice S2048x1024 ![0, 0] (w2 w) slices_S2048x10248_S2048x1024_0_0) qs⟩,
   ⟨S2048x1024, extractStridedSlice S2048x1024 ![0, 1024] (w2 w) slices_S2048x10248_S2048x1024_0_1024⟩,
   ⟨S2048x1024, mulf (F := Ideal) (φ := .f32) (extractStridedSlice S2048x1024 ![0, 3080] (w2 w) slices_S2048x10248_S2048x1024_0_3080) qs⟩,
   ⟨S2048x1024, extractStridedSlice S2048x1024 ![0, 4104] (w2 w) slices_S2048x10248_S2048x1024_0_4104⟩,
   ⟨S2048x4096, extractStridedSlice S2048x4096 ![0, 6152] (w2 w) slices_S2048x10248_S2048x4096_0_6152⟩]

/-- One place of the columns side by side, in the group holding it. -/
theorem cols_apply (h : Shape.Concatenates ((cols w).map (·.1)) S2048x10240 1) (j : S2048x10240.Idx) (g : Nat) (hg : g < 7) (S : Shape) (hS : S.rank = 2)
    (x : S.Idx → Elt Ideal .f32) (hx : (cols w)[g]'hg = ⟨S, x⟩) (pre : Nat)
    (hpre : ((((cols w).take g).map (·.1)).map fun s => if h : s.rank = S2048x10240.rank then s.size ((1 : Fin 2).cast h.symm) else 0).sum = pre)
    (i : S.Idx) (e0 : (i ⟨0, by omega⟩).val = (j 0).val) (e1 : pre + (i ⟨1, by omega⟩).val = (j 1).val) :
    concatenate S2048x10240 1 (cols w) h j = x i := by
  refine concatenate_apply_piece (1 : Fin S2048x10240.rank) (cols w) h j g hg S x hx hS pre hpre i (fun b hb => ?_) e1
  match b, hb with
  | ⟨0, _⟩, _ => exact e0
  | ⟨1, hlt⟩, hb => exact absurd (Fin.ext rfl) hb
  | ⟨n + 2, hlt⟩, _ => exact absurd hlt (by omega)

/-! ## The two tables, group by group -/

open Cert.Kernel (lit0 lit1)

theorem grp0 : ∀ t : Fin 20, t.val < 2 → (lit0 t * 8#32).toNat = 2048 + 512 * t.val ∧ lit1 t = 0x3F800000#32 := by decide
theorem grp1 : ∀ t : Fin 20, 2 ≤ t.val → t.val < 4 → (lit0 t * 8#32).toNat + 1024 = 5128 + 512 * t.val ∧ lit1 t = 0x3F800000#32 := by decide
theorem grp2 : ∀ t : Fin 20, 4 ≤ t.val → t.val < 6 → (lit0 t * 8#32).toNat + 2048 = 512 * t.val ∧ lit1 t = 0x3E0293EE#32 := by decide
theorem grp3 : ∀ t : Fin 20, 6 ≤ t.val → t.val < 8 → (lit0 t * 8#32).toNat + 3072 = 1024 + 512 * t.val ∧ lit1 t = 0x3F800000#32 := by decide
theorem grp4 : ∀ t : Fin 20, 8 ≤ t.val → t.val < 10 → (lit0 t * 8#32).toNat + 4096 = 3080 + 512 * t.val ∧ lit1 t = 0x3E0293EE#32 := by decide
theorem grp5 : ∀ t : Fin 20, 10 ≤ t.val → t.val < 12 → (lit0 t * 8#32).toNat + 5120 = 4104 + 512 * t.val ∧ lit1 t = 0x3F800000#32 := by decide
theorem grp6 : ∀ t : Fin 20, 12 ≤ t.val → t.val < 20 → (lit0 t * 8#32).toNat + 6144 = 6152 + 512 * t.val ∧ lit1 t = 0x3F800000#32 := by decide

/-- What the kernel's first result holds at one place, before rounding. -/
def val (r : Nat) (h : r < 10240) (k : Fin 2048) : Elt Ideal .f32 :=
  FloatOps.mulf (F := Ideal) (φ := .f32) (wT w ((lit0 (ptOf r h) * 8#32).toNat + r % 512) (src_lt r h) k) (scl (F := Ideal) (ptOf r h))

/-- In a group that is not scaled it is the weight itself, -/
theorem val_one (r : Nat) (h : r < 10240) (k : Fin 2048) (n : Nat) (hn : n < 10248)
    (e : (lit0 (ptOf r h) * 8#32).toNat + r % 512 = n) (hs : lit1 (ptOf r h) = 0x3F800000#32) : wT w n hn k = val w r h k := by
  subst e
  unfold val scl
  rw [hs, Ideal.mulf_def]
  exact ((congrArg (wT w _ hn k * ·) Ideal.ofBits_one_f32).trans (mul_one _)).symm

/-- in a scaled group the weight times the query scale. -/
theorem val_scaled (r : Nat) (h : r < 10240) (k : Fin 2048) (n : Nat) (hn : n < 10248)
    (e : (lit0 (ptOf r h) * 8#32).toNat + r % 512 = n) (hs : lit1 (ptOf r h) = 0x3E0293EE#32) :
    FloatOps.mulf (F := Ideal) (φ := .f32) (wT w n hn k) (FloatOps.ofBits (F := Ideal) .f32 0x3E0293EE#32) = val w r h k := by
  subst e
  unfold val scl
  rw [hs]

/-- A place of an array of two axes. -/
def at2 {a b : Nat} (k r : Nat) (hk : k < a) (hr : r < b) : (⟨2, ![a, b]⟩ : Shape).Idx := fun x => match x with
  | ⟨0, _⟩ => ⟨k, hk⟩
  | ⟨1, _⟩ => ⟨r, hr⟩

/-- An unscaled group of `n` columns, the `g`-th of the seven, beginning at column `pre` and read from column `off` of the
    weights. -/
theorem plain (S : Shape) (n off pre g : Nat) (hS : S = ⟨2, ![2048, n]⟩) (hsl : S2048x10248.Slices ![0, off] S)
    (h : Shape.Concatenates ((cols w).map (·.1)) S2048x10240 1) (hg : g < 7)
    (hx : (cols w)[g]'hg = ⟨S, extractStridedSlice S ![0, off] (w2 w) hsl⟩)
    (hpre : ((((cols w).take g).map (·.1)).map fun s => if h : s.rank = S2048x10240.rank then s.size ((1 : Fin 2).cast h.symm) else 0).sum = pre)
    (j : S2048x10240.Idx) (hr : (j 1).val < 10240) (lo : pre ≤ (j 1).val) (hi : (j 1).val < pre + n) (hn : off + n ≤ 10248)
    (e : (lit0 (ptOf (j 1).val hr) * 8#32).toNat + pre = off + 512 * ((j 1).val / 512)) (hs : lit1 (ptOf (j 1).val hr) = 0x3F800000#32) :
    concatenate S2048x10240 1 (cols w) h j = val w (j 1).val hr (j 0) := by
  subst hS
  have hk : (j 0).val < 2048 := (j 0).isLt
  refine (cols_apply w h j g hg _ rfl _ hx pre hpre (at2 (j 0).val ((j 1).val - pre) hk (by omega)) rfl (by show pre + ((j 1).val - pre) = _; omega)).trans ?_
  exact (slice_apply w _ rfl off hsl _ (off + ((j 1).val - pre)) (by omega) (j 0) rfl rfl).trans (val_one w _ hr _ _ _ (by omega) hs)

/-- A scaled group. -/
theorem scaled (off pre g : Nat) (hsl : S2048x10248.Slices ![0, off] S2048x1024)
    (h : Shape.Concatenates ((cols w).map (·.1)) S2048x10240 1) (hg : g < 7)
    (hx : (cols w)[g]'hg = ⟨S2048x1024, mulf (F := Ideal) (φ := .f32) (extractStridedSlice S2048x1024 ![0, off] (w2 w) hsl) qs⟩)
    (hpre : ((((cols w).take g).map (·.1)).map fun s => if h : s.rank = S2048x10240.rank then s.size ((1 : Fin 2).cast h.symm) else 0).sum = pre)
    (j : S2048x10240.Idx) (hr : (j 1).val < 10240) (lo : pre ≤ (j 1).val) (hi : (j 1).val < pre + 1024) (hn : off + 1024 ≤ 10248)
    (e : (lit0 (ptOf (j 1).val hr) * 8#32).toNat + pre = off + 512 * ((j 1).val / 512)) (hs : lit1 (ptOf (j 1).val hr) = 0x3E0293EE#32) :
    concatenate S2048x10240 1 (cols w) h j = val w (j 1).val hr (j 0) := by
  have hk : (j 0).val < 2048 := (j 0).isLt
  refine (cols_apply w h j g hg S2048x1024 rfl _ hx pre hpre (at2 (j 0).val ((j 1).val - pre) hk (by omega)) rfl (by show pre + ((j 1).val - pre) = _; omega)).trans ?_
  exact (congrArg (FloatOps.mulf · _) (slice_apply w S2048x1024 rfl off hsl _ (off + ((j 1).val - pre)) (by omega) (j 0) rfl rfl)).trans (val_scaled w _ hr _ _ _ (by omega) hs)

theorem cols_eq (h : Shape.Concatenates ((cols w).map (·.1)) S2048x10240 1) (j : S2048x10240.Idx) :
    concatenate S2048x10240 1 (cols w) h j = val w (j 1).val (j 1).isLt (j 0) := by
  have hr : (j 1).val < 10240 := (j 1).isLt
  have hp : (ptOf (j 1).val hr).val = (j 1).val / 512 := rfl
  by_cases c0 : (j 1).val < 1024
  · obtain ⟨e, s⟩ := grp0 (ptOf (j 1).val hr) (by omega)
    exact plain w S2048x1024 1024 2048 0 0 rfl slices_S2048x10248_S2048x1024_0_2048 h (by omega) rfl rfl j hr (by omega) (by omega) (by omega) (by omega) s
  by_cases c1 : (j 1).val < 2048
  · obtain ⟨e, s⟩ := grp1 (ptOf (j 1).val hr) (by omega) (by omega)
    exact plain w S2048x1024 1024 5128 1024 1 rfl slices_S2048x10248_S2048x1024_0_5128 h (by omega) rfl rfl j hr (by omega) (by omega) (by omega) (by omega) s
  by_cases c2 : (j 1).val < 3072
  · obtain ⟨e, s⟩ := grp2 (ptOf (j 1).val hr) (by omega) (by omega)
    exact scaled w 0 2048 2 slices_S2048x10248_S2048x1024_0_0 h (by omega) rfl rfl j hr (by omega) (by omega) (by omega) (by omega) s
  by_cases c3 : (j 1).val < 4096
  · obtain ⟨e, s⟩ := grp3 (ptOf (j 1).val hr) (by omega) (by omega)
    exact plain w S2048x1024 1024 1024 3072 3 rfl slices_S2048x10248_S2048x1024_0_1024 h (by omega) rfl rfl j hr (by omega) (by omega) (by omega) (by omega) s
  by_cases c4 : (j 1).val < 5120
  · obtain ⟨e, s⟩ := grp4 (ptOf (j 1).val hr) (by omega) (by omega)
    exact scaled w 3080 4096 4 slices_S2048x10248_S2048x1024_0_3080 h (by omega) rfl rfl j hr (by omega) (by omega) (by omega) (by omega) s
  by_cases c5 : (j 1).val < 6144
  · obtain ⟨e, s⟩ := grp5 (ptOf (j 1).val hr) (by omega) (by omega)
    exact plain w S2048x1024 1024 4104 5120 5 rfl slices_S2048x10248_S2048x1024_0_4104 h (by omega) rfl rfl j hr (by omega) (by omega) (by omega) (by omega) s
  · obtain ⟨e, s⟩ := grp6 (ptOf (j 1).val hr) (by omega) (by omega)
    exact plain w S2048x4096 4096 6152 6144 6 rfl slices_S2048x10248_S2048x4096_0_6152 h (by omega) rfl rfl j hr (by omega) (by omega) (by omega) (by omega) s

/-- The first result. -/
theorem main_eq : truncf (F := Ideal) (φ := .f32) .bf16 (transpose S10240x2048 [1, 0] (concatenate S2048x10240 1 (cols w)
      concatenates_S2048x1024_S2048x1024_S2048x1024_S2048x1024_S2048x1024_S2048x1024_S2048x4096_S2048x10240_d1)
      transposes_S2048x10240_S10240x2048_1_0) bitsLt_bf16_f32 = outMain w := by
  funext j
  have h0 : (j 0).val < 10240 := (j 0).isLt
  have h1 : (j 1).val < 2048 := (j 1).isLt
  refine congrArg (FloatOps.truncf (F := Ideal) (φ := .f32) .bf16 bitsLt_bf16_f32) ?_
  rw [transpose_apply _ _ _ j (at2 (j 1).val (j 0).val h1 h0 : S2048x10240.Idx) (fun b => by match b with | ⟨0, _⟩ => rfl | ⟨1, _⟩ => rfl)]
  exact cols_eq w _ (at2 (j 1).val (j 0).val h1 h0)

/-- The second result. -/
theorem forget_eq : truncf (F := Ideal) (φ := .f32) .bf16 (transpose S128x2048 [1, 0] (concatenate S2048x128 1
      [⟨S2048x8, extractStridedSlice S2048x8 ![0, 3072] (w2 w) slices_S2048x10248_S2048x8_0_3072⟩,
       ⟨S2048x120, broadcastInDim S2048x120 ![] bcast_S_S2048x120 (constant (F := Ideal) S_ .f32 0x00000000#32)⟩]
      concatenates_S2048x8_S2048x120_S2048x128_d1) transposes_S2048x128_S128x2048_1_0) bitsLt_bf16_f32 = outForget w := by
  funext j
  have h0 : (j 0).val < 128 := (j 0).isLt
  have h1 : (j 1).val < 2048 := (j 1).isLt
  refine congrArg (FloatOps.truncf (F := Ideal) (φ := .f32) .bf16 bitsLt_bf16_f32) ?_
  rw [transpose_apply _ _ _ j (at2 (j 1).val (j 0).val h1 h0 : S2048x128.Idx) (fun b => by match b with | ⟨0, _⟩ => rfl | ⟨1, _⟩ => rfl)]
  by_cases c : (j 0).val < 8
  · rw [if_pos c, concatenate_pair_apply_left (s₁ := S2048x8) (s₂ := S2048x120) (1 : Fin S2048x128.rank) _ _ _ _ rfl (at2 (j 1).val (j 0).val h1 c : S2048x8.Idx) (fun b => by match b with | ⟨0, _⟩ => rfl | ⟨1, _⟩ => rfl)]
    exact slice_apply w _ rfl 3072 _ _ (3072 + (j 0).val % 8) (by omega) (j 1) rfl (by show 3072 + (j 0).val = _; omega)
  · rw [if_neg c, concatenate_pair_apply_right (s₁ := S2048x8) (s₂ := S2048x120) (1 : Fin S2048x128.rank) _ _ _ _ rfl rfl (at2 (j 1).val ((j 0).val - 8) h1 (by omega) : S2048x120.Idx)
      (fun b hb => by match b, hb with | ⟨0, _⟩, _ => rfl | ⟨1, _⟩, hb => exact absurd (Fin.ext rfl) hb) (by show (j 0).val - 8 + 8 = (j 0).val; omega)]
    rfl

end Cert.WprepRef

end
-- ==== Proof.MergeOut.lean ====
/-
  The gated merge of the two attention branches, over the extended reals: the result's place (r, c) is the
  logistic of the first gate times the first branch's product, plus the same of the second — of the kernel, block
  by block, and of the reference, in whole products.
-/
module

public import proofs.«01_k».proof.Proof.Gen.MergeIdeal.Value
public import proofs.«01_k».proof.Proof.Gen.MergeRefIdeal.Run
public import proofs.«01_k».proof.Proof.Blocks
public import Idealize.ShloMosaic.Lib.Pipeline.Covers
public import Idealize.ShloMosaic.Lib.Quiescent
public import Idealize.ShloMosaic.Lib.IdealHost

@[expose] public section

set_option maxRecDepth 16384

noncomputable section

namespace Cert.MergeOut

open Idealize.ShloMosaic Idealize.ShloMosaic.TcCoe Idealize.ShloMosaic.Tactic
open Idealize.SL.Sem Cert.Blocks

/-- A column of the projection that gates column `c`: `1024 b` columns further right. -/
def gate (b : Nat) (hb : b ≤ 6) (c : Fin 2048) : Fin 8192 := ⟨1024 * b + c.val, by omega⟩

/-- The branches' products, each times the logistic of its gate, added. -/
def merged (oa ob : FVec Ideal ⟨2, ![8192, 1024]⟩ .bf16) (wa wb : FVec Ideal ⟨2, ![1024, 2048]⟩ .f32)
    (p : FVec Ideal ⟨2, ![8192, 8192]⟩ .bf16) : FVec Ideal ⟨2, ![8192, 2048]⟩ .bf16 := fun j =>
  Ideal.logistic (p (ix2 (j 0) (gate 4 (by decide) (j 1)))) * (∑ k : Fin 1024, oa (ix2 (j 0) k) * wa (ix2 k (j 1)))
    + Ideal.logistic (p (ix2 (j 0) (gate 6 (by decide) (j 1)))) * (∑ k : Fin 1024, ob (ix2 (j 0) k) * wb (ix2 k (j 1)))

section Kernel

open Cert.MergeIdeal Cert.MergeIdeal.Gen

variable (m : (ℓ : Loc nD τ sig) → Buf (Elt Ideal) ℓ)

/-- The columns of the weights a point takes begin at 1024 times its second coordinate. -/
theorem off_col (i : grid0.Coords) : k0_off1 i 1 = 1024 * (i 1).val := by
  have h : (i 1).val < 2 := (i 1).isLt
  show (BitVec.ofNat 32 (i 1).val * 1024#32).toNat = _
  rw [BitVec.toNat_mul, word _ (by omega)]
  show (i 1).val * 1024 % 4294967296 = _
  omega

/-- What the body leaves in its output block. -/
theorem out_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x2048 .f32) (harg4 : arg4.IsWhole) (arg5 : Memref sig .tc .vmem S1024x2048 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole)
    (x0 : Vec Ideal S1024x1024 .bf16) (x1 : Vec Ideal S1024x1024 .bf16) (x2 : Vec Ideal S1024x2048 .f32) (x3 : Vec Ideal S1024x2048 .f32) (x4 : Vec Ideal S1024x1024 .bf16) (x5 : Vec Ideal S1024x1024 .bf16) :
    out0_A_6 c i arg2 harg2 arg3 harg3 arg4 harg4 arg5 harg5 arg6 harg6 arg7 harg7 arg8 harg8 x0 x1 x2 x3 x4 x5
      = k0_pay1 x0 (cut (k0_off1 i) (Facts₀.k0_off1_inb i) x2) x1 (cut (k0_off1 i) (Facts₀.k0_off1_inb i) x3) x4 x5 := by
  unfold out0_A_6 kernelRun0_A
  refine (read_store_whole _ _ zeros2 _ _).trans ?_
  rw [readAt_cut harg4, readAt_cut harg5, readAt_whole harg2 zeros2, readAt_whole harg3 zeros2, readAt_whole harg6 zeros2,
    readAt_whole harg7 zeros2]

/-- A block's product at one place. -/
theorem prod_apply (a : FVec Ideal ⟨2, ![1024, 1024]⟩ .bf16) (w : FVec Ideal ⟨2, ![1024, 1024]⟩ .bf16) (r c : Fin 1024) :
    FloatOps.matmul (F := Ideal) (DotDims.plain 1024 1024 1024) none a w (constant (F := Ideal) S1024x1024 .f32 0x00000000#32) (ix2 r c)
      = ∑ k : Fin 1024, a (ix2 r k) * w (ix2 k c) :=
  (Ideal.matmul_plain_apply none a w _ r c).trans ((congrArg (· + _) Ideal.ofBits_zero_f32).trans (zero_add _))

/-- The body's arithmetic at one place. -/
theorem pay_apply (a : Vec Ideal S1024x1024 .bf16) (w : Vec Ideal S1024x1024 .f32) (b : Vec Ideal S1024x1024 .bf16)
    (v : Vec Ideal S1024x1024 .f32) (p q : Vec Ideal S1024x1024 .bf16) (r c : Fin 1024) :
    k0_pay1 a w b v p q (ix2 r c) = Ideal.logistic (p (ix2 r c)) * (∑ k : Fin 1024, a (ix2 r k) * w (ix2 k c))
      + Ideal.logistic (q (ix2 r c)) * (∑ k : Fin 1024, b (ix2 r k) * v (ix2 k c)) := by
  unfold k0_pay1
  exact congrArg₂ (fun x y : EReal => Ideal.logistic (p (ix2 r c)) * x + Ideal.logistic (q (ix2 r c)) * y)
    (prod_apply a w r c) (prod_apply b v r c)

/-- The kernel's result. -/
theorem arr (c : Dev nD) : (dats m 0 c).arrAt 6 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ ?_ fun t hf y => ?_
  · refine (cfg0.win 6).covers_of_indexMap_surj rfl (fun a => match a with
      | ⟨0, _⟩ => (by decide : 0 < 1024)
      | ⟨1, _⟩ => (by decide : 0 < 1024)) fun β => ?_
    have h0 : (β ⟨0, Nat.zero_lt_succ 1⟩).val < (8192 + 1024 - 1) / 1024 := (β ⟨0, Nat.zero_lt_succ 1⟩).isLt
    have h1 : (β ⟨1, Nat.lt_succ_self 1⟩).val < (2048 + 1024 - 1) / 1024 := (β ⟨1, Nat.lt_succ_self 1⟩).isLt
    have b0 : (β ⟨0, Nat.zero_lt_succ 1⟩).val < 1048576 := by omega
    have b1 : (β ⟨1, Nat.lt_succ_self 1⟩).val < 1048576 := by omega
    refine ⟨fun a => match a with
      | ⟨0, _⟩ => ⟨(β ⟨0, Nat.zero_lt_succ 1⟩).val, by show _ < 8; omega⟩
      | ⟨1, _⟩ => ⟨(β ⟨1, Nat.lt_succ_self 1⟩).val, by show _ < 2; omega⟩, fun a => ?_⟩
    match a with
    | ⟨0, _⟩ => exact word _ b0
    | ⟨1, _⟩ => exact word _ b1
  · blk_simp
    rw [after0_6]
    unfold outsAt0
    rw [out_eq]
    change S1024x1024.Idx at y
    have h0 : (y 0).val < 1024 := (y 0).isLt
    have h1 : (y 1).val < 1024 := (y 1).isLt
    have c0 : (grid0.coords t 0).val < 8 := (grid0.coords t 0).isLt
    have c1 : (grid0.coords t 1).val < 2 := (grid0.coords t 1).isLt
    have w0 : (BitVec.ofNat 32 (grid0.coords t 0).val).toNat = _ := word _ (by omega)
    have w1 : (BitVec.ofNat 32 (grid0.coords t 1).val).toNat = _ := word _ (by omega)
    let R : Fin 8192 := ⟨(grid0.coords t 0).val * 1024 + (y 0).val, by omega⟩
    let C : Fin 2048 := ⟨(grid0.coords t 1).val * 1024 + (y 1).val, by omega⟩
    have w4 : (4#32 + BitVec.ofNat 32 (grid0.coords t 1).val).toNat = 4 + (grid0.coords t 1).val := by
      rw [BitVec.toNat_add, w1]
      show (4 + _) % 4294967296 = _
      omega
    have w6 : (6#32 + BitVec.ofNat 32 (grid0.coords t 1).val).toNat = 6 + (grid0.coords t 1).val := by
      rw [BitVec.toNat_add, w1]
      show (6 + _) % 4294967296 = _
      omega
    have ej : ((cfg0.win 6).blk t).view.emb y = ix2 R C := idx2_eq _ R C
      (((cfg0.win 6).rect_emb_val t y ⟨0, Nat.zero_lt_succ 1⟩).trans (congrArg (· * 1024 + (y 0).val) w0))
      (((cfg0.win 6).rect_emb_val t y ⟨1, Nat.lt_succ_self 1⟩).trans (congrArg (· * 1024 + (y 1).val) w1))
    have ea : ∀ k : Fin 1024, iblk m c 0 t (ix2 (y 0) k) = m ((c : Thread nD τ).loc main_arg0) (ix2 R k) := fun k => by
      refine (congrFun (V_main_arg0 m c) _).trans (congrArg _ (idx2_eq _ R k ?_ ?_))
      · exact ((cfg0.win 0).rect_emb_val t (ix2 (y 0) k) ⟨0, Nat.zero_lt_succ 1⟩).trans (congrArg (· * 1024 + (y 0).val) w0)
      · exact ((cfg0.win 0).rect_emb_val t (ix2 (y 0) k) ⟨1, Nat.lt_succ_self 1⟩).trans (Nat.zero_add _)
    have eb : ∀ k : Fin 1024, iblk m c 1 t (ix2 (y 0) k) = m ((c : Thread nD τ).loc main_arg1) (ix2 R k) := fun k => by
      refine (congrFun (V_main_arg1 m c) _).trans (congrArg _ (idx2_eq _ R k ?_ ?_))
      · exact ((cfg0.win 1).rect_emb_val t (ix2 (y 0) k) ⟨0, Nat.zero_lt_succ 1⟩).trans (congrArg (· * 1024 + (y 0).val) w0)
      · exact ((cfg0.win 1).rect_emb_val t (ix2 (y 0) k) ⟨1, Nat.lt_succ_self 1⟩).trans (Nat.zero_add _)
    have ep : iblk m c 4 t (ix2 (y 0) (y 1)) = m ((c : Thread nD τ).loc main_arg4) (ix2 R (gate 4 (by decide) C)) := by
      refine (congrFun (V_main_arg4 m c) _).trans (congrArg _ (idx2_eq _ R (gate 4 (by decide) C) ?_ ?_))
      · exact ((cfg0.win 4).rect_emb_val t (ix2 (y 0) (y 1)) ⟨0, Nat.zero_lt_succ 1⟩).trans (congrArg (· * 1024 + (y 0).val) w0)
      · exact ((cfg0.win 4).rect_emb_val t (ix2 (y 0) (y 1)) ⟨1, Nat.lt_succ_self 1⟩).trans ((congrArg (· * 1024 + (y 1).val) w4).trans (by show _ = 1024 * 4 + (_ * 1024 + _); omega))
    have eq : iblk m c 5 t (ix2 (y 0) (y 1)) = m ((c : Thread nD τ).loc main_arg4) (ix2 R (gate 6 (by decide) C)) := by
      refine (congrFun (V_main_arg4 m c) _).trans (congrArg _ (idx2_eq _ R (gate 6 (by decide) C) ?_ ?_))
      · exact ((cfg0.win 5).rect_emb_val t (ix2 (y 0) (y 1)) ⟨0, Nat.zero_lt_succ 1⟩).trans (congrArg (· * 1024 + (y 0).val) w0)
      · exact ((cfg0.win 5).rect_emb_val t (ix2 (y 0) (y 1)) ⟨1, Nat.lt_succ_self 1⟩).trans ((congrArg (· * 1024 + (y 1).val) w6).trans (by show _ = 1024 * 6 + (_ * 1024 + _); omega))
    have ewa : ∀ k : Fin 1024, cut (k0_off1 (grid0.coords t)) (Facts₀.k0_off1_inb _) (iblk m c 2 t) (ix2 k (y 1))
        = m ((c : Thread nD τ).loc main_arg2) (ix2 k C) := fun k => by
      refine (cut_at _ _ _ k (y 1) k C (Nat.zero_add _).symm ?_).trans ?_
      · rw [off_col]; show _ * 1024 + _ = _; omega
      · refine (congrFun (V_main_arg2 m c) _).trans (congrArg _ (idx2_eq _ k C ?_ ?_))
        · exact ((cfg0.win 2).rect_emb_val t (ix2 k C) ⟨0, Nat.zero_lt_succ 1⟩).trans (Nat.zero_add _)
        · exact ((cfg0.win 2).rect_emb_val t (ix2 k C) ⟨1, Nat.lt_succ_self 1⟩).trans (Nat.zero_add _)
    have ewb : ∀ k : Fin 1024, cut (k0_off1 (grid0.coords t)) (Facts₀.k0_off1_inb _) (iblk m c 3 t) (ix2 k (y 1))
        = m ((c : Thread nD τ).loc main_arg3) (ix2 k C) := fun k => by
      refine (cut_at _ _ _ k (y 1) k C (Nat.zero_add _).symm ?_).trans ?_
      · rw [off_col]; show _ * 1024 + _ = _; omega
      · refine (congrFun (V_main_arg3 m c) _).trans (congrArg _ (idx2_eq _ k C ?_ ?_))
        · exact ((cfg0.win 3).rect_emb_val t (ix2 k C) ⟨0, Nat.zero_lt_succ 1⟩).trans (Nat.zero_add _)
        · exact ((cfg0.win 3).rect_emb_val t (ix2 k C) ⟨1, Nat.lt_succ_self 1⟩).trans (Nat.zero_add _)
    refine Eq.trans ?_ (congrArg _ ej.symm)
    refine (congrArg _ (eq_ix2 y)).trans ((pay_apply _ _ _ _ _ _ (y 0) (y 1)).trans ?_)
    exact congrArg₂ (· + ·)
      (congrArg₂ (fun x y : EReal => Ideal.logistic x * y) ep (Finset.sum_congr rfl fun k _ => congrArg₂ (· * ·) (ea k) (ewa k)))
      (congrArg₂ (fun x y : EReal => Ideal.logistic x * y) eq (Finset.sum_congr rfl fun k _ => congrArg₂ (· * ·) (eb k) (ewb k)))

end Kernel

section Reference

open Cert.MergeRefIdeal Cert.MergeRefIdeal.Gen

/-- The logistic as the reference spells it, of a column band of the projection. -/
theorem sig_apply (b : Nat) (hb : b ≤ 6) (p : FVec Ideal ⟨2, ![8192, 8192]⟩ .bf16) (h : S8192x8192.Slices ![0, 1024 * b] S8192x2048)
    (r : Fin 8192) (c : Fin 2048) :
    Host.divf (F := Ideal) (φ := .f32) (broadcastInDim S8192x2048 ![] Facts₀.bcast_S_S8192x2048 (constant S_ .f32 0x3F800000#32))
      (addf (broadcastInDim S8192x2048 ![] Facts₀.bcast_S_S8192x2048 (constant S_ .f32 0x3F800000#32))
        (Host.exp (Host.negf (extf .f32 (extractStridedSlice S8192x2048 ![0, 1024 * b] p h) Facts₀.bitsLt_bf16_f32)))) (ix2 r c)
      = Ideal.logistic (p (ix2 r (gate b hb c))) := by
  have e := extractStridedSlice_apply ![0, 1024 * b] p h (ix2 r c) (ix2 r (gate b hb c)) (fun a => match a with
    | ⟨0, _⟩ => (Nat.zero_add _).symm
    | ⟨1, _⟩ => rfl)
  show Ideal.div (Ideal.ofBits .f32 0x3F800000#32) (Ideal.ofBits .f32 0x3F800000#32
    + Ideal.exp (-(extractStridedSlice S8192x2048 ![0, 1024 * b] p h (ix2 r c)))) = _
  rw [e, Ideal.ofBits_one_f32]
  rfl

/-- The reference's result. -/
theorem ref_eq (oa ob : FVec Ideal ⟨2, ![8192, 1024]⟩ .bf16) (wa wb : FVec Ideal ⟨2, ![1024, 2048]⟩ .f32)
    (p : FVec Ideal ⟨2, ![8192, 8192]⟩ .bf16) :
    truncf (F := Ideal) .bf16 (addf
      (mulf (Host.divf (F := Ideal) (φ := .f32) (broadcastInDim S8192x2048 ![] Facts₀.bcast_S_S8192x2048 (constant S_ .f32 0x3F800000#32))
        (addf (broadcastInDim S8192x2048 ![] Facts₀.bcast_S_S8192x2048 (constant S_ .f32 0x3F800000#32))
          (Host.exp (Host.negf (extf .f32 (extractStridedSlice S8192x2048 ![0, 4096] p Facts₀.slices_S8192x8192_S8192x2048_0_4096) Facts₀.bitsLt_bf16_f32)))))
        (Host.dotGeneral dot_S8192x1024_S1024x2048_S8192x2048_1_0_0_1_n_n none oa (truncf .bf16 wa Facts₀.bitsLt_bf16_f32)))
      (mulf (Host.divf (F := Ideal) (φ := .f32) (broadcastInDim S8192x2048 ![] Facts₀.bcast_S_S8192x2048 (constant S_ .f32 0x3F800000#32))
        (addf (broadcastInDim S8192x2048 ![] Facts₀.bcast_S_S8192x2048 (constant S_ .f32 0x3F800000#32))
          (Host.exp (Host.negf (extf .f32 (extractStridedSlice S8192x2048 ![0, 6144] p Facts₀.slices_S8192x8192_S8192x2048_0_6144) Facts₀.bitsLt_bf16_f32)))))
        (Host.dotGeneral dot_S8192x1024_S1024x2048_S8192x2048_1_0_0_1_n_n none ob (truncf .bf16 wb Facts₀.bitsLt_bf16_f32)))) Facts₀.bitsLt_bf16_f32
      = merged oa ob wa wb p := by
  funext j
  rw [eq_ix2 j]
  exact congrArg₂ (· + ·)
    (congrArg₂ (· * ·) (sig_apply 4 (by decide) p _ (j 0) (j 1)) (StackMember.dotGeneral_plain_apply none oa wa (j 0) (j 1)))
    (congrArg₂ (· * ·) (sig_apply 6 (by decide) p _ (j 0) (j 1)) (StackMember.dotGeneral_plain_apply none ob wb (j 0) (j 1)))

end Reference

end Cert.MergeOut

end
-- ==== Proof.MixoutOut.lean ====
/-
  The output projection with its residual, over the extended reals: the result's place (r, c) is the
  residual's entry plus the sum over k of the mixed row r times the weights' column c — of the kernel, block by
  block, and of the reference, in one product.
-/
module

public import proofs.«01_k».proof.Proof.Gen.MixoutIdeal.Value
public import proofs.«01_k».proof.Proof.Gen.MixoutRefIdeal.Run
public import proofs.«01_k».proof.Proof.Blocks
public import Idealize.ShloMosaic.Lib.Pipeline.Covers
public import Idealize.ShloMosaic.Lib.Quiescent

@[expose] public section

set_option maxRecDepth 16384

noncomputable section

namespace Cert.MixoutOut

open Idealize.ShloMosaic Idealize.ShloMosaic.TcCoe Idealize.ShloMosaic.Tactic
open Idealize.SL.Sem Cert.Blocks

/-- Residual plus product. -/
def proj (a : FVec Ideal ⟨2, ![8192, 2048]⟩ .bf16) (w : FVec Ideal ⟨2, ![2048, 2048]⟩ .f32)
    (x : FVec Ideal ⟨2, ![8192, 2048]⟩ .f32) : FVec Ideal ⟨2, ![8192, 2048]⟩ .f32 := fun j =>
  x j + ∑ k : Fin 2048, a (ix2 (j 0) k) * w (ix2 k (j 1))

section Kernel

open Cert.MixoutIdeal Cert.MixoutIdeal.Gen

variable (m : (ℓ : Loc nD τ sig) → Buf (Elt Ideal) ℓ)

/-- The columns of the weights a point takes begin at 1024 times its second coordinate. -/
theorem off_col (i : grid0.Coords) : k0_off1 i 1 = 1024 * (i 1).val := by
  have h : (i 1).val < 2 := (i 1).isLt
  show (BitVec.ofNat 32 (i 1).val * 1024#32).toNat = _
  rw [BitVec.toNat_mul, word _ (by omega)]
  show (i 1).val * 1024 % 4294967296 = _
  omega

/-- What the body leaves in its output block. -/
theorem out_eq (c : Dev nD) (i : grid0.Coords) (arg2 : Memref sig .tc .vmem S1024x2048 .bf16) (harg2 : arg2.IsWhole) (arg3 : Memref sig .tc .vmem S2048x2048 .f32) (harg3 : arg3.IsWhole) (arg4 : Memref sig .tc .vmem S1024x1024 .f32) (harg4 : arg4.IsWhole) (arg5 : Memref sig .tc .vmem S1024x1024 .f32) (harg5 : arg5.IsWhole)
    (x0 : Vec Ideal S1024x2048 .bf16) (x1 : Vec Ideal S2048x2048 .f32) (x2 : Vec Ideal S1024x1024 .f32) :
    out0_A_3 c i arg2 harg2 arg3 harg3 arg4 harg4 arg5 harg5 x0 x1 x2
      = k0_pay1 (cut (k0_off1 i) (Facts₀.k0_off1_inb i) x1) x2 x0 := by
  unfold out0_A_3 kernelRun0_A
  refine (read_store_whole _ _ zeros2 _ _).trans ?_
  rw [readAt_cut harg3, readAt_whole harg4 zeros2, readAt_whole harg2 zeros2]

/-- The body's arithmetic at one place. -/
theorem pay_apply (w : Vec Ideal S2048x1024 .f32) (x : Vec Ideal S1024x1024 .f32) (a : Vec Ideal S1024x2048 .bf16)
    (r : Fin 1024) (c : Fin 1024) :
    k0_pay1 w x a (ix2 r c) = x (ix2 r c) + ∑ k : Fin 2048, a (ix2 r k) * w (ix2 k c) := by
  unfold k0_pay1
  refine congrArg (x (ix2 r c) + ·) ((Ideal.matmul_plain_apply none a w _ r c).trans ?_)
  exact (congrArg (· + _) Ideal.ofBits_zero_f32).trans (zero_add _)

/-- The kernel's result. -/
theorem arr (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ ?_ fun t hf y => ?_
  · refine (cfg0.win 3).covers_of_indexMap_surj rfl (fun a => match a with
      | ⟨0, _⟩ => (by decide : 0 < 1024)
      | ⟨1, _⟩ => (by decide : 0 < 1024)) fun β => ?_
    have h0 : (β ⟨0, Nat.zero_lt_succ 1⟩).val < (8192 + 1024 - 1) / 1024 := (β ⟨0, Nat.zero_lt_succ 1⟩).isLt
    have h1 : (β ⟨1, Nat.lt_succ_self 1⟩).val < (2048 + 1024 - 1) / 1024 := (β ⟨1, Nat.lt_succ_self 1⟩).isLt
    have b0 : (β ⟨0, Nat.zero_lt_succ 1⟩).val < 1048576 := by omega
    have b1 : (β ⟨1, Nat.lt_succ_self 1⟩).val < 1048576 := by omega
    refine ⟨fun a => match a with
      | ⟨0, _⟩ => ⟨(β ⟨0, Nat.zero_lt_succ 1⟩).val, by show _ < 8; omega⟩
      | ⟨1, _⟩ => ⟨(β ⟨1, Nat.lt_succ_self 1⟩).val, by show _ < 2; omega⟩, fun a => ?_⟩
    match a with
    | ⟨0, _⟩ => exact word _ b0
    | ⟨1, _⟩ => exact word _ b1
  · blk_simp
    rw [after0_3]
    unfold outsAt0
    rw [out_eq]
    change S1024x1024.Idx at y
    have h0 : (y 0).val < 1024 := (y 0).isLt
    have h1 : (y 1).val < 1024 := (y 1).isLt
    have c0 : (grid0.coords t 0).val < 8 := (grid0.coords t 0).isLt
    have c1 : (grid0.coords t 1).val < 2 := (grid0.coords t 1).isLt
    have w0 : (BitVec.ofNat 32 (grid0.coords t 0).val).toNat = _ := word _ (by omega)
    have w1 : (BitVec.ofNat 32 (grid0.coords t 1).val).toNat = _ := word _ (by omega)
    let R : Fin 8192 := ⟨(grid0.coords t 0).val * 1024 + (y 0).val, by omega⟩
    let C : Fin 2048 := ⟨(grid0.coords t 1).val * 1024 + (y 1).val, by omega⟩
    have ej : ((cfg0.win 3).blk t).view.emb y = ix2 R C := idx2_eq _ R C
      (((cfg0.win 3).rect_emb_val t y ⟨0, Nat.zero_lt_succ 1⟩).trans (congrArg (· * 1024 + (y 0).val) w0))
      (((cfg0.win 3).rect_emb_val t y ⟨1, Nat.lt_succ_self 1⟩).trans (congrArg (· * 1024 + (y 1).val) w1))
    have ex : iblk m c 2 t (ix2 (y 0) (y 1)) = m ((c : Thread nD τ).loc main_arg2) (ix2 R C) := by
      refine (congrFun (V_main_arg2 m c) _).trans (congrArg _ (idx2_eq _ R C ?_ ?_))
      · exact ((cfg0.win 2).rect_emb_val t (ix2 (y 0) (y 1)) ⟨0, Nat.zero_lt_succ 1⟩).trans (congrArg (· * 1024 + (y 0).val) w0)
      · exact ((cfg0.win 2).rect_emb_val t (ix2 (y 0) (y 1)) ⟨1, Nat.lt_succ_self 1⟩).trans (congrArg (· * 1024 + (y 1).val) w1)
    have ea : ∀ k : Fin 2048, iblk m c 0 t (ix2 (y 0) k) = m ((c : Thread nD τ).loc main_arg0) (ix2 R k) := fun k => by
      refine (congrFun (V_main_arg0 m c) _).trans (congrArg _ (idx2_eq _ R k ?_ ?_))
      · exact ((cfg0.win 0).rect_emb_val t (ix2 (y 0) k) ⟨0, Nat.zero_lt_succ 1⟩).trans (congrArg (· * 1024 + (y 0).val) w0)
      · exact ((cfg0.win 0).rect_emb_val t (ix2 (y 0) k) ⟨1, Nat.lt_succ_self 1⟩).trans (Nat.zero_add _)
    have ew : ∀ k : Fin 2048, cut (k0_off1 (grid0.coords t)) (Facts₀.k0_off1_inb _) (iblk m c 1 t) (ix2 k (y 1))
        = m ((c : Thread nD τ).loc main_arg1) (ix2 k C) := fun k => by
      refine (cut_at _ _ _ k (y 1) k C (Nat.zero_add _).symm ?_).trans ?_
      · rw [off_col]; show _ * 1024 + _ = _; omega
      · refine (congrFun (V_main_arg1 m c) _).trans (congrArg _ (idx2_eq _ k C ?_ ?_))
        · exact ((cfg0.win 1).rect_emb_val t (ix2 k C) ⟨0, Nat.zero_lt_succ 1⟩).trans (Nat.zero_add _)
        · exact ((cfg0.win 1).rect_emb_val t (ix2 k C) ⟨1, Nat.lt_succ_self 1⟩).trans (Nat.zero_add _)
    refine Eq.trans ?_ (congrArg _ ej.symm)
    refine (congrArg _ (eq_ix2 y)).trans ((pay_apply _ _ _ (y 0) (y 1)).trans ?_)
    exact congrArg₂ (· + ·) ex (Finset.sum_congr rfl fun k _ => congrArg₂ (· * ·) (ea k) (ew k))

end Kernel

/-- The reference's result. -/
theorem ref_eq (a : FVec Ideal ⟨2, ![8192, 2048]⟩ .bf16) (w : FVec Ideal ⟨2, ![2048, 2048]⟩ .f32)
    (x : FVec Ideal ⟨2, ![8192, 2048]⟩ .f32) :
    addf x (Host.dotGeneral (F := Ideal) Cert.MixoutRefIdeal.dot_S8192x2048_S2048x2048_S8192x2048_1_0_0_1_n_n none a (truncf .bf16 w Cert.MixoutRefIdeal.Gen.bitsLt_bf16_f32)) = proj a w x := by
  funext j
  rw [eq_ix2 j]
  exact congrArg (x (ix2 (j 0) (j 1)) + ·) (StackMember.dotGeneral_plain_apply none a w (j 0) (j 1))

end Cert.MixoutOut

end
-- ==== Proof.TailClaims.lean ====
/-
  The claims about the two calls after the attention: the gated merge of its branches, and the output projection
  with its residual. Frames of all programs; the kernels' results are the references', over the extended reals.
-/
module

public import proofs.«01_k».proof.Defs
public import proofs.«01_k».proof.Proof.Gen.Merge.Frame
public import proofs.«01_k».proof.Proof.Gen.Mixout.Frame
public import proofs.«01_k».proof.Proof.MergeOut
public import proofs.«01_k».proof.Proof.MixoutOut

@[expose] public section

noncomputable section

namespace Cert.Proof

open Idealize.ShloMosaic Idealize.SL.Sem

/-! ## The gated merge -/

theorem frame_merge : Cert.quiescent_Merge := fun m g _ => Cert.Merge.Gen.frame m g

theorem frame_merge_ideal : Cert.quiescent_MergeIdeal := fun m g _ => Cert.MergeIdeal.Gen.frame m g

theorem frame_merge_ref : Cert.quiescent_MergeRefIdeal := fun m g _ =>
  (θ_run _ _ _).mono (fun r h => ⟨fun c => (h c).2, sem_eq_zero_of_no_sems rfl r.2⟩) (Cert.MergeRefIdeal.Value.run m g)

theorem value_merge : Cert.algebraic_MergeIdeal_MergeRefIdeal := fun m g m' g' _ harg =>
  ⟨fun c => MergeOut.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)),
   (θ_run _ _ _).mono (fun _ h c => ⟨(h c).1.trans (MergeOut.arr m c), (h c).2⟩) (Cert.MergeIdeal.Value.run_blocks m g),
   (θ_run _ _ _).mono (fun _ h c => ⟨(h c).1.trans ((MergeOut.ref_eq _ _ _ _ _).trans (by
      obtain ⟨e0, e1, e2, e3, e4⟩ := harg c
      rw [e0, e1, e2, e3, e4])), (h c).2⟩)
    (Cert.MergeRefIdeal.Value.run m' g')⟩

/-! ## The output projection -/

theorem frame_mixout : Cert.quiescent_Mixout := fun m g _ => Cert.Mixout.Gen.frame m g

theorem frame_mixout_ideal : Cert.quiescent_MixoutIdeal := fun m g _ => Cert.MixoutIdeal.Gen.frame m g

theorem frame_mixout_ref : Cert.quiescent_MixoutRefIdeal := fun m g _ =>
  (θ_run _ _ _).mono (fun r h => ⟨fun c => (h c).2, sem_eq_zero_of_no_sems rfl r.2⟩) (Cert.MixoutRefIdeal.Value.run m g)

theorem value_mixout : Cert.algebraic_MixoutIdeal_MixoutRefIdeal := fun m g m' g' _ harg =>
  ⟨fun c => MixoutOut.proj (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)),
   (θ_run _ _ _).mono (fun _ h c => ⟨(h c).1.trans (MixoutOut.arr m c), (h c).2⟩) (Cert.MixoutIdeal.Value.run_blocks m g),
   (θ_run _ _ _).mono (fun _ h c => ⟨(h c).1.trans ((MixoutOut.ref_eq _ _ _).trans (by
      obtain ⟨e0, e1, e2⟩ := harg c
      rw [e0, e1, e2])), (h c).2⟩)
    (Cert.MixoutRefIdeal.Value.run m' g')⟩

end Cert.Proof

end
-- ==== Proof.InprojRun.lean ====
/-
  The run of the input projection, over any floats. Point `t = 10 m + j` of the grid works on row block `m`:
  at `j = 0` it normalizes the block's rows into the scratch and takes the forget gates' product, at `j < 2` it
  takes a column block of the values' product, transposed, and at `j ≥ 2` one of the projection's. The scratch
  carries the normalized rows from `j = 0` to `j = 9`.
-/
module

public import proofs.«01_k».proof.Proof.Gen.Inproj.Frame
public import proofs.«01_k».proof.Proof.Gen.Inproj.Skeleton
public import Idealize.ShloMosaic.Lib.Pipeline.ValueKit
public import proofs.«01_k».proof.Proof.Blocks

@[expose] public section

set_option maxRecDepth 16384

noncomputable section

namespace Cert.InprojRun

open Cert.Inproj Cert.Inproj.Gen Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branches -/

/-- The first branch is taken at the first column. -/
theorem cond1 (i : grid0.Coords) : k0_cond1 i = 1#1 ↔ (i 1).val = 0 := by
  have key : ∀ j : Fin 10, (Scalar.cmpi .ne (Scalar.extui (Scalar.cmpi .eq (BitVec.ofNat 32 j.val) 0#32) : BitVec 32) 0#32 = (1#1 : BitVec 1)) ↔ j.val = 0 := by decide
  exact key (i 1)
/-- The second at the first two, -/
theorem cond2 (i : grid0.Coords) : k0_cond2 i = 1#1 ↔ (i 1).val < 2 := by
  have key : ∀ j : Fin 10, (Scalar.cmpi .ne (Scalar.extui (Scalar.cmpi .slt (BitVec.ofNat 32 j.val) 2#32) : BitVec 32) 0#32 = (1#1 : BitVec 1)) ↔ j.val < 2 := by decide
  exact key (i 1)
/-- and the third at the others. -/
theorem cond3 (i : grid0.Coords) : k0_cond3 i = 1#1 ↔ 2 ≤ (i 1).val := by
  have key : ∀ j : Fin 10, (Scalar.cmpi .ne (Scalar.extui (Scalar.cmpi .sge (BitVec.ofNat 32 j.val) 2#32) : BitVec 32) 0#32 = (1#1 : BitVec 1)) ↔ 2 ≤ j.val := by decide
  exact key (i 1)

/-- The column of a point, -/
theorem col_eq (t : Fin grid0.N) : (grid0.coords t 1).val = t.val % 10 := by
  have h : (grid0.coords t 1).val = t.val / 1 % 10 := Pipeline.Grid.coords_val t 1 (by decide) rfl
  rw [h, Nat.div_one]
/-- and its row block. -/
theorem row_eq (t : Fin grid0.N) : (grid0.coords t 0).val = t.val / 10 := by
  have h : (grid0.coords t 0).val = t.val / 10 % 8 := Pipeline.Grid.coords_val t 0 (by decide) rfl
  have ht : t.val < 80 := Nat.lt_of_lt_of_eq t.isLt N_0
  omega

/-- The stored normalized rows are the normalized rows. -/
theorem pay2_eq (x : Vec F S1024x2048 .f32) (g : Vec F S1x2048 .f32) : k0_pay2 x g = k0_pay1 x g :=
  shapeCast_self _ _

/-- A load of a buffer just written over its whole extent. -/
theorem readAt_store {S : Shape} {e : EltTy} {sp : Space} {M : Memref sig .tc sp S e} (h : M.IsWhole)
    {off off' : Fin S.rank → Nat} (h0 : off = fun _ => 0) (h0' : off' = fun _ => 0) (inb : ∀ a, off a + S.size a ≤ S.size a)
    (inb' : ∀ a, off' a + S.size a ≤ S.size a) (f : M.view.ty.Contents (Elt F)) (w : S.Idx → Elt F e) :
    View.readAt (Elt F) M.view (Rect.unit off S.size inb).toLoadRect (M.view.writes (Elt F) f [⟨Rect.unit off' S.size inb', w⟩]) = w := by
  rw [h.eq_unread (read_store_whole M.view f h0' inb' w)]
  exact readAt_whole h h0 inb w

section
variable (c : Dev nD) (i : grid0.Coords)
  (x0 : Vec F S1024x2048 .f32) (x1 : Vec F S1x2048 .f32) (x2 : Vec F S1024x2048 .bf16) (x3 : Vec F S128x2048 .bf16)

set_option maxHeartbeats 1000000 in
/-- The body at the first column: the scratch gets the normalized rows, and both products read them. -/
theorem run_first (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole)
    (hc1 : k0_cond1 i = 1#1) (hc2 : k0_cond2 i = 1#1) (hc3 : ¬ k0_cond3 i = 1#1) (x4 : Vec F S1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x2 (k0_pay1 x0 x1)) ∗ owns (c : Thread nD τ) arg8 fullShare (k0_pay3 x0 x1 x3) ∗ owns (c : Thread nD τ) arg9 fullShare (k0_pay1 x0 x1)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    intro E K
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact hf4
    isplitl [H5]
    · iexists _; isplitr; swap; · iexact H5
      ipureintro
      rw [read_store_whole _ _ zeros2, readAt_whole _ zeros2]
      unfold run_first.sl.v10 run_first.sl.H7_1
      refine congrArg (k0_pay4 x2) ((View.readCov_cons_toLoadRect _ _ _ _).trans ?_)
      rw [readAt_whole _ zeros2, readAt_whole _ zeros2, pay2_eq]
    isplitl [H6]
    · iexists _; isplitr; swap; · iexact H6
      ipureintro
      rw [read_store_whole _ _ zeros2, readAt_whole _ zeros2, readAt_whole _ zeros2, readAt_whole _ zeros2]
    iexists _; isplitr; swap; · iexact H7
    ipureintro
    unfold run_first.sl.H7_1
    rw [read_store_whole _ _ zeros2, readAt_whole _ zeros2, readAt_whole _ zeros2, pay2_eq]

set_option maxHeartbeats 1000000 in
/-- The body at the second column. -/
theorem run_second (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole)
    (hc1 : ¬ k0_cond1 i = 1#1) (hc2 : k0_cond2 i = 1#1) (hc3 : ¬ k0_cond3 i = 1#1) (x4 : Vec F S1024x1024 .bf16) (x6 : Vec F S1024x128 .f32) (x7 : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x2 x7) ∗ owns (c : Thread nD τ) arg8 fullShare x6 ∗ owns (c : Thread nD τ) arg9 fullShare x7) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    intro E K
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg9.eq_unread hf7
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact hf4
    isplitl [H5]
    · iexists _; isplitr; swap; · iexact H5
      ipureintro
      rw [read_store_whole _ _ zeros2, readAt_whole _ zeros2, readAt_whole _ zeros2]
    isplitl [H6]
    · iexists _; isplitr; swap; · iexact H6
      ipureintro
      exact hf6
    iexists _; isplitr; swap; · iexact H7
    ipureintro
    exact harg9.read_unread _

set_option maxHeartbeats 1000000 in
/-- The body at a later column. -/
theorem run_later (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole)
    (hc1 : ¬ k0_cond1 i = 1#1) (hc2 : ¬ k0_cond2 i = 1#1) (hc3 : k0_cond3 i = 1#1) (x5 : Vec F S1024x1024 .bf16) (x6 : Vec F S1024x128 .f32) (x7 : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ owns (c : Thread nD τ) arg9 fullShare x7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 x7 x2) ∗ owns (c : Thread nD τ) arg7 fullShare x5 ∗ owns (c : Thread nD τ) arg8 fullShare x6 ∗ owns (c : Thread nD τ) arg9 fullShare x7) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    intro E K
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg9.eq_unread hf7
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [read_store_whole _ _ zeros2, readAt_whole _ zeros2, readAt_whole _ zeros2]
    isplitl [H5]
    · iexists _; isplitr; swap; · iexact H5
      ipureintro
      exact hf5
    isplitl [H6]
    · iexists _; isplitr; swap; · iexact H6
      ipureintro
      exact hf6
    iexists _; isplitr; swap; · iexact H7
    ipureintro
    exact harg9.read_unread _

end

/-! ## The proof data -/

/-- The first point of the row block that point `n` works on, -/
def rowPt (n : Nat) : Fin cfg0.N := ⟨n / 10 % 8 * 10, by rw [show cfg0.N = 80 from N_0]; omega⟩
/-- and the point that stores the values' block that is held at `n`. -/
def valPt (n : Nat) : Fin cfg0.N := ⟨n / 10 % 8 * 10 + min (n % 10) 1, by rw [show cfg0.N = 80 from N_0]; omega⟩

/-- The normalized rows of the row block of point `n`, -/
def rowsBlk (c : Dev nD) (n : Nat) : Vec F S1024x2048 .bf16 := k0_pay1 (iblk m c 0 (rowPt n)) (iblk m c 1 (rowPt n))
/-- a column block of the projection, -/
def projBlk (c : Dev nD) (t : Fin cfg0.N) : Vec F S1024x1024 .bf16 := k0_pay5 (rowsBlk m c t.val) (iblk m c 2 t)
/-- the values' block held at point `n`, -/
def valBlk (c : Dev nD) (n : Nat) : Vec F S1024x1024 .bf16 := k0_pay4 (iblk m c 2 (valPt n)) (rowsBlk m c n)
/-- and the forget gates' products of the row block. -/
def gateBlk (c : Dev nD) (n : Nat) : Vec F S1024x128 .f32 := k0_pay3 (iblk m c 0 (rowPt n)) (iblk m c 1 (rowPt n)) (iblk m c 3 (rowPt n))

/-- The scratch. -/
abbrev scM0_0 : Memref sig .tc .vmem S1024x2048 .bf16 := Memref.whole cc0_scratch0

/-- Before point `n` the scratch holds the row block's normalized rows, and anything where a row block begins. -/
def scr (c : Dev nD) (n : Nat) : sProp 𝕄 :=
  if n % 10 = 0 then iprop(∃ d, owns (c : Thread nD τ) scM0_0 fullShare d)
  else owns (c : Thread nD τ) scM0_0 fullShare (rowsBlk m c n)

/-- The launch's own invariant, with the scratch named. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The proof data. -/
def pdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projBlk m c t
    | ⟨5, _⟩ => valBlk m c t.val
    | ⟨6, _⟩ => gateBlk m c t.val
  Φ t := iprop(scr m c t.val ∗ (∃ r, prngReg c r))
  q _ := fullShare
  owed _ := 0

theorem A_eq (c : Dev nD) (w : Fin cfg0.W) : (pdats m 0 c).A w = V m c (Pipeline.arrRef spec0 w) := by
  dsimp only [pdats]

theorem after0 (c : Dev nD) (t : Fin cfg0.N) : (pdats m 0 c).after 0 t = iblk m c 0 t := by dsimp only [pdats]; try rfl
theorem after1 (c : Dev nD) (t : Fin cfg0.N) : (pdats m 0 c).after 1 t = iblk m c 1 t := by dsimp only [pdats]; try rfl
theorem after2 (c : Dev nD) (t : Fin cfg0.N) : (pdats m 0 c).after 2 t = iblk m c 2 t := by dsimp only [pdats]; try rfl
theorem after3 (c : Dev nD) (t : Fin cfg0.N) : (pdats m 0 c).after 3 t = iblk m c 3 t := by dsimp only [pdats]; try rfl
theorem after4 (c : Dev nD) (t : Fin cfg0.N) : (pdats m 0 c).after 4 t = projBlk m c t := by dsimp only [pdats]; try rfl
theorem after5 (c : Dev nD) (t : Fin cfg0.N) : (pdats m 0 c).after 5 t = valBlk m c t.val := by dsimp only [pdats]; try rfl
theorem after6 (c : Dev nD) (t : Fin cfg0.N) : (pdats m 0 c).after 6 t = gateBlk m c t.val := by dsimp only [pdats]; try rfl

theorem before0 (c : Dev nD) (t : Fin cfg0.N) (d) : (pdats m 0 c).before 0 t d = iblk m c 0 t :=
  before0_0_of m (pdats m 0 c) (A_eq m c 0) (after0 m c) t d
theorem before1 (c : Dev nD) (t : Fin cfg0.N) (d) : (pdats m 0 c).before 1 t d = iblk m c 1 t :=
  before0_1_of m (pdats m 0 c) (A_eq m c 1) (after1 m c) t d
theorem before2 (c : Dev nD) (t : Fin cfg0.N) (d) : (pdats m 0 c).before 2 t d = iblk m c 2 t :=
  before0_2_of m (pdats m 0 c) (A_eq m c 2) (after2 m c) t d
theorem before3 (c : Dev nD) (t : Fin cfg0.N) (d) : (pdats m 0 c).before 3 t d = iblk m c 3 t :=
  before0_3_of m (pdats m 0 c) (A_eq m c 3) (after3 m c) t d

theorem N_lt (t : Fin cfg0.N) : t.val < 80 := lt_of_lt_of_eq t.isLt (show cfg0.N = 80 from N_0)

/-- The projection's window is idle at the first two columns, -/
theorem idle4 (t : Fin cfg0.N) : cfg0.idle 4 (cfg0.grid.coords t) = decide (t.val % 10 < 2) := by
  have h := (cond3 (grid0.coords t)).trans (by rw [col_eq])
  show (!(k0_cond3 (grid0.coords t) == 1#1)) = _
  by_cases hc : 2 ≤ t.val % 10
  · rw [h.mpr hc]; exact (decide_eq_false (by omega)).symm
  · have h' : (k0_cond3 (grid0.coords t) == 1#1) = false := beq_eq_false_iff_ne.mpr fun e => hc (h.mp e)
    rw [h']; exact (decide_eq_true (by omega)).symm
/-- the values' at the others, -/
theorem idle5 (t : Fin cfg0.N) : cfg0.idle 5 (cfg0.grid.coords t) = decide (2 ≤ t.val % 10) := by
  have h := (cond2 (grid0.coords t)).trans (by rw [col_eq])
  show (!(k0_cond2 (grid0.coords t) == 1#1)) = _
  by_cases hc : t.val % 10 < 2
  · rw [h.mpr hc]; exact (decide_eq_false (by omega)).symm
  · have h' : (k0_cond2 (grid0.coords t) == 1#1) = false := beq_eq_false_iff_ne.mpr fun e => hc (h.mp e)
    rw [h']; exact (decide_eq_true (by omega)).symm
/-- and the forget gates' at every column but the first. -/
theorem idle6 (t : Fin cfg0.N) : cfg0.idle 6 (cfg0.grid.coords t) = decide (t.val % 10 ≠ 0) := by
  have h := (cond1 (grid0.coords t)).trans (by rw [col_eq])
  show (!(k0_cond1 (grid0.coords t) == 1#1)) = _
  by_cases hc : t.val % 10 = 0
  · rw [h.mpr hc]; exact (decide_eq_false (by omega)).symm
  · have h' : (k0_cond1 (grid0.coords t) == 1#1) = false := beq_eq_false_iff_ne.mpr fun e => hc (h.mp e)
    rw [h']; exact (decide_eq_true (by omega)).symm

/-- The projection is not written back at the first two columns; -/
theorem flush4 : ∀ t : Fin grid0.N, t.val % 10 < 2 → win0_4.flush t = false := by decide +kernel
/-- the values are only at the first and the last. -/
theorem flush5 : ∀ t : Fin grid0.N, t.val % 10 ≠ 0 → t.val % 10 ≠ 9 → win0_5.flush t = false := by decide +kernel
theorem flush6 (t : Fin cfg0.N) (h : t.val % 10 ≠ 9) : (cfg0.win 6).flush t = false := by
  rw [Bool.eq_false_iff]; intro h'; exact h ((flush0_6 t).mp h')

theorem rowPt_succ (n : Nat) (h : (n + 1) % 10 ≠ 0) : rowPt (n + 1) = rowPt n := Fin.ext (by show (n + 1) / 10 % 8 * 10 = n / 10 % 8 * 10; omega)
theorem valPt_succ (n : Nat) (h : 2 ≤ (n + 1) % 10) : valPt (n + 1) = valPt n :=
  Fin.ext (by show (n + 1) / 10 % 8 * 10 + min ((n + 1) % 10) 1 = n / 10 % 8 * 10 + min (n % 10) 1; omega)
theorem rowsBlk_succ (c : Dev nD) (n : Nat) (h : (n + 1) % 10 ≠ 0) : rowsBlk m c (n + 1) = rowsBlk m c n := by
  unfold rowsBlk; rw [rowPt_succ n h]
theorem valBlk_succ (c : Dev nD) (n : Nat) (h : 2 ≤ (n + 1) % 10) : valBlk m c (n + 1) = valBlk m c n := by
  unfold valBlk; rw [valPt_succ n h, rowsBlk_succ m c n (by omega)]
theorem gateBlk_succ (c : Dev nD) (n : Nat) (h : (n + 1) % 10 ≠ 0) : gateBlk m c (n + 1) = gateBlk m c n := by
  unfold gateBlk; rw [rowPt_succ n h]
theorem rowPt_self (t : Fin cfg0.N) (h : t.val % 10 = 0) : rowPt t.val = t :=
  Fin.ext (by have := N_lt t; show t.val / 10 % 8 * 10 = t.val; omega)
theorem valPt_self (t : Fin cfg0.N) (h : t.val % 10 < 2) : valPt t.val = t :=
  Fin.ext (by have := N_lt t; show t.val / 10 % 8 * 10 + min (t.val % 10) 1 = t.val; omega)

/-- From the third column on the values' buffer holds the second column's block. -/
theorem before5 (c : Dev nD) : ∀ (n : Nat) (h : n < cfg0.N) (_ : 2 ≤ n % 10) (d),
    (pdats m 0 c).before 5 ⟨n, h⟩ d = valBlk m c n
  | 0, _, h0, _ => absurd h0 (by decide)
  | n + 1, h, h2, d => by
    rw [(pdats m 0 c).before_of_pos 5 ⟨n + 1, h⟩ (Nat.succ_ne_zero n) rfl d]
    have e : (⟨n + 1 - 1, Nat.lt_of_le_of_lt (Nat.sub_le _ _) h⟩ : Fin cfg0.N) = ⟨n, Nat.lt_of_succ_lt h⟩ := rfl
    rw [if_neg (by
      rw [show (cfg0.win 5).flush ⟨n + 1 - 1, Nat.lt_of_le_of_lt (Nat.sub_le _ _) h⟩ = false from flush5 ⟨n, Nat.lt_of_succ_lt h⟩ (by show n % 10 ≠ 0; omega) (by show n % 10 ≠ 9; omega)]
      exact Bool.false_ne_true)]
    unfold Dat.left
    rw [idle5, valBlk_succ m c n h2]
    by_cases hn : 2 ≤ n % 10
    · rw [show decide (2 ≤ (⟨n + 1 - 1, Nat.lt_of_le_of_lt (Nat.sub_le _ _) h⟩ : Fin cfg0.N).val % 10) = true from decide_eq_true hn]
      exact before5 c n (Nat.lt_of_succ_lt h) hn d
    · rw [show decide (2 ≤ (⟨n + 1 - 1, Nat.lt_of_le_of_lt (Nat.sub_le _ _) h⟩ : Fin cfg0.N).val % 10) = false from decide_eq_false hn]
      exact after5 m c _

/-- From the second column on the forget gates' buffer holds the row block's products. -/
theorem before6 (c : Dev nD) : ∀ (n : Nat) (h : n < cfg0.N) (_ : n % 10 ≠ 0) (d),
    (pdats m 0 c).before 6 ⟨n, h⟩ d = gateBlk m c n
  | 0, _, h0, _ => absurd rfl h0
  | n + 1, h, h2, d => by
    rw [(pdats m 0 c).before_of_pos 6 ⟨n + 1, h⟩ (Nat.succ_ne_zero n) rfl d]
    rw [if_neg (by
      rw [flush6 ⟨n + 1 - 1, Nat.lt_of_le_of_lt (Nat.sub_le _ _) h⟩ (by show n % 10 ≠ 9; omega)]
      exact Bool.false_ne_true)]
    unfold Dat.left
    rw [idle6, gateBlk_succ m c n h2]
    by_cases hn : n % 10 ≠ 0
    · rw [show decide ((⟨n + 1 - 1, Nat.lt_of_le_of_lt (Nat.sub_le _ _) h⟩ : Fin cfg0.N).val % 10 ≠ 0) = true from decide_eq_true hn]
      exact before6 c n (Nat.lt_of_succ_lt h) hn d
    · rw [show decide ((⟨n + 1 - 1, Nat.lt_of_le_of_lt (Nat.sub_le _ _) h⟩ : Fin cfg0.N).val % 10 ≠ 0) = false from decide_eq_false hn]
      exact after6 m c _

/-! ## The body at every point -/

/-- What the body is called with at point `t`, -/
def bodyPre (c : Dev nD) (t : Fin cfg0.N) : sProp 𝕄 :=
  iprop((pdats m 0 c).Φ t.castSucc ∗ (pdats m 0 c).owesAt () t.castSucc
    ∗ (∃ d, owns (c : Thread nD τ) (st0_0 t) fullShare ((pdats m 0 c).before 0 t d))
    ∗ (∃ d, owns (c : Thread nD τ) (st0_1 t) fullShare ((pdats m 0 c).before 1 t d))
    ∗ (∃ d, owns (c : Thread nD τ) (st0_2 t) fullShare ((pdats m 0 c).before 2 t d))
    ∗ (∃ d, owns (c : Thread nD τ) (st0_3 t) fullShare ((pdats m 0 c).before 3 t d))
    ∗ (∃ d, owns (c : Thread nD τ) (st0_4 t) fullShare ((pdats m 0 c).before 4 t d))
    ∗ (∃ d, owns (c : Thread nD τ) (st0_5 t) fullShare ((pdats m 0 c).before 5 t d))
    ∗ (∃ d, owns (c : Thread nD τ) (st0_6 t) fullShare ((pdats m 0 c).before 6 t d)))

/-- and what it returns. -/
def bodyPost (c : Dev nD) (t : Fin cfg0.N) : sProp 𝕄 :=
  iprop((pdats m 0 c).Φ t.succ ∗ (pdats m 0 c).owesAt () t.succ
    ∗ (pdats m 0 c).leavesExact 0 t ∗ (pdats m 0 c).leavesExact 1 t ∗ (pdats m 0 c).leavesExact 2 t
    ∗ (pdats m 0 c).leavesExact 3 t ∗ (pdats m 0 c).leavesExact 4 t ∗ (pdats m 0 c).leavesExact 5 t ∗ (pdats m 0 c).leavesExact 6 t)

/-- A window that is not idle at a point is left at what the proof data say; -/
theorem leaves_live (c : Dev nD) (w : Fin cfg0.W) (t : Fin cfg0.N) (h : cfg0.idle w (cfg0.grid.coords t) = false) :
    (pdats m 0 c).leavesExact w t = owns (c : Thread nD τ) ((cfg0.win w).stage (cfg0.slots t w)) fullShare ((pdats m 0 c).after w t) := by
  unfold Dat.leavesExact; rw [h]

/-- an idle one that is not written back is left as found. -/
theorem leaves_idle (c : Dev nD) (w : Fin cfg0.W) (t : Fin cfg0.N) (h : cfg0.idle w (cfg0.grid.coords t) = true)
    (hf : (cfg0.win w).flush t = false) (d) :
    owns (c : Thread nD τ) ((cfg0.win w).stage (cfg0.slots t w)) fullShare ((pdats m 0 c).before w t d) ⊢ (pdats m 0 c).leavesExact w t := by
  unfold Dat.leavesExact; rw [h, hf]
  iintro H
  iexists d
  iexact H

/-- Holding the second column's block is leaving the values' window as a later column must, -/
theorem leaves5 (c : Dev nD) (t : Fin cfg0.N) (ht : 2 ≤ t.val % 10) :
    owns (c : Thread nD τ) (st0_5 t) fullShare (valBlk m c t.val) ⊢ (pdats m 0 c).leavesExact 5 t := by
  by_cases hf : (cfg0.win 5).flush t = true
  · unfold Dat.leavesExact
    rw [idle5, decide_eq_true ht, hf, after5]
  · have := leaves_idle m c 5 t (by rw [idle5, decide_eq_true ht]) (Bool.eq_false_iff.mpr hf) (fun _ => Classical.arbitrary _)
    rw [before5 m c t.val t.isLt ht] at this
    exact this

/-- and the like for the forget gates' window. -/
theorem leaves6 (c : Dev nD) (t : Fin cfg0.N) (ht : t.val % 10 ≠ 0) :
    owns (c : Thread nD τ) (st0_6 t) fullShare (gateBlk m c t.val) ⊢ (pdats m 0 c).leavesExact 6 t := by
  by_cases hf : (cfg0.win 6).flush t = true
  · unfold Dat.leavesExact
    rw [idle6, decide_eq_true ht, hf, after6]
  · have := leaves_idle m c 6 t (by rw [idle6, decide_eq_true ht]) (Bool.eq_false_iff.mpr hf) (fun _ => Classical.arbitrary _)
    rw [before6 m c t.val t.isLt ht] at this
    exact this

/-- The scratch holding the row block's rows after point `n` is what the next point finds. -/
theorem scr_next (c : Dev nD) (n : Nat) : owns (c : Thread nD τ) scM0_0 fullShare (rowsBlk m c n) ⊢ scr m c (n + 1) := by
  unfold scr
  by_cases h : (n + 1) % 10 = 0
  · rw [if_pos h]; iintro H; iexists _; iexact H
  · rw [if_neg h, rowsBlk_succ m c n h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (pdats m 0 c).Φ t.castSucc = iprop(scr m c t.val ∗ (∃ r, prngReg c r)) from rfl,
    show (pdats m 0 c).Φ t.succ = iprop(scr m c (t.val + 1) ∗ (∃ r, prngReg c r)) from rfl,
    show (pdats m 0 c).owesAt () t.succ = (pdats m 0 c).owesAt () t.castSucc from rfl]
  rw [leaves_live m c 0 t rfl, leaves_live m c 1 t rfl, leaves_live m c 2 t rfl, leaves_live m c 3 t rfl,
    after0, after1, after2, after3]
  have hN := N_lt t
  have c1 := (cond1 (grid0.coords t)).trans (by rw [col_eq])
  have c2 := (cond2 (grid0.coords t)).trans (by rw [col_eq])
  have c3 := (cond3 (grid0.coords t)).trans (by rw [col_eq])
  by_cases h2 : t.val % 10 < 2
  · rw [leaves_live m c 5 t (by rw [idle5]; exact decide_eq_false (by omega)), after5]
    have e5 : valBlk m c t.val = k0_pay4 (iblk m c 2 t) (rowsBlk m c t.val) := by
      unfold valBlk; rw [valPt_self t h2]
    by_cases h0 : t.val % 10 = 0
    · rw [leaves_live m c 6 t (by rw [idle6]; exact decide_eq_false (by omega)), after6]
      rw [show scr m c t.val = iprop(∃ d, owns (c : Thread nD τ) scM0_0 fullShare d) from if_pos h0]
      have er : rowsBlk m c t.val = k0_pay1 (iblk m c 0 t) (iblk m c 1 t) := by unfold rowsBlk; rw [rowPt_self t h0]
      have eg : gateBlk m c t.val = k0_pay3 (iblk m c 0 t) (iblk m c 1 t) (iblk m c 3 t) := by unfold gateBlk; rw [rowPt_self t h0]
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply ((run_first c (grid0.coords t) (iblk m c 0 t) (iblk m c 1 t) (iblk m c 2 t) (iblk m c 3 t) _ _ _ _ _ _ _ _ _ _ _ _ _ _ _ _ (c1.mpr h0) (c2.mpr h2) (fun h => absurd (c3.mp h) (by omega)) ((pdats m 0 c).before 4 t d4)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hr]
      · isplitl [HS]
        · iapply (scr_next m c t.val)
          rw [er]; iexact HS
        iexact Hr
      isplitl [Ho]; · iexact Ho
      isplitl [H0]; · iexact H0
      isplitl [H1]; · iexact H1
      isplitl [H2]; · iexact H2
      isplitl [H3]; · iexact H3
      isplitl [H4]
      · iapply (leaves_idle m c 4 t (by rw [idle4]; exact decide_eq_true h2) (flush4 t h2) d4)
        iexact H4
      isplitl [H5]
      · rw [e5, er]; iexact H5
      rw [eg]; iexact H6
    · simp only [fun d => before6 m c t.val t.isLt h0 d]
      rw [show scr m c t.val = owns (c : Thread nD τ) scM0_0 fullShare (rowsBlk m c t.val) from if_neg h0]
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply ((run_second c (grid0.coords t) (iblk m c 0 t) (iblk m c 1 t) (iblk m c 2 t) (iblk m c 3 t) _ _ _ _ _ _ _ _ _ _ _ _ _ _ _ _ (fun h => h0 (c1.mp h)) (c2.mpr h2) (fun h => absurd (c3.mp h) (by omega)) ((pdats m 0 c).before 4 t d4) (gateBlk m c t.val) (rowsBlk m c t.val)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HS Hr]
      · isplitl [HS]
        · iapply (scr_next m c t.val)
          iexact HS
        iexact Hr
      isplitl [Ho]; · iexact Ho
      isplitl [H0]; · iexact H0
      isplitl [H1]; · iexact H1
      isplitl [H2]; · iexact H2
      isplitl [H3]; · iexact H3
      isplitl [H4]
      · iapply (leaves_idle m c 4 t (by rw [idle4]; exact decide_eq_true h2) (flush4 t h2) d4)
        iexact H4
      isplitl [H5]
      · rw [e5]; iexact H5
      iapply (leaves6 m c t h0)
      iexact H6
  · have h0 : t.val % 10 ≠ 0 := by omega
    have h2' : 2 ≤ t.val % 10 := by omega
    rw [leaves_live m c 4 t (by rw [idle4]; exact decide_eq_false h2), after4]
    simp only [fun d => before6 m c t.val t.isLt h0 d, fun d => before5 m c t.val t.isLt h2' d]
    rw [show scr m c t.val = owns (c : Thread nD τ) scM0_0 fullShare (rowsBlk m c t.val) from if_neg h0]
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply ((run_later c (grid0.coords t) (iblk m c 0 t) (iblk m c 1 t) (iblk m c 2 t) (iblk m c 3 t) _ _ _ _ _ _ _ _ _ _ _ _ _ _ _ _ (fun h => h0 (c1.mp h)) (fun h => h2 (c2.mp h)) (c3.mpr h2') (valBlk m c t.val) (gateBlk m c t.val) (rowsBlk m c t.val)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS]; · iexact HS
    iintro ⟨H0, H1, H2, H3, H4, H5, H6, HS⟩
    isplitl [HS Hr]
    · isplitl [HS]
      · iapply (scr_next m c t.val)
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t h2')
      iexact H5
    iapply (leaves6 m c t h0)
    iexact H6

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (pdats (F := F) m 0 c) (defs₀ (F := F)) Variants.none () Set.univ := fun t => by
  rw [bigSep_W0, bigSep_W0, defs₀_row]
  exact triple_restated (sound_body m c t) rfl .rfl fun _ => .rfl

/-- The scratch may hold anything before the first point and after the last. -/
theorem scr_ends (c : Dev nD) (n : Nat) (h : n % 10 = 0) : iprop(scr m c n ∗ (∃ r, prngReg c r)) = (Pipeline.ΦA spec0 c : sProp 𝕄) := by
  rw [PhiA0_eq, show scr m c n = iprop(∃ d, owns (c : Thread nD τ) scM0_0 fullShare d) from if_pos h]

set_option backward.isDefEq.respectTransparency.types false in
/-- The launch: every fair execution ends, with the three results' arrays as the proof data make them and every
    counter at zero. -/
theorem run_inproj : θ_run defs (onTc (τ := τ) (main (F := F))) (s₀ m ρ) (fun r => Pipeline.FramePost cfgs (pdats m) 0 (V m) r ∧ r.2.sem = fun _ => 0) :=
  Pipeline.θ_run_frame_track (Q' := _) cfgs (pdats m) (0 : Fin 1) launch0 defs₀ Variants.none m ρ main
    (hbody := fun c => (body_obligation m c).loose) (hshare := fun c => (pdats m 0 c).share_full fun _ => rfl)
    (howed := fun _ _ => rfl) (V := V m) (hmain := hmain m Variants.none) (hA := A_eq m)
    (hin := fun c => (scr_ends m c 0 rfl) ▸ .rfl)
    (hout := fun c => (scr_ends m c 80 rfl) ▸ .rfl)

/-- What a run leaves of the arguments: they are unchanged. -/
theorem unchanged (r : PUnit × MemSt nD τ sig (Elt F)) (h : Pipeline.FramePost cfgs (pdats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((pdats m 0 c).arrAt_in 0 rfl _).trans ((A_eq m c 0).trans (V_main_arg0 m c))),
    ((h c).1 1).trans (((pdats m 0 c).arrAt_in 1 rfl _).trans ((A_eq m c 1).trans (V_main_arg1 m c))),
    ((h c).1 2).trans (((pdats m 0 c).arrAt_in 2 rfl _).trans ((A_eq m c 2).trans (V_main_arg2 m c))),
    ((h c).1 3).trans (((pdats m 0 c).arrAt_in 3 rfl _).trans ((A_eq m c 3).trans (V_main_arg3 m c)))⟩

end Cert.InprojRun

end
-- ==== Proof.InprojOut.lean ====
/-
  The input projection over the extended reals: the rows of `x` normalized by the root of their mean square and
  scaled by `g`, then multiplied by rows of the weights — of the kernel, block by block, and of the reference.
-/
module

public import proofs.«01_k».proof.Proof.InprojRun
public import proofs.«01_k».proof.Proof.Gen.InprojRefIdeal.Run
public import Idealize.ShloMosaic.Lib.Pointwise
public import Idealize.ShloMosaic.Lib.Pipeline.Covers
public import Idealize.ShloMosaic.Lib.Quiescent

@[expose] public section

set_option maxRecDepth 16384

noncomputable section

namespace Cert.InprojOut

open Idealize.ShloMosaic Idealize.ShloMosaic.TcCoe Idealize.ShloMosaic.Tactic
open Idealize.SL.Sem Cert.Blocks

/-- A row of a matrix, divided by the root of its mean square (plus a small constant) and scaled. -/
def normed {M : Nat} (x : FVec Ideal ⟨2, ![M, 2048]⟩ .f32) (g : FVec Ideal ⟨2, ![1, 2048]⟩ .f32) (r : Fin M) (k : Fin 2048) : EReal :=
  x (ix2 r k) * Ideal.rsqrt (Ideal.div (∑ l : Fin 2048, x (ix2 r l) * x (ix2 r l)) (Ideal.ofBits .f32 0x45000000#32)
    + Ideal.ofBits .f32 0x358637BD#32) * g (ix2 0 k)

/-- The projection: normalized rows times rows of the weights from 2048 on. -/
def projection (x : FVec Ideal ⟨2, ![8192, 2048]⟩ .f32) (g : FVec Ideal ⟨2, ![1, 2048]⟩ .f32)
    (w : FVec Ideal ⟨2, ![10240, 2048]⟩ .bf16) : FVec Ideal ⟨2, ![8192, 8192]⟩ .bf16 := fun j =>
  ∑ k : Fin 2048, normed x g (j 0) k * w (ix2 ⟨2048 + (j 1).val, Nat.add_lt_add_left (j 1).isLt 2048⟩ k)

/-- The values, transposed: the first 2048 rows of the weights times the normalized rows. -/
def values (x : FVec Ideal ⟨2, ![8192, 2048]⟩ .f32) (g : FVec Ideal ⟨2, ![1, 2048]⟩ .f32)
    (w : FVec Ideal ⟨2, ![10240, 2048]⟩ .bf16) : FVec Ideal ⟨2, ![2048, 8192]⟩ .bf16 := fun j =>
  ∑ k : Fin 2048, w (ix2 ⟨(j 0).val, Nat.lt_of_lt_of_le (j 0).isLt (by decide : 2048 ≤ 10240)⟩ k) * normed x g (j 1) k

/-- The forget gates' products. -/
def gates (x : FVec Ideal ⟨2, ![8192, 2048]⟩ .f32) (g : FVec Ideal ⟨2, ![1, 2048]⟩ .f32)
    (w : FVec Ideal ⟨2, ![128, 2048]⟩ .bf16) : FVec Ideal ⟨2, ![8192, 128]⟩ .f32 := fun j =>
  ∑ k : Fin 2048, normed x g (j 0) k * w (ix2 (j 1) k)

/-- A normalized row depends on the row and the scale alone. -/
theorem normed_congr {M M' : Nat} (x : FVec Ideal ⟨2, ![M, 2048]⟩ .f32) (x' : FVec Ideal ⟨2, ![M', 2048]⟩ .f32)
    (g g' : FVec Ideal ⟨2, ![1, 2048]⟩ .f32) (r : Fin M) (R : Fin M') (k : Fin 2048) (hx : ∀ l, x (ix2 r l) = x' (ix2 R l))
    (hg : g (ix2 0 k) = g' (ix2 0 k)) : normed x g r k = normed x' g' R k := by
  unfold normed
  rw [hx k, hg, Finset.sum_congr rfl fun l _ => congrArg₂ (· * ·) (hx l) (hx l)]

section Kernel

open Cert.Inproj Cert.Inproj.Gen Cert.InprojRun

/-- The body's normalized rows at one place. -/
theorem pay1_apply (x : Vec Ideal S1024x2048 .f32) (g : Vec Ideal S1x2048 .f32) (r : Fin 1024) (k : Fin 2048) :
    k0_pay1 x g (ix2 r k) = normed x g r k := by
  unfold k0_pay1 normed
  pointwise

/-- A column block of the projection at one place. -/
theorem pay5_apply (h w : FVec Ideal S1024x2048 .bf16) (r c : Fin 1024) :
    k0_pay5 h w (ix2 r c) = ∑ k : Fin 2048, h (ix2 r k) * w (ix2 c k) := by
  unfold k0_pay5
  exact (Ideal.matmul_transposedRhs_apply (φ₁ := .bf16) (φ₂ := .bf16) none h w _ r c).trans ((congrArg (· + _) Ideal.ofBits_zero_f32).trans (zero_add _))

/-- A block of the values at one place. -/
theorem pay4_apply (w h : FVec Ideal S1024x2048 .bf16) (r c : Fin 1024) :
    k0_pay4 w h (ix2 r c) = ∑ k : Fin 2048, w (ix2 r k) * h (ix2 c k) := by
  unfold k0_pay4
  exact (Ideal.matmul_transposedRhs_apply (φ₁ := .bf16) (φ₂ := .bf16) none w h _ r c).trans ((congrArg (· + _) Ideal.ofBits_zero_f32).trans (zero_add _))

/-- The forget gates' products at one place. -/
theorem pay3_apply (x : Vec Ideal S1024x2048 .f32) (g : Vec Ideal S1x2048 .f32) (w : Vec Ideal S128x2048 .bf16) (r : Fin 1024) (c : Fin 128) :
    k0_pay3 x g w (ix2 r c) = ∑ k : Fin 2048, normed x g r k * w (ix2 c k) := by
  unfold k0_pay3
  refine (Ideal.matmul_transposedRhs_apply (φ₁ := .bf16) (φ₂ := .bf16) none (k0_pay1 x g) w _ r c).trans ((congrArg (· + _) Ideal.ofBits_zero_f32).trans ((zero_add _).trans ?_))
  exact Finset.sum_congr rfl fun k _ => congrArg (· * _) (pay1_apply x g r k)

variable (m : (ℓ : Loc nD τ sig) → Buf (Elt Ideal) ℓ) (c : Dev nD)

/-- The four arguments. -/
abbrev xA : FVec Ideal ⟨2, ![8192, 2048]⟩ .f32 := m ((c : Thread nD τ).loc main_arg0)
abbrev gA : FVec Ideal ⟨2, ![1, 2048]⟩ .f32 := m ((c : Thread nD τ).loc main_arg1)
abbrev wA : FVec Ideal ⟨2, ![10240, 2048]⟩ .bf16 := m ((c : Thread nD τ).loc main_arg2)
abbrev fA : FVec Ideal ⟨2, ![128, 2048]⟩ .bf16 := m ((c : Thread nD τ).loc main_arg3)

theorem row_word (t : Fin cfg0.N) : (BitVec.ofNat 32 (grid0.coords t 0).val).toNat = t.val / 10 := by
  have h := N_lt t
  rw [row_eq, word _ (by omega)]
theorem col_word (t : Fin cfg0.N) : (BitVec.ofNat 32 (grid0.coords t 1).val).toNat = t.val % 10 := by
  rw [col_eq, word _ (by omega)]
/-- The column block of the projection that a point works on, -/
theorem proj_word (t : Fin cfg0.N) : (Scalar.maxsi (Scalar.subi (BitVec.ofNat 32 (grid0.coords t 1).val) 2#32) 0#32).toNat = t.val % 10 - 2 := by
  have key : ∀ j : Fin 10, (Scalar.maxsi (Scalar.subi (BitVec.ofNat 32 j.val) 2#32) 0#32).toNat = j.val - 2 := by decide
  exact (key (grid0.coords t 1)).trans (congrArg (· - 2) (col_eq t))
/-- and the row block of the values. -/
theorem val_word (t : Fin cfg0.N) : (Scalar.minsi (BitVec.ofNat 32 (grid0.coords t 1).val) 1#32).toNat = min (t.val % 10) 1 := by
  have key : ∀ j : Fin 10, (Scalar.minsi (BitVec.ofNat 32 j.val) 1#32).toNat = min j.val 1 := by decide
  exact (key (grid0.coords t 1)).trans (congrArg (min · 1) (col_eq t))

/-- A block of the rows, -/
theorem blk0 (t : Fin cfg0.N) (r : Fin 1024) (k : Fin 2048) (R : Fin 8192) (hR : R.val = t.val / 10 * 1024 + r.val) :
    iblk m c 0 t (ix2 r k) = xA m c (ix2 R k) := by
  refine (congrFun (V_main_arg0 m c) _).trans (congrArg _ (idx2_eq _ R k ?_ ?_))
  · exact ((cfg0.win 0).rect_emb_val t (ix2 r k) ⟨0, Nat.zero_lt_succ 1⟩).trans ((congrArg (· * 1024 + r.val) (row_word t)).trans hR.symm)
  · exact ((cfg0.win 0).rect_emb_val t (ix2 r k) ⟨1, Nat.lt_succ_self 1⟩).trans (Nat.zero_add _)
/-- of the scales, -/
theorem blk1 (t : Fin cfg0.N) (k : Fin 2048) : iblk m c 1 t (ix2 0 k) = gA m c (ix2 0 k) := by
  refine (congrFun (V_main_arg1 m c) _).trans (congrArg _ (idx2_eq _ 0 k ?_ ?_))
  · exact ((cfg0.win 1).rect_emb_val t (ix2 0 k) ⟨0, Nat.zero_lt_succ 1⟩).trans (Nat.zero_add _)
  · exact ((cfg0.win 1).rect_emb_val t (ix2 0 k) ⟨1, Nat.lt_succ_self 1⟩).trans (Nat.zero_add _)
/-- of the weights, -/
theorem blk2 (t : Fin cfg0.N) (r : Fin 1024) (k : Fin 2048) (R : Fin 10240) (hR : R.val = t.val % 10 * 1024 + r.val) :
    iblk m c 2 t (ix2 r k) = wA m c (ix2 R k) := by
  refine (congrFun (V_main_arg2 m c) _).trans (congrArg _ (idx2_eq _ R k ?_ ?_))
  · exact ((cfg0.win 2).rect_emb_val t (ix2 r k) ⟨0, Nat.zero_lt_succ 1⟩).trans ((congrArg (· * 1024 + r.val) (col_word t)).trans hR.symm)
  · exact ((cfg0.win 2).rect_emb_val t (ix2 r k) ⟨1, Nat.lt_succ_self 1⟩).trans (Nat.zero_add _)
/-- and of the forget gates' weights. -/
theorem blk3 (t : Fin cfg0.N) (r : Fin 128) (k : Fin 2048) : iblk m c 3 t (ix2 r k) = fA m c (ix2 r k) := by
  refine (congrFun (V_main_arg3 m c) _).trans (congrArg _ (idx2_eq _ r k ?_ ?_))
  · exact ((cfg0.win 3).rect_emb_val t (ix2 r k) ⟨0, Nat.zero_lt_succ 1⟩).trans (Nat.zero_add _)
  · exact ((cfg0.win 3).rect_emb_val t (ix2 r k) ⟨1, Nat.lt_succ_self 1⟩).trans (Nat.zero_add _)

/-- The normalized rows of a point's row block are the whole array's. -/
theorem rows_apply (n : Nat) (hn : n < 80) (r : Fin 1024) (k : Fin 2048) (R : Fin 8192) (hR : R.val = n / 10 * 1024 + r.val) :
    normed (iblk m c 0 (rowPt n)) (iblk m c 1 (rowPt n)) r k = normed (xA m c) (gA m c) R k := by
  have e : ∀ l : Fin 2048, iblk m c 0 (rowPt n) (ix2 r l) = xA m c (ix2 R l) := fun l =>
    blk0 m c (rowPt n) r l R (hR.trans (by show _ = n / 10 % 8 * 10 / 10 * 1024 + r.val; omega))
  exact normed_congr _ _ _ _ r R k e (blk1 m c (rowPt n) k)

/-- The first result. -/
theorem arr_proj : (pdats m 0 c).arrAt 4 cfg0.N = projection (xA m c) (gA m c) (wA m c) := by
  refine (pdats m 0 c).arrAt_eq_of_covers 4 _ ?_ fun t hf y => ?_
  · refine (cfg0.win 4).covers_of_indexMap_surj rfl (fun a => match a with
      | ⟨0, _⟩ => (by decide : 0 < 1024)
      | ⟨1, _⟩ => (by decide : 0 < 1024)) fun β => ?_
    have h0 : (β ⟨0, Nat.zero_lt_succ 1⟩).val < (8192 + 1024 - 1) / 1024 := (β ⟨0, Nat.zero_lt_succ 1⟩).isLt
    have h1 : (β ⟨1, Nat.lt_succ_self 1⟩).val < (8192 + 1024 - 1) / 1024 := (β ⟨1, Nat.lt_succ_self 1⟩).isLt
    have b0 : (β ⟨0, Nat.zero_lt_succ 1⟩).val < 1048576 := by omega
    have key : ∀ j : Fin 8, (Scalar.maxsi (Scalar.subi (BitVec.ofNat 32 (j.val + 2)) 2#32) 0#32).toNat = j.val := by decide
    refine ⟨fun a => match a with
      | ⟨0, _⟩ => ⟨(β ⟨0, Nat.zero_lt_succ 1⟩).val, by show _ < 8; omega⟩
      | ⟨1, _⟩ => ⟨(β ⟨1, Nat.lt_succ_self 1⟩).val + 2, by show _ < 10; omega⟩, fun a => ?_⟩
    match a with
    | ⟨0, _⟩ => exact word _ b0
    | ⟨1, _⟩ => exact key ⟨(β ⟨1, Nat.lt_succ_self 1⟩).val, by omega⟩
  · blk_simp
    rw [after4]
    change S1024x1024.Idx at y
    have hN := N_lt t
    have h2 : 2 ≤ t.val % 10 := by
      by_contra h
      rw [show (cfg0.win 4).flush t = false from flush4 t (by omega)] at hf
      exact Bool.false_ne_true hf
    have h0 : (y 0).val < 1024 := (y 0).isLt
    have h1 : (y 1).val < 1024 := (y 1).isLt
    let R : Fin 8192 := ⟨t.val / 10 * 1024 + (y 0).val, by omega⟩
    let C : Fin 8192 := ⟨(t.val % 10 - 2) * 1024 + (y 1).val, by omega⟩
    have ej : ((cfg0.win 4).blk t).view.emb y = ix2 R C := idx2_eq _ R C
      (((cfg0.win 4).rect_emb_val t y ⟨0, Nat.zero_lt_succ 1⟩).trans (congrArg (· * 1024 + (y 0).val) (row_word t)))
      (((cfg0.win 4).rect_emb_val t y ⟨1, Nat.lt_succ_self 1⟩).trans (congrArg (· * 1024 + (y 1).val) (proj_word t)))
    refine Eq.trans ?_ (congrArg _ ej.symm)
    refine (congrArg _ (eq_ix2 y)).trans ((pay5_apply _ _ (y 0) (y 1)).trans ?_)
    refine Finset.sum_congr rfl fun k _ => congrArg₂ (· * ·) ?_ ?_
    · exact (pay1_apply _ _ _ _).trans (rows_apply m c t.val hN (y 0) k R rfl)
    · exact blk2 m c t (y 1) k _ (by show 2048 + ((t.val % 10 - 2) * 1024 + (y 1).val) = _; omega)

/-- The second result. -/
theorem arr_val : (pdats m 0 c).arrAt 5 cfg0.N = values (xA m c) (gA m c) (wA m c) := by
  refine (pdats m 0 c).arrAt_eq_of_covers 5 _ ?_ fun t hf y => ?_
  · refine (cfg0.win 5).covers_of_indexMap_surj rfl (fun a => match a with
      | ⟨0, _⟩ => (by decide : 0 < 1024)
      | ⟨1, _⟩ => (by decide : 0 < 1024)) fun β => ?_
    have h0 : (β ⟨0, Nat.zero_lt_succ 1⟩).val < (2048 + 1024 - 1) / 1024 := (β ⟨0, Nat.zero_lt_succ 1⟩).isLt
    have h1 : (β ⟨1, Nat.lt_succ_self 1⟩).val < (8192 + 1024 - 1) / 1024 := (β ⟨1, Nat.lt_succ_self 1⟩).isLt
    have b1 : (β ⟨1, Nat.lt_succ_self 1⟩).val < 1048576 := by omega
    have key : ∀ j : Fin 2, (Scalar.minsi (BitVec.ofNat 32 j.val) 1#32).toNat = j.val := by decide
    refine ⟨fun a => match a with
      | ⟨0, _⟩ => ⟨(β ⟨1, Nat.lt_succ_self 1⟩).val, by show _ < 8; omega⟩
      | ⟨1, _⟩ => ⟨(β ⟨0, Nat.zero_lt_succ 1⟩).val, by show _ < 10; omega⟩, fun a => ?_⟩
    match a with
    | ⟨0, _⟩ => exact key ⟨(β ⟨0, Nat.zero_lt_succ 1⟩).val, by omega⟩
    | ⟨1, _⟩ => exact word _ b1
  · blk_simp
    rw [after5]
    change S1024x1024.Idx at y
    have hN := N_lt t
    have h0 : (y 0).val < 1024 := (y 0).isLt
    have h1 : (y 1).val < 1024 := (y 1).isLt
    let R : Fin 2048 := ⟨min (t.val % 10) 1 * 1024 + (y 0).val, by omega⟩
    let C : Fin 8192 := ⟨t.val / 10 * 1024 + (y 1).val, by omega⟩
    have ej : ((cfg0.win 5).blk t).view.emb y = ix2 R C := idx2_eq _ R C
      (((cfg0.win 5).rect_emb_val t y ⟨0, Nat.zero_lt_succ 1⟩).trans (congrArg (· * 1024 + (y 0).val) (val_word t)))
      (((cfg0.win 5).rect_emb_val t y ⟨1, Nat.lt_succ_self 1⟩).trans (congrArg (· * 1024 + (y 1).val) (row_word t)))
    refine Eq.trans ?_ (congrArg _ ej.symm)
    refine (congrArg _ (eq_ix2 y)).trans ((pay4_apply _ _ (y 0) (y 1)).trans ?_)
    refine Finset.sum_congr rfl fun k _ => congrArg₂ (· * ·) ?_ ?_
    · exact blk2 m c (valPt t.val) (y 0) k _ (by
        show min (t.val % 10) 1 * 1024 + (y 0).val = (t.val / 10 % 8 * 10 + min (t.val % 10) 1) % 10 * 1024 + (y 0).val; omega)
    · exact (pay1_apply _ _ _ _).trans (rows_apply m c t.val hN (y 1) k C rfl)

/-- The third result. -/
theorem arr_gate : (pdats m 0 c).arrAt 6 cfg0.N = gates (xA m c) (gA m c) (fA m c) := by
  refine (pdats m 0 c).arrAt_eq_of_covers 6 _ ?_ fun t hf y => ?_
  · refine (cfg0.win 6).covers_of_indexMap_surj rfl (fun a => match a with
      | ⟨0, _⟩ => (by decide : 0 < 1024)
      | ⟨1, _⟩ => (by decide : 0 < 128)) fun β => ?_
    have h0 : (β ⟨0, Nat.zero_lt_succ 1⟩).val < (8192 + 1024 - 1) / 1024 := (β ⟨0, Nat.zero_lt_succ 1⟩).isLt
    have h1 : (β ⟨1, Nat.lt_succ_self 1⟩).val < (128 + 128 - 1) / 128 := (β ⟨1, Nat.lt_succ_self 1⟩).isLt
    have b0 : (β ⟨0, Nat.zero_lt_succ 1⟩).val < 1048576 := by omega
    have b1 : 0 = (β ⟨1, Nat.lt_succ_self 1⟩).val := by omega
    refine ⟨fun a => match a with
      | ⟨0, _⟩ => ⟨(β ⟨0, Nat.zero_lt_succ 1⟩).val, by show _ < 8; omega⟩
      | ⟨1, _⟩ => ⟨0, by show _ < 10; omega⟩, fun a => ?_⟩
    match a with
    | ⟨0, _⟩ => exact word _ b0
    | ⟨1, _⟩ => exact b1
  · blk_simp
    rw [after6]
    change S1024x128.Idx at y
    have hN := N_lt t
    have h0 : (y 0).val < 1024 := (y 0).isLt
    let R : Fin 8192 := ⟨t.val / 10 * 1024 + (y 0).val, by omega⟩
    have ej : ((cfg0.win 6).blk t).view.emb y = ix2 R (y 1) := idx2_eq _ R (y 1)
      (((cfg0.win 6).rect_emb_val t y ⟨0, Nat.zero_lt_succ 1⟩).trans (congrArg (· * 1024 + (y 0).val) (row_word t)))
      (((cfg0.win 6).rect_emb_val t y ⟨1, Nat.lt_succ_self 1⟩).trans (Nat.zero_add _))
    refine Eq.trans ?_ (congrArg _ ej.symm)
    refine (congrArg _ (eq_ix2 y)).trans ((pay3_apply _ _ _ (y 0) (y 1)).trans ?_)
    refine Finset.sum_congr rfl fun k _ => congrArg₂ (· * ·) ?_ ?_
    · exact rows_apply m c t.val hN (y 0) k R rfl
    · exact blk3 m c (rowPt t.val) (y 1) k

/-- The run: the three results, the arguments unchanged, every counter at zero. -/
theorem run (ρ : Dev nD → PrngReg) : θ_run (defs (F := Ideal)) (onTc (τ := τ) (main (F := Ideal))) ⟨m, fun _ => 0, ρ⟩ fun r => (∀ c : Dev nD,
      r.2.mem ((c.tc : Thread nD τ).loc main_v0_0) = projection (xA m c) (gA m c) (wA m c)
      ∧ r.2.mem ((c.tc : Thread nD τ).loc main_v0_1) = values (xA m c) (gA m c) (wA m c)
      ∧ r.2.mem ((c.tc : Thread nD τ).loc main_v0_2) = gates (xA m c) (gA m c) (fA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun _ h => ⟨fun c => ⟨((h.1 c).1 4).trans (arr_proj m c), ((h.1 c).1 5).trans (arr_val m c), ((h.1 c).1 6).trans (arr_gate m c),
    unchanged m _ h.1 c⟩, h.2⟩) (run_inproj m ρ)

end Kernel

/-! ## The reference -/

section Reference

open Cert.InprojRefIdeal Cert.InprojRefIdeal.Gen

variable (x : FVec Ideal S8192x2048 .f32) (g : FVec Ideal S1x2048 .f32)

/-- The reference's normalized rows. -/
def rowsRef : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) bitsLt_bf16_f32

theorem rowsRef_apply (r : Fin 8192) (k : Fin 2048) : rowsRef x g (ix2 r k) = normed x g r k := by
  unfold rowsRef normed
  pointwise

/-- Its projection, -/
theorem proj_eq (w : FVec Ideal S10240x2048 .bf16) :
    truncf .bf16 (Host.dotGeneral (F := Ideal) dot_S8192x2048_S2048x8192_S8192x8192_1_0_0_1_n_n none (rowsRef x g)
      (transpose S2048x8192 [1, 0] (extractStridedSlice S8192x2048 ![2048, 0] w slices_S10240x2048_S8192x2048_2048_0) transposes_S8192x2048_S2048x8192_1_0)) bitsLt_bf16_f32
      = projection x g w := by
  funext j
  rw [eq_ix2 j]
  refine (StackMember.dotGeneral_plain_apply none (rowsRef x g) _ (j 0) (j 1)).trans (Finset.sum_congr rfl fun k _ => congrArg₂ (· * ·) (rowsRef_apply x g (j 0) k) ?_)
  pointwise

/-- values -/
theorem val_eq (w : FVec Ideal S10240x2048 .bf16) :
    truncf .bf16 (transpose S2048x8192 [1, 0] (Host.dotGeneral (F := Ideal) dot_S8192x2048_S2048x2048_S8192x2048_1_0_0_1_n_n none (rowsRef x g)
      (transpose S2048x2048 [1, 0] (extractStridedSlice S2048x2048 ![0, 0] w slices_S10240x2048_S2048x2048_0_0) transposes_S2048x2048_S2048x2048_1_0)) transposes_S8192x2048_S2048x8192_1_0) bitsLt_bf16_f32
      = values x g w := by
  funext j
  rw [eq_ix2 j]
  have et : ∀ X : FVec Ideal S8192x2048 .f32, transpose S2048x8192 [1, 0] X transposes_S8192x2048_S2048x8192_1_0 (ix2 (j 0) (j 1)) = X (ix2 (j 1) (j 0)) := fun X => by
    pointwise
  refine (et (Host.dotGeneral (F := Ideal) dot_S8192x2048_S2048x2048_S8192x2048_1_0_0_1_n_n none (rowsRef x g)
      (transpose S2048x2048 [1, 0] (extractStridedSlice S2048x2048 ![0, 0] w slices_S10240x2048_S2048x2048_0_0) transposes_S2048x2048_S2048x2048_1_0))).trans ?_
  refine (StackMember.dotGeneral_plain_apply none (rowsRef x g) _ (j 1) (j 0)).trans (Finset.sum_congr rfl fun k _ => (mul_comm _ _).trans (congrArg₂ (· * ·) ?_ (rowsRef_apply x g (j 1) k)))
  pointwise

/-- and forget gates. -/
theorem gate_eq (w : FVec Ideal S128x2048 .bf16) :
    Host.dotGeneral (F := Ideal) dot_S8192x2048_S2048x128_S8192x128_1_0_0_1_n_n none (rowsRef x g) (transpose S2048x128 [1, 0] w transposes_S128x2048_S2048x128_1_0)
      = gates x g w := by
  funext j
  rw [eq_ix2 j]
  refine (StackMember.dotGeneral_plain_apply none (rowsRef x g) _ (j 0) (j 1)).trans (Finset.sum_congr rfl fun k _ => congrArg₂ (· * ·) (rowsRef_apply x g (j 0) k) ?_)
  pointwise

end Reference

end Cert.InprojOut

end
-- ==== Proof.InprojClaims.lean ====
/-
  The claims about the input projection.
-/
module

public import proofs.«01_k».proof.Defs
public import proofs.«01_k».proof.Proof.InprojOut
public import proofs.«01_k».proof.Proof.Gen.InprojIdeal
public import Idealize.ShloMosaic.Adequacy
public import Idealize.ShloMosaic.Init
public import Idealize.ShloMosaic.Lib.Quiescent

@[expose] public section

noncomputable section

namespace Cert.Proof

open Idealize.ShloMosaic Idealize.SL.Sem

/-- The idealized program's body table is the kernel's over the extended reals: label by label the same function. -/
theorem inproj_bodies : Cert.InprojIdeal.defs₀ (F := Ideal) = Cert.Inproj.defs₀ (F := Ideal) := by
  refine congrArg Defs.onTc (funext fun l => ?_)
  match l with
  | ⟨0, _⟩ => exact funext fun _ => rfl

/-- So are its definitions, the pipelines' included. -/
theorem inproj_defs : Cert.InprojIdeal.defs (F := Ideal) = Cert.Inproj.defs (F := Ideal) :=
  congrArg (Pipeline.defs (fun q => (Cert.Inproj.cfgs q).toPCfg (Val := Elt Ideal))) inproj_bodies

/-- The idealized projection is the kernel's text over the extended reals: its run is the one run. -/
theorem inproj_ideal (m : (ℓ : Loc Cert.InprojIdeal.nD Cert.InprojIdeal.τ Cert.InprojIdeal.sig) → Buf (Elt Ideal) ℓ)
    (g : Dev Cert.InprojIdeal.nD → PrngReg) :
    θ_run (Cert.InprojIdeal.defs (F := Ideal)) (onTc (τ := Cert.InprojIdeal.τ) (Cert.InprojIdeal.main (F := Ideal))) ⟨m, fun _ => 0, g⟩ fun r => (∀ c : Dev Cert.InprojIdeal.nD,
      r.2.mem ((c.tc : Thread Cert.InprojIdeal.nD Cert.InprojIdeal.τ).loc Cert.InprojIdeal.main_v0_0) = InprojOut.projection (InprojOut.xA m c) (InprojOut.gA m c) (InprojOut.wA m c)
      ∧ r.2.mem ((c.tc : Thread Cert.InprojIdeal.nD Cert.InprojIdeal.τ).loc Cert.InprojIdeal.main_v0_1) = InprojOut.values (InprojOut.xA m c) (InprojOut.gA m c) (InprojOut.wA m c)
      ∧ r.2.mem ((c.tc : Thread Cert.InprojIdeal.nD Cert.InprojIdeal.τ).loc Cert.InprojIdeal.main_v0_2) = InprojOut.gates (InprojOut.xA m c) (InprojOut.gA m c) (InprojOut.fA m c)
      ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0 :=
  inproj_defs ▸ InprojOut.run m g

theorem frame_inproj : Cert.quiescent_Inproj := fun m g _ =>
  (θ_run _ _ _).mono (fun r h => ⟨fun c => InprojRun.unchanged m r h.1 c, h.2⟩) (InprojRun.run_inproj m g)

theorem frame_inproj_ideal : Cert.quiescent_InprojIdeal := fun m g _ =>
  (θ_run _ _ _).mono (fun _ h => ⟨fun c => (h.1 c).2.2.2, h.2⟩) (inproj_ideal m g)

theorem frame_inproj_ref : Cert.quiescent_InprojRefIdeal := fun m g _ =>
  (θ_run _ _ _).mono (fun r h => ⟨fun c => (h c).2.2.2, sem_eq_zero_of_no_sems rfl r.2⟩) (Cert.InprojRefIdeal.Value.run m g)

theorem value_inproj : Cert.algebraic_InprojIdeal_InprojRefIdeal := fun m g m' g' _ harg =>
  ⟨fun c => InprojOut.projection (InprojOut.xA m c) (InprojOut.gA m c) (InprojOut.wA m c),
   fun c => InprojOut.values (InprojOut.xA m c) (InprojOut.gA m c) (InprojOut.wA m c),
   fun c => InprojOut.gates (InprojOut.xA m c) (InprojOut.gA m c) (InprojOut.fA m c),
   (θ_run _ _ _).mono (fun _ h => h.1) (inproj_ideal m g),
   (θ_run _ _ _).mono (fun _ h c => by
      obtain ⟨e0, e1, e2, e3⟩ := harg c
      refine ⟨(h c).1.trans ((InprojOut.proj_eq _ _ _).trans ?_), (h c).2.1.trans ((InprojOut.val_eq _ _ _).trans ?_),
        (h c).2.2.1.trans ((InprojOut.gate_eq _ _ _).trans ?_), (h c).2.2.2⟩
      · rw [e0, e1, e2]
      · rw [e0, e1, e2]
      · rw [e0, e1, e3])
    (Cert.InprojRefIdeal.Value.run m' g')⟩

end Cert.Proof

end
-- ==== Proof.FoxMath.lean ====
/-
  The softmax of a column of scores, taken a tile of keys at a time: a running maximum, a running sum of powers
  of two and a running weighted sum, all rescaled whenever the maximum grows.
-/
module

public import Idealize.ShloMosaic.PureOps.Ideal.Laws

@[expose] public section

noncomputable section

namespace Cert.FoxMath

open Idealize.ShloMosaic

/-! ## Powers of two of extended reals -/

theorem pow_nonneg (x : EReal) : 0 ≤ Ideal.exp2 x := by
  induction x with
  | bot => simp
  | top => simp
  | coe r =>
    rw [Ideal.exp2_coe]
    exact EReal.coe_nonneg.mpr (Real.rpow_nonneg (by norm_num) r)

theorem pow_ne_top {x : EReal} (h : x ≠ ⊤) : Ideal.exp2 x ≠ ⊤ := by
  induction x with
  | bot => simp
  | top => exact absurd rfl h
  | coe r =>
    rw [Ideal.exp2_coe]
    exact EReal.coe_ne_top _

/-- A difference from something at least as large is not `⊤`. -/
theorem sub_ne_top {x y : EReal} (h : x ≤ y) : x - y ≠ ⊤ := by
  induction y with
  | bot => rw [le_bot_iff.mp h]; decide
  | top => simp
  | coe r =>
    induction x with
    | bot => simp
    | top => exact absurd h (not_le.mpr (EReal.coe_lt_top r))
    | coe s => exact EReal.coe_ne_top (s - r)

/-- Rescaling: the power below the old maximum, times the power of the old maximum below the new one. -/
theorem rescale {s m m' : EReal} (h : s ≤ m) (h' : m ≤ m') :
    Ideal.exp2 (m - m') * Ideal.exp2 (s - m) = Ideal.exp2 (s - m') := by
  induction m' with
  | bot =>
    rw [le_bot_iff.mp h'] at h ⊢
    rw [le_bot_iff.mp h]
    simp
  | top => simp
  | coe r' =>
    induction m with
    | bot =>
      rw [le_bot_iff.mp h]
      simp
    | top => exact absurd h' (not_le.mpr (EReal.coe_lt_top r'))
    | coe r =>
      induction s with
      | bot => simp
      | top => exact absurd h (not_le.mpr (EReal.coe_lt_top r))
      | coe t =>
        rw [← EReal.coe_sub, ← EReal.coe_sub, ← EReal.coe_sub, Ideal.exp2_coe, Ideal.exp2_coe, Ideal.exp2_coe, ← EReal.coe_mul]
        refine congrArg _ ?_
        show (2 : ℝ) ^ (r - r') * (2 : ℝ) ^ (t - r) = (2 : ℝ) ^ (t - r')
        rw [← Real.rpow_add (by norm_num)]
        congr 1
        ring

/-- A factor that is neither negative nor `⊤` goes through a finite sum. -/
theorem mul_sum {ι : Type*} {x : EReal} (h0 : 0 ≤ x) (ht : x ≠ ⊤) (S : Finset ι) (f : ι → EReal) :
    x * ∑ i ∈ S, f i = ∑ i ∈ S, x * f i := by
  classical
  induction S using Finset.induction with
  | empty => simp
  | insert a S ha ih =>
    rw [Finset.sum_insert ha, Finset.sum_insert ha, EReal.left_distrib_of_nonneg_of_ne_top h0 ht, ih]

/-! ## The running state of a column -/

/-- The state after the first `N` keys: the largest score, the sum of the powers of two below it, and the sum of the
values weighted by them. -/
structure Col (s : ℕ → EReal) (v : Fin 128 → ℕ → EReal) (N : ℕ) (m l : EReal) (a : Fin 128 → EReal) : Prop where
  max : m = (Finset.range N).sup s
  sum : l = ∑ n ∈ Finset.range N, Ideal.exp2 (s n - m)
  acc : ∀ d, a d = ∑ n ∈ Finset.range N, v d n * Ideal.exp2 (s n - m)

theorem Col.start (s : ℕ → EReal) (v : Fin 128 → ℕ → EReal) : Col s v 0 ⊥ 0 fun _ => 0 :=
  ⟨by simp, by simp, fun d => by simp⟩

/-- The first keys of a longer range, and the keys after them. -/
theorem sum_range_add_fin (f : ℕ → EReal) (N K : ℕ) :
    ∑ n ∈ Finset.range (N + K), f n = ∑ n ∈ Finset.range N, f n + ∑ j : Fin K, f (N + j.val) := by
  rw [Finset.sum_range_add, ← Finset.sum_range fun i => f (N + i)]

theorem sup_range_add_fin (f : ℕ → EReal) (N K : ℕ) :
    (Finset.range (N + K)).sup f = Max.max ((Finset.range N).sup f) (Finset.univ.sup fun j : Fin K => f (N + j.val)) := by
  refine le_antisymm (Finset.sup_le fun n hn => ?_) (max_le (Finset.sup_mono fun n hn => ?_) (Finset.sup_le fun j _ => ?_))
  · rcases Nat.lt_or_ge n N with h | h
    · exact le_max_of_le_left (Finset.le_sup (f := f) (Finset.mem_range.mpr h))
    · have hn' := Finset.mem_range.mp hn
      have := Finset.le_sup (f := fun j : Fin K => f (N + j.val)) (Finset.mem_univ (⟨n - N, by omega⟩ : Fin K))
      rw [show f n = f (N + (n - N)) from by rw [Nat.add_sub_cancel' h]]
      exact le_max_of_le_right this
  · have := Finset.mem_range.mp hn
    exact Finset.mem_range.mpr (by omega)
  · exact Finset.le_sup (f := f) (Finset.mem_range.mpr (Nat.add_lt_add_left j.isLt N))

/-- One tile of `K` keys. -/
theorem Col.step {s : ℕ → EReal} {v : Fin 128 → ℕ → EReal} {N : ℕ} {m l : EReal} {a : Fin 128 → EReal} (h : Col s v N m l a)
    (K : ℕ) {m' l' : EReal} {a' : Fin 128 → EReal} (hm : m' = Max.max m (Finset.univ.sup fun j : Fin K => s (N + j.val)))
    (hl : l' = Ideal.exp2 (m - m') * l + ∑ j : Fin K, Ideal.exp2 (s (N + j.val) - m'))
    (ha : ∀ d, a' d = Ideal.exp2 (m - m') * a d + ∑ j : Fin K, v d (N + j.val) * Ideal.exp2 (s (N + j.val) - m')) :
    Col s v (N + K) m' l' a' := by
  have hle : m ≤ m' := hm ▸ le_max_left _ _
  have hs : ∀ n ∈ Finset.range N, s n ≤ m := fun n hn => h.max ▸ Finset.le_sup (f := s) hn
  refine ⟨?_, ?_, fun d => ?_⟩
  · rw [hm, sup_range_add_fin, ← h.max]
  · rw [hl, sum_range_add_fin, h.sum, mul_sum (pow_nonneg _) (pow_ne_top (sub_ne_top hle))]
    exact congrArg (· + _) (Finset.sum_congr rfl fun n hn => rescale (hs n hn) hle)
  · rw [ha d, sum_range_add_fin, h.acc d, mul_sum (pow_nonneg _) (pow_ne_top (sub_ne_top hle))]
    refine congrArg (· + _) (Finset.sum_congr rfl fun n hn => ?_)
    rw [← rescale (hs n hn) hle]
    exact mul_left_comm _ _ _

/-- Keys that score `⊥` change nothing. -/
theorem Col.skip {s : ℕ → EReal} {v : Fin 128 → ℕ → EReal} {N : ℕ} {m l : EReal} {a : Fin 128 → EReal} (h : Col s v N m l a)
    (K : ℕ) (hs : ∀ n, N ≤ n → s n = ⊥) : Col s v (N + K) m l a := by
  have hb : ∀ j : Fin K, s (N + j.val) = ⊥ := fun j => hs _ (Nat.le_add_right _ _)
  refine ⟨?_, ?_, fun d => ?_⟩
  · rw [sup_range_add_fin, ← h.max, show (Finset.univ.sup fun j : Fin K => s (N + j.val)) = ⊥ from
      (Finset.sup_congr rfl fun j _ => hb j).trans (Finset.sup_bot _), max_bot_right]
  · rw [sum_range_add_fin, ← h.sum, Finset.sum_eq_zero fun j _ => by rw [hb j]; simp, add_zero]
  · rw [sum_range_add_fin, ← h.acc d, Finset.sum_eq_zero fun j _ => by rw [hb j]; simp, add_zero]

/-! ## The quotient at the end -/

/-- Dividing a weighted sum by a positive real, or every weight by it. -/
theorem quotient (D : ℝ) (hD : 0 < D) (S : Finset ℕ) (w v : ℕ → EReal) :
    Ideal.div (∑ n ∈ S, v n * w n) (D : EReal) = ∑ n ∈ S, Ideal.div (w n) (D : EReal) * v n := by
  have h0 : (D : EReal) ≠ 0 := by exact_mod_cast hD.ne'
  have hdiv : ∀ x : EReal, Ideal.div x (D : EReal) = x * ((D⁻¹ : ℝ) : EReal) := fun x => by
    rw [Ideal.div, if_neg h0, EReal.coe_inv]
  rw [hdiv, mul_comm, mul_sum (EReal.coe_nonneg.mpr (inv_nonneg.mpr hD.le)) (EReal.coe_ne_top _)]
  refine Finset.sum_congr rfl fun n _ => ?_
  rw [hdiv, mul_comm (v n), ← mul_assoc, mul_comm (w n)]

/-- A sum of reals. -/
theorem coe_sum {ι : Type*} (S : Finset ι) (f : ι → ℝ) : ((∑ i ∈ S, f i : ℝ) : EReal) = ∑ i ∈ S, (f i : EReal) := by
  classical
  induction S using Finset.induction with
  | empty => simp
  | insert a S ha ih => rw [Finset.sum_insert ha, Finset.sum_insert ha, EReal.coe_add, ih]

/-- A power of two of a difference scaled by `1 / log 2` is the exponential of the difference. -/
theorem pow_scaled (x y : ℝ) :
    Ideal.exp2 ((((Real.log 2)⁻¹ * x : ℝ) : EReal) - (((Real.log 2)⁻¹ * y : ℝ) : EReal)) = ((Real.exp (x - y) : ℝ) : EReal) := by
  rw [← EReal.coe_sub, Ideal.exp2_coe]
  refine congrArg _ ?_
  show (2 : ℝ) ^ ((Real.log 2)⁻¹ * x - (Real.log 2)⁻¹ * y) = _
  have h2 : Real.log 2 ≠ 0 := (Real.log_pos (by norm_num)).ne'
  rw [Real.rpow_def_of_pos (by norm_num)]
  congr 1
  field_simp

/-- The state after all keys, its sum and quotient: the softmax, its scores shifted by any real and its powers taken
to the base `e`. -/
theorem Col.softmax {s r : ℕ → EReal} {v : Fin 128 → ℕ → EReal} {N t : ℕ} {m l : EReal} {a : Fin 128 → EReal}
    (h : Col s v N m l a) (hN : 0 < N) (y : ℕ → ℝ) (ct : ℝ)
    (hs : ∀ n < N, s n = if n ≤ t then (((Real.log 2)⁻¹ * y n : ℝ) : EReal) else ⊥)
    (hr : ∀ n < N, r n = if n ≤ t then ((y n + ct : ℝ) : EReal) else ⊥) (d : Fin 128) :
    Ideal.div (a d) l = ∑ n ∈ Finset.range N, Ideal.div (Ideal.exp (r n - (Finset.range N).sup r))
      (∑ k ∈ Finset.range N, Ideal.exp (r k - (Finset.range N).sup r)) * v d n := by
  have hL : 0 < (Real.log 2)⁻¹ := inv_pos.mpr (Real.log_pos (by norm_num))
  obtain ⟨n0, hn0, hsup⟩ := Finset.exists_mem_eq_sup (Finset.range N) ⟨0, Finset.mem_range.mpr hN⟩ s
  have hn0' := Finset.mem_range.mp hn0
  have hle : ∀ n < N, s n ≤ s n0 := fun n hn => hsup ▸ Finset.le_sup (f := s) (Finset.mem_range.mpr hn)
  have h0t : n0 ≤ t := by
    by_contra hc
    have := hle 0 hN
    rw [hs 0 hN, hs n0 hn0', if_neg hc, if_pos (Nat.zero_le t)] at this
    exact absurd this (not_le.mpr (EReal.bot_lt_coe _))
  have hm : m = (((Real.log 2)⁻¹ * y n0 : ℝ) : EReal) := by
    rw [h.max, hsup, hs n0 hn0', if_pos h0t]
  have hy : ∀ n < N, n ≤ t → y n ≤ y n0 := fun n hn hnt => by
    have := hle n hn
    rw [hs n hn, hs n0 hn0', if_pos h0t, if_pos hnt] at this
    exact le_of_mul_le_mul_left (EReal.coe_le_coe_iff.mp this) hL
  have hM : (Finset.range N).sup r = ((y n0 + ct : ℝ) : EReal) := by
    refine le_antisymm (Finset.sup_le fun n hn => ?_) ?_
    · rw [hr n (Finset.mem_range.mp hn)]
      split_ifs with hnt
      · have := hy n (Finset.mem_range.mp hn) hnt
        exact EReal.coe_le_coe_iff.mpr (by linarith)
      · exact bot_le
    · have := Finset.le_sup (f := r) hn0
      rwa [hr n0 hn0', if_pos h0t] at this
  have hw : ∀ n < N, Ideal.exp2 (s n - m) = ((if n ≤ t then Real.exp (y n - y n0) else 0 : ℝ) : EReal) := fun n hn => by
    rw [hs n hn, hm]
    split_ifs with hnt
    · exact pow_scaled _ _
    · simp
  have hw' : ∀ n < N, Ideal.exp (r n - (Finset.range N).sup r) = ((if n ≤ t then Real.exp (y n - y n0) else 0 : ℝ) : EReal) :=
    fun n hn => by
      rw [hr n hn, hM]
      split_ifs with hnt
      · rw [← EReal.coe_sub, Ideal.exp_coe]
        congr 2
        ring
      · simp
  have hD : ∑ k ∈ Finset.range N, Ideal.exp (r k - (Finset.range N).sup r)
      = ((∑ k ∈ Finset.range N, if k ≤ t then Real.exp (y k - y n0) else 0 : ℝ) : EReal) := by
    rw [Finset.sum_congr rfl fun k hk => hw' k (Finset.mem_range.mp hk)]
    exact (coe_sum _ _).symm
  have hpos : 0 < ∑ k ∈ Finset.range N, if k ≤ t then Real.exp (y k - y n0) else 0 := by
    refine lt_of_lt_of_le ?_ (Finset.single_le_sum (f := fun k => if k ≤ t then Real.exp (y k - y n0) else 0)
      (fun k _ => by split_ifs; exacts [(Real.exp_pos _).le, le_rfl]) hn0)
    rw [if_pos h0t]
    exact Real.exp_pos _
  have hl : l = ((∑ k ∈ Finset.range N, if k ≤ t then Real.exp (y k - y n0) else 0 : ℝ) : EReal) := by
    rw [h.sum, ← hD]
    exact Finset.sum_congr rfl fun k hk => (hw k (Finset.mem_range.mp hk)).trans (hw' k (Finset.mem_range.mp hk)).symm
  rw [hD, hl, h.acc d, quotient _ hpos]
  exact Finset.sum_congr rfl fun k hk => by rw [hw k (Finset.mem_range.mp hk), hw' k (Finset.mem_range.mp hk)]

end Cert.FoxMath

end
-- ==== Proof.FoxTile.lean ====
/-
  One tile of keys in the attention's body over the extended reals: the new maximum, the new sum and the new
  weighted sum of every query's column, for the three shapes of a tile — 512 keys before the diagonal, and on the
  diagonal 256 keys against all 512 queries and 256 keys against the last 256.
-/
module

public import proofs.«01_k».proof.Proof.FoxMath
public import proofs.«01_k».proof.Proof.Blocks
public import proofs.«01_k».proof.Proof.Gen.FoxIdeal.Skeleton
public import Idealize.ShloMosaic.Lib.Pointwise
public import Idealize.ShloMosaic.Lib.WordCmp

@[expose] public section

set_option maxRecDepth 16384

noncomputable section

namespace Cert.FoxTile

open Idealize.ShloMosaic Idealize.ShloMosaic.TcCoe Idealize.ShloMosaic.Tactic
open Cert.FoxIdeal Cert.FoxIdeal.Gen Cert.FoxMath Cert.Blocks

/-- The lane that holds the sum of log forget gates of a query's column. -/
def lane (y : Nat) : Fin 128 := ⟨y % 128, Nat.mod_lt _ (by decide)⟩

theorem lane_cut (y : Fin 512) : ((if h : y.val < 128 then (⟨y.val, h⟩ : Fin 128)
    else if h : y.val - 128 < 128 then ⟨y.val - 128, h⟩
    else if h : y.val - 128 - 128 < 128 then ⟨y.val - 128 - 128, h⟩
    else ⟨y.val - 128 - 128 - 128, by omega⟩) : Fin 128) = lane y.val := by
  unfold lane
  split
  · exact Fin.ext (by dsimp only; omega)
  split
  · exact Fin.ext (by dsimp only; omega)
  split
  · exact Fin.ext (by dsimp only; omega)
  · exact Fin.ext (by dsimp only; omega)

theorem lane_half (y : Fin 256) :
    (if h : y.val < 128 then (⟨y.val, h⟩ : Fin 128) else ⟨y.val - 128, by omega⟩) = lane y.val := by
  unfold lane
  split
  · exact Fin.ext (by dsimp only; omega)
  · exact Fin.ext (by dsimp only; omega)

theorem word_bot : Ideal.ofBits FTy.f32 0xFF800000#32 = (⊥ : EReal) := by
  simp [Ideal.ofBits, Ideal.ieee]

/-- The greatest element of a row of scores, as the maximum's reduction computes it. -/
theorem fold_sup {n : Nat} (f : Fin n → EReal) :
    Finset.fold max (Ideal.ofBits FTy.f32 0xFF800000#32) f Finset.univ = Finset.univ.sup f := by
  rw [word_bot]
  rfl

/-- Positions below 2 ^ 31, as words, compare as numbers. -/
theorem word_le (a b : Nat) (ha : a < 2 ^ 31) (hb : b < 2 ^ 31) :
    IntOp.cmpi .sle (BitVec.ofNat 32 a) (BitVec.ofNat 32 b) = if a ≤ b then 1#1 else 0#1 := by
  by_cases h : a ≤ b
  · rw [if_pos h]
    exact (WordCmp.cmpi_sle_ofNat_eq_one_iff ha hb).mpr h
  · rw [if_neg h]
    exact (WordCmp.cmpi_sle_ofNat_eq_zero_iff ha hb).mpr (by omega)

/-- The position of row `j` of the tile that begins at key `512 n + k`. -/
theorem word_pos (n k j : Nat) :
    IntOp.addi (Scalar.addi (Scalar.muli (BitVec.ofNat 32 n) 512#32) (BitVec.ofNat 32 k)) (BitVec.ofNat 32 j) = BitVec.ofNat 32 (n * 512 + k + j) := by
  show BitVec.ofNat 32 n * BitVec.ofNat 32 512 + BitVec.ofNat 32 k + BitVec.ofNat 32 j = _
  rw [← BitVec.ofNat_mul, ← BitVec.ofNat_add, ← BitVec.ofNat_add]

theorem select_bot (b : BitVec 1) (x : EReal) : Scalar.select b x (Ideal.ofBits FTy.f32 0xFF800000#32) = if b = 1#1 then x else ⊥ := by
  rw [word_bot]
  rfl

theorem score1_apply (kj qj : Vec Ideal S512x128 .bf16) (c : Vec Ideal S1x512x128 .f32) (j y : Fin 512) :
    k0_pay4 kj qj c (ix2 j y) = (∑ e : Fin 128, kj (ix2 j e) * qj (ix2 y e)) - c (ix3 0 j (lane y.val)) := by
  rw [← lane_cut]
  unfold k0_pay4
  pointwise
  split_ifs <;> rfl

theorem max1_apply (S : FVec Ideal S512x512 .f32) (m : Vec Ideal S1x1x512 .f32) (y : Fin 512) :
    k0_pay11 S (k0_pay5 m) (ix3 0 0 y) = max (m (ix3 0 0 y)) (Finset.univ.sup fun j : Fin 512 => S (ix2 j y)) := by
  rw [← fold_sup]
  unfold k0_pay11 k0_pay6 k0_pay5
  pointwise

theorem sum1_apply (S : FVec Ideal S512x512 .f32) (m l : Vec Ideal S1x1x512 .f32) (y : Fin 512) :
    k0_pay9 S (k0_pay5 m) l (ix3 0 0 y) = Ideal.exp2 (m (ix3 0 0 y) - k0_pay11 S (k0_pay5 m) (ix3 0 0 y)) * l (ix3 0 0 y)
      + ∑ j : Fin 512, Ideal.exp2 (S (ix2 j y) - k0_pay11 S (k0_pay5 m) (ix3 0 0 y)) := by
  unfold k0_pay9 k0_pay11 k0_pay7 k0_pay8
  generalize k0_pay6 S (k0_pay5 m) = M
  unfold k0_pay5
  pointwise
  rfl

theorem acc1_apply (S : FVec Ideal S512x512 .f32) (m : Vec Ideal S1x1x512 .f32) (vt : Vec Ideal S128x512 .bf16) (a : Vec Ideal S1x128x512 .f32)
    (d : Fin 128) (y : Fin 512) :
    k0_pay10 S (k0_pay5 m) vt a (ix3 0 d y) = Ideal.exp2 (m (ix3 0 0 y) - k0_pay11 S (k0_pay5 m) (ix3 0 0 y)) * a (ix3 0 d y)
      + ∑ j : Fin 512, vt (ix2 d j) * Ideal.exp2 (S (ix2 j y) - k0_pay11 S (k0_pay5 m) (ix3 0 0 y)) := by
  unfold k0_pay10 k0_pay11 k0_pay7 k0_pay8
  generalize k0_pay6 S (k0_pay5 m) = M
  unfold k0_pay5
  pointwise
  rfl

/-! ## The first half of the diagonal -/

theorem mask2_apply (n : Nat) (hn : n < 8) (j : Fin 256) (y : Fin 512) :
    k0_pay206 (BitVec.ofNat 32 n) (ix2 j y) = if j.val ≤ y.val then 1#1 else 0#1 := by
  unfold k0_pay206
  pointwise
  refine (congrArg₂ (IntOp.cmpi .sle) (word_pos n 0 j.val) (word_pos n 0 y.val)).trans ((word_le _ _ (by omega) (by omega)).trans ?_)
  exact if_congr (by omega) rfl rfl

theorem score2_apply (b : IVec S256x512 1) (kj : Vec Ideal S256x128 .bf16) (qj : Vec Ideal S512x128 .bf16) (c : Vec Ideal S1x256x128 .f32)
    (j : Fin 256) (y : Fin 512) :
    k0_pay211 b (k0_pay207 kj qj) c (ix2 j y)
      = if b (ix2 j y) = 1#1 then (∑ e : Fin 128, kj (ix2 j e) * qj (ix2 y e)) - c (ix3 0 j (lane y.val)) else ⊥ := by
  rw [← lane_cut]
  unfold k0_pay211 k0_pay207
  pointwise
  rw [select_bot]
  split_ifs <;> rfl

theorem max2_apply (b : IVec S256x512 1) (S : FVec Ideal S256x512 .f32) (c : Vec Ideal S1x256x128 .f32) (m : Vec Ideal S1x1x512 .f32) (y : Fin 512) :
    k0_pay220 (k0_pay213 b S c m) (ix3 0 0 y)
      = max (m (ix3 0 0 y)) (Finset.univ.sup fun j : Fin 256 => k0_pay211 b S c (ix2 j y)) := by
  rw [← fold_sup]
  unfold k0_pay220 k0_pay213 k0_pay212
  generalize k0_pay211 b S c = T
  pointwise

theorem sum2_apply (b : IVec S256x512 1) (S : FVec Ideal S256x512 .f32) (c : Vec Ideal S1x256x128 .f32) (m l : Vec Ideal S1x1x512 .f32) (y : Fin 512) :
    k0_pay218 (k0_pay216 b S c m l) (k0_pay217 b S c m) (ix3 0 0 y)
      = Ideal.exp2 (m (ix3 0 0 y) - k0_pay220 (k0_pay213 b S c m) (ix3 0 0 y)) * l (ix3 0 0 y)
        + ∑ j : Fin 256, Ideal.exp2 (k0_pay211 b S c (ix2 j y) - k0_pay220 (k0_pay213 b S c m) (ix3 0 0 y)) := by
  unfold k0_pay218 k0_pay216 k0_pay217 k0_pay214 k0_pay215 k0_pay220
  generalize k0_pay213 b S c m = M
  generalize k0_pay211 b S c = T
  unfold k0_pay212
  pointwise
  rfl

theorem acc2_apply (b : IVec S256x512 1) (S : FVec Ideal S256x512 .f32) (c : Vec Ideal S1x256x128 .f32) (m : Vec Ideal S1x1x512 .f32)
    (vt : Vec Ideal S128x256 .bf16) (a : Vec Ideal S1x128x512 .f32) (d : Fin 128) (y : Fin 512) :
    k0_pay219 (k0_pay214 b S c m) (k0_pay215 b S c m) vt a (ix3 0 d y)
      = Ideal.exp2 (m (ix3 0 0 y) - k0_pay220 (k0_pay213 b S c m) (ix3 0 0 y)) * a (ix3 0 d y)
        + ∑ j : Fin 256, vt (ix2 d j) * Ideal.exp2 (k0_pay211 b S c (ix2 j y) - k0_pay220 (k0_pay213 b S c m) (ix3 0 0 y)) := by
  unfold k0_pay219 k0_pay214 k0_pay215 k0_pay220
  generalize k0_pay213 b S c m = M
  generalize k0_pay211 b S c = T
  unfold k0_pay212
  pointwise
  rfl

/-! ## The second half of the diagonal -/

theorem mask3_apply (n : Nat) (hn : n < 8) (j y : Fin 256) :
    k0_pay246 (BitVec.ofNat 32 n) (ix2 j y) = if j.val ≤ y.val then 1#1 else 0#1 := by
  unfold k0_pay246
  pointwise
  refine (congrArg₂ (IntOp.cmpi .sle) (word_pos n 256 j.val) (word_pos n 256 y.val)).trans ((word_le _ _ (by omega) (by omega)).trans ?_)
  exact if_congr (by omega) rfl rfl

theorem score3_apply (b : IVec S256x256 1) (kj qj : Vec Ideal S256x128 .bf16) (c : Vec Ideal S1x256x128 .f32) (j y : Fin 256) :
    k0_pay251 b (k0_pay247 kj qj) c (ix2 j y)
      = if b (ix2 j y) = 1#1 then (∑ e : Fin 128, kj (ix2 j e) * qj (ix2 y e)) - c (ix3 0 j (lane y.val)) else ⊥ := by
  unfold k0_pay251 k0_pay247
  pointwise
  rw [select_bot, ← lane_half]
  split_ifs <;> rfl

theorem max3_apply (b : IVec S256x256 1) (S : FVec Ideal S256x256 .f32) (c : Vec Ideal S1x256x128 .f32) (m : Vec Ideal S1x1x256 .f32) (y : Fin 256) :
    k0_pay260 (k0_pay253 b S c m) (ix3 0 0 y)
      = max (m (ix3 0 0 y)) (Finset.univ.sup fun j : Fin 256 => k0_pay251 b S c (ix2 j y)) := by
  rw [← fold_sup]
  unfold k0_pay260 k0_pay253 k0_pay252
  generalize k0_pay251 b S c = T
  pointwise

theorem sum3_apply (b : IVec S256x256 1) (S : FVec Ideal S256x256 .f32) (c : Vec Ideal S1x256x128 .f32) (m l : Vec Ideal S1x1x256 .f32) (y : Fin 256) :
    k0_pay256 b S c m l (ix3 0 0 y)
      = Ideal.exp2 (m (ix3 0 0 y) - k0_pay260 (k0_pay253 b S c m) (ix3 0 0 y)) * l (ix3 0 0 y)
        + ∑ j : Fin 256, Ideal.exp2 (k0_pay251 b S c (ix2 j y) - k0_pay260 (k0_pay253 b S c m) (ix3 0 0 y)) := by
  unfold k0_pay256 k0_pay254 k0_pay255 k0_pay260
  generalize k0_pay253 b S c m = M
  generalize k0_pay251 b S c = T
  unfold k0_pay252
  pointwise
  rfl

theorem acc3_apply (b : IVec S256x256 1) (S : FVec Ideal S256x256 .f32) (c : Vec Ideal S1x256x128 .f32) (m : Vec Ideal S1x1x256 .f32)
    (vt : Vec Ideal S128x256 .bf16) (a : Vec Ideal S1x128x256 .f32) (d : Fin 128) (y : Fin 256) :
    k0_pay259 (k0_pay255 b S c m) (k0_pay257 vt) (k0_pay258 b S c m a) (ix3 0 d y)
      = Ideal.exp2 (m (ix3 0 0 y) - k0_pay260 (k0_pay253 b S c m) (ix3 0 0 y)) * a (ix3 0 d y)
        + ∑ j : Fin 256, vt (ix2 d j) * Ideal.exp2 (k0_pay251 b S c (ix2 j y) - k0_pay260 (k0_pay253 b S c m) (ix3 0 0 y)) := by
  unfold k0_pay259 k0_pay258 k0_pay257 k0_pay254 k0_pay255 k0_pay260
  generalize k0_pay253 b S c m = M
  generalize k0_pay251 b S c = T
  unfold k0_pay252
  pointwise
  rfl

/-! ## A tile carries every query's column on -/

/-- The three vectors hold the maximum, the sum and the weighted sum over the first `N` keys, for each of 512 queries. -/
def ColV (s : Fin 512 → ℕ → EReal) (v : Fin 128 → ℕ → EReal) (N : ℕ)
    (m l : Vec Ideal S1x1x512 .f32) (a : Vec Ideal S1x128x512 .f32) : Prop :=
  ∀ y : Fin 512, Col (s y) v N (m (ix3 0 0 y)) (l (ix3 0 0 y)) (fun d => a (ix3 0 d y))

/-- The same for 256 queries. -/
def ColW (s : Fin 256 → ℕ → EReal) (v : Fin 128 → ℕ → EReal) (N : ℕ)
    (m l : Vec Ideal S1x1x256 .f32) (a : Vec Ideal S1x128x256 .f32) : Prop :=
  ∀ y : Fin 256, Col (s y) v N (m (ix3 0 0 y)) (l (ix3 0 0 y)) (fun d => a (ix3 0 d y))

variable {s : Fin 512 → ℕ → EReal} {v : Fin 128 → ℕ → EReal} {N : ℕ}

theorem tile1 {m l : Vec Ideal S1x1x512 .f32} {a : Vec Ideal S1x128x512 .f32} (h : ColV s v N m l a)
    {kj qj : Vec Ideal S512x128 .bf16} {c : Vec Ideal S1x512x128 .f32} {vt : Vec Ideal S128x512 .bf16}
    (hs : ∀ j y : Fin 512, (∑ e : Fin 128, kj (ix2 j e) * qj (ix2 y e)) - c (ix3 0 j (lane y.val)) = s y (N + j.val))
    (hv : ∀ (d : Fin 128) (j : Fin 512), vt (ix2 d j) = v d (N + j.val)) :
    ColV s v (N + 512) (k0_pay11 (k0_pay4 kj qj c) (k0_pay5 m)) (k0_pay9 (k0_pay4 kj qj c) (k0_pay5 m) l)
      (k0_pay10 (k0_pay4 kj qj c) (k0_pay5 m) vt a) := by
  have e : ∀ y j : Fin 512, k0_pay4 kj qj c (ix2 j y) = s y (N + j.val) := fun y j => (score1_apply kj qj c j y).trans (hs j y)
  intro y
  refine (h y).step 512 ?_ ?_ fun d => ?_
  · simp only [max1_apply, e]
  · simp only [sum1_apply, e]
  · simp only [acc1_apply, e, hv]

theorem tile2 {m l : Vec Ideal S1x1x512 .f32} {a : Vec Ideal S1x128x512 .f32} (h : ColV s v N m l a) (n : Nat) (hn : n < 8)
    {kj : Vec Ideal S256x128 .bf16} {qj : Vec Ideal S512x128 .bf16} {c : Vec Ideal S1x256x128 .f32} {vt : Vec Ideal S128x256 .bf16}
    (hs : ∀ (j : Fin 256) (y : Fin 512), (if j.val ≤ y.val then (∑ e : Fin 128, kj (ix2 j e) * qj (ix2 y e)) - c (ix3 0 j (lane y.val)) else ⊥) = s y (N + j.val))
    (hv : ∀ (d : Fin 128) (j : Fin 256), vt (ix2 d j) = v d (N + j.val)) :
    ColV s v (N + 256) (k0_pay220 (k0_pay213 (k0_pay206 (BitVec.ofNat 32 n)) (k0_pay207 kj qj) c m))
      (k0_pay218 (k0_pay216 (k0_pay206 (BitVec.ofNat 32 n)) (k0_pay207 kj qj) c m l) (k0_pay217 (k0_pay206 (BitVec.ofNat 32 n)) (k0_pay207 kj qj) c m))
      (k0_pay219 (k0_pay214 (k0_pay206 (BitVec.ofNat 32 n)) (k0_pay207 kj qj) c m) (k0_pay215 (k0_pay206 (BitVec.ofNat 32 n)) (k0_pay207 kj qj) c m) vt a) := by
  have e : ∀ (y : Fin 512) (j : Fin 256), k0_pay211 (k0_pay206 (BitVec.ofNat 32 n)) (k0_pay207 kj qj) c (ix2 j y) = s y (N + j.val) := fun y j => by
    rw [score2_apply, mask2_apply n hn, ← hs]
    by_cases q : j.val ≤ y.val
    · rw [if_pos q, if_pos rfl, if_pos q]
    · rw [if_neg q, if_neg (by decide), if_neg q]
  intro y
  refine (h y).step 256 ?_ ?_ fun d => ?_
  · simp only [max2_apply, e]
  · simp only [sum2_apply, e]
  · simp only [acc2_apply, e, hv]

theorem tile3 {s : Fin 256 → ℕ → EReal} {m l : Vec Ideal S1x1x256 .f32} {a : Vec Ideal S1x128x256 .f32} (h : ColW s v N m l a) (n : Nat) (hn : n < 8)
    {kj qj : Vec Ideal S256x128 .bf16} {c : Vec Ideal S1x256x128 .f32} {vt : Vec Ideal S128x256 .bf16}
    (hs : ∀ j y : Fin 256, (if j.val ≤ y.val then (∑ e : Fin 128, kj (ix2 j e) * qj (ix2 y e)) - c (ix3 0 j (lane y.val)) else ⊥) = s y (N + j.val))
    (hv : ∀ (d : Fin 128) (j : Fin 256), vt (ix2 d j) = v d (N + j.val)) :
    ColW s v (N + 256) (k0_pay260 (k0_pay253 (k0_pay246 (BitVec.ofNat 32 n)) (k0_pay247 kj qj) c m))
      (k0_pay256 (k0_pay246 (BitVec.ofNat 32 n)) (k0_pay247 kj qj) c m l)
      (k0_pay259 (k0_pay255 (k0_pay246 (BitVec.ofNat 32 n)) (k0_pay247 kj qj) c m) (k0_pay257 vt)
        (k0_pay258 (k0_pay246 (BitVec.ofNat 32 n)) (k0_pay247 kj qj) c m a)) := by
  have e : ∀ y j : Fin 256, k0_pay251 (k0_pay246 (BitVec.ofNat 32 n)) (k0_pay247 kj qj) c (ix2 j y) = s y (N + j.val) := fun y j => by
    rw [score3_apply, mask3_apply n hn, ← hs]
    by_cases q : j.val ≤ y.val
    · rw [if_pos q, if_pos rfl, if_pos q]
    · rw [if_neg q, if_neg (by decide), if_neg q]
  intro y
  refine (h y).step 256 ?_ ?_ fun d => ?_
  · simp only [max3_apply, e]
  · simp only [sum3_apply, e]
  · simp only [acc3_apply, e, hv]

/-! ## What a head writes -/

theorem out_apply (a : Vec Ideal S1x128x512 .f32) (l : Vec Ideal S1x1x512 .f32) (y : Fin 512) (d : Fin 128) :
    k0_pay290 a l (ix2 y d) = Ideal.div (a (ix3 0 d y)) (l (ix3 0 0 y)) := by
  unfold k0_pay290
  pointwise

end Cert.FoxTile

end
-- ==== Proof.FoxHeads.lean ====
/-
  The attention's body works its tiles off head by head, and prints each head's arithmetic in its own split. Here
  every split is read as the one of FoxTile: for each of the five tiles and the four heads, the three vectors the
  head stores carry its queries' columns on. What the scratch buffers hold for the four heads is `Heads`.
-/
module

public import proofs.«01_k».proof.Proof.FoxTile
public import Idealize.ShloMosaic.Lib.WritesUnit

@[expose] public section

set_option maxRecDepth 16384

noncomputable section

namespace Cert.FoxHeads

open Idealize.ShloMosaic Idealize.ShloMosaic.TcCoe Idealize.ShloMosaic.Tactic
open Cert.FoxIdeal Cert.FoxIdeal.Gen Cert.FoxMath Cert.Blocks Cert.FoxTile

/-- What a tile of 512 keys before the diagonal reads: keys, queries, gates and values of keys `N`, `N + 1`, … -/
structure Tile1 (s : Fin 512 → ℕ → EReal) (v : Fin 128 → ℕ → EReal) (N : ℕ) (kj qj : Vec Ideal S512x128 .bf16)
    (c : Vec Ideal S1x512x128 .f32) (vt : Vec Ideal S128x512 .bf16) : Prop where
  score : ∀ j y : Fin 512, (∑ e : Fin 128, kj (ix2 j e) * qj (ix2 y e)) - c (ix3 0 j (lane y.val)) = s y (N + j.val)
  value : ∀ (d : Fin 128) (j : Fin 512), vt (ix2 d j) = v d (N + j.val)

/-- What the first half of the diagonal reads. -/
structure Tile2 (s : Fin 512 → ℕ → EReal) (v : Fin 128 → ℕ → EReal) (N : ℕ) (kj : Vec Ideal S256x128 .bf16)
    (qj : Vec Ideal S512x128 .bf16) (c : Vec Ideal S1x256x128 .f32) (vt : Vec Ideal S128x256 .bf16) : Prop where
  score : ∀ (j : Fin 256) (y : Fin 512), (if j.val ≤ y.val then (∑ e : Fin 128, kj (ix2 j e) * qj (ix2 y e)) - c (ix3 0 j (lane y.val)) else ⊥) = s y (N + j.val)
  value : ∀ (d : Fin 128) (j : Fin 256), vt (ix2 d j) = v d (N + j.val)

/-- What the second half of the diagonal reads. -/
structure Tile3 (s : Fin 256 → ℕ → EReal) (v : Fin 128 → ℕ → EReal) (N : ℕ) (kj qj : Vec Ideal S256x128 .bf16)
    (c : Vec Ideal S1x256x128 .f32) (vt : Vec Ideal S128x256 .bf16) : Prop where
  score : ∀ j y : Fin 256, (if j.val ≤ y.val then (∑ e : Fin 128, kj (ix2 j e) * qj (ix2 y e)) - c (ix3 0 j (lane y.val)) else ⊥) = s y (N + j.val)
  value : ∀ (d : Fin 128) (j : Fin 256), vt (ix2 d j) = v d (N + j.val)

section Splits

variable {s : Fin 512 → ℕ → EReal} {v : Fin 128 → ℕ → EReal} {N : ℕ} {m l : Vec Ideal S1x1x512 .f32} {a : Vec Ideal S1x128x512 .f32}
  {kj qj : Vec Ideal S512x128 .bf16} {c : Vec Ideal S1x512x128 .f32} {vt : Vec Ideal S128x512 .bf16}

/-! A trip's first tile. -/

theorem first0 (T : Tile1 s v N kj qj c vt) (h : ColV s v N m l a) :
    ColV s v (N + 512) (k0_pay11 (k0_pay4 kj qj c) (k0_pay5 m)) (k0_pay9 (k0_pay4 kj qj c) (k0_pay5 m) l) (k0_pay10 (k0_pay4 kj qj c) (k0_pay5 m) vt a) :=
  tile1 h T.score T.value

theorem first1 (T : Tile1 s v N kj qj c vt) (h : ColV s v N m l a) :
    ColV s v (N + 512) (k0_pay20 (k0_pay15 (k0_pay1 kj qj) (k0_pay12 c) m)) (k0_pay18 (k0_pay1 kj qj) (k0_pay12 c) m l)
      (k0_pay19 (k0_pay1 kj qj) (k0_pay12 c) m vt a) :=
  tile1 h T.score T.value

theorem first2 (T : Tile1 s v N kj qj c vt) (h : ColV s v N m l a) :
    ColV s v (N + 512) (k0_pay29 (k0_pay23 (k0_pay2 kj qj) c m)) (k0_pay26 (k0_pay2 kj qj) c m l) (k0_pay28 (k0_pay27 (k0_pay2 kj qj) c m vt a)) :=
  tile1 h T.score T.value

theorem first3 (T : Tile1 s v N kj qj c vt) (h : ColV s v N m l a) :
    ColV s v (N + 512) (k0_pay40 (k0_pay32 (k0_pay3 kj qj) c m)) (k0_pay35 (k0_pay3 kj qj) c m l)
      (k0_pay39 (k0_pay36 vt) (k0_pay37 (k0_pay3 kj qj) c m a) (k0_pay38 (k0_pay3 kj qj) c m) (constant S128x512 .f32 0x00000000#32)) :=
  tile1 h T.score T.value

/-! A trip's second tile. -/

theorem second0 (T : Tile1 s v N kj qj c vt) (h : ColV s v N m l a) :
    ColV s v (N + 512) (k0_pay54 (k0_pay48 (k0_pay41 kj qj) c m)) (k0_pay51 (k0_pay41 kj qj) c m l) (k0_pay53 (k0_pay52 (k0_pay41 kj qj) c m vt a)) :=
  tile1 h T.score T.value

theorem second1 (T : Tile1 s v N kj qj c vt) (h : ColV s v N m l a) :
    ColV s v (N + 512) (k0_pay65 (k0_pay57 (k0_pay42 kj qj) c m)) (k0_pay60 (k0_pay42 kj qj) c m l)
      (k0_pay64 (k0_pay59 (k0_pay42 kj qj) c m) (k0_pay61 vt) (k0_pay62 a) (k0_pay63 (k0_pay42 kj qj) c m)) :=
  tile1 h T.score T.value

theorem second2 (T : Tile1 s v N kj qj c vt) (h : ColV s v N m l a) :
    ColV s v (N + 512) (k0_pay73 (k0_pay68 (k0_pay43 kj qj) c m)) (k0_pay71 (k0_pay43 kj qj) c m l)
      (k0_pay72 (k0_pay69 (k0_pay43 kj qj) c m) (k0_pay70 (k0_pay43 kj qj) c m) vt a) :=
  tile1 h T.score T.value

theorem second3 (T : Tile1 s v N kj qj c vt) (h : ColV s v N m l a) :
    ColV s v (N + 512) (k0_pay200 (k0_pay76 (k0_pay45 (k0_pay44 kj) qj) c m)) (k0_pay198 (k0_pay79 (k0_pay45 (k0_pay44 kj) qj) c m l))
      (k0_pay199 (k0_pay77 (k0_pay45 (k0_pay44 kj) qj) c m) (k0_pay78 (k0_pay45 (k0_pay44 kj) qj) c m) vt a) :=
  tile1 h T.score T.value

/-! The single tile before an odd block's diagonal. -/

theorem extra0 (T : Tile1 s v N kj qj c vt) (h : ColV s v N m l a) :
    ColV s v (N + 512) (k0_pay169 (k0_pay162 kj qj c) (k0_pay163 m)) (k0_pay167 (k0_pay162 kj qj c) (k0_pay163 m) l)
      (k0_pay168 (k0_pay162 kj qj c) (k0_pay163 m) vt a) :=
  tile1 h T.score T.value

theorem extra1 (T : Tile1 s v N kj qj c vt) (h : ColV s v N m l a) :
    ColV s v (N + 512) (k0_pay178 (k0_pay159 kj qj) (k0_pay170 c) m) (k0_pay176 (k0_pay159 kj qj) (k0_pay170 c) m l)
      (k0_pay177 (k0_pay159 kj qj) (k0_pay170 c) m vt a) :=
  tile1 h T.score T.value

theorem extra2 (T : Tile1 s v N kj qj c vt) (h : ColV s v N m l a) :
    ColV s v (N + 512) (k0_pay186 (k0_pay181 (k0_pay160 kj qj) c m)) (k0_pay184 (k0_pay160 kj qj) c m l) (k0_pay185 (k0_pay160 kj qj) c m vt a) :=
  tile1 h T.score T.value

theorem extra3 (T : Tile1 s v N kj qj c vt) (h : ColV s v N m l a) :
    ColV s v (N + 512) (k0_pay205 (k0_pay189 (k0_pay161 kj qj) c m)) (k0_pay192 (k0_pay161 kj qj) c m l)
      (k0_pay204 (k0_pay193 (k0_pay161 kj qj) c m a) (k0_pay194 (k0_pay161 kj qj) c m vt)) :=
  tile1 h T.score T.value

end Splits

section Diagonal

variable {s : Fin 512 → ℕ → EReal} {v : Fin 128 → ℕ → EReal} {N : ℕ} {m l : Vec Ideal S1x1x512 .f32} {a : Vec Ideal S1x128x512 .f32}
  {kj : Vec Ideal S256x128 .bf16} {qj : Vec Ideal S512x128 .bf16} {c : Vec Ideal S1x256x128 .f32} {vt : Vec Ideal S128x256 .bf16}
  {n : ℕ}

/-! The first half of the diagonal. -/

theorem half0 (hn : n < 8) (T : Tile2 s v N kj qj c vt) (h : ColV s v N m l a) :
    ColV s v (N + 256) (k0_pay220 (k0_pay213 (k0_pay206 (BitVec.ofNat 32 n)) (k0_pay207 kj qj) c m))
      (k0_pay218 (k0_pay216 (k0_pay206 (BitVec.ofNat 32 n)) (k0_pay207 kj qj) c m l) (k0_pay217 (k0_pay206 (BitVec.ofNat 32 n)) (k0_pay207 kj qj) c m))
      (k0_pay219 (k0_pay214 (k0_pay206 (BitVec.ofNat 32 n)) (k0_pay207 kj qj) c m) (k0_pay215 (k0_pay206 (BitVec.ofNat 32 n)) (k0_pay207 kj qj) c m) vt a) :=
  tile2 h n hn T.score T.value

theorem half1 (hn : n < 8) (T : Tile2 s v N kj qj c vt) (h : ColV s v N m l a) :
    ColV s v (N + 256) (k0_pay229 (k0_pay223 (k0_pay206 (BitVec.ofNat 32 n)) (k0_pay208 kj qj) c m))
      (k0_pay227 (k0_pay221 (k0_pay206 (BitVec.ofNat 32 n)) (k0_pay208 kj qj) c) (k0_pay224 (k0_pay206 (BitVec.ofNat 32 n)) (k0_pay208 kj qj) c m)
        (k0_pay225 (k0_pay206 (BitVec.ofNat 32 n)) (k0_pay208 kj qj) c m) l)
      (k0_pay228 (k0_pay221 (k0_pay206 (BitVec.ofNat 32 n)) (k0_pay208 kj qj) c) (k0_pay224 (k0_pay206 (BitVec.ofNat 32 n)) (k0_pay208 kj qj) c m)
        (k0_pay225 (k0_pay206 (BitVec.ofNat 32 n)) (k0_pay208 kj qj) c m) vt a) :=
  tile2 h n hn T.score T.value

theorem half2 (hn : n < 8) (T : Tile2 s v N kj qj c vt) (h : ColV s v N m l a) :
    ColV s v (N + 256) (k0_pay237 (k0_pay230 (k0_pay206 (BitVec.ofNat 32 n)) (k0_pay209 kj qj) c) m)
      (k0_pay235 (k0_pay230 (k0_pay206 (BitVec.ofNat 32 n)) (k0_pay209 kj qj) c) m l)
      (k0_pay236 (k0_pay230 (k0_pay206 (BitVec.ofNat 32 n)) (k0_pay209 kj qj) c) m vt a) :=
  tile2 h n hn T.score T.value

theorem half3 (hn : n < 8) (T : Tile2 s v N kj qj c vt) (h : ColV s v N m l a) :
    ColV s v (N + 256) (k0_pay245 (k0_pay240 (k0_pay206 (BitVec.ofNat 32 n)) (k0_pay210 kj qj) c m))
      (k0_pay243 (k0_pay206 (BitVec.ofNat 32 n)) (k0_pay210 kj qj) c m l)
      (k0_pay244 (k0_pay206 (BitVec.ofNat 32 n)) (k0_pay210 kj qj) c m vt a) :=
  tile2 h n hn T.score T.value

end Diagonal

section Corner

variable {s : Fin 256 → ℕ → EReal} {v : Fin 128 → ℕ → EReal} {N : ℕ} {m l : Vec Ideal S1x1x256 .f32} {a : Vec Ideal S1x128x256 .f32}
  {kj qj : Vec Ideal S256x128 .bf16} {c : Vec Ideal S1x256x128 .f32} {vt : Vec Ideal S128x256 .bf16} {n : ℕ}

/-! The second half of the diagonal. -/

theorem corner0 (hn : n < 8) (T : Tile3 s v N kj qj c vt) (h : ColW s v N m l a) :
    ColW s v (N + 256) (k0_pay260 (k0_pay253 (k0_pay246 (BitVec.ofNat 32 n)) (k0_pay247 kj qj) c m))
      (k0_pay256 (k0_pay246 (BitVec.ofNat 32 n)) (k0_pay247 kj qj) c m l)
      (k0_pay259 (k0_pay255 (k0_pay246 (BitVec.ofNat 32 n)) (k0_pay247 kj qj) c m) (k0_pay257 vt)
        (k0_pay258 (k0_pay246 (BitVec.ofNat 32 n)) (k0_pay247 kj qj) c m a)) :=
  tile3 h n hn T.score T.value

theorem corner1 (hn : n < 8) (T : Tile3 s v N kj qj c vt) (h : ColW s v N m l a) :
    ColW s v (N + 256) (k0_pay268 (k0_pay263 (k0_pay246 (BitVec.ofNat 32 n)) (k0_pay248 kj qj) c m))
      (k0_pay266 (k0_pay246 (BitVec.ofNat 32 n)) (k0_pay248 kj qj) c m l)
      (k0_pay267 (k0_pay264 (k0_pay246 (BitVec.ofNat 32 n)) (k0_pay248 kj qj) c m) (k0_pay265 (k0_pay246 (BitVec.ofNat 32 n)) (k0_pay248 kj qj) c m) vt a) :=
  tile3 h n hn T.score T.value

theorem corner2 (hn : n < 8) (T : Tile3 s v N kj qj c vt) (h : ColW s v N m l a) :
    ColW s v (N + 256) (k0_pay278 (k0_pay271 (k0_pay246 (BitVec.ofNat 32 n)) (k0_pay249 kj qj) c m))
      (k0_pay276 (k0_pay274 (k0_pay246 (BitVec.ofNat 32 n)) (k0_pay249 kj qj) c m l) (k0_pay275 (k0_pay246 (BitVec.ofNat 32 n)) (k0_pay249 kj qj) c m))
      (k0_pay277 (k0_pay272 (k0_pay246 (BitVec.ofNat 32 n)) (k0_pay249 kj qj) c m) (k0_pay273 (k0_pay246 (BitVec.ofNat 32 n)) (k0_pay249 kj qj) c m) vt a) :=
  tile3 h n hn T.score T.value

theorem corner3 (hn : n < 8) (T : Tile3 s v N kj qj c vt) (h : ColW s v N m l a) :
    ColW s v (N + 256) (k0_pay260 (k0_pay253 (k0_pay246 (BitVec.ofNat 32 n)) (k0_pay250 kj qj) c m))
      (k0_pay285 (k0_pay279 (k0_pay246 (BitVec.ofNat 32 n)) (k0_pay250 kj qj) c) (k0_pay282 (k0_pay246 (BitVec.ofNat 32 n)) (k0_pay250 kj qj) c m)
        (k0_pay283 (k0_pay246 (BitVec.ofNat 32 n)) (k0_pay250 kj qj) c m) l)
      (k0_pay286 (k0_pay279 (k0_pay246 (BitVec.ofNat 32 n)) (k0_pay250 kj qj) c) (k0_pay282 (k0_pay246 (BitVec.ofNat 32 n)) (k0_pay250 kj qj) c m)
        (k0_pay283 (k0_pay246 (BitVec.ofNat 32 n)) (k0_pay250 kj qj) c m) vt a) :=
  tile3 h n hn T.score T.value

end Corner

/-! ## What the scratch buffers hold -/

section Scratch

variable (s : Fin 4 → Fin 512 → ℕ → EReal) (v : Fin 4 → Fin 128 → ℕ → EReal)
  {arg8 arg9 : Memref sig .tc .vmem S4x1x512 .f32} {arg10 : Memref sig .tc .vmem S4x128x512 .f32}

/-- Head `h`'s rows of the three buffers hold its queries' columns over the first `N` keys. -/
def Head (h : Fin 4) (N : ℕ) (f8 : BufTy.Contents (Elt Ideal) arg8.view.ty) (f9 : BufTy.Contents (Elt Ideal) arg9.view.ty)
    (f10 : BufTy.Contents (Elt Ideal) arg10.view.ty) : Prop :=
  ∀ y : Fin 512, Col (s h y) (v h) N (arg8.view.read (Elt Ideal) f8 (ix3 h 0 y)) (arg9.view.read (Elt Ideal) f9 (ix3 h 0 y))
    (fun d => arg10.view.read (Elt Ideal) f10 (ix3 h d y))

/-- The heads before `k` are over the first `N'` keys, the others over the first `N`. -/
def Heads (k N N' : ℕ) (f8 : BufTy.Contents (Elt Ideal) arg8.view.ty) (f9 : BufTy.Contents (Elt Ideal) arg9.view.ty)
    (f10 : BufTy.Contents (Elt Ideal) arg10.view.ty) : Prop :=
  (∀ h : Fin 4, h.val < k → Head s v h N' f8 f9 f10) ∧ ∀ h : Fin 4, k ≤ h.val → Head s v h N f8 f9 f10

/-- The heads before `k` are over the first `N'` keys. -/
def Below (k N' : ℕ) (f8 : BufTy.Contents (Elt Ideal) arg8.view.ty) (f9 : BufTy.Contents (Elt Ideal) arg9.view.ty)
    (f10 : BufTy.Contents (Elt Ideal) arg10.view.ty) : Prop :=
  ∀ h : Fin 4, h.val < k → Head s v h N' f8 f9 f10

variable {s v} {N N' : ℕ} {f8 : BufTy.Contents (Elt Ideal) arg8.view.ty} {f9 : BufTy.Contents (Elt Ideal) arg9.view.ty}
  {f10 : BufTy.Contents (Elt Ideal) arg10.view.ty}
  {L8 : List (View.Piece (Elt Ideal) S4x1x512 .f32)} {L9 : List (View.Piece (Elt Ideal) S4x1x512 .f32)}
  {L10 : List (View.Piece (Elt Ideal) S4x128x512 .f32)}
  {o8 : Fin 3 → Nat} {i8 : ∀ a, o8 a + S1x1x512.size a ≤ S4x1x512.size a}
  {o9 : Fin 3 → Nat} {i9 : ∀ a, o9 a + S1x1x512.size a ≤ S4x1x512.size a}
  {o10 : Fin 3 → Nat} {i10 : ∀ a, o10 a + S1x128x512.size a ≤ S4x128x512.size a}
  {w8 w9 : Vec Ideal S1x1x512 .f32} {w10 : Vec Ideal S1x128x512 .f32}

/-- A head's rows, loaded. -/
theorem Head.load {h : Fin 4} (H : Head s v h N f8 f9 f10) (e8 : o8 = ![h.val, 0, 0]) (e9 : o9 = ![h.val, 0, 0]) (e10 : o10 = ![h.val, 0, 0]) :
    ColV (s h) (v h) N (View.readAt (Elt Ideal) arg8.view (Rect.unit (s := S4x1x512) o8 S1x1x512.size i8).toLoadRect f8)
      (View.readAt (Elt Ideal) arg9.view (Rect.unit (s := S4x1x512) o9 S1x1x512.size i9).toLoadRect f9)
      (View.readAt (Elt Ideal) arg10.view (Rect.unit (s := S4x128x512) o10 S1x128x512.size i10).toLoadRect f10) := by
  subst e8 e9 e10
  intro y
  have q : ∀ i, (Rect.unit (s := S4x1x512) ![h.val, 0, 0] S1x1x512.size i).toLoadRect.idx (ix3 0 0 y) = ix3 h 0 y := fun i =>
    funext fun a => Fin.ext (match a with
      | ⟨0, _⟩ => (by show h.val + 1 * 0 = h.val; omega)
      | ⟨1, _⟩ => rfl
      | ⟨2, _⟩ => (by show 0 + 1 * y.val = y.val; omega))
  have q' : ∀ (d : Fin 128) i, (Rect.unit (s := S4x128x512) ![h.val, 0, 0] S1x128x512.size i).toLoadRect.idx (ix3 0 d y) = ix3 h d y := fun d i =>
    funext fun a => Fin.ext (match a with
      | ⟨0, _⟩ => (by show h.val + 1 * 0 = h.val; omega)
      | ⟨1, _⟩ => (by show 0 + 1 * d.val = d.val; omega)
      | ⟨2, _⟩ => (by show 0 + 1 * y.val = y.val; omega))
  have r := H y
  simp only [View.readAt_apply, q, q']
  exact r

/-- A head's rows, stored. -/
theorem Head.put {h : Fin 4} (C : ColV (s h) (v h) N w8 w9 w10) (e8 : o8 = ![h.val, 0, 0]) (e9 : o9 = ![h.val, 0, 0]) (e10 : o10 = ![h.val, 0, 0]) :
    Head s v h N (arg8.view.writes (Elt Ideal) f8 (⟨Rect.unit (s := S4x1x512) o8 S1x1x512.size i8, w8⟩ :: L8))
      (arg9.view.writes (Elt Ideal) f9 (⟨Rect.unit (s := S4x1x512) o9 S1x1x512.size i9, w9⟩ :: L9))
      (arg10.view.writes (Elt Ideal) f10 (⟨Rect.unit (s := S4x128x512) o10 S1x128x512.size i10, w10⟩ :: L10)) := by
  intro y
  have q8 := View.read_writes_cons_unit_of_mem arg8.view f8 i8 w8 L8 (ix3 h 0 y) (ix3 0 0 y) e8 (fun a => match a with
    | ⟨0, _⟩ => rfl
    | ⟨1, _⟩ => rfl
    | ⟨2, _⟩ => (Nat.zero_add _).symm)
  have q9 := View.read_writes_cons_unit_of_mem arg9.view f9 i9 w9 L9 (ix3 h 0 y) (ix3 0 0 y) e9 (fun a => match a with
    | ⟨0, _⟩ => rfl
    | ⟨1, _⟩ => rfl
    | ⟨2, _⟩ => (Nat.zero_add _).symm)
  have q10 := fun d : Fin 128 => View.read_writes_cons_unit_of_mem arg10.view f10 i10 w10 L10 (ix3 h d y) (ix3 0 d y) e10 (fun a => match a with
    | ⟨0, _⟩ => rfl
    | ⟨1, _⟩ => (Nat.zero_add _).symm
    | ⟨2, _⟩ => (Nat.zero_add _).symm)
  rw [q8, q9, funext q10]
  exact C y

/-- Storing another head's rows leaves this head's. -/
theorem Head.keep {h k : Fin 4} (hk : h ≠ k) (H : Head s v h N (arg8.view.writes (Elt Ideal) f8 L8) (arg9.view.writes (Elt Ideal) f9 L9) (arg10.view.writes (Elt Ideal) f10 L10))
    (e8 : o8 = ![k.val, 0, 0]) (e9 : o9 = ![k.val, 0, 0]) (e10 : o10 = ![k.val, 0, 0]) :
    Head s v h N (arg8.view.writes (Elt Ideal) f8 (⟨Rect.unit (s := S4x1x512) o8 S1x1x512.size i8, w8⟩ :: L8))
      (arg9.view.writes (Elt Ideal) f9 (⟨Rect.unit (s := S4x1x512) o9 S1x1x512.size i9, w9⟩ :: L9))
      (arg10.view.writes (Elt Ideal) f10 (⟨Rect.unit (s := S4x128x512) o10 S1x128x512.size i10, w10⟩ :: L10)) := by
  have hv : h.val < k.val ∨ k.val + 1 ≤ h.val := by
    rcases Nat.lt_or_gt_of_ne (fun e => hk (Fin.ext e)) with q | q
    · exact .inl q
    · exact .inr q
  intro y
  have q8 := View.read_writes_cons_unit_of_not_mem arg8.view f8 i8 w8 L8 (ix3 h 0 y) e8 0 hv
  have q9 := View.read_writes_cons_unit_of_not_mem arg9.view f9 i9 w9 L9 (ix3 h 0 y) e9 0 hv
  have q10 := fun d : Fin 128 => View.read_writes_cons_unit_of_not_mem arg10.view f10 i10 w10 L10 (ix3 h d y) e10 0 hv
  rw [q8, q9, funext q10]
  exact H y

theorem Heads.next {N'' : ℕ} (H : Heads s v 4 N N' f8 f9 f10) : Heads s v 0 N' N'' f8 f9 f10 :=
  ⟨fun h q => absurd q (Nat.not_lt_zero _), fun h _ => H.1 h h.isLt⟩

theorem Below.next {N'' : ℕ} (H : Below s v 4 N' f8 f9 f10) : Heads s v 0 N' N'' f8 f9 f10 :=
  ⟨fun h q => absurd q (Nat.not_lt_zero _), fun h _ => H h h.isLt⟩

theorem Below.put (k : Fin 4) (C : ColV (s k) (v k) N' w8 w9 w10)
    (H : Below s v k.val N' (arg8.view.writes (Elt Ideal) f8 L8) (arg9.view.writes (Elt Ideal) f9 L9) (arg10.view.writes (Elt Ideal) f10 L10))
    (e8 : o8 = ![k.val, 0, 0]) (e9 : o9 = ![k.val, 0, 0]) (e10 : o10 = ![k.val, 0, 0]) :
    Below s v (k.val + 1) N' (arg8.view.writes (Elt Ideal) f8 (⟨Rect.unit (s := S4x1x512) o8 S1x1x512.size i8, w8⟩ :: L8))
      (arg9.view.writes (Elt Ideal) f9 (⟨Rect.unit (s := S4x1x512) o9 S1x1x512.size i9, w9⟩ :: L9))
      (arg10.view.writes (Elt Ideal) f10 (⟨Rect.unit (s := S4x128x512) o10 S1x128x512.size i10, w10⟩ :: L10)) := by
  intro h q
  by_cases e : h = k
  · subst e
    exact Head.put C e8 e9 e10
  · exact Head.keep e (H h (by have := fun r => e (Fin.ext r); omega)) e8 e9 e10

theorem Heads.put (k : Fin 4) (C : ColV (s k) (v k) N' w8 w9 w10)
    (H : Heads s v k.val N N' (arg8.view.writes (Elt Ideal) f8 L8) (arg9.view.writes (Elt Ideal) f9 L9) (arg10.view.writes (Elt Ideal) f10 L10))
    (e8 : o8 = ![k.val, 0, 0]) (e9 : o9 = ![k.val, 0, 0]) (e10 : o10 = ![k.val, 0, 0]) :
    Heads s v (k.val + 1) N N' (arg8.view.writes (Elt Ideal) f8 (⟨Rect.unit (s := S4x1x512) o8 S1x1x512.size i8, w8⟩ :: L8))
      (arg9.view.writes (Elt Ideal) f9 (⟨Rect.unit (s := S4x1x512) o9 S1x1x512.size i9, w9⟩ :: L9))
      (arg10.view.writes (Elt Ideal) f10 (⟨Rect.unit (s := S4x128x512) o10 S1x128x512.size i10, w10⟩ :: L10)) :=
  ⟨Below.put k C H.1 e8 e9 e10, fun h q => Head.keep (fun e => by subst e; omega) (H.2 h (by omega)) e8 e9 e10⟩

/-- A head loads its rows, computes and stores them. -/
theorem Heads.chain (k : Fin 4) {p8 : Fin 3 → Nat} {j8 : ∀ a, p8 a + S1x1x512.size a ≤ S4x1x512.size a}
    {p9 : Fin 3 → Nat} {j9 : ∀ a, p9 a + S1x1x512.size a ≤ S4x1x512.size a}
    {p10 : Fin 3 → Nat} {j10 : ∀ a, p10 a + S1x128x512.size a ≤ S4x128x512.size a}
    (H : Heads s v k.val N N' (arg8.view.writes (Elt Ideal) f8 L8) (arg9.view.writes (Elt Ideal) f9 L9) (arg10.view.writes (Elt Ideal) f10 L10))
    (C : ColV (s k) (v k) N (View.readAt (Elt Ideal) arg8.view (Rect.unit (s := S4x1x512) p8 S1x1x512.size j8).toLoadRect (arg8.view.writes (Elt Ideal) f8 L8))
      (View.readAt (Elt Ideal) arg9.view (Rect.unit (s := S4x1x512) p9 S1x1x512.size j9).toLoadRect (arg9.view.writes (Elt Ideal) f9 L9))
      (View.readAt (Elt Ideal) arg10.view (Rect.unit (s := S4x128x512) p10 S1x128x512.size j10).toLoadRect (arg10.view.writes (Elt Ideal) f10 L10)) →
        ColV (s k) (v k) N' w8 w9 w10)
    (e8 : o8 = ![k.val, 0, 0]) (e9 : o9 = ![k.val, 0, 0]) (e10 : o10 = ![k.val, 0, 0])
    (d8 : p8 = ![k.val, 0, 0]) (d9 : p9 = ![k.val, 0, 0]) (d10 : p10 = ![k.val, 0, 0]) :
    Heads s v (k.val + 1) N N' (arg8.view.writes (Elt Ideal) f8 (⟨Rect.unit (s := S4x1x512) o8 S1x1x512.size i8, w8⟩ :: L8))
      (arg9.view.writes (Elt Ideal) f9 (⟨Rect.unit (s := S4x1x512) o9 S1x1x512.size i9, w9⟩ :: L9))
      (arg10.view.writes (Elt Ideal) f10 (⟨Rect.unit (s := S4x128x512) o10 S1x128x512.size i10, w10⟩ :: L10)) :=
  Heads.put k (C ((H.2 k le_rfl).load d8 d9 d10)) H e8 e9 e10

/-- The heads before `k` are over the first `N'` keys both in the buffers as first filled with anything and in the
    buffers as a trip found them; the others, in the first, over the first `N`: a head's step keeps this. -/
theorem Both.chain (k : Fin 4) {g8 : BufTy.Contents (Elt Ideal) arg8.view.ty} {g9 : BufTy.Contents (Elt Ideal) arg9.view.ty}
    {g10 : BufTy.Contents (Elt Ideal) arg10.view.ty}
    {p8 : Fin 3 → Nat} {j8 : ∀ a, p8 a + S1x1x512.size a ≤ S4x1x512.size a}
    {p9 : Fin 3 → Nat} {j9 : ∀ a, p9 a + S1x1x512.size a ≤ S4x1x512.size a}
    {p10 : Fin 3 → Nat} {j10 : ∀ a, p10 a + S1x128x512.size a ≤ S4x128x512.size a}
    (H : Heads s v k.val N N' (arg8.view.writes (Elt Ideal) f8 L8) (arg9.view.writes (Elt Ideal) f9 L9) (arg10.view.writes (Elt Ideal) f10 L10)
      ∧ Below s v k.val N' (arg8.view.writes (Elt Ideal) g8 L8) (arg9.view.writes (Elt Ideal) g9 L9) (arg10.view.writes (Elt Ideal) g10 L10))
    (C : ColV (s k) (v k) N (View.readAt (Elt Ideal) arg8.view (Rect.unit (s := S4x1x512) p8 S1x1x512.size j8).toLoadRect (arg8.view.writes (Elt Ideal) f8 L8))
      (View.readAt (Elt Ideal) arg9.view (Rect.unit (s := S4x1x512) p9 S1x1x512.size j9).toLoadRect (arg9.view.writes (Elt Ideal) f9 L9))
      (View.readAt (Elt Ideal) arg10.view (Rect.unit (s := S4x128x512) p10 S1x128x512.size j10).toLoadRect (arg10.view.writes (Elt Ideal) f10 L10)) →
        ColV (s k) (v k) N' w8 w9 w10)
    (e8 : o8 = ![k.val, 0, 0]) (e9 : o9 = ![k.val, 0, 0]) (e10 : o10 = ![k.val, 0, 0])
    (d8 : p8 = ![k.val, 0, 0]) (d9 : p9 = ![k.val, 0, 0]) (d10 : p10 = ![k.val, 0, 0]) :
    Heads s v (k.val + 1) N N' (arg8.view.writes (Elt Ideal) f8 (⟨Rect.unit (s := S4x1x512) o8 S1x1x512.size i8, w8⟩ :: L8))
      (arg9.view.writes (Elt Ideal) f9 (⟨Rect.unit (s := S4x1x512) o9 S1x1x512.size i9, w9⟩ :: L9))
      (arg10.view.writes (Elt Ideal) f10 (⟨Rect.unit (s := S4x128x512) o10 S1x128x512.size i10, w10⟩ :: L10))
    ∧ Below s v (k.val + 1) N' (arg8.view.writes (Elt Ideal) g8 (⟨Rect.unit (s := S4x1x512) o8 S1x1x512.size i8, w8⟩ :: L8))
      (arg9.view.writes (Elt Ideal) g9 (⟨Rect.unit (s := S4x1x512) o9 S1x1x512.size i9, w9⟩ :: L9))
      (arg10.view.writes (Elt Ideal) g10 (⟨Rect.unit (s := S4x128x512) o10 S1x128x512.size i10, w10⟩ :: L10)) :=
  ⟨Heads.chain k H.1 C e8 e9 e10 d8 d9 d10, Below.put k (C ((H.1.2 k le_rfl).load d8 d9 d10)) H.2 e8 e9 e10⟩

/-- The last head of a trip's second tile. -/
theorem Both.last (k : Fin 4) {g8 : BufTy.Contents (Elt Ideal) arg8.view.ty} {g9 : BufTy.Contents (Elt Ideal) arg9.view.ty}
    {g10 : BufTy.Contents (Elt Ideal) arg10.view.ty}
    {p8 : Fin 3 → Nat} {j8 : ∀ a, p8 a + S1x1x512.size a ≤ S4x1x512.size a}
    {p9 : Fin 3 → Nat} {j9 : ∀ a, p9 a + S1x1x512.size a ≤ S4x1x512.size a}
    {p10 : Fin 3 → Nat} {j10 : ∀ a, p10 a + S1x128x512.size a ≤ S4x128x512.size a}
    (H : Heads s v k.val N N' (arg8.view.writes (Elt Ideal) f8 L8) (arg9.view.writes (Elt Ideal) f9 L9) (arg10.view.writes (Elt Ideal) f10 L10)
      ∧ Below s v k.val N' (arg8.view.writes (Elt Ideal) g8 L8) (arg9.view.writes (Elt Ideal) g9 L9) (arg10.view.writes (Elt Ideal) g10 L10))
    (C : ColV (s k) (v k) N (View.readAt (Elt Ideal) arg8.view (Rect.unit (s := S4x1x512) p8 S1x1x512.size j8).toLoadRect (arg8.view.writes (Elt Ideal) f8 L8))
      (View.readAt (Elt Ideal) arg9.view (Rect.unit (s := S4x1x512) p9 S1x1x512.size j9).toLoadRect (arg9.view.writes (Elt Ideal) f9 L9))
      (View.readAt (Elt Ideal) arg10.view (Rect.unit (s := S4x128x512) p10 S1x128x512.size j10).toLoadRect (arg10.view.writes (Elt Ideal) f10 L10)) →
        ColV (s k) (v k) N' w8 w9 w10)
    (e8 : o8 = ![k.val, 0, 0]) (e9 : o9 = ![k.val, 0, 0]) (e10 : o10 = ![k.val, 0, 0])
    (d8 : p8 = ![k.val, 0, 0]) (d9 : p9 = ![k.val, 0, 0]) (d10 : p10 = ![k.val, 0, 0]) :
    Below s v (k.val + 1) N' (arg8.view.writes (Elt Ideal) g8 (⟨Rect.unit (s := S4x1x512) o8 S1x1x512.size i8, w8⟩ :: L8))
      (arg9.view.writes (Elt Ideal) g9 (⟨Rect.unit (s := S4x1x512) o9 S1x1x512.size i9, w9⟩ :: L9))
      (arg10.view.writes (Elt Ideal) g10 (⟨Rect.unit (s := S4x128x512) o10 S1x128x512.size i10, w10⟩ :: L10)) :=
  (Both.chain k H C e8 e9 e10 d8 d9 d10).2

/-! ## The second half of the diagonal: the last 256 columns of a head's rows -/

/-- One of the last 256 queries. -/
def hi (y : Fin 256) : Fin 512 := ⟨256 + y.val, by omega⟩

variable {h8 : ∀ a, o8 a + S1x1x256.size a ≤ S4x1x512.size a} {h9 : ∀ a, o9 a + S1x1x256.size a ≤ S4x1x512.size a}
  {h10 : ∀ a, o10 a + S1x128x256.size a ≤ S4x128x512.size a} {u8 u9 : Vec Ideal S1x1x256 .f32} {u10 : Vec Ideal S1x128x256 .f32}

theorem Head.loadHalf {h : Fin 4} (H : Head s v h N f8 f9 f10) (e8 : o8 = ![h.val, 0, 256]) (e9 : o9 = ![h.val, 0, 256]) (e10 : o10 = ![h.val, 0, 256]) :
    ColW (fun y => s h (hi y)) (v h) N (View.readAt (Elt Ideal) arg8.view (Rect.unit (s := S4x1x512) o8 S1x1x256.size h8).toLoadRect f8)
      (View.readAt (Elt Ideal) arg9.view (Rect.unit (s := S4x1x512) o9 S1x1x256.size h9).toLoadRect f9)
      (View.readAt (Elt Ideal) arg10.view (Rect.unit (s := S4x128x512) o10 S1x128x256.size h10).toLoadRect f10) := by
  subst e8 e9 e10
  intro y
  have q : ∀ i, (Rect.unit (s := S4x1x512) ![h.val, 0, 256] S1x1x256.size i).toLoadRect.idx (ix3 0 0 y) = ix3 h 0 (hi y) := fun i =>
    funext fun a => Fin.ext (match a with
      | ⟨0, _⟩ => (by show h.val + 1 * 0 = h.val; omega)
      | ⟨1, _⟩ => rfl
      | ⟨2, _⟩ => (by show 256 + 1 * y.val = 256 + y.val; omega))
  have q' : ∀ (d : Fin 128) i, (Rect.unit (s := S4x128x512) ![h.val, 0, 256] S1x128x256.size i).toLoadRect.idx (ix3 0 d y) = ix3 h d (hi y) := fun d i =>
    funext fun a => Fin.ext (match a with
      | ⟨0, _⟩ => (by show h.val + 1 * 0 = h.val; omega)
      | ⟨1, _⟩ => (by show 0 + 1 * d.val = d.val; omega)
      | ⟨2, _⟩ => (by show 256 + 1 * y.val = 256 + y.val; omega))
  have r := H (hi y)
  simp only [View.readAt_apply, q, q']
  exact r

theorem Head.putHalf {h : Fin 4} (H : Head s v h N (arg8.view.writes (Elt Ideal) f8 L8) (arg9.view.writes (Elt Ideal) f9 L9) (arg10.view.writes (Elt Ideal) f10 L10))
    (low : ∀ y : Fin 512, y.val < 256 → ∀ n, N ≤ n → s h y n = ⊥)
    (C : ColW (fun y => s h (hi y)) (v h) (N + 256) u8 u9 u10) (e8 : o8 = ![h.val, 0, 256]) (e9 : o9 = ![h.val, 0, 256]) (e10 : o10 = ![h.val, 0, 256]) :
    Head s v h (N + 256) (arg8.view.writes (Elt Ideal) f8 (⟨Rect.unit (s := S4x1x512) o8 S1x1x256.size h8, u8⟩ :: L8))
      (arg9.view.writes (Elt Ideal) f9 (⟨Rect.unit (s := S4x1x512) o9 S1x1x256.size h9, u9⟩ :: L9))
      (arg10.view.writes (Elt Ideal) f10 (⟨Rect.unit (s := S4x128x512) o10 S1x128x256.size h10, u10⟩ :: L10)) := by
  intro y
  by_cases hy : y.val < 256
  · have q8 := View.read_writes_cons_unit_of_not_mem arg8.view f8 h8 u8 L8 (ix3 h 0 y) e8 2 (.inl hy)
    have q9 := View.read_writes_cons_unit_of_not_mem arg9.view f9 h9 u9 L9 (ix3 h 0 y) e9 2 (.inl hy)
    have q10 := fun d : Fin 128 => View.read_writes_cons_unit_of_not_mem arg10.view f10 h10 u10 L10 (ix3 h d y) e10 2 (.inl hy)
    rw [q8, q9, funext q10]
    exact (H y).skip 256 (low y hy)
  · obtain ⟨z, rfl⟩ : ∃ z : Fin 256, y = hi z := ⟨⟨y.val - 256, by omega⟩, Fin.ext (by show y.val = 256 + (y.val - 256); omega)⟩
    have q8 := View.read_writes_cons_unit_of_mem arg8.view f8 h8 u8 L8 (ix3 h 0 (hi z)) (ix3 0 0 z) e8 (fun a => match a with
      | ⟨0, _⟩ => rfl
      | ⟨1, _⟩ => rfl
      | ⟨2, _⟩ => rfl)
    have q9 := View.read_writes_cons_unit_of_mem arg9.view f9 h9 u9 L9 (ix3 h 0 (hi z)) (ix3 0 0 z) e9 (fun a => match a with
      | ⟨0, _⟩ => rfl
      | ⟨1, _⟩ => rfl
      | ⟨2, _⟩ => rfl)
    have q10 := fun d : Fin 128 => View.read_writes_cons_unit_of_mem arg10.view f10 h10 u10 L10 (ix3 h d (hi z)) (ix3 0 d z) e10 (fun a => match a with
      | ⟨0, _⟩ => rfl
      | ⟨1, _⟩ => (Nat.zero_add _).symm
      | ⟨2, _⟩ => rfl)
    rw [q8, q9, funext q10]
    exact C z

theorem Head.keepHalf {h k : Fin 4} (hk : h ≠ k) (H : Head s v h N (arg8.view.writes (Elt Ideal) f8 L8) (arg9.view.writes (Elt Ideal) f9 L9) (arg10.view.writes (Elt Ideal) f10 L10))
    (e8 : o8 = ![k.val, 0, 256]) (e9 : o9 = ![k.val, 0, 256]) (e10 : o10 = ![k.val, 0, 256]) :
    Head s v h N (arg8.view.writes (Elt Ideal) f8 (⟨Rect.unit (s := S4x1x512) o8 S1x1x256.size h8, u8⟩ :: L8))
      (arg9.view.writes (Elt Ideal) f9 (⟨Rect.unit (s := S4x1x512) o9 S1x1x256.size h9, u9⟩ :: L9))
      (arg10.view.writes (Elt Ideal) f10 (⟨Rect.unit (s := S4x128x512) o10 S1x128x256.size h10, u10⟩ :: L10)) := by
  have hv : h.val < k.val ∨ k.val + 1 ≤ h.val := by
    rcases Nat.lt_or_gt_of_ne (fun e => hk (Fin.ext e)) with q | q
    · exact .inl q
    · exact .inr q
  intro y
  have q8 := View.read_writes_cons_unit_of_not_mem arg8.view f8 h8 u8 L8 (ix3 h 0 y) e8 0 hv
  have q9 := View.read_writes_cons_unit_of_not_mem arg9.view f9 h9 u9 L9 (ix3 h 0 y) e9 0 hv
  have q10 := fun d : Fin 128 => View.read_writes_cons_unit_of_not_mem arg10.view f10 h10 u10 L10 (ix3 h d y) e10 0 hv
  rw [q8, q9, funext q10]
  exact H y

/-- A head loads the last columns of its rows, computes and stores them; its first columns see no key from `N` on. -/
theorem Heads.chainHalf (k : Fin 4) {p8 : Fin 3 → Nat} {j8 : ∀ a, p8 a + S1x1x256.size a ≤ S4x1x512.size a}
    {p9 : Fin 3 → Nat} {j9 : ∀ a, p9 a + S1x1x256.size a ≤ S4x1x512.size a}
    {p10 : Fin 3 → Nat} {j10 : ∀ a, p10 a + S1x128x256.size a ≤ S4x128x512.size a}
    (low : ∀ y : Fin 512, y.val < 256 → ∀ n, N ≤ n → s k y n = ⊥)
    (H : Heads s v k.val N (N + 256) (arg8.view.writes (Elt Ideal) f8 L8) (arg9.view.writes (Elt Ideal) f9 L9) (arg10.view.writes (Elt Ideal) f10 L10))
    (C : ColW (fun y => s k (hi y)) (v k) N (View.readAt (Elt Ideal) arg8.view (Rect.unit (s := S4x1x512) p8 S1x1x256.size j8).toLoadRect (arg8.view.writes (Elt Ideal) f8 L8))
      (View.readAt (Elt Ideal) arg9.view (Rect.unit (s := S4x1x512) p9 S1x1x256.size j9).toLoadRect (arg9.view.writes (Elt Ideal) f9 L9))
      (View.readAt (Elt Ideal) arg10.view (Rect.unit (s := S4x128x512) p10 S1x128x256.size j10).toLoadRect (arg10.view.writes (Elt Ideal) f10 L10)) →
        ColW (fun y => s k (hi y)) (v k) (N + 256) u8 u9 u10)
    (e8 : o8 = ![k.val, 0, 256]) (e9 : o9 = ![k.val, 0, 256]) (e10 : o10 = ![k.val, 0, 256])
    (d8 : p8 = ![k.val, 0, 256]) (d9 : p9 = ![k.val, 0, 256]) (d10 : p10 = ![k.val, 0, 256]) :
    Heads s v (k.val + 1) N (N + 256) (arg8.view.writes (Elt Ideal) f8 (⟨Rect.unit (s := S4x1x512) o8 S1x1x256.size h8, u8⟩ :: L8))
      (arg9.view.writes (Elt Ideal) f9 (⟨Rect.unit (s := S4x1x512) o9 S1x1x256.size h9, u9⟩ :: L9))
      (arg10.view.writes (Elt Ideal) f10 (⟨Rect.unit (s := S4x128x512) o10 S1x128x256.size h10, u10⟩ :: L10)) := by
  refine ⟨fun h q => ?_, fun h q => Head.keepHalf (fun e => by subst e; omega) (H.2 h (by omega)) e8 e9 e10⟩
  by_cases e : h = k
  · subst e
    exact Head.putHalf (H.2 h le_rfl) low (C ((H.2 h le_rfl).loadHalf d8 d9 d10)) e8 e9 e10
  · exact Head.keepHalf e (H.1 h (by have := fun r => e (Fin.ext r); omega)) e8 e9 e10

/-- The sums and weighted sums of the four heads over the first `N` keys, whatever the maxima. -/
def Done (s : Fin 4 → Fin 512 → ℕ → EReal) (v : Fin 4 → Fin 128 → ℕ → EReal) (N : ℕ) (f9 : BufTy.Contents (Elt Ideal) arg9.view.ty)
    (f10 : BufTy.Contents (Elt Ideal) arg10.view.ty) : Prop :=
  ∀ (h : Fin 4) (y : Fin 512), ∃ m, Col (s h y) (v h) N m (arg9.view.read (Elt Ideal) f9 (ix3 h 0 y)) (fun d => arg10.view.read (Elt Ideal) f10 (ix3 h d y))

theorem Heads.done (H : Heads s v 4 N N' f8 f9 f10) : Done s v N' f9 f10 := fun h y => ⟨_, H.1 h h.isLt y⟩

/-- The last head's last step; the maximum it would store is not read again. -/
theorem Done.last {k : Fin 4} (hk : k.val = 3) {p8 : Fin 3 → Nat} {j8 : ∀ a, p8 a + S1x1x256.size a ≤ S4x1x512.size a}
    {p9 : Fin 3 → Nat} {j9 : ∀ a, p9 a + S1x1x256.size a ≤ S4x1x512.size a}
    {p10 : Fin 3 → Nat} {j10 : ∀ a, p10 a + S1x128x256.size a ≤ S4x128x512.size a}
    (low : ∀ y : Fin 512, y.val < 256 → ∀ n, N ≤ n → s k y n = ⊥)
    (H : Heads s v k.val N (N + 256) (arg8.view.writes (Elt Ideal) f8 L8) (arg9.view.writes (Elt Ideal) f9 L9) (arg10.view.writes (Elt Ideal) f10 L10))
    (C : ColW (fun y => s k (hi y)) (v k) N (View.readAt (Elt Ideal) arg8.view (Rect.unit (s := S4x1x512) p8 S1x1x256.size j8).toLoadRect (arg8.view.writes (Elt Ideal) f8 L8))
      (View.readAt (Elt Ideal) arg9.view (Rect.unit (s := S4x1x512) p9 S1x1x256.size j9).toLoadRect (arg9.view.writes (Elt Ideal) f9 L9))
      (View.readAt (Elt Ideal) arg10.view (Rect.unit (s := S4x128x512) p10 S1x128x256.size j10).toLoadRect (arg10.view.writes (Elt Ideal) f10 L10)) →
        ColW (fun y => s k (hi y)) (v k) (N + 256) u8 u9 u10)
    (e9 : o9 = ![k.val, 0, 256]) (e10 : o10 = ![k.val, 0, 256])
    (d8 : p8 = ![k.val, 0, 256]) (d9 : p9 = ![k.val, 0, 256]) (d10 : p10 = ![k.val, 0, 256]) :
    Done s v (N + 256) (arg9.view.writes (Elt Ideal) f9 (⟨Rect.unit (s := S4x1x512) o9 S1x1x256.size h9, u9⟩ :: L9))
      (arg10.view.writes (Elt Ideal) f10 (⟨Rect.unit (s := S4x128x512) o10 S1x128x256.size h10, u10⟩ :: L10)) := by
  have r := Heads.chainHalf (o8 := p8) (h8 := j8) (h9 := h9) (h10 := h10) k low H C d8 e9 e10 d8 d9 d10
  rw [hk] at r
  exact r.done

/-- What a head's output columns divide. -/
theorem Done.out {b9 : ∀ a, o9 a + S1x1x512.size a ≤ S4x1x512.size a} {b10 : ∀ a, o10 a + S1x128x512.size a ≤ S4x128x512.size a}
    (D : Done s v N f9 f10) (h : Fin 4) (e9 : o9 = ![h.val, 0, 0]) (e10 : o10 = ![h.val, 0, 0]) (y : Fin 512) :
    ∃ m l a, Col (s h y) (v h) N m l a ∧ ∀ d : Fin 128,
      k0_pay290 (F := Ideal) (View.readAt (Elt Ideal) arg10.view (Rect.unit (s := S4x128x512) o10 S1x128x512.size b10).toLoadRect f10)
        (View.readAt (Elt Ideal) arg9.view (Rect.unit (s := S4x1x512) o9 S1x1x512.size b9).toLoadRect f9) (ix2 y d) = Ideal.div (a d) l := by
  subst e9 e10
  obtain ⟨m, c⟩ := D h y
  refine ⟨m, _, _, c, fun d => (out_apply _ _ y d).trans ?_⟩
  have q : (Rect.unit (s := S4x1x512) ![h.val, 0, 0] S1x1x512.size b9).toLoadRect.idx (ix3 0 0 y) = ix3 h 0 y :=
    funext fun a => Fin.ext (match a with
      | ⟨0, _⟩ => (by show h.val + 1 * 0 = h.val; omega)
      | ⟨1, _⟩ => rfl
      | ⟨2, _⟩ => (by show 0 + 1 * y.val = y.val; omega))
  have q' : (Rect.unit (s := S4x128x512) ![h.val, 0, 0] S1x128x512.size b10).toLoadRect.idx (ix3 0 d y) = ix3 h d y :=
    funext fun a => Fin.ext (match a with
      | ⟨0, _⟩ => (by show h.val + 1 * 0 = h.val; omega)
      | ⟨1, _⟩ => (by show 0 + 1 * d.val = d.val; omega)
      | ⟨2, _⟩ => (by show 0 + 1 * y.val = y.val; omega))
  simp only [View.readAt_apply, q, q']

/-- What the buffers hold before the first key. -/
theorem Heads.start {i8 : ∀ a, (![0, 0, 0] : Fin 3 → Nat) a + S4x1x512.size a ≤ S4x1x512.size a}
    {i9 : ∀ a, (![0, 0, 0] : Fin 3 → Nat) a + S4x1x512.size a ≤ S4x1x512.size a} {i10 : ∀ a, (![0, 0, 0] : Fin 3 → Nat) a + S4x128x512.size a ≤ S4x128x512.size a} : Heads s v 0 0 N' (arg8.view.writes (Elt Ideal) f8 [⟨Rect.unit ![0, 0, 0] S4x1x512.size i8, k0_pay195 (F := Ideal)⟩])
    (arg9.view.writes (Elt Ideal) f9 [⟨Rect.unit ![0, 0, 0] S4x1x512.size i9, k0_pay196 (F := Ideal)⟩])
    (arg10.view.writes (Elt Ideal) f10 [⟨Rect.unit ![0, 0, 0] S4x128x512.size i10, k0_pay197 (F := Ideal)⟩]) := by
  have z : (![0, 0, 0] : Fin 3 → Nat) = fun _ => 0 := by funext a; fin_cases a <;> rfl
  refine ⟨fun h q => absurd q (Nat.not_lt_zero _), fun h _ y => ?_⟩
  rw [read_store_whole arg8.view f8 z, read_store_whole arg9.view f9 z, read_store_whole arg10.view f10 z]
  have e8 : (k0_pay195 (F := Ideal)) (ix3 h 0 y) = ⊥ := word_bot
  have e9 : (k0_pay196 (F := Ideal)) (ix3 h 0 y) = 0 := Ideal.ofBits_zero_f32
  have e10 : ∀ d, (k0_pay197 (F := Ideal)) (ix3 h d y) = 0 := fun _ => Ideal.ofBits_zero_f32
  rw [e8, e9, funext e10]
  exact Col.start _ _

end Scratch

end Cert.FoxHeads

end
-- ==== Proof.FoxTrip.lean ====
/-
  What one grid point of the attention reads — the scores and values of its keys — and one trip of its loop over the
  keys before the diagonal: 1024 keys more.
-/
module

public import proofs.«01_k».proof.Proof.FoxHeads
public import proofs.«01_k».proof.Proof.Gen.FoxIdeal.Loops

@[expose] public section

set_option maxRecDepth 16384

noncomputable section

namespace Cert.FoxTrip

open Idealize.ShloMosaic Idealize.ShloMosaic.TcCoe Idealize.ShloMosaic.Tactic
open Cert.FoxIdeal Cert.FoxIdeal.Gen Cert.FoxMath Cert.Blocks Cert.FoxTile Cert.FoxHeads

/-- A key's row. -/
def key (n : ℕ) : Fin 4096 := ⟨n % 4096, Nat.mod_lt _ (by decide)⟩

/-- A head's column. -/
def col (h : Fin 4) (e : Fin 128) : Fin 512 := ⟨128 * h.val + e.val, by omega⟩

/-- The score of query `y` and key `n`: nothing for a key after the query, which is row `512 p + y` of the sequence. -/
def sc (p : ℕ) (x0 : Vec Ideal S512x512 .bf16) (x1 : Vec Ideal S4096x512 .bf16) (x3 : Vec Ideal S4x4096x128 .f32) (h : Fin 4) (y : Fin 512) (n : ℕ) : EReal :=
  if n ≤ 512 * p + y.val then (∑ e : Fin 128, x1 (ix2 (key n) (col h e)) * x0 (ix2 y (col h e))) - x3 (ix3 h (key n) (lane y.val)) else ⊥

/-- The value of key `n`. -/
def va (x2 : Vec Ideal S512x4096 .bf16) (h : Fin 4) (d : Fin 128) (n : ℕ) : EReal := x2 (ix2 (col h d) (key n))

theorem load2 {M N m n : Nat} {e : EltTy} {R : Memref sig .tc .vmem ⟨2, ![M, N]⟩ e} (h : R.IsWhole) {o : Fin 2 → Nat}
    {i : ∀ a, o a + (⟨2, ![m, n]⟩ : Shape).size a ≤ (⟨2, ![M, N]⟩ : Shape).size a} {X : (⟨2, ![M, N]⟩ : Shape).Idx → Elt Ideal e}
    (r : Fin m) (c : Fin n) (R' : Fin M) (C : Fin N) (hr : R'.val = o 0 + r.val) (hc : C.val = o 1 + c.val) :
    View.readAt (Elt Ideal) R.view (Rect.unit (s := ⟨2, ![M, N]⟩) o (⟨2, ![m, n]⟩ : Shape).size i).toLoadRect (h.unread X) (ix2 r c) = X (ix2 R' C) :=
  (congrFun (readAt_cut h o i X) _).trans (cut_at o i X r c R' C hr hc)

theorem load3 {A M N m n : Nat} {e : EltTy} {R : Memref sig .tc .vmem ⟨3, ![A, M, N]⟩ e} (h : R.IsWhole) {o : Fin 3 → Nat}
    {i : ∀ a, o a + (⟨3, ![1, m, n]⟩ : Shape).size a ≤ (⟨3, ![A, M, N]⟩ : Shape).size a} {X : (⟨3, ![A, M, N]⟩ : Shape).Idx → Elt Ideal e}
    (r : Fin m) (c : Fin n) (A' : Fin A) (R' : Fin M) (C : Fin N) (ha : A'.val = o 0) (hr : R'.val = o 1 + r.val) (hc : C.val = o 2 + c.val) :
    View.readAt (Elt Ideal) R.view (Rect.unit (s := ⟨3, ![A, M, N]⟩) o (⟨3, ![1, m, n]⟩ : Shape).size i).toLoadRect (h.unread X) (ix3 0 r c) = X (ix3 A' R' C) := by
  refine (h.readAt_unread X _ _).trans (congrArg X (funext fun a => Fin.ext ?_))
  exact match a with
    | ⟨0, _⟩ => (by show o 0 + 1 * 0 = A'.val; omega)
    | ⟨1, _⟩ => (by show o 1 + 1 * r.val = R'.val; omega)
    | ⟨2, _⟩ => (by show o 2 + 1 * c.val = C.val; omega)

section Facts

variable {arg3 : Memref sig .tc .vmem S512x512 .bf16} (harg3 : arg3.IsWhole) {arg4 : Memref sig .tc .vmem S4096x512 .bf16} (harg4 : arg4.IsWhole)
  {arg5 : Memref sig .tc .vmem S512x4096 .bf16} (harg5 : arg5.IsWhole) {arg6 : Memref sig .tc .vmem S4x4096x128 .f32} (harg6 : arg6.IsWhole)
  {x0 : Vec Ideal S512x512 .bf16} {x1 : Vec Ideal S4096x512 .bf16} {x2 : Vec Ideal S512x4096 .bf16} {x3 : Vec Ideal S4x4096x128 .f32}
  {p N : ℕ} {ok oq ov : Fin 2 → Nat} {oc : Fin 3 → Nat}

theorem tile1_of {W : ℕ} (h : Fin 4) (hW : W = N) (hN : N + 512 ≤ 512 * p) (hp : p < 8)
    {ik : ∀ a, ok a + S512x128.size a ≤ S4096x512.size a} {iq : ∀ a, oq a + S512x128.size a ≤ S512x512.size a}
    {ic : ∀ a, oc a + S1x512x128.size a ≤ S4x4096x128.size a} {iv : ∀ a, ov a + S128x512.size a ≤ S512x4096.size a}
    (hk : ok = ![W, 128 * h.val]) (hq : oq = ![0, 128 * h.val]) (hc : oc = ![h.val, W, 0]) (hv : ov = ![128 * h.val, W]) :
    Tile1 (sc p x0 x1 x3 h) (va x2 h) N
      (View.readAt (Elt Ideal) arg4.view (Rect.unit (s := S4096x512) ok S512x128.size ik).toLoadRect (harg4.unread x1))
      (View.readAt (Elt Ideal) arg3.view (Rect.unit (s := S512x512) oq S512x128.size iq).toLoadRect (harg3.unread x0))
      (View.readAt (Elt Ideal) arg6.view (Rect.unit (s := S4x4096x128) oc S1x512x128.size ic).toLoadRect (harg6.unread x3))
      (View.readAt (Elt Ideal) arg5.view (Rect.unit (s := S512x4096) ov S128x512.size iv).toLoadRect (harg5.unread x2)) := by
  subst hW hk hq hc hv
  have k : ∀ j : Fin 512, (key (W + j.val)).val = W + j.val := fun j => Nat.mod_eq_of_lt (by omega)
  refine ⟨fun j y => ?_, fun d j => ?_⟩
  · rw [sc, if_pos (by omega)]
    refine congrArg₂ (· - ·) (Finset.sum_congr rfl fun e _ => congrArg₂ (· * ·) ?_ ?_) ?_
    · exact load2 harg4 j e (key (W + j.val)) (col h e) (k j) rfl
    · exact load2 harg3 y e y (col h e) (Nat.zero_add _).symm rfl
    · exact load3 harg6 j (lane y.val) h (key (W + j.val)) (lane y.val) rfl (k j) (Nat.zero_add _).symm
  · exact load2 harg5 d j (col h d) (key (W + j.val)) rfl (k j)

theorem tile2_of {W : ℕ} (h : Fin 4) (hW : W = N) (hN : N = 512 * p) (hp : p < 8)
    {ik : ∀ a, ok a + S256x128.size a ≤ S4096x512.size a} {iq : ∀ a, oq a + S512x128.size a ≤ S512x512.size a}
    {ic : ∀ a, oc a + S1x256x128.size a ≤ S4x4096x128.size a} {iv : ∀ a, ov a + S128x256.size a ≤ S512x4096.size a}
    (hk : ok = ![W, 128 * h.val]) (hq : oq = ![0, 128 * h.val]) (hc : oc = ![h.val, W, 0]) (hv : ov = ![128 * h.val, W]) :
    Tile2 (sc p x0 x1 x3 h) (va x2 h) N
      (View.readAt (Elt Ideal) arg4.view (Rect.unit (s := S4096x512) ok S256x128.size ik).toLoadRect (harg4.unread x1))
      (View.readAt (Elt Ideal) arg3.view (Rect.unit (s := S512x512) oq S512x128.size iq).toLoadRect (harg3.unread x0))
      (View.readAt (Elt Ideal) arg6.view (Rect.unit (s := S4x4096x128) oc S1x256x128.size ic).toLoadRect (harg6.unread x3))
      (View.readAt (Elt Ideal) arg5.view (Rect.unit (s := S512x4096) ov S128x256.size iv).toLoadRect (harg5.unread x2)) := by
  subst hW hk hq hc hv
  have k : ∀ j : Fin 256, (key (W + j.val)).val = W + j.val := fun j => Nat.mod_eq_of_lt (by omega)
  refine ⟨fun j y => ?_, fun d j => ?_⟩
  · rw [sc]
    refine if_congr (by omega) (congrArg₂ (· - ·) (Finset.sum_congr rfl fun e _ => congrArg₂ (· * ·) ?_ ?_) ?_) rfl
    · exact load2 harg4 j e (key (W + j.val)) (col h e) (k j) rfl
    · exact load2 harg3 y e y (col h e) (Nat.zero_add _).symm rfl
    · exact load3 harg6 j (lane y.val) h (key (W + j.val)) (lane y.val) rfl (k j) (Nat.zero_add _).symm
  · exact load2 harg5 d j (col h d) (key (W + j.val)) rfl (k j)

theorem tile3_of {W : ℕ} (h : Fin 4) (hW : W = N) (hN : N = 512 * p + 256) (hp : p < 8)
    {ik : ∀ a, ok a + S256x128.size a ≤ S4096x512.size a} {iq : ∀ a, oq a + S256x128.size a ≤ S512x512.size a}
    {ic : ∀ a, oc a + S1x256x128.size a ≤ S4x4096x128.size a} {iv : ∀ a, ov a + S128x256.size a ≤ S512x4096.size a}
    (hk : ok = ![W, 128 * h.val]) (hq : oq = ![256, 128 * h.val]) (hc : oc = ![h.val, W, 0]) (hv : ov = ![128 * h.val, W]) :
    Tile3 (fun y => sc p x0 x1 x3 h (hi y)) (va x2 h) N
      (View.readAt (Elt Ideal) arg4.view (Rect.unit (s := S4096x512) ok S256x128.size ik).toLoadRect (harg4.unread x1))
      (View.readAt (Elt Ideal) arg3.view (Rect.unit (s := S512x512) oq S256x128.size iq).toLoadRect (harg3.unread x0))
      (View.readAt (Elt Ideal) arg6.view (Rect.unit (s := S4x4096x128) oc S1x256x128.size ic).toLoadRect (harg6.unread x3))
      (View.readAt (Elt Ideal) arg5.view (Rect.unit (s := S512x4096) ov S128x256.size iv).toLoadRect (harg5.unread x2)) := by
  subst hW hk hq hc hv
  have k : ∀ j : Fin 256, (key (W + j.val)).val = W + j.val := fun j => Nat.mod_eq_of_lt (by omega)
  have w : ∀ y : Fin 256, (hi y).val = 256 + y.val := fun _ => rfl
  have ln : ∀ y : Fin 256, lane (hi y).val = lane y.val := fun y => Fin.ext (by show (256 + y.val) % 128 = y.val % 128; omega)
  refine ⟨fun j y => ?_, fun d j => ?_⟩
  · show _ = sc p x0 x1 x3 h (hi y) (W + j.val)
    rw [sc, ln]
    refine if_congr (by rw [w]; omega) (congrArg₂ (· - ·) (Finset.sum_congr rfl fun e _ => congrArg₂ (· * ·) ?_ ?_) ?_) rfl
    · exact load2 harg4 j e (key (W + j.val)) (col h e) (k j) rfl
    · exact load2 harg3 y e (hi y) (col h e) rfl rfl
    · exact load3 harg6 j (lane y.val) h (key (W + j.val)) (lane y.val) rfl (k j) (Nat.zero_add _).symm
  · exact load2 harg5 d j (col h d) (key (W + j.val)) rfl (k j)

end Facts

/-! ## One trip -/

/-- A grid point with query block `j`. -/
def at2 (j : Fin 8) : grid0.Coords := fun a => match a with
  | ⟨0, _⟩ => (⟨0, by decide⟩ : Fin 2)
  | ⟨1, _⟩ => (⟨0, by decide⟩ : Fin 2)
  | ⟨2, _⟩ => j

/-- The loop before the diagonal has a trip for every pair of key blocks. -/
theorem trips1 (i : grid0.Coords) : (k0_t1_loop i).trips = (i 2).val / 2 := by
  have key : ∀ j : Fin 8, (k0_t1_loop (at2 j)).trips = j.val / 2 := by decide
  exact key (i 2)

/-- The second loop has none. -/
theorem trips2 (i : grid0.Coords) : (k0_t2_loop i).trips = 0 := by
  have key : ∀ j : Fin 8, (k0_t2_loop (at2 j)).trips = 0 := by decide
  exact key (i 2)

theorem first_word (k : ℕ) (hk : k < 4) :
    (Scalar.addi (Scalar.muli (Scalar.muli 2#32 (Scf.iv 0#32 1#32 k)) 512#32) 0#32 : BitVec 32).toNat = 1024 * k :=
  (by decide : ∀ k : Fin 4, (Scalar.addi (Scalar.muli (Scalar.muli 2#32 (Scf.iv 0#32 1#32 k.val)) 512#32) 0#32 : BitVec 32).toNat = 1024 * k.val) ⟨k, hk⟩

theorem second_word (k : ℕ) (hk : k < 4) :
    (Scalar.addi (Scalar.muli (Scalar.addi (Scalar.muli 2#32 (Scf.iv 0#32 1#32 k)) 1#32) 512#32) 0#32 : BitVec 32).toNat = 1024 * k + 512 :=
  (by decide : ∀ k : Fin 4, (Scalar.addi (Scalar.muli (Scalar.addi (Scalar.muli 2#32 (Scf.iv 0#32 1#32 k.val)) 1#32) 512#32) 0#32 : BitVec 32).toNat = 1024 * k.val + 512) ⟨k, hk⟩

section Trip

variable (c : Dev nD) (i : grid0.Coords) (arg3 : Memref sig .tc .vmem S512x512 .bf16) (harg3 : arg3.IsWhole)
  (arg4 : Memref sig .tc .vmem S4096x512 .bf16) (harg4 : arg4.IsWhole) (arg5 : Memref sig .tc .vmem S512x4096 .bf16) (harg5 : arg5.IsWhole)
  (arg6 : Memref sig .tc .vmem S4x4096x128 .f32) (harg6 : arg6.IsWhole) (arg7 : Memref sig .tc .vmem S512x512 .bf16) (harg7 : arg7.IsWhole)
  (arg8 : Memref sig .tc .vmem S4x1x512 .f32) (harg8 : arg8.IsWhole) (arg9 : Memref sig .tc .vmem S4x1x512 .f32) (harg9 : arg9.IsWhole)
  (arg10 : Memref sig .tc .vmem S4x128x512 .f32) (harg10 : arg10.IsWhole) (b2 b3 b4 b5 : BitVec 32)
  (x0 : Vec Ideal S512x512 .bf16) (x1 : Vec Ideal S4096x512 .bf16) (x2 : Vec Ideal S512x4096 .bf16) (x3 : Vec Ideal S4x4096x128 .f32)

theorem trip_heads (k : Fin (k0_t1_loop i).trips) (N : ℕ) (f8 : BufTy.Contents (Elt Ideal) arg8.view.ty) (f9 : BufTy.Contents (Elt Ideal) arg9.view.ty)
    (f10 : BufTy.Contents (Elt Ideal) arg10.view.ty)
    (H : Heads (sc (i 2).val x0 x1 x3) (va x2) 0 (1024 * k.val) N f8 f9 f10) :
    Below (sc (i 2).val x0 x1 x3) (va x2) 4 (1024 * k.val + 512 + 512)
      (arg8.view.writes (Elt Ideal) f8 (tripL_k0_t1 Variants.none c none i arg3 harg3 arg4 harg4 arg5 harg5 arg6 harg6 arg7 harg7 arg8 harg8 arg9 harg9 arg10 harg10
        b2 b3 b4 b5 (harg3.unread x0) (harg4.unread x1) (harg5.unread x2) (harg6.unread x3) k f8 f9 f10).1)
      (arg9.view.writes (Elt Ideal) f9 (tripL_k0_t1 Variants.none c none i arg3 harg3 arg4 harg4 arg5 harg5 arg6 harg6 arg7 harg7 arg8 harg8 arg9 harg9 arg10 harg10
        b2 b3 b4 b5 (harg3.unread x0) (harg4.unread x1) (harg5.unread x2) (harg6.unread x3) k f8 f9 f10).2.1)
      (arg10.view.writes (Elt Ideal) f10 (tripL_k0_t1 Variants.none c none i arg3 harg3 arg4 harg4 arg5 harg5 arg6 harg6 arg7 harg7 arg8 harg8 arg9 harg9 arg10 harg10
        b2 b3 b4 b5 (harg3.unread x0) (harg4.unread x1) (harg5.unread x2) (harg6.unread x3) k f8 f9 f10).2.2) := by
  have hp : (i 2).val < 8 := (i 2).isLt
  have hk : k.val < (i 2).val / 2 := lt_of_lt_of_eq k.isLt (trips1 i)
  have w1 := first_word k.val (by omega)
  have w2 := second_word k.val (by omega)
  show Below _ _ 4 _ (arg8.view.writes (Elt Ideal) f8 ((trip_k0_t1 Variants.none c none i arg3 harg3 arg4 harg4 arg5 harg5 arg6 harg6 arg7 harg7 arg8 harg8 arg9 harg9 arg10 harg10
        b2 b3 b4 b5 (harg3.unread x0) (harg4.unread x1) (harg5.unread x2) (harg6.unread x3) k).1 f8 f9 f10))
      (arg9.view.writes (Elt Ideal) f9 ((trip_k0_t1 Variants.none c none i arg3 harg3 arg4 harg4 arg5 harg5 arg6 harg6 arg7 harg7 arg8 harg8 arg9 harg9 arg10 harg10
        b2 b3 b4 b5 (harg3.unread x0) (harg4.unread x1) (harg5.unread x2) (harg6.unread x3) k).2.1 f8 f9 f10))
      (arg10.view.writes (Elt Ideal) f10 ((trip_k0_t1 Variants.none c none i arg3 harg3 arg4 harg4 arg5 harg5 arg6 harg6 arg7 harg7 arg8 harg8 arg9 harg9 arg10 harg10
        b2 b3 b4 b5 (harg3.unread x0) (harg4.unread x1) (harg5.unread x2) (harg6.unread x3) k).2.2.1 f8 f9 f10))
  unfold trip_k0_t1
  refine Both.last 3 ?_ (second3 (tile1_of harg3 harg4 harg5 harg6 3 w2 (by omega) hp rfl rfl rfl rfl)) rfl rfl rfl rfl rfl rfl
  refine Both.chain 2 ?_ (second2 (tile1_of harg3 harg4 harg5 harg6 2 w2 (by omega) hp rfl rfl rfl rfl)) rfl rfl rfl rfl rfl rfl
  refine Both.chain 1 ?_ (second1 (tile1_of harg3 harg4 harg5 harg6 1 w2 (by omega) hp rfl rfl rfl rfl)) rfl rfl rfl rfl rfl rfl
  refine Both.chain 0 ?_ (second0 (tile1_of harg3 harg4 harg5 harg6 0 w2 (by omega) hp rfl rfl rfl rfl)) rfl rfl rfl rfl rfl rfl
  refine ⟨Below.next ?_, fun h q => absurd q (Nat.not_lt_zero _)⟩
  refine Below.put 3 (first3 (tile1_of harg3 harg4 harg5 harg6 3 w1 (by omega) hp rfl rfl rfl rfl) ((H.2 3 (Nat.zero_le _)).load rfl rfl rfl)) ?_ rfl rfl rfl
  refine Below.put 2 (first2 (tile1_of harg3 harg4 harg5 harg6 2 w1 (by omega) hp rfl rfl rfl rfl) ((H.2 2 (Nat.zero_le _)).load rfl rfl rfl)) ?_ rfl rfl rfl
  refine Below.put 1 (first1 (tile1_of harg3 harg4 harg5 harg6 1 w1 (by omega) hp rfl rfl rfl rfl) ((H.2 1 (Nat.zero_le _)).load rfl rfl rfl)) ?_ rfl rfl rfl
  refine Below.put (L8 := []) (L9 := []) (L10 := []) 0 (first0 (tile1_of harg3 harg4 harg5 harg6 0 w1 (by omega) hp rfl rfl rfl rfl) ((H.2 0 (Nat.zero_le _)).load rfl rfl rfl)) ?_ rfl rfl rfl
  exact fun h q => absurd q (Nat.not_lt_zero _)

/-- `n` trips. -/
theorem loop_heads (G8 : BufTy.Contents (Elt Ideal) arg8.view.ty) (G9 : BufTy.Contents (Elt Ideal) arg9.view.ty) (G10 : BufTy.Contents (Elt Ideal) arg10.view.ty)
    (H : ∀ N, Heads (sc (i 2).val x0 x1 x3) (va x2) 0 0 N G8 G9 G10) (n : ℕ) (hn : n ≤ (k0_t1_loop i).trips) (N : ℕ) :
    Heads (sc (i 2).val x0 x1 x3) (va x2) 0 (1024 * n) N
      (arg8.view.writes (Elt Ideal) G8 (pb_k0_t1 (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) G8 G9 G10 n).1)
      (arg9.view.writes (Elt Ideal) G9 (pb_k0_t1 (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) G8 G9 G10 n).2.1)
      (arg10.view.writes (Elt Ideal) G10 (pb_k0_t1 (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) G8 G9 G10 n).2.2) := by
  induction n generalizing N with
  | zero => exact H N
  | succ n ih =>
    have r := trip_heads c i arg3 harg3 arg4 harg4 arg5 harg5 arg6 harg6 arg7 harg7 arg8 harg8 arg9 harg9 arg10 harg10 b2 b3 b4 b5 x0 x1 x2 x3
      ⟨n, hn⟩ 0 _ _ _ (ih (Nat.le_of_succ_le hn) 0)
    rw [pb_k0_t1_succ (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) G8 G9 G10 ⟨n, hn⟩]
    rw [View.writes_append, View.writes_append, View.writes_append]
    exact Below.next r

/-- Both loops, from buffers the pieces `L` were stored in. -/
theorem loops_heads {b6 b7 b8 b9 : BitVec 32} {f8 : BufTy.Contents (Elt Ideal) arg8.view.ty} {f9 : BufTy.Contents (Elt Ideal) arg9.view.ty} {f10 : BufTy.Contents (Elt Ideal) arg10.view.ty}
    {G8 : BufTy.Contents (Elt Ideal) arg8.view.ty} {G9 : BufTy.Contents (Elt Ideal) arg9.view.ty} {G10 : BufTy.Contents (Elt Ideal) arg10.view.ty}
    {L8 L9 : List (View.Piece (Elt Ideal) S4x1x512 .f32)} {L10 : List (View.Piece (Elt Ideal) S4x128x512 .f32)}
    (H : ∀ N, Heads (sc (i 2).val x0 x1 x3) (va x2) 0 0 N (arg8.view.writes (Elt Ideal) f8 L8) (arg9.view.writes (Elt Ideal) f9 L9) (arg10.view.writes (Elt Ideal) f10 L10))
    {n n2 : ℕ} (hn : n = (k0_t1_loop i).trips) (hn2 : n2 = (k0_t2_loop i).trips) {M N : ℕ} (hM : M = 1024 * ((i 2).val / 2)) :
    Heads (sc (i 2).val x0 x1 x3) (va x2) 0 M N
      (arg8.view.writes (Elt Ideal) f8 ((pb_k0_t2 (F := Ideal) Variants.none c none i arg3 harg3 arg4 harg4 arg5 harg5 arg6 harg6 arg7 harg7 arg8 harg8 arg9 harg9 arg10 harg10 b6 b7 b8 b5 b9 (harg3.unread x0) (harg4.unread x1) (harg5.unread x2) (harg6.unread x3) G8 G9 G10 n2).1 ++
        ((pb_k0_t1 (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) (arg8.view.writes (Elt Ideal) f8 L8) (arg9.view.writes (Elt Ideal) f9 L9) (arg10.view.writes (Elt Ideal) f10 L10) n).1 ++ L8)))
      (arg9.view.writes (Elt Ideal) f9 ((pb_k0_t2 (F := Ideal) Variants.none c none i arg3 harg3 arg4 harg4 arg5 harg5 arg6 harg6 arg7 harg7 arg8 harg8 arg9 harg9 arg10 harg10 b6 b7 b8 b5 b9 (harg3.unread x0) (harg4.unread x1) (harg5.unread x2) (harg6.unread x3) G8 G9 G10 n2).2.1 ++
        ((pb_k0_t1 (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) (arg8.view.writes (Elt Ideal) f8 L8) (arg9.view.writes (Elt Ideal) f9 L9) (arg10.view.writes (Elt Ideal) f10 L10) n).2.1 ++ L9)))
      (arg10.view.writes (Elt Ideal) f10 ((pb_k0_t2 (F := Ideal) Variants.none c none i arg3 harg3 arg4 harg4 arg5 harg5 arg6 harg6 arg7 harg7 arg8 harg8 arg9 harg9 arg10 harg10 b6 b7 b8 b5 b9 (harg3.unread x0) (harg4.unread x1) (harg5.unread x2) (harg6.unread x3) G8 G9 G10 n2).2.2 ++
        ((pb_k0_t1 (F := Ideal) Variants.none c none i arg3 harg3 arg4 harg4 arg5 harg5 arg6 harg6 arg7 harg7 arg8 harg8 arg9 harg9 arg10 harg10 b2 b3 b4 b5 (harg3.unread x0) (harg4.unread x1) (harg5.unread x2) (harg6.unread x3) (arg8.view.writes (Elt Ideal) f8 L8) (arg9.view.writes (Elt Ideal) f9 L9) (arg10.view.writes (Elt Ideal) f10 L10) n).2.2 ++ L10))) := by
  subst hn hM
  rw [trips2] at hn2
  subst hn2
  have r := loop_heads c i arg3 harg3 arg4 harg4 arg5 harg5 arg6 harg6 arg7 harg7 arg8 harg8 arg9 harg9 arg10 harg10 b2 b3 b4 b5 x0 x1 x2 x3
    _ _ _ H _ le_rfl N
  rw [← trips1 i]
  rw [← View.writes_append, ← View.writes_append, ← View.writes_append] at r
  exact r

end Trip

end Cert.FoxTrip

end
-- ==== Proof.FoxPoint.lean ====
/-
  One grid point of the attention: every query's sum and weighted sum over the keys up to the end of its block, and the
  quotient the point writes.
-/
module

public import proofs.«01_k».proof.Proof.FoxTrip
public import proofs.«01_k».proof.Proof.Gen.FoxIdeal.Frame

@[expose] public section

set_option maxRecDepth 16384

noncomputable section

namespace Cert.FoxPoint

open Idealize.ShloMosaic Idealize.ShloMosaic.TcCoe Idealize.ShloMosaic.Tactic
open Cert.FoxIdeal Cert.FoxIdeal.Gen Cert.FoxMath Cert.Blocks Cert.FoxTile Cert.FoxHeads Cert.FoxTrip

theorem low_word (n : ℕ) (hn : n < 8) : (Scalar.addi (Scalar.muli (BitVec.ofNat 32 n) 512#32) 0#32 : BitVec 32).toNat = 512 * n :=
  (by decide : ∀ n : Fin 8, (Scalar.addi (Scalar.muli (BitVec.ofNat 32 n.val) 512#32) 0#32 : BitVec 32).toNat = 512 * n.val) ⟨n, hn⟩

theorem high_word (n : ℕ) (hn : n < 8) : (Scalar.addi (Scalar.muli (BitVec.ofNat 32 n) 512#32) 256#32 : BitVec 32).toNat = 512 * n + 256 :=
  (by decide : ∀ n : Fin 8, (Scalar.addi (Scalar.muli (BitVec.ofNat 32 n.val) 512#32) 256#32 : BitVec 32).toNat = 512 * n.val + 256) ⟨n, hn⟩

theorem before_word (n : ℕ) (hn : n < 8) (h0 : 1 ≤ n) :
    (Scalar.addi (Scalar.muli (Scalar.subi (BitVec.ofNat 32 n) 1#32) 512#32) 0#32 : BitVec 32).toNat = 512 * (n - 1) :=
  (by decide : ∀ n : Fin 8, 1 ≤ n.val → (Scalar.addi (Scalar.muli (Scalar.subi (BitVec.ofNat 32 n.val) 1#32) 512#32) 0#32 : BitVec 32).toNat = 512 * (n.val - 1)) ⟨n, hn⟩ h0

/-- The first half of a block's queries sees no key of the second half. -/
theorem low_half (p : ℕ) (x0 : Vec Ideal S512x512 .bf16) (x1 : Vec Ideal S4096x512 .bf16) (x3 : Vec Ideal S4x4096x128 .f32) (h : Fin 4)
    (y : Fin 512) (hy : y.val < 256) (n : ℕ) (hn : 512 * p + 256 ≤ n) : sc p x0 x1 x3 h y n = ⊥ := if_neg (by omega)

theorem next_of {arg8 arg9 : Memref sig .tc .vmem S4x1x512 .f32} {arg10 : Memref sig .tc .vmem S4x128x512 .f32}
    {s : Fin 4 → Fin 512 → ℕ → EReal} {v : Fin 4 → Fin 128 → ℕ → EReal} {N N' N'' M : ℕ} {f8 : BufTy.Contents (Elt Ideal) arg8.view.ty}
    {f9 : BufTy.Contents (Elt Ideal) arg9.view.ty} {f10 : BufTy.Contents (Elt Ideal) arg10.view.ty} (e : N' = M)
    (H : Heads s v 4 N N' f8 f9 f10) : Heads s v 0 M N'' f8 f9 f10 := e ▸ H.next

section Read

variable (V : View sig .tc .vmem S512x512 .bf16) {f : BufTy.Contents (Elt Ideal) V.ty} {w0 w1 w2 w3 : Vec Ideal S512x128 .bf16} {o0 o1 o2 o3 : Fin 2 → Nat}
  {i0 : ∀ a, o0 a + S512x128.size a ≤ S512x512.size a}
  {i1 : ∀ a, o1 a + S512x128.size a ≤ S512x512.size a}
  {i2 : ∀ a, o2 a + S512x128.size a ≤ S512x512.size a}
  {i3 : ∀ a, o3 a + S512x128.size a ≤ S512x512.size a}
  {L : List (View.Piece (Elt Ideal) S512x512 .bf16)}

/-! The four heads' column blocks, read back. -/

theorem read_head0 (e0 : o0 = ![0, 0]) (e1 : o1 = ![0, 128]) (e2 : o2 = ![0, 256]) (e3 : o3 = ![0, 384]) (y : Fin 512) (d : Fin 128) :
    V.read (Elt Ideal) (V.writes (Elt Ideal) f (⟨Rect.unit (s := S512x512) o3 S512x128.size i3, w3⟩ :: ⟨Rect.unit (s := S512x512) o2 S512x128.size i2, w2⟩ :: ⟨Rect.unit (s := S512x512) o1 S512x128.size i1, w1⟩ :: ⟨Rect.unit (s := S512x512) o0 S512x128.size i0, w0⟩ :: L)) (ix2 y (col 0 d)) = w0 (ix2 y d) := by
  have hd := d.isLt
  rw [View.read_writes_cons_unit_of_not_mem V f i3 w3 _ _ e3 1 (.inl (show 128 * 0 + d.val < 384 by omega)),
    View.read_writes_cons_unit_of_not_mem V f i2 w2 _ _ e2 1 (.inl (show 128 * 0 + d.val < 256 by omega)),
    View.read_writes_cons_unit_of_not_mem V f i1 w1 _ _ e1 1 (.inl (show 128 * 0 + d.val < 128 by omega))]
  exact View.read_writes_cons_unit_of_mem V f i0 w0 _ _ (ix2 y d) e0 fun a => match a with
    | ⟨0, _⟩ => (Nat.zero_add _).symm
    | ⟨1, _⟩ => (by show 128 * 0 + d.val = 0 + d.val; omega)

theorem read_head1 (e1 : o1 = ![0, 128]) (e2 : o2 = ![0, 256]) (e3 : o3 = ![0, 384]) (y : Fin 512) (d : Fin 128) :
    V.read (Elt Ideal) (V.writes (Elt Ideal) f (⟨Rect.unit (s := S512x512) o3 S512x128.size i3, w3⟩ :: ⟨Rect.unit (s := S512x512) o2 S512x128.size i2, w2⟩ :: ⟨Rect.unit (s := S512x512) o1 S512x128.size i1, w1⟩ :: L)) (ix2 y (col 1 d)) = w1 (ix2 y d) := by
  have hd := d.isLt
  rw [View.read_writes_cons_unit_of_not_mem V f i3 w3 _ _ e3 1 (.inl (show 128 * 1 + d.val < 384 by omega)),
    View.read_writes_cons_unit_of_not_mem V f i2 w2 _ _ e2 1 (.inl (show 128 * 1 + d.val < 256 by omega))]
  exact View.read_writes_cons_unit_of_mem V f i1 w1 _ _ (ix2 y d) e1 fun a => match a with
    | ⟨0, _⟩ => (Nat.zero_add _).symm
    | ⟨1, _⟩ => rfl

theorem read_head2 (e2 : o2 = ![0, 256]) (e3 : o3 = ![0, 384]) (y : Fin 512) (d : Fin 128) :
    V.read (Elt Ideal) (V.writes (Elt Ideal) f (⟨Rect.unit (s := S512x512) o3 S512x128.size i3, w3⟩ :: ⟨Rect.unit (s := S512x512) o2 S512x128.size i2, w2⟩ :: L)) (ix2 y (col 2 d)) = w2 (ix2 y d) := by
  have hd := d.isLt
  rw [View.read_writes_cons_unit_of_not_mem V f i3 w3 _ _ e3 1 (.inl (show 128 * 2 + d.val < 384 by omega))]
  exact View.read_writes_cons_unit_of_mem V f i2 w2 _ _ (ix2 y d) e2 fun a => match a with
    | ⟨0, _⟩ => (Nat.zero_add _).symm
    | ⟨1, _⟩ => rfl

theorem read_head3 (e3 : o3 = ![0, 384]) (y : Fin 512) (d : Fin 128) :
    V.read (Elt Ideal) (V.writes (Elt Ideal) f (⟨Rect.unit (s := S512x512) o3 S512x128.size i3, w3⟩ :: L)) (ix2 y (col 3 d)) = w3 (ix2 y d) := by
  have hd := d.isLt
  exact View.read_writes_cons_unit_of_mem V f i3 w3 _ _ (ix2 y d) e3 fun a => match a with
    | ⟨0, _⟩ => (Nat.zero_add _).symm
    | ⟨1, _⟩ => rfl

end Read

theorem block_out {s : Fin 4 → Fin 512 → ℕ → EReal} {v : Fin 4 → Fin 128 → ℕ → EReal} {N : ℕ} {w0 w1 w2 w3 : Vec Ideal S512x128 .bf16} {y : Fin 512}
    {i0 : ∀ a, (![0, 0] : Fin 2 → Nat) a + S512x128.size a ≤ S512x512.size a} {i1 : ∀ a, (![0, 128] : Fin 2 → Nat) a + S512x128.size a ≤ S512x512.size a}
    {i2 : ∀ a, (![0, 256] : Fin 2 → Nat) a + S512x128.size a ≤ S512x512.size a} {i3 : ∀ a, (![0, 384] : Fin 2 → Nat) a + S512x128.size a ≤ S512x512.size a}
    (q0 : ∃ m l a, Col (s 0 y) (v 0) N m l a ∧ ∀ d : Fin 128, w0 (ix2 y d) = Ideal.div (a d) l)
    (q1 : ∃ m l a, Col (s 1 y) (v 1) N m l a ∧ ∀ d : Fin 128, w1 (ix2 y d) = Ideal.div (a d) l)
    (q2 : ∃ m l a, Col (s 2 y) (v 2) N m l a ∧ ∀ d : Fin 128, w2 (ix2 y d) = Ideal.div (a d) l)
    (q3 : ∃ m l a, Col (s 3 y) (v 3) N m l a ∧ ∀ d : Fin 128, w3 (ix2 y d) = Ideal.div (a d) l) (h : Fin 4) :
    ∃ m l a, Col (s h y) (v h) N m l a ∧ ∀ d : Fin 128, VO0_4.read (Elt Ideal) (VO0_4.writes (Elt Ideal) VO0_4.junk
      [⟨Rect.unit (s := S512x512) ![0, 384] S512x128.size i3, w3⟩, ⟨Rect.unit (s := S512x512) ![0, 256] S512x128.size i2, w2⟩,
      ⟨Rect.unit (s := S512x512) ![0, 128] S512x128.size i1, w1⟩, ⟨Rect.unit (s := S512x512) ![0, 0] S512x128.size i0, w0⟩]) (ix2 y (col h d)) = Ideal.div (a d) l := by
  match h with
  | 0 => obtain ⟨m, l, a, C, e⟩ := q0; exact ⟨m, l, a, C, fun d => (read_head0 VO0_4 rfl rfl rfl rfl y d).trans (e d)⟩
  | 1 => obtain ⟨m, l, a, C, e⟩ := q1; exact ⟨m, l, a, C, fun d => (read_head1 VO0_4 rfl rfl rfl y d).trans (e d)⟩
  | 2 => obtain ⟨m, l, a, C, e⟩ := q2; exact ⟨m, l, a, C, fun d => (read_head2 VO0_4 rfl rfl y d).trans (e d)⟩
  | 3 => obtain ⟨m, l, a, C, e⟩ := q3; exact ⟨m, l, a, C, fun d => (read_head3 VO0_4 rfl y d).trans (e d)⟩

/-- What the point leaves in the output's block, from the final sums. -/
theorem point_out {arg9 : Memref sig .tc .vmem S4x1x512 .f32} {arg10 : Memref sig .tc .vmem S4x128x512 .f32}
    {s : Fin 4 → Fin 512 → ℕ → EReal} {v : Fin 4 → Fin 128 → ℕ → EReal} {N : ℕ}
    {f9 : BufTy.Contents (Elt Ideal) arg9.view.ty} {f10 : BufTy.Contents (Elt Ideal) arg10.view.ty}
    {o9 p9 q9 r9 o10 p10 q10 r10 : Fin 3 → Nat}
    {b9 : ∀ a, o9 a + S1x1x512.size a ≤ S4x1x512.size a} {b10 : ∀ a, o10 a + S1x128x512.size a ≤ S4x128x512.size a}
    {c9 : ∀ a, p9 a + S1x1x512.size a ≤ S4x1x512.size a} {c10 : ∀ a, p10 a + S1x128x512.size a ≤ S4x128x512.size a}
    {d9 : ∀ a, q9 a + S1x1x512.size a ≤ S4x1x512.size a} {d10 : ∀ a, q10 a + S1x128x512.size a ≤ S4x128x512.size a}
    {g9 : ∀ a, r9 a + S1x1x512.size a ≤ S4x1x512.size a} {g10 : ∀ a, r10 a + S1x128x512.size a ≤ S4x128x512.size a}
    {i0 : ∀ a, (![0, 0] : Fin 2 → Nat) a + S512x128.size a ≤ S512x512.size a} {i1 : ∀ a, (![0, 128] : Fin 2 → Nat) a + S512x128.size a ≤ S512x512.size a}
    {i2 : ∀ a, (![0, 256] : Fin 2 → Nat) a + S512x128.size a ≤ S512x512.size a} {i3 : ∀ a, (![0, 384] : Fin 2 → Nat) a + S512x128.size a ≤ S512x512.size a}
    (L : List (View.Piece (Elt Ideal) S512x512 .bf16))
    (hL : L = [⟨Rect.unit (s := S512x512) ![0, 384] S512x128.size i3, k0_pay290 (F := Ideal) (View.readAt (Elt Ideal) arg10.view (Rect.unit (s := S4x128x512) r10 S1x128x512.size g10).toLoadRect f10)
          (View.readAt (Elt Ideal) arg9.view (Rect.unit (s := S4x1x512) r9 S1x1x512.size g9).toLoadRect f9)⟩,
        ⟨Rect.unit (s := S512x512) ![0, 256] S512x128.size i2, k0_pay290 (F := Ideal) (View.readAt (Elt Ideal) arg10.view (Rect.unit (s := S4x128x512) q10 S1x128x512.size d10).toLoadRect f10)
          (View.readAt (Elt Ideal) arg9.view (Rect.unit (s := S4x1x512) q9 S1x1x512.size d9).toLoadRect f9)⟩,
        ⟨Rect.unit (s := S512x512) ![0, 128] S512x128.size i1, k0_pay290 (F := Ideal) (View.readAt (Elt Ideal) arg10.view (Rect.unit (s := S4x128x512) p10 S1x128x512.size c10).toLoadRect f10)
          (View.readAt (Elt Ideal) arg9.view (Rect.unit (s := S4x1x512) p9 S1x1x512.size c9).toLoadRect f9)⟩,
        ⟨Rect.unit (s := S512x512) ![0, 0] S512x128.size i0, k0_pay290 (F := Ideal) (View.readAt (Elt Ideal) arg10.view (Rect.unit (s := S4x128x512) o10 S1x128x512.size b10).toLoadRect f10)
          (View.readAt (Elt Ideal) arg9.view (Rect.unit (s := S4x1x512) o9 S1x1x512.size b9).toLoadRect f9)⟩])
    (D : Done s v N f9 f10) (h : Fin 4) (y : Fin 512)
    (e9 : o9 = ![0, 0, 0]) (e10 : o10 = ![0, 0, 0]) (h9 : p9 = ![1, 0, 0]) (h10 : p10 = ![1, 0, 0])
    (j9 : q9 = ![2, 0, 0]) (j10 : q10 = ![2, 0, 0]) (k9 : r9 = ![3, 0, 0]) (k10 : r10 = ![3, 0, 0]) :
    ∃ m l a, Col (s h y) (v h) N m l a ∧ ∀ d : Fin 128,
      VO0_4.read (Elt Ideal) (VO0_4.writes (Elt Ideal) VO0_4.junk L) (ix2 y (col h d)) = Ideal.div (a d) l := by
  subst hL
  exact block_out (D.out 0 e9 e10 y) (D.out 1 h9 h10 y) (D.out 2 j9 j10 y) (D.out 3 k9 k10 y) h

section Point

variable (c : Dev nD) (i : grid0.Coords) (arg3 : Memref sig .tc .vmem S512x512 .bf16) (harg3 : arg3.IsWhole)
  (arg4 : Memref sig .tc .vmem S4096x512 .bf16) (harg4 : arg4.IsWhole) (arg5 : Memref sig .tc .vmem S512x4096 .bf16) (harg5 : arg5.IsWhole)
  (arg6 : Memref sig .tc .vmem S4x4096x128 .f32) (harg6 : arg6.IsWhole) (arg7 : Memref sig .tc .vmem S512x512 .bf16) (harg7 : arg7.IsWhole)
  (arg8 : Memref sig .tc .vmem S4x1x512 .f32) (harg8 : arg8.IsWhole) (arg9 : Memref sig .tc .vmem S4x1x512 .f32) (harg9 : arg9.IsWhole)
  (arg10 : Memref sig .tc .vmem S4x128x512 .f32) (harg10 : arg10.IsWhole)
  (x0 : Vec Ideal S512x512 .bf16) (x1 : Vec Ideal S4096x512 .bf16) (x2 : Vec Ideal S512x4096 .bf16) (x3 : Vec Ideal S4x4096x128 .f32)

/-- An even query block: pairs of key blocks, then the diagonal. -/
theorem out_A (hc0 : ¬cond0_0 i) (hi2 : (i 2).val % 2 = 0) (h : Fin 4) (y : Fin 512) :
    ∃ m l a, Col (sc (i 2).val x0 x1 x3 h y) (va x2 h) (512 * (i 2).val + 256 + 256) m l a ∧
      ∀ d : Fin 128, out0_A_4 c i arg3 harg3 arg4 harg4 arg5 harg5 arg6 harg6 arg7 harg7 arg8 harg8 arg9 harg9 arg10 harg10 hc0 x0 x1 x2 x3 (ix2 y (col h d)) = Ideal.div (a d) l := by
  have hp : (i 2).val < 8 := (i 2).isLt
  have w0 := low_word (i 2).val hp
  have w1 := high_word (i 2).val hp
  refine point_out (kernelRun0_A c i arg3 harg3 arg4 harg4 arg5 harg5 arg6 harg6 arg7 harg7 arg8 harg8 arg9 harg9 arg10 harg10 hc0 x0 x1 x2 x3).1 rfl ?_ h y rfl rfl rfl rfl rfl rfl rfl rfl
  refine Done.last (k := 3) rfl (low_half _ _ _ _ _) ?_ (corner3 hp (tile3_of harg3 harg4 harg5 harg6 3 w1 rfl hp rfl rfl rfl rfl)) rfl rfl rfl rfl rfl
  refine Heads.chainHalf 2 (low_half _ _ _ _ _) ?_ (corner2 hp (tile3_of harg3 harg4 harg5 harg6 2 w1 rfl hp rfl rfl rfl rfl)) rfl rfl rfl rfl rfl rfl
  refine Heads.chainHalf 1 (low_half _ _ _ _ _) ?_ (corner1 hp (tile3_of harg3 harg4 harg5 harg6 1 w1 rfl hp rfl rfl rfl rfl)) rfl rfl rfl rfl rfl rfl
  refine Heads.chainHalf 0 (low_half _ _ _ _ _) ?_ (corner0 hp (tile3_of harg3 harg4 harg5 harg6 0 w1 rfl hp rfl rfl rfl rfl)) rfl rfl rfl rfl rfl rfl
  refine Heads.next (N := 512 * (i 2).val) (N' := 512 * (i 2).val + 256) (N'' := 512 * (i 2).val + 256 + 256) ?_
  refine Heads.chain 3 ?_ (half3 hp (tile2_of harg3 harg4 harg5 harg6 3 w0 rfl hp rfl rfl rfl rfl)) rfl rfl rfl rfl rfl rfl
  refine Heads.chain 2 ?_ (half2 hp (tile2_of harg3 harg4 harg5 harg6 2 w0 rfl hp rfl rfl rfl rfl)) rfl rfl rfl rfl rfl rfl
  refine Heads.chain 1 ?_ (half1 hp (tile2_of harg3 harg4 harg5 harg6 1 w0 rfl hp rfl rfl rfl rfl)) rfl rfl rfl rfl rfl rfl
  refine Heads.chain 0 ?_ (half0 hp (tile2_of harg3 harg4 harg5 harg6 0 w0 rfl hp rfl rfl rfl rfl)) rfl rfl rfl rfl rfl rfl
  exact loops_heads c i arg3 harg3 arg4 harg4 arg5 harg5 arg6 harg6 arg7 harg7 arg8 harg8 arg9 harg9 arg10 harg10 _ _ _ _ x0 x1 x2 x3
    (fun _ => Heads.start) rfl rfl (by omega)

/-- An odd query block: pairs of key blocks, one block more, then the diagonal. -/
theorem out_B (hc0 : cond0_0 i) (hi2 : (i 2).val % 2 = 1) (h : Fin 4) (y : Fin 512) :
    ∃ m l a, Col (sc (i 2).val x0 x1 x3 h y) (va x2 h) (512 * (i 2).val + 256 + 256) m l a ∧
      ∀ d : Fin 128, out0_B_4 c i arg3 harg3 arg4 harg4 arg5 harg5 arg6 harg6 arg7 harg7 arg8 harg8 arg9 harg9 arg10 harg10 hc0 x0 x1 x2 x3 (ix2 y (col h d)) = Ideal.div (a d) l := by
  have hp : (i 2).val < 8 := (i 2).isLt
  have w0 := low_word (i 2).val hp
  have w1 := high_word (i 2).val hp
  have w := before_word (i 2).val hp (by omega)
  refine point_out (kernelRun0_B c i arg3 harg3 arg4 harg4 arg5 harg5 arg6 harg6 arg7 harg7 arg8 harg8 arg9 harg9 arg10 harg10 hc0 x0 x1 x2 x3).1 rfl ?_ h y rfl rfl rfl rfl rfl rfl rfl rfl
  refine Done.last (k := 3) rfl (low_half _ _ _ _ _) ?_ (corner3 hp (tile3_of harg3 harg4 harg5 harg6 3 w1 rfl hp rfl rfl rfl rfl)) rfl rfl rfl rfl rfl
  refine Heads.chainHalf 2 (low_half _ _ _ _ _) ?_ (corner2 hp (tile3_of harg3 harg4 harg5 harg6 2 w1 rfl hp rfl rfl rfl rfl)) rfl rfl rfl rfl rfl rfl
  refine Heads.chainHalf 1 (low_half _ _ _ _ _) ?_ (corner1 hp (tile3_of harg3 harg4 harg5 harg6 1 w1 rfl hp rfl rfl rfl rfl)) rfl rfl rfl rfl rfl rfl
  refine Heads.chainHalf 0 (low_half _ _ _ _ _) ?_ (corner0 hp (tile3_of harg3 harg4 harg5 harg6 0 w1 rfl hp rfl rfl rfl rfl)) rfl rfl rfl rfl rfl rfl
  refine Heads.next (N := 512 * (i 2).val) (N' := 512 * (i 2).val + 256) (N'' := 512 * (i 2).val + 256 + 256) ?_
  refine Heads.chain 3 ?_ (half3 hp (tile2_of harg3 harg4 harg5 harg6 3 w0 rfl hp rfl rfl rfl rfl)) rfl rfl rfl rfl rfl rfl
  refine Heads.chain 2 ?_ (half2 hp (tile2_of harg3 harg4 harg5 harg6 2 w0 rfl hp rfl rfl rfl rfl)) rfl rfl rfl rfl rfl rfl
  refine Heads.chain 1 ?_ (half1 hp (tile2_of harg3 harg4 harg5 harg6 1 w0 rfl hp rfl rfl rfl rfl)) rfl rfl rfl rfl rfl rfl
  refine Heads.chain 0 ?_ (half0 hp (tile2_of harg3 harg4 harg5 harg6 0 w0 rfl hp rfl rfl rfl rfl)) rfl rfl rfl rfl rfl rfl
  refine next_of (N := 512 * ((i 2).val - 1)) (N' := 512 * ((i 2).val - 1) + 512) (N'' := 512 * (i 2).val + 256) (by omega) ?_
  refine Heads.chain 3 ?_ (extra3 (tile1_of harg3 harg4 harg5 harg6 3 w (by omega) hp rfl rfl rfl rfl)) rfl rfl rfl rfl rfl rfl
  refine Heads.chain 2 ?_ (extra2 (tile1_of harg3 harg4 harg5 harg6 2 w (by omega) hp rfl rfl rfl rfl)) rfl rfl rfl rfl rfl rfl
  refine Heads.chain 1 ?_ (extra1 (tile1_of harg3 harg4 harg5 harg6 1 w (by omega) hp rfl rfl rfl rfl)) rfl rfl rfl rfl rfl rfl
  refine Heads.chain 0 ?_ (extra0 (tile1_of harg3 harg4 harg5 harg6 0 w (by omega) hp rfl rfl rfl rfl)) rfl rfl rfl rfl rfl rfl
  exact loops_heads c i arg3 harg3 arg4 harg4 arg5 harg5 arg6 harg6 arg7 harg7 arg8 harg8 arg9 harg9 arg10 harg10 _ _ _ _ x0 x1 x2 x3
    (fun _ => Heads.start) rfl rfl (by omega)

end Point

end Cert.FoxPoint

end
-- ==== Proof.FoxHost.lean ====
/-
  The arrays the attention reads, as the host code before it lays them out: scaled queries and keys beside one
  another, the values turned, and the decays repeated along the lanes.
-/
module

public import proofs.«01_k».proof.Proof.Gen.FoxIdeal.Frame
public import proofs.«01_k».proof.Proof.Blocks
public import Idealize.ShloMosaic.Lib.Pipeline.Value
public import Idealize.ShloMosaic.Lib.Pointwise

@[expose] public section

set_option maxRecDepth 16384

noncomputable section

namespace Cert.FoxHost

open Idealize.ShloMosaic Idealize.ShloMosaic.TcCoe Idealize.ShloMosaic.Tactic
open Idealize.SL.Sem Cert.Blocks Cert.FoxIdeal Cert.FoxIdeal.Gen

/-- The logarithm of two, as the host computes it. -/
def ln2 : EReal := Ideal.log (Ideal.ofBits .f32 0x40000000#32)

/-- The scale `128 ^ (-1/2)`, as it is written down. -/
def scale : EReal := Ideal.ofBits .f32 0x3DB504F3#32

/-- A row for each token and batch, heads beside one another. -/
theorem rows_apply (x : FVec Ideal S2x4096x8x128 .f32) (j : S8192x1024.Idx) (b : Fin 2) (t : Fin 4096) (h : Fin 8) (e : Fin 128)
    (h0 : (j 0).val = b.val * 4096 + t.val) (h1 : (j 1).val = h.val * 128 + e.val) :
    shapeCast S8192x1024 x shapeCasts_S2x4096x8x128_S8192x1024 j = x (ix4 b t h e) := by
  refine shapeCast_apply _ _ j (ix4 b t h e) ?_
  rw [Shape.rowMajor_val_four, Shape.rowMajor_val_two]
  show ((b.val * 4096 + t.val) * 8 + h.val) * 128 + e.val = (j 0).val * 1024 + (j 1).val
  omega

/-- The scaled queries, -/
def queries (q : FVec Ideal S2x4096x8x128 .f32) : FVec Ideal S8192x1024 .bf16 :=
  truncf .bf16 (Host.divf (mulf (shapeCast S8192x1024 q shapeCasts_S2x4096x8x128_S8192x1024) (broadcastInDim S8192x1024 ![] bcast_S_S8192x1024 (constant S_ .f32 0x3DB504F3#32)))
    (broadcastInDim S8192x1024 ![] bcast_S_S8192x1024 (Host.log (constant S_ .f32 0x40000000#32)))) bitsLt_bf16_f32

/-- and the keys. -/
def keys (k : FVec Ideal S2x4096x8x128 .f32) : FVec Ideal S8192x1024 .bf16 :=
  truncf .bf16 (shapeCast S8192x1024 k shapeCasts_S2x4096x8x128_S8192x1024) bitsLt_bf16_f32

theorem queries_apply (q : FVec Ideal S2x4096x8x128 .f32) (j : S8192x1024.Idx) (b : Fin 2) (t : Fin 4096) (h : Fin 8) (e : Fin 128)
    (h0 : (j 0).val = b.val * 4096 + t.val) (h1 : (j 1).val = h.val * 128 + e.val) :
    queries q j = Ideal.div (q (ix4 b t h e) * scale) ln2 := by
  refine Eq.trans (b := Ideal.div (shapeCast S8192x1024 q shapeCasts_S2x4096x8x128_S8192x1024 j * scale) ln2) rfl ?_
  rw [rows_apply q j b t h e h0 h1]

theorem keys_apply (k : FVec Ideal S2x4096x8x128 .f32) (j : S8192x1024.Idx) (b : Fin 2) (t : Fin 4096) (h : Fin 8) (e : Fin 128)
    (h0 : (j 0).val = b.val * 4096 + t.val) (h1 : (j 1).val = h.val * 128 + e.val) :
    keys k j = k (ix4 b t h e) :=
  rows_apply k j b t h e h0 h1

variable (m : (ℓ : Loc nD τ sig) → Buf (Elt Ideal) ℓ) (c : Dev nD)

/-- The four arguments. -/
abbrev qA : FVec Ideal S2x4096x8x128 .f32 := m ((c : Thread nD τ).loc main_arg0)
abbrev kA : FVec Ideal S2x4096x8x128 .f32 := m ((c : Thread nD τ).loc main_arg1)
abbrev vA : FVec Ideal S2x4096x8x128 .f32 := m ((c : Thread nD τ).loc main_arg2)
abbrev cA : FVec Ideal S2x4096x8 .f32 := m ((c : Thread nD τ).loc main_arg3)

theorem V_main_v9 : V m c main_v9 = concatenate S8192x2048 1 [⟨S8192x1024, queries (qA m c)⟩, ⟨S8192x1024, keys (kA m c)⟩] concatenates_S8192x1024_S8192x1024_S8192x2048_d1 := rfl

/-- The left half holds the scaled queries, -/
theorem left_at (j : S8192x2048.Idx) (b : Fin 2) (t : Fin 4096) (h : Fin 8) (e : Fin 128)
    (h0 : (j 0).val = b.val * 4096 + t.val) (h1 : (j 1).val = h.val * 128 + e.val) :
    V m c main_v9 j = Ideal.div (qA m c (ix4 b t h e) * scale) ln2 := by
  rw [V_main_v9]
  let i : S8192x1024.Idx := ix2 ⟨b.val * 4096 + t.val, by omega⟩ ⟨h.val * 128 + e.val, by omega⟩
  refine (concatenate_pair_apply_left (t := S8192x2048) (s₁ := S8192x1024) (s₂ := S8192x1024) 1 _ _ _ j rfl i (fun a => ?_)).trans
    (queries_apply _ i b t h e rfl rfl)
  match a with
  | ⟨0, _⟩ => exact h0.symm
  | ⟨1, _⟩ => exact h1.symm

/-- the right half the keys. -/
theorem right_at (j : S8192x2048.Idx) (b : Fin 2) (t : Fin 4096) (h : Fin 8) (e : Fin 128)
    (h0 : (j 0).val = b.val * 4096 + t.val) (h1 : (j 1).val = 1024 + (h.val * 128 + e.val)) :
    V m c main_v9 j = kA m c (ix4 b t h e) := by
  rw [V_main_v9]
  let i : S8192x1024.Idx := ix2 ⟨b.val * 4096 + t.val, by omega⟩ ⟨h.val * 128 + e.val, by omega⟩
  refine (concatenate_pair_apply_right (t := S8192x2048) (s₁ := S8192x1024) (s₂ := S8192x1024) 1 _ _ _ j rfl rfl i (fun a ha => ?_) ?_).trans
    (keys_apply _ i b t h e rfl rfl)
  · match a with
    | ⟨0, _⟩ => exact h0.symm
    | ⟨1, _⟩ => exact absurd rfl ha
  · show h.val * 128 + e.val + 1024 = (j 1).val
    omega

/-- The values, a column for each token. -/
theorem values_at (j : S1024x8192.Idx) (b : Fin 2) (t : Fin 4096) (h : Fin 8) (e : Fin 128)
    (h0 : (j 0).val = h.val * 128 + e.val) (h1 : (j 1).val = b.val * 4096 + t.val) :
    V m c main_v12 j = vA m c (ix4 b t h e) := by
  have ev : V m c main_v12 = (truncf .bf16 (transpose S1024x8192 [1, 0] (shapeCast S8192x1024 (vA m c) shapeCasts_S2x4096x8x128_S8192x1024) transposes_S8192x1024_S1024x8192_1_0) bitsLt_bf16_f32 : FVec Ideal S1024x8192 .bf16) := rfl
  rw [ev]
  let i : S8192x1024.Idx := ix2 ⟨b.val * 4096 + t.val, by omega⟩ ⟨h.val * 128 + e.val, by omega⟩
  refine Eq.trans (b := transpose S1024x8192 [1, 0] (shapeCast S8192x1024 (vA m c) shapeCasts_S2x4096x8x128_S8192x1024) transposes_S8192x1024_S1024x8192_1_0 j) rfl ?_
  refine (transpose_apply _ _ _ j i (fun a => ?_)).trans (rows_apply _ i b t h e rfl rfl)
  match a with
  | ⟨0, _⟩ => exact h0.symm
  | ⟨1, _⟩ => exact h1.symm

/-- The decays over a logarithm of two, a row for each head, the same number in every lane. -/
def decays (x : FVec Ideal S2x4096x8 .f32) : FVec Ideal S8x8192 .f32 :=
  Host.divf (transpose S8x8192 [1, 0] (shapeCast S8192x8 x shapeCasts_S2x4096x8_S8192x8) transposes_S8192x8_S8x8192_1_0)
    (broadcastInDim S8x8192 ![] bcast_S_S8x8192 (Host.log (constant S_ .f32 0x40000000#32)))

theorem decays_apply (x : FVec Ideal S2x4096x8 .f32) (h : Fin 8) (r : Fin 8192) (b : Fin 2) (t : Fin 4096) (hr : r.val = b.val * 4096 + t.val) :
    decays x (ix2 h r) = Ideal.div (x (ix3 b t h)) ln2 := by
  refine Eq.trans (b := Ideal.div (transpose S8x8192 [1, 0] (shapeCast S8192x8 x shapeCasts_S2x4096x8_S8192x8) transposes_S8192x8_S8x8192_1_0 (ix2 h r)) ln2) rfl ?_
  refine congrArg (Ideal.div · ln2) ?_
  refine (transpose_apply _ _ _ _ (ix2 r h) (fun a => match a with | ⟨0, _⟩ => rfl | ⟨1, _⟩ => rfl)).trans ?_
  refine shapeCast_apply _ _ (ix2 r h) (ix3 b t h) ?_
  rw [Shape.rowMajor_val_three, Shape.rowMajor_val_two]
  show (b.val * 4096 + t.val) * 8 + h.val = r.val * 8 + h.val
  omega

theorem decays_at (j : S8x8192x128.Idx) (b : Fin 2) (t : Fin 4096) (h : Fin 8)
    (h0 : (j 0).val = h.val) (h1 : (j 1).val = b.val * 4096 + t.val) :
    V m c main_v18 j = Ideal.div (cA m c (ix3 b t h)) ln2 := by
  have ev : V m c main_v18 = broadcastInDim S8x8192x128 ![0, 1, 2] bcast_S8x8192x1_S8x8192x128_0_1_2 (broadcastInDim S8x8192x1 ![0, 1] bcast_S8x8192_S8x8192x1_0_1 (decays (cA m c))) := rfl
  rw [ev]
  let r : Fin 8192 := ⟨b.val * 4096 + t.val, by omega⟩
  refine (broadcastInDim_apply _ _ _ j (ix3 h r 0) (fun a => ?_)).trans ((broadcastInDim_apply _ _ _ _ (ix2 h r) (fun a => ?_)).trans (decays_apply _ h r b t rfl))
  · match a with
    | ⟨0, _⟩ => exact h0.symm
    | ⟨1, _⟩ => exact h1.symm
    | ⟨2, _⟩ => rfl
  · match a with
    | ⟨0, _⟩ => rfl
    | ⟨1, _⟩ => rfl

end Cert.FoxHost

end
-- ==== Proof.FoxRow.lean ====
/-
  One row of the attention: the state after all keys of a query whose scores are real is the softmax of its logits.
-/
module

public import proofs.«01_k».proof.Proof.FoxMath
public import proofs.«01_k».proof.Proof.FoxHost

@[expose] public section

noncomputable section

namespace Cert.FoxRow

open Idealize.ShloMosaic Cert.FoxMath Cert.FoxHost

/-- The host's logarithm of two is the logarithm of two, -/
theorem ln2_eq : ln2 = ((Real.log 2 : ℝ) : EReal) := by
  have e : Ideal.ofBits .f32 0x40000000#32 = ((2 : ℝ) : EReal) := by
    have h1 : (BitVec.extractLsb' 23 8 0x40000000#32).toNat = 128 := by decide
    have h2 : (BitVec.extractLsb' 0 23 0x40000000#32).toNat = 0 := by decide
    have h3 : (BitVec.extractLsb' 31 1 0x40000000#32 == 1#1) = false := by decide
    simp only [Ideal.ofBits, Ideal.ieee, h1, h2, h3]
    norm_num
  unfold ln2
  rw [e, Ideal.log_coe, if_neg (by norm_num)]

/-- and the scale is a real number. -/
theorem scale_real : ∃ σ : ℝ, scale = (σ : EReal) := by
  unfold scale
  simp only [Ideal.ofBits, Ideal.ieee]
  exact ⟨_, rfl⟩

/-- A real over the logarithm of two. -/
theorem div_ln2 (x : ℝ) : Ideal.div (x : EReal) ln2 = ((x * (Real.log 2)⁻¹ : ℝ) : EReal) := by
  have h0 : ((Real.log 2 : ℝ) : EReal) ≠ 0 := by exact_mod_cast (Real.log_pos (by norm_num : (1 : ℝ) < 2)).ne'
  rw [ln2_eq, Ideal.div, if_neg h0, EReal.coe_mul, EReal.coe_inv]

/-- A score in base two: the logit without the query's own decay, over the logarithm of two. -/
theorem score_real (Q K : Fin 128 → ℝ) (C σ : ℝ) :
    (∑ e, (K e : EReal) * Ideal.div ((Q e : EReal) * (σ : EReal)) ln2) - Ideal.div (C : EReal) ln2
      = (((Real.log 2)⁻¹ * ((∑ e, Q e * K e) * σ - C) : ℝ) : EReal) := by
  have e1 : ∀ e, (K e : EReal) * Ideal.div ((Q e : EReal) * (σ : EReal)) ln2 = ((K e * (Q e * σ * (Real.log 2)⁻¹) : ℝ) : EReal) := fun e => by
    rw [← EReal.coe_mul, div_ln2, ← EReal.coe_mul]
  rw [Finset.sum_congr rfl fun e _ => e1 e, ← coe_sum, div_ln2, ← EReal.coe_sub]
  refine congrArg _ ?_
  rw [mul_sub, Finset.sum_mul, Finset.mul_sum, mul_comm C]
  refine congrArg (· - _) (Finset.sum_congr rfl fun e _ => ?_)
  ring

/-- A logit. -/
theorem logit_real (Q K : Fin 128 → ℝ) (C D σ : ℝ) :
    (∑ e, (Q e : EReal) * (K e : EReal)) * (σ : EReal) + (D : EReal) - (C : EReal) = (((∑ e, Q e * K e) * σ - C + D : ℝ) : EReal) := by
  have e1 : ∀ e, (Q e : EReal) * (K e : EReal) = ((Q e * K e : ℝ) : EReal) := fun e => (EReal.coe_mul _ _).symm
  rw [Finset.sum_congr rfl fun e _ => e1 e, ← coe_sum, ← EReal.coe_mul, ← EReal.coe_add, ← EReal.coe_sub]
  exact congrArg _ (by ring)

/-- The state after all keys of query `t`. -/
theorem row {s : ℕ → EReal} {v : Fin 128 → ℕ → EReal} {m l : EReal} {a : Fin 128 → EReal} (h : Col s v 4096 m l a) (t : Fin 4096)
    (q : Fin 128 → EReal) (k : Fin 4096 → Fin 128 → EReal) (c : Fin 4096 → EReal)
    (hq : ∀ e, ∃ x : ℝ, q e = x) (hk : ∀ n e, ∃ x : ℝ, k n e = x) (hc : ∀ n, ∃ x : ℝ, c n = x)
    (hs : ∀ n : Fin 4096, s n.val = if n.val ≤ t.val then (∑ e, k n e * Ideal.div (q e * scale) ln2) - Ideal.div (c n) ln2 else ⊥)
    (g : Fin 4096 → EReal) (hg : ∀ n, g n = if n.val ≤ t.val then (∑ e, q e * k n e) * scale + c t - c n else ⊥) (d : Fin 128) :
    Ideal.div (a d) l = ∑ n : Fin 4096, Ideal.div (Ideal.exp (g n - Finset.univ.sup g)) (∑ x, Ideal.exp (g x - Finset.univ.sup g)) * v d n.val := by
  choose Q hQ using hq
  choose K hK using hk
  choose C hC using hc
  obtain ⟨σ, hσ⟩ := scale_real
  let i : ℕ → Fin 4096 := fun n => ⟨n % 4096, Nat.mod_lt _ (by decide)⟩
  have hi : ∀ n : Fin 4096, i n.val = n := fun n => Fin.ext (Nat.mod_eq_of_lt n.isLt)
  let r : ℕ → EReal := fun n => g (i n)
  have hr : ∀ n : Fin 4096, r n.val = g n := fun n => congrArg g (hi n)
  have key := h.softmax (r := r) (t := t.val) (by decide) (fun n => (∑ e, Q e * K (i n) e) * σ - C (i n)) (C t)
    (fun n hn => by
      have := hs ⟨n, hn⟩
      rw [show i n = ⟨n, hn⟩ from hi ⟨n, hn⟩]
      refine this.trans (if_congr Iff.rfl ?_ rfl)
      rw [← score_real, hC, hσ]
      exact congrArg (· - _) (Finset.sum_congr rfl fun e _ => by rw [hK, hQ]))
    (fun n hn => by
      have := hg ⟨n, hn⟩
      show g (i n) = _
      rw [show i n = ⟨n, hn⟩ from hi ⟨n, hn⟩]
      refine this.trans (if_congr Iff.rfl ?_ rfl)
      rw [← logit_real, hC, hC, hσ]
      exact congrArg (fun z => z * _ + _ - _) (Finset.sum_congr rfl fun e _ => by rw [hK, hQ])) d
  have hsup : (Finset.range 4096).sup r = Finset.univ.sup g := by
    refine le_antisymm (Finset.sup_le fun n hn => ?_) (Finset.sup_le fun n _ => ?_)
    · exact Finset.le_sup (f := g) (Finset.mem_univ (i n))
    · rw [← hr n]; exact Finset.le_sup (f := r) (Finset.mem_range.mpr n.isLt)
  rw [key, hsup, Finset.sum_range]
  refine Finset.sum_congr rfl fun n _ => ?_
  rw [hr n, Finset.sum_range]
  exact congrArg (fun z => Ideal.div _ z * _) (Finset.sum_congr rfl fun x _ => by rw [hr x])

end Cert.FoxRow

end
-- ==== Proof.FoxRef.lean ====
/-
  The reference attention over the extended reals, at one place: the causal softmax of scaled products plus the
  difference of the cumulative decays, times the values.
-/
module

public import proofs.«01_k».proof.Proof.Gen.FoxRefIdeal.Run
public import proofs.«01_k».proof.Proof.Blocks
public import proofs.«01_k».proof.Proof.FoxTile
public import Idealize.ShloMosaic.Lib.Pointwise
public import Idealize.ShloMosaic.Lib.WordCmp

@[expose] public section

set_option maxRecDepth 16384

noncomputable section

namespace Cert.FoxRef

open Idealize.ShloMosaic Idealize.ShloMosaic.TcCoe Idealize.ShloMosaic.Tactic
open Idealize.SL.Sem Cert.Blocks Cert.FoxRefIdeal Cert.FoxRefIdeal.Gen

/-- The logit of query `t` and key `n`. -/
def logit (q k : FVec Ideal S2x4096x8x128 .f32) (c : FVec Ideal S2x4096x8 .f32) (b : Fin 2) (h : Fin 8) (t n : Fin 4096) : EReal :=
  if n.val ≤ t.val then (∑ e : Fin 128, q (ix4 b t h e) * k (ix4 b n h e)) * Ideal.ofBits .f32 0x3DB504F3#32 + c (ix3 b t h) - c (ix3 b n h) else ⊥

/-- The masked logits of the reference, at a place. -/
theorem masked_apply (q k : FVec Ideal S2x4096x8x128 .f32) (c : FVec Ideal S2x4096x8 .f32) (b : Fin 2) (h : Fin 8) (t n : Fin 4096) :
    (select (broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (mulf (Host.dotGeneral (F := Ideal) dot_S2x8x4096x128_S2x8x4096x128_S2x8x4096x4096_3_3_2_2_01_01 none (transpose S2x8x4096x128 [0, 2, 1, 3] q transposes_S2x4096x8x128_S2x8x4096x128_0_2_1_3) (transpose S2x8x4096x128 [0, 2, 1, 3] k transposes_S2x4096x8x128_S2x8x4096x128_0_2_1_3)) (broadcastInDim S2x8x4096x4096 ![] bcast_S_S2x8x4096x4096 (constant S_ .f32 0x3DB504F3#32))) (broadcastInDim S2x8x4096x4096 ![0, 1, 2, 3] bcast_S2x8x4096x1_S2x8x4096x4096_0_1_2_3 (broadcastInDim S2x8x4096x1 ![0, 1, 2] bcast_S2x8x4096_S2x8x4096x1_0_1_2 (transpose S2x8x4096 [0, 2, 1] c transposes_S2x4096x8_S2x8x4096_0_2_1)))) (broadcastInDim S2x8x4096x4096 ![0, 1, 2, 3] bcast_S2x8x1x4096_S2x8x4096x4096_0_1_2_3 (broadcastInDim S2x8x1x4096 ![0, 1, 3] bcast_S2x8x4096_S2x8x1x4096_0_1_3 (transpose S2x8x4096 [0, 2, 1] c transposes_S2x4096x8_S2x8x4096_0_2_1)))) (broadcastInDim S2x8x4096x4096 ![] bcast_S_S2x8x4096x4096 (id (constant S_ .f32 0xFF800000#32))) : FVec Ideal S2x8x4096x4096 .f32) (ix4 b h t n) = logit q k c b h t n := by
  unfold logit
  pointwise
  rw [show (id (constant (F := Ideal) S_ FTy.f32 0xFF800000#32) : FVec Ideal S_ .f32) ix0 = Ideal.ofBits FTy.f32 0xFF800000#32 from rfl, Cert.FoxTile.select_bot]
  refine if_congr ?_ rfl rfl
  exact WordCmp.cmpi_sle_ofNat_eq_one_iff (by omega) (by omega)

/-- Axis 3 of a four-axis array of logits is reduced away. -/
theorem red : (S2x8x4096x4096 : Shape).Reduces [3] S2x8x4096 := by decide

/-- A maximum over the keys, at a place. -/
theorem max_apply (M : FVec Ideal S2x8x4096x4096 .f32) (b : Fin 2) (h : Fin 8) (t : Fin 4096) :
    (Host.reduce FloatOps.maximumf M (constant S_ .f32 0xFF800000#32) reducesTo_S2x8x4096x4096_S2x8x4096_d3 h_S_ : FVec Ideal S2x8x4096 .f32) (ix3 b h t)
      = Finset.univ.sup fun x => M (ix4 b h t x) := by
  refine (Host.reduce_eq_fold_single (FloatOps.maximumf (F := Ideal) (φ := .f32)) M _ _ red _ (ix3 b h t)).trans ?_
  have e : M ∘ red.lift (ix3 b h t) = fun x : Fin 4096 => M (ix4 b h t x) := by
    funext x
    refine congrArg M (funext fun a => Fin.ext ?_)
    match a with
    | ⟨0, _⟩ => rfl
    | ⟨1, _⟩ => rfl
    | ⟨2, _⟩ => rfl
    | ⟨3, _⟩ => rfl
  rw [e]
  exact Cert.FoxTile.fold_sup _

/-- A row's number beside every key, at a place. -/
theorem beside_apply (X : FVec Ideal S2x8x4096 .f32) (b : Fin 2) (h : Fin 8) (t n : Fin 4096) :
    (broadcastInDim S2x8x4096x4096 ![0, 1, 2, 3] bcast_S2x8x4096x1_S2x8x4096x4096_0_1_2_3 (broadcastInDim S2x8x4096x1 ![0, 1, 2] bcast_S2x8x4096_S2x8x4096x1_0_1_2 X) : FVec Ideal S2x8x4096x4096 .f32) (ix4 b h t n)
      = X (ix3 b h t) := by
  pointwise

/-- The larger of two arrays, at a place, -/
theorem pair_max {s : Shape} (x y : FVec Ideal s .f32) (i : s.Idx) : maximumf x y i = max (x i) (y i) := rfl

/-- and the value the maximum starts from. -/
theorem floor_apply (b : Fin 2) (h : Fin 8) (t : Fin 4096) :
    (broadcastInDim S2x8x4096 ![] bcast_S_S2x8x4096 (constant S_ .f32 0xFF800000#32) : FVec Ideal S2x8x4096 .f32) (ix3 b h t) = ⊥ :=
  (broadcastInDim_apply _ _ _ _ (Shape.Idx.first h_S_) fun a => a.elim0).trans Cert.FoxTile.word_bot

/-- The largest logit of a query, -/
theorem top_apply (M : FVec Ideal S2x8x4096x4096 .f32) (b : Fin 2) (h : Fin 8) (t n : Fin 4096) :
    (broadcastInDim S2x8x4096x4096 ![0, 1, 2, 3] bcast_S2x8x4096x1_S2x8x4096x4096_0_1_2_3 (broadcastInDim S2x8x4096x1 ![0, 1, 2] bcast_S2x8x4096_S2x8x4096x1_0_1_2 (maximumf (broadcastInDim S2x8x4096 ![] bcast_S_S2x8x4096 (constant S_ .f32 0xFF800000#32)) (Host.reduce FloatOps.maximumf M (constant S_ .f32 0xFF800000#32) reducesTo_S2x8x4096x4096_S2x8x4096_d3 h_S_))) : FVec Ideal S2x8x4096x4096 .f32) (ix4 b h t n)
      = Finset.univ.sup fun x => M (ix4 b h t x) := by
  rw [beside_apply, pair_max, max_apply, floor_apply]
  exact max_bot_left _

/-- the sum of a query's weights, -/
theorem total_apply (E : FVec Ideal S2x8x4096x4096 .f32) (b : Fin 2) (h : Fin 8) (t n : Fin 4096) :
    (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd E (constant S_ .f32 0x00000000#32) reducesTo_S2x8x4096x4096_S2x8x4096_d3 h_S_)) : FVec Ideal S2x8x4096x4096 .f32) (ix4 b h t n)
      = ∑ x, E (ix4 b h t x) := by
  pointwise

/-- and the product of the weights with the values. -/
theorem mix_apply (P : FVec Ideal S2x8x4096x4096 .f32) (v : FVec Ideal S2x4096x8x128 .f32) (b : Fin 2) (h : Fin 8) (t : Fin 4096) (d : Fin 128) :
    (Host.dotGeneral (F := Ideal) dot_S2x8x4096x4096_S2x8x4096x128_S2x8x4096x128_3_2_2_3_01_01 none P (transpose S2x8x4096x128 [0, 2, 1, 3] v transposes_S2x4096x8x128_S2x8x4096x128_0_2_1_3) : FVec Ideal S2x8x4096x128 .f32) (ix4 b h t d)
      = ∑ n, P (ix4 b h t n) * v (ix4 b n h d) := by
  pointwise

theorem truncf_eq {s : Shape} (x : FVec Ideal s .f32) (h : FTy.bits .bf16 < FTy.bits .f32) (i : s.Idx) : (truncf .bf16 x h : FVec Ideal s .bf16) i = x i := rfl

/-- The heads' results beside one another, a row for each token. -/
theorem rows_apply (o : FVec Ideal S2x8x4096x128 .f32) (j : S8192x1024.Idx) (b : Fin 2) (t : Fin 4096) (h : Fin 8) (d : Fin 128)
    (h0 : (j 0).val = b.val * 4096 + t.val) (h1 : (j 1).val = h.val * 128 + d.val) :
    (truncf .bf16 (shapeCast S8192x1024 (transpose S2x4096x8x128 [0, 2, 1, 3] o transposes_S2x8x4096x128_S2x4096x8x128_0_2_1_3) shapeCasts_S2x4096x8x128_S8192x1024) bitsLt_bf16_f32 : FVec Ideal S8192x1024 .bf16) j
      = o (ix4 b h t d) := by
  refine (truncf_eq _ _ j).trans ((shapeCast_apply (transpose S2x4096x8x128 [0, 2, 1, 3] o transposes_S2x8x4096x128_S2x4096x8x128_0_2_1_3) _ j (ix4 b t h d) ?_).trans ?_)
  · rw [Shape.rowMajor_val_four, Shape.rowMajor_val_two]
    show ((b.val * 4096 + t.val) * 8 + h.val) * 128 + d.val = (j 0).val * 1024 + (j 1).val
    omega
  · exact transpose_apply _ _ _ _ _ (fun a => match a with | ⟨0, _⟩ => rfl | ⟨1, _⟩ => rfl | ⟨2, _⟩ => rfl | ⟨3, _⟩ => rfl)

/-- The weight of key `n` for query `t`, -/
def weight (q k : FVec Ideal S2x4096x8x128 .f32) (c : FVec Ideal S2x4096x8 .f32) (b : Fin 2) (h : Fin 8) (t n : Fin 4096) : EReal :=
  Ideal.div (Ideal.exp (logit q k c b h t n - Finset.univ.sup (logit q k c b h t))) (∑ x, Ideal.exp (logit q k c b h t x - Finset.univ.sup (logit q k c b h t)))

/-- and the attention: row `4096 b + t`, column `128 h + d` hold coordinate `d` of head `h`'s mean of the values. -/
def attend (q k v : FVec Ideal S2x4096x8x128 .f32) (c : FVec Ideal S2x4096x8 .f32) : FVec Ideal S8192x1024 .bf16 := fun j =>
  ∑ n, weight q k c ⟨(j 0).val / 4096, by have := (j 0).isLt; change (j 0).val < 8192 at this; omega⟩
      ⟨(j 1).val / 128, by have := (j 1).isLt; change (j 1).val < 1024 at this; omega⟩
      ⟨(j 0).val % 4096, Nat.mod_lt _ (by decide)⟩ n
    * v (ix4 ⟨(j 0).val / 4096, by have := (j 0).isLt; change (j 0).val < 8192 at this; omega⟩ n
      ⟨(j 1).val / 128, by have := (j 1).isLt; change (j 1).val < 1024 at this; omega⟩ ⟨(j 1).val % 128, Nat.mod_lt _ (by decide)⟩)

/-- A host softmax over the last axis, from its three readings. -/
theorem soft_apply (M T : FVec Ideal S2x8x4096x4096 .f32) (Z : FVec Ideal S2x8x4096x4096 .f32) (g : Fin 4096 → EReal) (b : Fin 2) (h : Fin 8) (t n : Fin 4096)
    (hM : ∀ x, M (ix4 b h t x) = g x) (hT : ∀ x, T (ix4 b h t x) = Finset.univ.sup g)
    (hZ : Z (ix4 b h t n) = ∑ x, (Host.exp (subf M T) : FVec Ideal S2x8x4096x4096 .f32) (ix4 b h t x)) :
    (Host.divf (Host.exp (subf M T)) Z : FVec Ideal S2x8x4096x4096 .f32) (ix4 b h t n)
      = Ideal.div (Ideal.exp (g n - Finset.univ.sup g)) (∑ x, Ideal.exp (g x - Finset.univ.sup g)) := by
  have e : ∀ x, (Host.exp (subf M T) : FVec Ideal S2x8x4096x4096 .f32) (ix4 b h t x) = Ideal.exp (g x - Finset.univ.sup g) := fun x => by
    rw [← hT x, ← hM x]; rfl
  show Ideal.div ((Host.exp (subf M T) : FVec Ideal S2x8x4096x4096 .f32) (ix4 b h t n)) (Z (ix4 b h t n)) = _
  rw [hZ, e n]
  exact congrArg _ (Finset.sum_congr rfl fun x _ => e x)

variable (m : (ℓ : Loc nD τ sig) → Buf (Elt Ideal) ℓ) (c : Dev nD)

/-- **The reference's result is the attention.** -/
theorem reference_eq : Cert.FoxRefIdeal.Value.res_main_v34 m c
    = attend (m ((c.tc : Thread nD τ).loc main_arg0)) (m ((c.tc : Thread nD τ).loc main_arg1)) (m ((c.tc : Thread nD τ).loc main_arg2)) (m ((c.tc : Thread nD τ).loc main_arg3)) := by
  funext j
  have l0 : (j 0).val < 8192 := (j 0).isLt
  have l1 : (j 1).val < 1024 := (j 1).isLt
  refine (rows_apply _ j ⟨(j 0).val / 4096, by omega⟩ ⟨(j 0).val % 4096, by omega⟩ ⟨(j 1).val / 128, by omega⟩ ⟨(j 1).val % 128, by omega⟩ (by dsimp only; omega) (by dsimp only; omega)).trans ?_
  refine (mix_apply _ _ _ _ _ _).trans (Finset.sum_congr rfl fun n _ => congrArg (· * _) ?_)
  refine soft_apply _ _ _ _ _ _ _ _ (fun x => masked_apply _ _ _ _ _ _ x) (fun x => (top_apply _ _ _ _ _).trans (congrArg _ (funext fun x => masked_apply _ _ _ _ _ _ x))) (total_apply _ _ _ _ _)

end Cert.FoxRef

end
-- ==== Proof.FoxOut.lean ====
/-
  What the attention's array holds at the end, from real queries, keys and decays: the reference's attention.
-/
module

public import proofs.«01_k».proof.Proof.FoxPoint
public import Idealize.ShloMosaic.Lib.Pipeline.Covers
public import proofs.«01_k».proof.Proof.FoxRow
public import proofs.«01_k».proof.Proof.FoxRef
public import proofs.«01_k».proof.Proof.Gen.FoxIdeal.Value

@[expose] public section

set_option maxRecDepth 16384

noncomputable section

namespace Cert.FoxOut

open Idealize.ShloMosaic Idealize.ShloMosaic.TcCoe Idealize.ShloMosaic.Tactic
open Idealize.SL.Sem Cert.Blocks Cert.FoxIdeal Cert.FoxIdeal.Gen Cert.FoxIdeal.Value
open Cert.FoxHost Cert.FoxTrip Cert.FoxPoint Cert.FoxMath
open Cert.FoxRef (attend logit weight)

variable (m : (ℓ : Loc nD τ sig) → Buf (Elt Ideal) ℓ) (c : Dev nD)

/-! ## Where the blocks lie -/

theorem idx0 : ∀ t : Fin cfg0.N, win0_0.index t 0 = t.val / 16 * 8 + t.val % 8 ∧ win0_0.index t 1 = t.val / 8 % 2 :=
  (by decide +kernel : ∀ t : Fin grid0.N, win0_0.index t 0 = t.val / 16 * 8 + t.val % 8 ∧ win0_0.index t 1 = t.val / 8 % 2)
theorem idx1 : ∀ t : Fin cfg0.N, win0_1.index t 0 = t.val / 16 ∧ win0_1.index t 1 = 2 + t.val / 8 % 2 :=
  (by decide +kernel : ∀ t : Fin grid0.N, win0_1.index t 0 = t.val / 16 ∧ win0_1.index t 1 = 2 + t.val / 8 % 2)
theorem idx2 : ∀ t : Fin cfg0.N, win0_2.index t 0 = t.val / 8 % 2 ∧ win0_2.index t 1 = t.val / 16 :=
  (by decide +kernel : ∀ t : Fin grid0.N, win0_2.index t 0 = t.val / 8 % 2 ∧ win0_2.index t 1 = t.val / 16)
theorem idx3 : ∀ t : Fin cfg0.N, win0_3.index t 0 = t.val / 8 % 2 ∧ win0_3.index t 1 = t.val / 16 :=
  (by decide +kernel : ∀ t : Fin grid0.N, win0_3.index t 0 = t.val / 8 % 2 ∧ win0_3.index t 1 = t.val / 16)
theorem idx4 : ∀ t : Fin cfg0.N, win0_4.index t 0 = t.val / 16 * 8 + t.val % 8 ∧ win0_4.index t 1 = t.val / 8 % 2 :=
  (by decide +kernel : ∀ t : Fin grid0.N, win0_4.index t 0 = t.val / 16 * 8 + t.val % 8 ∧ win0_4.index t 1 = t.val / 8 % 2)

theorem N_lt (t : Fin cfg0.N) : t.val < 32 := lt_of_lt_of_eq t.isLt (show cfg0.N = 32 from N_0)

/-- The query block of a grid point. -/
theorem query_eq (t : Fin grid0.N) : (grid0.coords t 2).val = t.val % 8 := by
  have h : (grid0.coords t 2).val = t.val / 1 % 8 := Pipeline.Grid.coords_val t 2 (by decide) rfl
  rw [h, Nat.div_one]

/-- A point's batch, -/
def batch (t : Fin cfg0.N) : Fin 2 := ⟨t.val / 16, by have := N_lt t; omega⟩
/-- the layer's head that is head `h` of the point's group, -/
def head (t : Fin cfg0.N) (h : Fin 4) : Fin 8 := ⟨t.val / 8 % 2 * 4 + h.val, by omega⟩
/-- and the token in row `y` of its block. -/
def token (t : Fin cfg0.N) (y : Fin 512) : Fin 4096 := ⟨t.val % 8 * 512 + y.val, by omega⟩

/-- The queries of a point. -/
theorem blk0 (t : Fin cfg0.N) (y : Fin 512) (h : Fin 4) (e : Fin 128) :
    iblk m c 0 t (ix2 y (col h e)) = Ideal.div (qA m c (ix4 (batch t) (token t y) (head t h) e) * scale) ln2 := by
  refine left_at m c _ (batch t) (token t y) (head t h) e ?_ ?_
  · refine ((cfg0.win 0).rect_emb_val t (ix2 y (col h e)) ⟨0, Nat.zero_lt_succ 1⟩).trans ((congrArg (· * 512 + y.val) (idx0 t).1).trans ?_)
    show (t.val / 16 * 8 + t.val % 8) * 512 + y.val = t.val / 16 * 4096 + (t.val % 8 * 512 + y.val)
    omega
  · refine ((cfg0.win 0).rect_emb_val t (ix2 y (col h e)) ⟨1, Nat.lt_succ_self 1⟩).trans ((congrArg (· * 512 + (128 * h.val + e.val)) (idx0 t).2).trans ?_)
    show t.val / 8 % 2 * 512 + (128 * h.val + e.val) = (t.val / 8 % 2 * 4 + h.val) * 128 + e.val
    omega
/-- Its keys, -/
theorem blk1 (t : Fin cfg0.N) (n : Fin 4096) (h : Fin 4) (e : Fin 128) :
    iblk m c 1 t (ix2 n (col h e)) = kA m c (ix4 (batch t) n (head t h) e) := by
  refine right_at m c _ (batch t) n (head t h) e ?_ ?_
  · exact ((cfg0.win 1).rect_emb_val t (ix2 n (col h e)) ⟨0, Nat.zero_lt_succ 1⟩).trans (congrArg (· * 4096 + n.val) (idx1 t).1)
  · refine ((cfg0.win 1).rect_emb_val t (ix2 n (col h e)) ⟨1, Nat.lt_succ_self 1⟩).trans ((congrArg (· * 512 + (128 * h.val + e.val)) (idx1 t).2).trans ?_)
    show (2 + t.val / 8 % 2) * 512 + (128 * h.val + e.val) = 1024 + ((t.val / 8 % 2 * 4 + h.val) * 128 + e.val)
    omega
/-- its values, -/
theorem blk2 (t : Fin cfg0.N) (n : Fin 4096) (h : Fin 4) (e : Fin 128) :
    iblk m c 2 t (ix2 (col h e) n) = vA m c (ix4 (batch t) n (head t h) e) := by
  refine values_at m c _ (batch t) n (head t h) e ?_ ?_
  · refine ((cfg0.win 2).rect_emb_val t (ix2 (col h e) n) ⟨0, Nat.zero_lt_succ 1⟩).trans ((congrArg (· * 512 + (128 * h.val + e.val)) (idx2 t).1).trans ?_)
    show t.val / 8 % 2 * 512 + (128 * h.val + e.val) = (t.val / 8 % 2 * 4 + h.val) * 128 + e.val
    omega
  · exact ((cfg0.win 2).rect_emb_val t (ix2 (col h e) n) ⟨1, Nat.lt_succ_self 1⟩).trans (congrArg (· * 4096 + n.val) (idx2 t).2)
/-- and its decays. -/
theorem blk3 (t : Fin cfg0.N) (n : Fin 4096) (h : Fin 4) (l : Fin 128) :
    iblk m c 3 t (ix3 h n l) = Ideal.div (cA m c (ix3 (batch t) n (head t h))) ln2 := by
  refine decays_at m c _ (batch t) n (head t h) ?_ ?_
  · exact ((cfg0.win 3).rect_emb_val t (ix3 h n l) ⟨0, Nat.zero_lt_succ 2⟩).trans (congrArg (· * 4 + h.val) (idx3 t).1)
  · exact ((cfg0.win 3).rect_emb_val t (ix3 h n l) ⟨1, Nat.succ_lt_succ (Nat.zero_lt_succ 1)⟩).trans (congrArg (· * 4096 + n.val) (idx3 t).2)

/-! ## A point's result -/

/-- The attention at a place, named by batch, token, head and coordinate. -/
theorem attend_at (q k v : FVec Ideal S2x4096x8x128 .f32) (x : FVec Ideal S2x4096x8 .f32) (j : S8192x1024.Idx) (b : Fin 2) (t : Fin 4096)
    (h : Fin 8) (d : Fin 128) (h0 : (j 0).val = b.val * 4096 + t.val) (h1 : (j 1).val = h.val * 128 + d.val) :
    attend q k v x j = ∑ n, weight q k x b h t n * v (ix4 b n h d) := by
  have l0 : (j 0).val < 8192 := (j 0).isLt
  have l1 : (j 1).val < 1024 := (j 1).isLt
  have eb : (⟨(j 0).val / 4096, by omega⟩ : Fin 2) = b := Fin.ext (by dsimp only; omega)
  have et : (⟨(j 0).val % 4096, by omega⟩ : Fin 4096) = t := Fin.ext (by dsimp only; omega)
  have eh : (⟨(j 1).val / 128, by omega⟩ : Fin 8) = h := Fin.ext (by dsimp only; omega)
  have ed : (⟨(j 1).val % 128, by omega⟩ : Fin 128) = d := Fin.ext (by dsimp only; omega)
  unfold attend
  rw [eb, et, eh, ed]

/-- Real queries, keys and decays. -/
structure Finite : Prop where
  q : ∀ i, ∃ x : ℝ, qA m c i = x
  k : ∀ i, ∃ x : ℝ, kA m c i = x
  d : ∀ i, ∃ x : ℝ, cA m c i = x

/-- The state a grid point ends with is the attention of its query. -/
theorem state_out (hf : Finite m c) (t : Fin cfg0.N) (h : Fin 4) (y : Fin 512) {m' l : EReal} {a : Fin 128 → EReal} (p : ℕ) (hp : p = t.val % 8)
    (hcol : Col (sc p (iblk m c 0 t) (iblk m c 1 t) (iblk m c 3 t) h y) (va (iblk m c 2 t) h) (512 * p + 256 + 256) m' l a) (d : Fin 128) :
    Ideal.div (a d) l = ∑ n, weight (qA m c) (kA m c) (cA m c) (batch t) (head t h) (token t y) n * vA m c (ix4 (batch t) n (head t h) d) := by
  have hp8 : p < 8 := by omega
  have all := hcol.skip (4096 - (512 * p + 256 + 256)) (fun n hn => if_neg (by omega))
  rw [show 512 * p + 256 + 256 + (4096 - (512 * p + 256 + 256)) = 4096 by omega] at all
  have hkey : ∀ n : Fin 4096, key n.val = n := fun n => Fin.ext (Nat.mod_eq_of_lt n.isLt)
  refine (Cert.FoxRow.row all (token t y) (fun e => qA m c (ix4 (batch t) (token t y) (head t h) e)) (fun n e => kA m c (ix4 (batch t) n (head t h) e))
    (fun n => cA m c (ix3 (batch t) n (head t h))) (fun e => hf.q _) (fun n e => hf.k _) (fun n => hf.d _) (fun n => ?_)
    (logit (qA m c) (kA m c) (cA m c) (batch t) (head t h) (token t y)) (fun n => rfl) d).trans ?_
  · unfold sc
    rw [hkey n]
    refine if_congr ?_ ?_ rfl
    · show n.val ≤ 512 * p + y.val ↔ n.val ≤ t.val % 8 * 512 + y.val
      omega
    · rw [blk3]
      exact congrArg (· - _) (Finset.sum_congr rfl fun e _ => congrArg₂ (· * ·) (blk1 m c t n h e) (blk0 m c t y h e))
  · refine Finset.sum_congr rfl fun n _ => congrArg₂ (· * ·) rfl ?_
    unfold va
    rw [hkey n]
    exact blk2 m c t n h d

/-- What a grid point writes. -/
theorem flushed_at (hf : Finite m c) (t : Fin cfg0.N) (h : Fin 4) (y : Fin 512) (d : Fin 128) (z : ((cfg0.win 4).xblock (grid0.coords t)).Idx)
    (hz : z = (ix2 y (col h d) : S512x512.Idx)) :
    (dats m 0 c).flushed 4 t z = ∑ n, weight (qA m c) (kA m c) (cA m c) (batch t) (head t h) (token t y) n * vA m c (ix4 (batch t) n (head t h) d) := by
  subst hz
  by_cases h0 : t.val % 2 = 1
  · rw [flushed4_B m c t h0]
    obtain ⟨m', l, a, hc, ho⟩ := out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) (iblk m c 3 t) ((hcond0_0 t).mpr h0) (by rw [query_eq]; omega) h y
    exact (ho d).trans (state_out m c hf t h y _ (query_eq t) hc d)
  · rw [flushed4_A m c t h0]
    obtain ⟨m', l, a, hc, ho⟩ := out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) (iblk m c 3 t) (fun h => h0 ((hcond0_0 t).mp h)) (by rw [query_eq]; omega) h y
    exact (ho d).trans (state_out m c hf t h y _ (query_eq t) hc d)

/-- **The array at the end is the attention.** -/
theorem arr_attend (hf : Finite m c) : (dats m 0 c).arrAt 4 cfg0.N = attend (qA m c) (kA m c) (vA m c) (cA m c) := by
  refine (dats m 0 c).arrAt_eq_of_covers 4 _ ?_ fun t hfl y => ?_
  · refine (cfg0.win 4).covers_of_indexMap_surj rfl (fun a => match a with
      | ⟨0, _⟩ => (by decide : 0 < 512)
      | ⟨1, _⟩ => (by decide : 0 < 512)) fun β => ?_
    have h0 : (β ⟨0, Nat.zero_lt_succ 1⟩).val < (8192 + 512 - 1) / 512 := (β ⟨0, Nat.zero_lt_succ 1⟩).isLt
    have h1 : (β ⟨1, Nat.lt_succ_self 1⟩).val < (1024 + 512 - 1) / 512 := (β ⟨1, Nat.lt_succ_self 1⟩).isLt
    have b1 : (β ⟨1, Nat.lt_succ_self 1⟩).val < 1048576 := by omega
    have key0 : ∀ j : Fin 16, (Scalar.addi (Scalar.muli (BitVec.ofNat 32 (j.val / 8)) 8#32) (BitVec.ofNat 32 (j.val % 8))).toNat = j.val := by decide
    refine ⟨fun a => match a with
      | ⟨0, _⟩ => ⟨(β ⟨0, Nat.zero_lt_succ 1⟩).val / 8, by show _ < 2; omega⟩
      | ⟨1, _⟩ => ⟨(β ⟨1, Nat.lt_succ_self 1⟩).val, by show _ < 2; omega⟩
      | ⟨2, _⟩ => ⟨(β ⟨0, Nat.zero_lt_succ 1⟩).val % 8, by show _ < 8; omega⟩, fun a => ?_⟩
    match a with
    | ⟨0, _⟩ => exact key0 ⟨(β ⟨0, Nat.zero_lt_succ 1⟩).val, by omega⟩
    | ⟨1, _⟩ => exact word _ b1
  · change S512x512.Idx at y
    have hy0 : (y 0).val < 512 := (y 0).isLt
    have hy1 : (y 1).val < 512 := (y 1).isLt
    have hN := N_lt t
    have ey : y = ix2 (y 0) (col ⟨(y 1).val / 128, by omega⟩ ⟨(y 1).val % 128, by omega⟩) := idx2_eq _ _ _ rfl (by
      show (y 1).val = 128 * ((y 1).val / 128) + (y 1).val % 128
      omega)
    refine (flushed_at m c hf t _ _ _ y ey).trans (attend_at _ _ _ _ _ _ _ _ _ ?_ ?_).symm
    · refine ((cfg0.win 4).rect_emb_val t y ⟨0, Nat.zero_lt_succ 1⟩).trans ((congrArg (· * 512 + (y 0).val) (idx4 t).1).trans ?_)
      show (t.val / 16 * 8 + t.val % 8) * 512 + (y 0).val = t.val / 16 * 4096 + (t.val % 8 * 512 + (y 0).val)
      omega
    · refine ((cfg0.win 4).rect_emb_val t y ⟨1, Nat.lt_succ_self 1⟩).trans ((congrArg (· * 512 + (y 1).val) (idx4 t).2).trans ?_)
      show t.val / 8 % 2 * 512 + (y 1).val = (t.val / 8 % 2 * 4 + (y 1).val / 128) * 128 + (y 1).val % 128
      omega

end Cert.FoxOut

end
-- ==== Proof.FoxClaims.lean ====
/-
  The claims about the forgetting attention.
-/
module

public import proofs.«01_k».proof.Defs
public import proofs.«01_k».proof.Proof.FoxOut
public import proofs.«01_k».proof.Proof.Gen.Fox.Frame
public import proofs.«01_k».proof.Proof.Gen.FoxIdeal.Frame
public import Idealize.ShloMosaic.Adequacy
public import Idealize.ShloMosaic.Init
public import Idealize.ShloMosaic.Lib.Quiescent

@[expose] public section

noncomputable section

/-- The precondition's broadcasts are broadcasts. -/
instance Cert.FoxClaims.pre_facts : Cert.Pre_finite.Facts := ⟨by decide, by decide⟩

namespace Cert.Proof

open Idealize.ShloMosaic Idealize.SL.Sem

theorem inf_word : Ideal.ofBits FTy.f32 0x7F800000#32 = (⊤ : EReal) := by
  simp [Ideal.ofBits, Ideal.ieee]

/-- A number whose absolute value is below infinity is real. -/
theorem real_of_lt (x : EReal) (h : Ideal.cmp .olt (max x (-x)) (Ideal.ofBits FTy.f32 0x7F800000#32) = 1#1) : ∃ r : ℝ, x = r := by
  rw [inf_word] at h
  induction x with
  | bot => exact absurd h (by simp [Ideal.cmp])
  | top => exact absurd h (by simp [Ideal.cmp])
  | coe r => exact ⟨r, rfl⟩

/-- The precondition makes queries, keys and decays real. -/
theorem finite_of_pre [Cert.Pre_finite.Facts] (m : (ℓ : Loc Cert.FoxIdeal.nD Cert.FoxIdeal.τ Cert.FoxIdeal.sig) → Buf (Elt Ideal) ℓ)
    (h : Cert.Pre_FoxIdeal_finite m) (c : Dev Cert.FoxIdeal.nD) : FoxOut.Finite m c :=
  ⟨fun i => real_of_lt _ (congrFun (h c).1 i), fun i => real_of_lt _ (congrFun (h c).2.1 i), fun i => real_of_lt _ (congrFun (h c).2.2 i)⟩

theorem frame_fox : Cert.quiescent_Fox := fun m g _ => Cert.Fox.Gen.frame m g

theorem frame_fox_ideal : Cert.quiescent_FoxIdeal := fun m g _ => Cert.FoxIdeal.Gen.frame m g

theorem frame_fox_ideal_pre [Cert.Pre_finite.Facts] : Cert.quiescent_FoxIdeal_pre_finite := fun m g _ => Cert.FoxIdeal.Gen.frame m g

theorem frame_fox_ref : Cert.quiescent_FoxRefIdeal := fun m g _ =>
  (θ_run _ _ _).mono (fun r h => ⟨fun c => (h c).2, sem_eq_zero_of_no_sems rfl r.2⟩) (Cert.FoxRefIdeal.Value.run m g)

theorem frame_fox_ref_pre [Cert.Pre_finite.Facts] : Cert.quiescent_FoxRefIdeal_pre_finite := fun m g _ =>
  (θ_run _ _ _).mono (fun r h => ⟨fun c => (h c).2, sem_eq_zero_of_no_sems rfl r.2⟩) (Cert.FoxRefIdeal.Value.run m g)

theorem value_fox [Cert.Pre_finite.Facts] : Cert.algebraic_FoxIdeal_FoxRefIdeal_pre_finite := fun m g m' g' hpre harg =>
  ⟨fun c => Cert.FoxRef.attend (FoxHost.qA m c) (FoxHost.kA m c) (FoxHost.vA m c) (FoxHost.cA m c),
   (θ_run _ _ _).mono (fun _ h c => ⟨(h c).1.trans (FoxOut.arr_attend m c (finite_of_pre m hpre c)), (h c).2⟩) (Cert.FoxIdeal.Value.run_blocks m g),
   (θ_run _ _ _).mono (fun _ h c => by
      obtain ⟨e0, e1, e2, e3⟩ := harg c
      refine ⟨(h c).1.trans ((FoxRef.reference_eq m' c).trans ?_), (h c).2⟩
      rw [e0, e1, e2, e3])
    (Cert.FoxRefIdeal.Value.run m' g')⟩

end Cert.Proof

end
-- ==== Proof.GatesHost.lean ====
/-
  The arrays the running sums read, as the host code before them lays them out: the forget logits and the bias padded
  to whole lanes, and the triangle of ones.
-/
module

public import proofs.«01_k».proof.Proof.Gen.GatesIdeal.Frame
public import proofs.«01_k».proof.Proof.Blocks
public import Idealize.ShloMosaic.Lib.Pipeline.Value
public import Idealize.ShloMosaic.Lib.Pointwise
public import Idealize.ShloMosaic.Lib.KernelVsHost
public import Idealize.ShloMosaic.Lib.WordCmp

@[expose] public section

set_option maxRecDepth 16384

noncomputable section

namespace Cert.GatesHost

open Idealize.ShloMosaic Idealize.ShloMosaic.TcCoe Idealize.ShloMosaic.Tactic
open Idealize.SL.Sem Cert.Blocks Cert.GatesIdeal Cert.GatesIdeal.Gen

variable (m : (ℓ : Loc nD τ sig) → Buf (Elt Ideal) ℓ) (c : Dev nD)

/-- The two arguments: the forget logits and the bias. -/
abbrev xA : FVec Ideal S2x4096x8 .f32 := m ((c : Thread nD τ).loc main_arg0)
abbrev bA : FVec Ideal S8 .f32 := m ((c : Thread nD τ).loc main_arg1)

/-- The logits, a row for each token and batch, a lane for each head. -/
theorem logit_at (j : S8192x128.Idx) (B : Fin 2) (t : Fin 4096) (h : Fin 8) (h0 : (j 0).val = B.val * 4096 + t.val) (h1 : (j 1).val = h.val) :
    V m c main_v1 j = xA m c (ix3 B t h) := by
  have ev : V m c main_v1 = pad S8192x128 ![0, 0] ![0, 120] ![0, 0] (shapeCast S8192x8 (xA m c) shapeCasts_S2x4096x8_S8192x8) (sitofp (F := Ideal) .f32 (constantI S_ 32 0#32)) pads_S8192x8_S8192x128_000_01200 h_S_ := rfl
  rw [ev]
  let i : S8192x8.Idx := ix2 ⟨B.val * 4096 + t.val, by omega⟩ h
  refine (pad_apply_of_inside _ _ _ _ _ _ _ j i (fun a => ?_)).trans (shapeCast_apply _ _ i (ix3 B t h) ?_)
  · match a with
    | ⟨0, _⟩ => exact h0.trans (by show _ = 0 + (B.val * 4096 + t.val) * (0 + 1); omega)
    | ⟨1, _⟩ => exact h1.trans (by show _ = 0 + h.val * (0 + 1); omega)
  · rw [Shape.rowMajor_val_three, Shape.rowMajor_val_two]
    rfl

/-- The bias, a lane for each head. -/
theorem bias_at (j : S1x128.Idx) (h : Fin 8) (h1 : (j 1).val = h.val) : V m c main_v3 j = bA m c (ix1 h) := by
  have ev : V m c main_v3 = shapeCast S1x128 (pad S128 ![0] ![120] ![0] (bA m c) (sitofp (F := Ideal) .f32 (constantI S_ 32 0#32)) pads_S8_S128_01200 h_S_) shapeCasts_S128_S1x128 := rfl
  rw [ev]
  have h0 : (j 0).val < 1 := (j 0).isLt
  refine (shapeCast_apply _ _ j (ix1 ⟨h.val, by omega⟩) ?_).trans (pad_apply_of_inside _ _ _ _ _ _ _ _ (ix1 h) (fun a => ?_))
  · rw [Shape.rowMajor_val_one, Shape.rowMajor_val_two]
    show h.val = (j 0).val * 128 + (j 1).val
    omega
  · match a with
    | ⟨0, _⟩ => show h.val = 0 + h.val * (0 + 1); omega

theorem one_word : Ideal.ofBits .bf16 0x3F80#16 = 1 := by
  simp [Ideal.ofBits, Ideal.ieee]
  rw [← EReal.coe_mul]
  norm_num

theorem zero_word : Ideal.ofBits .bf16 0x0000#16 = 0 := by
  simp [Ideal.ofBits, Ideal.ieee]

/-- The triangle: ones on and under the diagonal. -/
theorem tri_at (r s : Fin 256) : V m c main_v5 (ix2 r s) = (if s.val ≤ r.val then 1 else 0 : EReal) := by
  have ev : V m c main_v5 = (select (cmpi .sge (addi (iotaInDim S256x256 32 0) (broadcastInDim S256x256 ![] bcast_S_S256x256 (constantI S_ 32 0#32))) (iotaInDim S256x256 32 1))
      (broadcastInDim S256x256 ![] bcast_S_S256x256 (constant (F := Ideal) S_ .bf16 0x3F80#16)) (broadcastInDim S256x256 ![] bcast_S_S256x256 (constant (F := Ideal) S_ .bf16 0x0000#16)) : FVec Ideal S256x256 .bf16) := rfl
  rw [ev]
  refine Eq.trans (b := if IntOp.cmpi .sge (IntOp.addi (BitVec.ofNat 32 r.val) 0#32) (BitVec.ofNat 32 s.val) = 1 then Ideal.ofBits .bf16 0x3F80#16 else Ideal.ofBits .bf16 0x0000#16) rfl ?_
  rw [one_word, zero_word]
  refine if_congr ?_ rfl rfl
  have e : IntOp.addi (BitVec.ofNat 32 r.val) 0#32 = BitVec.ofNat 32 r.val := BitVec.add_zero _
  rw [e]
  exact WordCmp.cmpi_sge_ofNat_eq_one_iff (by have := r.isLt; omega) (by have := s.isLt; omega)

end Cert.GatesHost

end
-- ==== Proof.GatesMath.lean ====
/-
  The logarithm of a sigmoid over the extended reals, and running sums taken 256 at a time.
-/
module

public import Idealize.ShloMosaic.PureOps.Ideal.Laws
public import proofs.«01_k».proof.Proof.FoxMath

@[expose] public section

noncomputable section

namespace Cert.GatesMath

open Idealize.ShloMosaic

/-- The softplus of a value, as the kernel and the reference both compute it. -/
def soft (a : EReal) : EReal := max a 0 + Ideal.log1p (Ideal.exp (-(FloatOps.absf (F := Ideal) (φ := .f32) a)))

/-- The logarithm of the sigmoid. -/
def gate (z : EReal) : EReal := -soft (-z)

theorem log1p_nonneg (x : EReal) (h : 0 ≤ x) : 0 ≤ Ideal.log1p x := by
  induction x with
  | bot => exact absurd h (by simp)
  | top =>
    show 0 ≤ Ideal.log (1 + ⊤)
    rw [EReal.add_top_of_ne_bot (by decide)]
    exact le_top
  | coe r =>
    have hr : 0 ≤ r := EReal.coe_nonneg.mp h
    have e : Ideal.log1p (r : EReal) = ((Real.log (1 + r) : ℝ) : EReal) := if_neg (by linarith)
    rw [e]
    exact EReal.coe_nonneg.mpr (Real.log_nonneg (by linarith))

theorem exp_nonneg (x : EReal) : 0 ≤ Ideal.exp x := by
  induction x with
  | bot => simp
  | top => simp
  | coe r =>
    rw [Ideal.exp_coe]
    exact EReal.coe_nonneg.mpr (Real.exp_pos r).le

theorem gate_ne_top (z : EReal) : gate z ≠ ⊤ := by
  have h : 0 ≤ soft (-z) := add_nonneg (le_max_right _ _) (log1p_nonneg _ (exp_nonneg _))
  intro e
  have e' : soft (-z) = ⊥ := by
    have := congrArg (- ·) e
    simpa [gate] using this
  rw [e'] at h
  exact absurd h (by simp)

/-- A value that is not `+∞`, and the two rests of its splitting into three parts, under a weight of zero or one. -/
theorem three (w : Prop) [Decidable w] (g : EReal) (h : g ≠ ⊤) :
    (if w then (1 : EReal) else 0) * g + (if w then (1 : EReal) else 0) * (g - g) + (if w then (1 : EReal) else 0) * (g - g - (g - g))
      = if w then g else 0 := by
  split
  · induction g with
    | bot => simp
    | coe x => simp [← EReal.coe_sub]
    | top => exact absurd rfl h
  · simp

/-- Weighted sums of the three parts. -/
theorem three_sum (r : Fin 256) (g : Fin 256 → EReal) (h : ∀ s, g s ≠ ⊤) (w : Fin 256 → EReal) (hw : ∀ s, w s = if s.val ≤ r.val then 1 else 0) :
    (∑ s, w s * g s) + (∑ s, w s * (g s - g s)) + (∑ s, w s * (g s - g s - (g s - g s))) = ∑ s : Fin 256, if s.val ≤ r.val then g s else 0 := by
  rw [← Finset.sum_add_distrib, ← Finset.sum_add_distrib]
  refine Finset.sum_congr rfl fun s _ => ?_
  rw [hw s]
  exact three _ _ (h s)

/-- The first `r + 1` of 256 values. -/
theorem head_sum (f : ℕ → EReal) (M : ℕ) (r : Fin M) : (∑ s : Fin M, if s.val ≤ r.val then f s.val else 0) = ∑ n ∈ Finset.range (r.val + 1), f n := by
  rw [Fin.sum_univ_eq_sum_range (fun n => if n ≤ r.val then f n else 0) M, ← Finset.sum_filter]
  refine Finset.sum_congr (Finset.ext fun n => ?_) fun _ _ => rfl
  have := r.isLt
  simp only [Finset.mem_filter, Finset.mem_range]
  omega

/-- The running sum at place `r` of a chunk that starts at `N`. -/
theorem run_sum (f : ℕ → EReal) (N : ℕ) (r : Fin 256) :
    (∑ s : Fin 256, if s.val ≤ r.val then f (N + s.val) else 0) + (∑ n ∈ Finset.range N, f n) = ∑ n ∈ Finset.range (N + r.val + 1), f n := by
  rw [head_sum (fun n => f (N + n)) 256 r, add_comm, Nat.add_assoc]
  exact (Finset.sum_range_add f N (r.val + 1)).symm

/-- The running sum of `f` up to and including place `n`, over the logarithm of two. -/
def scaled (f : ℕ → EReal) (n : ℕ) : EReal := (∑ k ∈ Finset.range (n + 1), f k) * (((Real.log 2)⁻¹ : ℝ) : EReal)

end Cert.GatesMath

end
-- ==== Proof.GatesPoint.lean ====
/-
  One grid point of the forget gates' running sums: four chunks of 256 tokens, each chunk's sums made from the chunk and
  the last row of the chunk before, and written head by head.
-/
module

public import proofs.«01_k».proof.Proof.Blocks
public import proofs.«01_k».proof.Proof.GatesMath
public import Idealize.ShloMosaic.Lib.Pointwise
public import proofs.«01_k».proof.Proof.Gen.GatesIdeal.Frame
public import Idealize.ShloMosaic.Lib.VecWindow
public import Idealize.ShloMosaic.Lib.WritesUnit

@[expose] public section

set_option maxRecDepth 16384

noncomputable section

namespace Cert.GatesPoint

open Idealize.ShloMosaic Idealize.ShloMosaic.TcCoe Idealize.ShloMosaic.Tactic
open Cert.GatesIdeal Cert.GatesIdeal.Gen Cert.Blocks Cert.GatesMath

/-- A chunk's running sums, from the triangle `w`, the chunk's logits `x`, the bias `b` and the sums so far `k`. -/
def sums (w : Vec Ideal S256x256 .bf16) (x : Vec Ideal S256x128 .f32) (b k : Vec Ideal S1x128 .f32) : FVec Ideal S256x128 .f32 :=
  k0_pay13 (k0_pay6 w) k (k0_pay11 x b) (k0_pay12 w x b) (constant S256x128 .f32 0x00000000#32)

/-- The last row of a chunk's sums. -/
def last (s : FVec Ideal S256x128 .f32) : Vec Ideal S1x128 .f32 := extractStridedSlice S1x128 ![255, 0] s slices_S256x128_o255_0_S1x128

/-- Head `h`'s sums, in the units the attention wants, repeated along the lanes. -/
def face (o : Fin 2 → Nat) (sl : S256x128.Slices o S256x1) (s : FVec Ideal S256x128 .f32) : FVec Ideal S1x256x128 .f32 :=
  shapeCast S1x256x128 (broadcastTo S256x128 (shapeCast S256x1 (mulf (extractStridedSlice S256x1 o s sl)
    (broadcast S256x1 (Named.named κ "log2e" 0x3FB8AA3B#32))) shapeCasts_S256x1_S256x1) broadcasts_S256x1_S256x128) shapeCasts_S256x128_S1x256x128

theorem slice_ok : ∀ h : Fin 8, S256x128.Slices ![0, h.val] S256x1 := by decide

theorem piece_ok (i : Fin 4) (h : Fin 8) : ∀ a, (![h.val, 256 * i.val, 0] : Fin 3 → Nat) a + S1x256x128.size a ≤ S8x1024x128.size a := fun a => match a with
  | ⟨0, _⟩ => (by have := h.isLt; show h.val + 1 ≤ 8; omega)
  | ⟨1, _⟩ => (by have := i.isLt; show 256 * i.val + 256 ≤ 1024; omega)
  | ⟨2, _⟩ => le_refl 128

/-- What chunk `i` writes for head `h`. -/
def piece (i : Fin 4) (s : FVec Ideal S256x128 .f32) (h : Fin 8) : View.Piece (Elt Ideal) S8x1024x128 .f32 :=
  ⟨Rect.unit (s := S8x1024x128) ![h.val, 256 * i.val, 0] S1x256x128.size (piece_ok i h), face ![0, h.val] (slice_ok h) s⟩

/-- What chunk `i` writes, after what was written before. -/
def chunk (i : Fin 4) (s : FVec Ideal S256x128 .f32) (L : List (View.Piece (Elt Ideal) S8x1024x128 .f32)) : List (View.Piece (Elt Ideal) S8x1024x128 .f32) :=
  piece i s 7 :: piece i s 6 :: piece i s 5 :: piece i s 4 :: piece i s 3 :: piece i s 2 :: piece i s 1 :: piece i s 0 :: L

section Raw

variable (y0 y1 y2 y3 : Vec Ideal S256x128 .f32) (b : Vec Ideal S1x128 .f32) (w : Vec Ideal S256x256 .bf16) (k : Vec Ideal S1x128 .f32)

/-- Everything a point writes, from its four chunks of logits. -/
def rawPieces : List (View.Piece (Elt Ideal) S8x1024x128 .f32) :=
  chunk 3 (sums w y3 b (last (sums w y2 b (last (sums w y1 b (last (sums w y0 b k)))))))
    (chunk 2 (sums w y2 b (last (sums w y1 b (last (sums w y0 b k)))))
      (chunk 1 (sums w y1 b (last (sums w y0 b k))) (chunk 0 (sums w y0 b k) [])))

/-- The sums it carries on. -/
def rawLast : Vec Ideal S1x128 .f32 := k0_pay4 (sums w y3 b (last (sums w y2 b (last (sums w y1 b (last (sums w y0 b k)))))))

end Raw

variable (c : Dev nD) (i : grid0.Coords) (arg2 : Memref sig .tc .vmem S1024x128 .f32) (harg2 : arg2.IsWhole) (arg3 : Memref sig .tc .vmem S1x128 .f32) (harg3 : arg3.IsWhole)
    (arg4 : Memref sig .tc .vmem S256x256 .bf16) (harg4 : arg4.IsWhole) (arg5 : Memref sig .tc .vmem S8x1024x128 .f32) (harg5 : arg5.IsWhole) (arg6 : Memref sig .tc .vmem S1x128 .f32) (harg6 : arg6.IsWhole)
    (x0 : Vec Ideal S1024x128 .f32) (x1 : Vec Ideal S1x128 .f32) (x2 : Vec Ideal S256x256 .bf16)

theorem pieces_A (hc0 : cond0_0 i) :
    (kernelRun0_A (F := Ideal) c i arg2 harg2 arg3 harg3 arg4 harg4 arg5 harg5 arg6 harg6 hc0 x0 x1 x2).1
      = rawPieces (View.readAt (Elt Ideal) arg2.view (Rect.unit (s := S1024x128) ![0, 0] S256x128.size inb_S1024x128_S256x128_0_0).toLoadRect (harg2.unread x0))
          (View.readAt (Elt Ideal) arg2.view (Rect.unit (s := S1024x128) ![256, 0] S256x128.size inb_S1024x128_S256x128_256_0).toLoadRect (harg2.unread x0))
          (View.readAt (Elt Ideal) arg2.view (Rect.unit (s := S1024x128) ![512, 0] S256x128.size inb_S1024x128_S256x128_512_0).toLoadRect (harg2.unread x0))
          (View.readAt (Elt Ideal) arg2.view (Rect.unit (s := S1024x128) ![768, 0] S256x128.size inb_S1024x128_S256x128_768_0).toLoadRect (harg2.unread x0))
          (View.readAt (Elt Ideal) arg3.view (Rect.unit ![0, 0] S1x128.size inb_S1x128_S1x128_0_0).toLoadRect (harg3.unread x1))
          (View.readAt (Elt Ideal) arg4.view (Rect.unit ![0, 0] S256x256.size inb_S256x256_S256x256_0_0).toLoadRect (harg4.unread x2))
          (kernelRun0_A.sl.v5 c arg6) := by
  sl_kernel_rfl

theorem pieces_B (hc0 : ¬ cond0_0 i) (xs : Vec Ideal S1x128 .f32) :
    (kernelRun0_B (F := Ideal) c i arg2 harg2 arg3 harg3 arg4 harg4 arg5 harg5 arg6 harg6 hc0 x0 x1 x2 xs).1
      = rawPieces (View.readAt (Elt Ideal) arg2.view (Rect.unit (s := S1024x128) ![0, 0] S256x128.size inb_S1024x128_S256x128_0_0).toLoadRect (harg2.unread x0))
          (View.readAt (Elt Ideal) arg2.view (Rect.unit (s := S1024x128) ![256, 0] S256x128.size inb_S1024x128_S256x128_256_0).toLoadRect (harg2.unread x0))
          (View.readAt (Elt Ideal) arg2.view (Rect.unit (s := S1024x128) ![512, 0] S256x128.size inb_S1024x128_S256x128_512_0).toLoadRect (harg2.unread x0))
          (View.readAt (Elt Ideal) arg2.view (Rect.unit (s := S1024x128) ![768, 0] S256x128.size inb_S1024x128_S256x128_768_0).toLoadRect (harg2.unread x0))
          (View.readAt (Elt Ideal) arg3.view (Rect.unit ![0, 0] S1x128.size inb_S1x128_S1x128_0_0).toLoadRect (harg3.unread x1))
          (View.readAt (Elt Ideal) arg4.view (Rect.unit ![0, 0] S256x256.size inb_S256x256_S256x256_0_0).toLoadRect (harg4.unread x2))
          (View.readAt (Elt Ideal) arg6.view (Rect.unit ![0, 0] S1x128.size inb_S1x128_S1x128_0_0).toLoadRect (harg6.unread xs)) := by
  sl_kernel_rfl

/-- In a batch's first point the sums start from zero. -/
theorem first_A : kernelRun0_A.sl.v5 (F := Ideal) c arg6 = k0_pay5 (F := Ideal) := by
  delta kernelRun0_A.sl.v5 kernelRun0_A.sl.HS0_1
  exact View.readCov_full arg6.view _ _ _ _

theorem carry_A (hc0 : cond0_0 i) :
    (kernelRun0_A (F := Ideal) c i arg2 harg2 arg3 harg3 arg4 harg4 arg5 harg5 arg6 harg6 hc0 x0 x1 x2).2.1
      = [⟨Rect.unit ![0, 0] S1x128.size inb_S1x128_S1x128_0_0, rawLast (View.readAt (Elt Ideal) arg2.view (Rect.unit (s := S1024x128) ![0, 0] S256x128.size inb_S1024x128_S256x128_0_0).toLoadRect (harg2.unread x0))
          (View.readAt (Elt Ideal) arg2.view (Rect.unit (s := S1024x128) ![256, 0] S256x128.size inb_S1024x128_S256x128_256_0).toLoadRect (harg2.unread x0))
          (View.readAt (Elt Ideal) arg2.view (Rect.unit (s := S1024x128) ![512, 0] S256x128.size inb_S1024x128_S256x128_512_0).toLoadRect (harg2.unread x0))
          (View.readAt (Elt Ideal) arg2.view (Rect.unit (s := S1024x128) ![768, 0] S256x128.size inb_S1024x128_S256x128_768_0).toLoadRect (harg2.unread x0))
          (View.readAt (Elt Ideal) arg3.view (Rect.unit ![0, 0] S1x128.size inb_S1x128_S1x128_0_0).toLoadRect (harg3.unread x1))
          (View.readAt (Elt Ideal) arg4.view (Rect.unit ![0, 0] S256x256.size inb_S256x256_S256x256_0_0).toLoadRect (harg4.unread x2))
          (kernelRun0_A.sl.v5 c arg6)⟩, ⟨Rect.unit ![0, 0] S1x128.size inb_S1x128_S1x128_0_0, k0_pay5 (F := Ideal)⟩] := by
  sl_kernel_rfl

theorem carry_B (hc0 : ¬ cond0_0 i) (xs : Vec Ideal S1x128 .f32) :
    (kernelRun0_B (F := Ideal) c i arg2 harg2 arg3 harg3 arg4 harg4 arg5 harg5 arg6 harg6 hc0 x0 x1 x2 xs).2.1
      = [⟨Rect.unit ![0, 0] S1x128.size inb_S1x128_S1x128_0_0, rawLast (View.readAt (Elt Ideal) arg2.view (Rect.unit (s := S1024x128) ![0, 0] S256x128.size inb_S1024x128_S256x128_0_0).toLoadRect (harg2.unread x0))
          (View.readAt (Elt Ideal) arg2.view (Rect.unit (s := S1024x128) ![256, 0] S256x128.size inb_S1024x128_S256x128_256_0).toLoadRect (harg2.unread x0))
          (View.readAt (Elt Ideal) arg2.view (Rect.unit (s := S1024x128) ![512, 0] S256x128.size inb_S1024x128_S256x128_512_0).toLoadRect (harg2.unread x0))
          (View.readAt (Elt Ideal) arg2.view (Rect.unit (s := S1024x128) ![768, 0] S256x128.size inb_S1024x128_S256x128_768_0).toLoadRect (harg2.unread x0))
          (View.readAt (Elt Ideal) arg3.view (Rect.unit ![0, 0] S1x128.size inb_S1x128_S1x128_0_0).toLoadRect (harg3.unread x1))
          (View.readAt (Elt Ideal) arg4.view (Rect.unit ![0, 0] S256x256.size inb_S256x256_S256x256_0_0).toLoadRect (harg4.unread x2))
          (View.readAt (Elt Ideal) arg6.view (Rect.unit ![0, 0] S1x128.size inb_S1x128_S1x128_0_0).toLoadRect (harg6.unread xs))⟩] := by
  sl_kernel_rfl

section Read

variable (V : View sig .tc .vmem S8x1024x128 .f32) (f : BufTy.Contents (Elt Ideal) V.ty) (q : Fin 4) (s : FVec Ideal S256x128 .f32)
  (L : List (View.Piece (Elt Ideal) S8x1024x128 .f32)) (h : Fin 8) (y : Fin 1024) (l : Fin 128)

/-- Another head's piece is not read. -/
theorem skip (h' : Fin 8) (ne : h ≠ h') :
    V.read (Elt Ideal) (V.writes (Elt Ideal) f (piece q s h' :: L)) (ix3 h y l) = V.read (Elt Ideal) (V.writes (Elt Ideal) f L) (ix3 h y l) :=
  View.read_writes_cons_unit_of_not_mem V f (piece_ok q h') _ _ _ rfl 0 (by
    have : h.val ≠ h'.val := fun e => ne (Fin.ext e)
    show h.val < h'.val ∨ h'.val + 1 ≤ h.val
    omega)

/-- Nor is another chunk's. -/
theorem miss (h' : Fin 8) (ne : y.val < 256 * q.val ∨ 256 * q.val + 256 ≤ y.val) :
    V.read (Elt Ideal) (V.writes (Elt Ideal) f (piece q s h' :: L)) (ix3 h y l) = V.read (Elt Ideal) (V.writes (Elt Ideal) f L) (ix3 h y l) :=
  View.read_writes_cons_unit_of_not_mem V f (piece_ok q h') _ _ _ rfl 1 ne

theorem miss_chunk (ne : y.val < 256 * q.val ∨ 256 * q.val + 256 ≤ y.val) :
    V.read (Elt Ideal) (V.writes (Elt Ideal) f (chunk q s L)) (ix3 h y l) = V.read (Elt Ideal) (V.writes (Elt Ideal) f L) (ix3 h y l) := by
  unfold chunk
  iterate 8 refine (miss V f q s _ h y l _ ne).trans ?_
  rfl

/-- The piece of the head and the chunk asked for. -/
theorem hit (r : Fin 256) (e : y.val = 256 * q.val + r.val) :
    V.read (Elt Ideal) (V.writes (Elt Ideal) f (piece q s h :: L)) (ix3 h y l) = face ![0, h.val] (slice_ok h) s (ix3 0 r l) :=
  View.read_writes_cons_unit_of_mem V f (piece_ok q h) _ _ _ (ix3 0 r l) rfl fun a => match a with
    | ⟨0, _⟩ => rfl
    | ⟨1, _⟩ => e
    | ⟨2, _⟩ => (Nat.zero_add _).symm

theorem hit_chunk (r : Fin 256) (e : y.val = 256 * q.val + r.val) :
    V.read (Elt Ideal) (V.writes (Elt Ideal) f (chunk q s L)) (ix3 h y l) = face ![0, h.val] (slice_ok h) s (ix3 0 r l) := by
  unfold chunk
  match h with
  | 0 => exact (skip V f q s _ 0 y l 7 (by decide)).trans <| (skip V f q s _ 0 y l 6 (by decide)).trans <| (skip V f q s _ 0 y l 5 (by decide)).trans <| (skip V f q s _ 0 y l 4 (by decide)).trans <| (skip V f q s _ 0 y l 3 (by decide)).trans <| (skip V f q s _ 0 y l 2 (by decide)).trans <| (skip V f q s _ 0 y l 1 (by decide)).trans <| hit V f q s _ 0 y l r e
  | 1 => exact (skip V f q s _ 1 y l 7 (by decide)).trans <| (skip V f q s _ 1 y l 6 (by decide)).trans <| (skip V f q s _ 1 y l 5 (by decide)).trans <| (skip V f q s _ 1 y l 4 (by decide)).trans <| (skip V f q s _ 1 y l 3 (by decide)).trans <| (skip V f q s _ 1 y l 2 (by decide)).trans <| hit V f q s _ 1 y l r e
  | 2 => exact (skip V f q s _ 2 y l 7 (by decide)).trans <| (skip V f q s _ 2 y l 6 (by decide)).trans <| (skip V f q s _ 2 y l 5 (by decide)).trans <| (skip V f q s _ 2 y l 4 (by decide)).trans <| (skip V f q s _ 2 y l 3 (by decide)).trans <| hit V f q s _ 2 y l r e
  | 3 => exact (skip V f q s _ 3 y l 7 (by decide)).trans <| (skip V f q s _ 3 y l 6 (by decide)).trans <| (skip V f q s _ 3 y l 5 (by decide)).trans <| (skip V f q s _ 3 y l 4 (by decide)).trans <| hit V f q s _ 3 y l r e
  | 4 => exact (skip V f q s _ 4 y l 7 (by decide)).trans <| (skip V f q s _ 4 y l 6 (by decide)).trans <| (skip V f q s _ 4 y l 5 (by decide)).trans <| hit V f q s _ 4 y l r e
  | 5 => exact (skip V f q s _ 5 y l 7 (by decide)).trans <| (skip V f q s _ 5 y l 6 (by decide)).trans <| hit V f q s _ 5 y l r e
  | 6 => exact (skip V f q s _ 6 y l 7 (by decide)).trans <| hit V f q s _ 6 y l r e
  | 7 => exact hit V f q s _ 7 y l r e

end Read

/-- What is written, read at a place: the sums there, over the logarithm of two. -/
theorem face_at (h : Fin 8) (s : FVec Ideal S256x128 .f32) (r : Fin 256) (l : Fin 128) :
    face ![0, h.val] (slice_ok h) s (ix3 0 r l) = s (ix2 r ⟨h.val, by omega⟩) * (((Real.log 2)⁻¹ : ℝ) : EReal) := by
  unfold face
  pointwise
  exact congrArg (s (ix2 r ⟨h.val, _⟩) * ·) (IdealRules.named_const.ideal_named_scalar _ _ _ _ rfl)

/-- The last row of a chunk. -/
theorem last_at (s : FVec Ideal S256x128 .f32) (l : Fin 128) : last s (ix2 0 l) = s (ix2 255 l) := by
  unfold last
  pointwise

theorem rawLast_eq (y0 y1 y2 y3 : Vec Ideal S256x128 .f32) (b : Vec Ideal S1x128 .f32) (w : Vec Ideal S256x256 .bf16) (k : Vec Ideal S1x128 .f32) (l : Fin 128) :
    rawLast y0 y1 y2 y3 b w k (ix2 0 l) = sums w y3 b (last (sums w y2 b (last (sums w y1 b (last (sums w y0 b k)))))) (ix2 255 l) := by
  unfold rawLast k0_pay4
  pointwise

/-- The logarithm of the sigmoid, in the kernel's order. -/
theorem pay7_at (x : Vec Ideal S256x128 .f32) (b : Vec Ideal S1x128 .f32) (r : Fin 256) (l : Fin 128) :
    k0_pay7 (F := Ideal) x b (ix2 r l) = gate (x (ix2 r l) + b (ix2 0 l)) := by
  unfold k0_pay7
  pointwise
  rw [if_neg (fun e => e rfl)]
  simp only [zero_sub]
  rfl

theorem sums_at (w : Vec Ideal S256x256 .bf16) (x : Vec Ideal S256x128 .f32) (b k : Vec Ideal S1x128 .f32)
    (hw : ∀ r s : Fin 256, w (ix2 r s) = if s.val ≤ r.val then 1 else 0) (r : Fin 256) (l : Fin 128) :
    sums w x b k (ix2 r l) = (∑ s : Fin 256, if s.val ≤ r.val then gate (x (ix2 s l) + b (ix2 0 l)) else 0) + k (ix2 0 l) := by
  have m (v : FVec Ideal S256x128 .bf16) : matmul dot_S256x256_S256x128_S256x128_1_0_0_1_n_n none (k0_pay6 w) v
      (constant S256x128 .f32 0x00000000#32) (ix2 r l) = ∑ s : Fin 256, w (ix2 r s) * v (ix2 s l) := by
    refine (Ideal.matmul_plain_apply none (k0_pay6 w) v _ r l).trans ((congrArg (· + _) Ideal.ofBits_zero_f32).trans ((zero_add _).trans ?_))
    refine Finset.sum_congr rfl fun s _ => congrArg (· * _) ?_
    unfold k0_pay6
    pointwise
    rfl
  have e : sums w x b k (ix2 r l) = (∑ s : Fin 256, w (ix2 r s) * k0_pay8 (F := Ideal) x b (ix2 s l)) + (∑ s : Fin 256, w (ix2 r s) * k0_pay10 (F := Ideal) x b (ix2 s l))
      + (∑ s : Fin 256, w (ix2 r s) * k0_pay11 (F := Ideal) x b (ix2 s l)) + k (ix2 0 l) := by
    rw [← m, ← m, ← m]
    unfold sums k0_pay13 k0_pay12
    exact congrArg₂ (· + ·) rfl (by pointwise)
  rw [e]
  refine congrArg (· + _) ((congrArg₂ (· + ·) (congrArg₂ (· + ·) (Finset.sum_congr rfl fun s _ => ?_) (Finset.sum_congr rfl fun s _ => ?_))
    (Finset.sum_congr rfl fun s _ => ?_)).trans (three_sum r (fun s => gate (x (ix2 s l) + b (ix2 0 l))) (fun s => gate_ne_top _) (fun s => w (ix2 r s)) (hw r)))
  · exact congrArg (_ * ·) (pay7_at x b s l)
  · exact congrArg (_ * ·) (congrArg₂ (· - ·) (pay7_at x b s l) (pay7_at x b s l))
  · exact congrArg (_ * ·) (congrArg₂ (· - ·) (congrArg₂ (· - ·) (pay7_at x b s l) (pay7_at x b s l)) (congrArg₂ (· - ·) (pay7_at x b s l) (pay7_at x b s l)))

end Cert.GatesPoint

end
-- ==== Proof.GatesSums.lean ====
/-
  What one grid point of the running sums writes and carries on, when the sums so far of every lane `l` are those of the
  first `N` terms of a sequence `f l` whose next 1024 terms are the point's.
-/
module

public import proofs.«01_k».proof.Proof.GatesPoint

@[expose] public section

set_option maxRecDepth 16384

noncomputable section

namespace Cert.GatesSums

open Idealize.ShloMosaic Idealize.ShloMosaic.TcCoe Idealize.ShloMosaic.Tactic
open Cert.GatesIdeal Cert.GatesIdeal.Gen Cert.Blocks Cert.GatesMath Cert.GatesPoint

variable {w : Vec Ideal S256x256 .bf16} (hw : ∀ r s : Fin 256, w (ix2 r s) = if s.val ≤ r.val then 1 else 0) (f : Fin 128 → ℕ → EReal)
  {b : Vec Ideal S1x128 .f32}

include hw

theorem sums_run {y : Vec Ideal S256x128 .f32} {k : Vec Ideal S1x128 .f32} (M : ℕ) (hy : ∀ (s : Fin 256) (l : Fin 128), gate (y (ix2 s l) + b (ix2 0 l)) = f l (M + s.val))
    (hk : ∀ l : Fin 128, k (ix2 0 l) = ∑ n ∈ Finset.range M, f l n) (r : Fin 256) (l : Fin 128) :
    sums w y b k (ix2 r l) = ∑ n ∈ Finset.range (M + r.val + 1), f l n := by
  rw [sums_at w y b k hw r l, hk l, ← run_sum (f l) M r]
  exact congrArg (· + _) (Finset.sum_congr rfl fun s _ => if_congr Iff.rfl (hy s l) rfl)

theorem last_run {y : Vec Ideal S256x128 .f32} {k : Vec Ideal S1x128 .f32} (M : ℕ) (hy : ∀ (s : Fin 256) (l : Fin 128), gate (y (ix2 s l) + b (ix2 0 l)) = f l (M + s.val))
    (hk : ∀ l : Fin 128, k (ix2 0 l) = ∑ n ∈ Finset.range M, f l n) (l : Fin 128) :
    last (sums w y b k) (ix2 0 l) = ∑ n ∈ Finset.range (M + 256), f l n :=
  (last_at _ l).trans (sums_run hw f M hy hk 255 l)

section Point

variable {y0 y1 y2 y3 : Vec Ideal S256x128 .f32} {k : Vec Ideal S1x128 .f32} (N : ℕ)
  (h0 : ∀ (s : Fin 256) (l : Fin 128), gate (y0 (ix2 s l) + b (ix2 0 l)) = f l (N + s.val))
  (h1 : ∀ (s : Fin 256) (l : Fin 128), gate (y1 (ix2 s l) + b (ix2 0 l)) = f l (N + 256 + s.val))
  (h2 : ∀ (s : Fin 256) (l : Fin 128), gate (y2 (ix2 s l) + b (ix2 0 l)) = f l (N + 256 + 256 + s.val))
  (h3 : ∀ (s : Fin 256) (l : Fin 128), gate (y3 (ix2 s l) + b (ix2 0 l)) = f l (N + 256 + 256 + 256 + s.val))
  (hk : ∀ l : Fin 128, k (ix2 0 l) = ∑ n ∈ Finset.range N, f l n)

include h0 h1 h2 h3 hk

/-- The sums a point carries on. -/
theorem carried (l : Fin 128) : rawLast y0 y1 y2 y3 b w k (ix2 0 l) = ∑ n ∈ Finset.range (N + 1024), f l n :=
  (rawLast_eq y0 y1 y2 y3 b w k l).trans (sums_run hw f (N + 256 + 256 + 256) h3 (last_run hw f (N + 256 + 256) h2 (last_run hw f (N + 256) h1 (last_run hw f N h0 hk))) 255 l)

/-- What a point leaves in its block. -/
theorem written (V : View sig .tc .vmem S8x1024x128 .f32) (g : BufTy.Contents (Elt Ideal) V.ty) (h : Fin 8) (y : Fin 1024) (l : Fin 128) :
    V.read (Elt Ideal) (V.writes (Elt Ideal) g (rawPieces y0 y1 y2 y3 b w k)) (ix3 h y l) = scaled (f ⟨h.val, by omega⟩) (N + y.val) := by
  have hy := y.isLt
  have k0 := last_run hw f N h0 hk
  have k1 := last_run hw f (N + 256) h1 k0
  have k2 := last_run hw f (N + 256 + 256) h2 k1
  let r : Fin 256 := ⟨y.val % 256, Nat.mod_lt _ (by decide)⟩
  have place {s : FVec Ideal S256x128 .f32} {M : ℕ} (hs : ∀ (r : Fin 256) (l : Fin 128), s (ix2 r l) = ∑ n ∈ Finset.range (M + r.val + 1), f l n)
      (e : M + r.val = N + y.val) : face ![0, h.val] (slice_ok h) s (ix3 0 r l) = scaled (f ⟨h.val, by omega⟩) (N + y.val) := by
    rw [face_at, hs, e]
    rfl
  unfold rawPieces
  by_cases c3 : 768 ≤ y.val
  · exact (hit_chunk V g 3 _ _ h y l r (by show y.val = 256 * 3 + y.val % 256; omega)).trans
      (place (sums_run hw f (N + 256 + 256 + 256) h3 k2) (by show N + 256 + 256 + 256 + y.val % 256 = N + y.val; omega))
  refine (miss_chunk V g 3 _ _ h y l (.inl (by show y.val < 256 * 3; omega))).trans ?_
  by_cases c2 : 512 ≤ y.val
  · exact (hit_chunk V g 2 _ _ h y l r (by show y.val = 256 * 2 + y.val % 256; omega)).trans
      (place (sums_run hw f (N + 256 + 256) h2 k1) (by show N + 256 + 256 + y.val % 256 = N + y.val; omega))
  refine (miss_chunk V g 2 _ _ h y l (.inl (by show y.val < 256 * 2; omega))).trans ?_
  by_cases c1 : 256 ≤ y.val
  · exact (hit_chunk V g 1 _ _ h y l r (by show y.val = 256 * 1 + y.val % 256; omega)).trans
      (place (sums_run hw f (N + 256) h1 k0) (by show N + 256 + y.val % 256 = N + y.val; omega))
  refine (miss_chunk V g 1 _ _ h y l (.inl (by show y.val < 256 * 1; omega))).trans ?_
  exact (hit_chunk V g 0 _ _ h y l r (by show y.val = 256 * 0 + y.val % 256; omega)).trans
    (place (sums_run hw f N h0 hk) (by show N + y.val % 256 = N + y.val; omega))

end Point

omit hw in
/-- No sums at all. -/
theorem zero_at (l : Fin 128) : k0_pay5 (F := Ideal) (ix2 0 l) = ∑ n ∈ Finset.range 0, f l n := by
  rw [Finset.range_zero, Finset.sum_empty]
  unfold k0_pay5
  pointwise

section Cases

variable (c : Dev nD) (i : grid0.Coords) (arg2 : Memref sig .tc .vmem S1024x128 .f32) (harg2 : arg2.IsWhole) (arg3 : Memref sig .tc .vmem S1x128 .f32) (harg3 : arg3.IsWhole)
    (arg4 : Memref sig .tc .vmem S256x256 .bf16) (harg4 : arg4.IsWhole) (arg5 : Memref sig .tc .vmem S8x1024x128 .f32) (harg5 : arg5.IsWhole) (arg6 : Memref sig .tc .vmem S1x128 .f32) (harg6 : arg6.IsWhole)
    (x0 : Vec Ideal S1024x128 .f32) (N : ℕ) (hx : ∀ (y : Fin 1024) (l : Fin 128), gate (x0 (ix2 y l) + b (ix2 0 l)) = f l (N + y.val))

include hx

omit hw in
theorem chunk_at (o : ℕ) (inb : ∀ a, (![o, 0] : Fin 2 → Nat) a + S256x128.size a ≤ S1024x128.size a) (M : ℕ) (e : M = N + o) (s : Fin 256) (l : Fin 128) :
    gate (View.readAt (Elt Ideal) arg2.view (Rect.unit (s := S1024x128) ![o, 0] S256x128.size inb).toLoadRect (harg2.unread x0) (ix2 s l) + b (ix2 0 l)) = f l (M + s.val) := by
  have ho : o + 256 ≤ 1024 := inb 0
  have hs := s.isLt
  rw [readAt_cut harg2, cut_at ![o, 0] inb x0 s l ⟨o + s.val, by omega⟩ l rfl (Nat.zero_add _).symm, hx, e, Nat.add_assoc]

/-- A batch's first point. -/
theorem out_A (hc0 : cond0_0 i) (hN : N = 0) (h : Fin 8) (y : Fin 1024) (l : Fin 128) :
    out0_A_3 (F := Ideal) c i arg2 harg2 arg3 harg3 arg4 harg4 arg5 harg5 arg6 harg6 hc0 x0 b w (ix3 h y l) = scaled (f ⟨h.val, by omega⟩) (N + y.val) := by
  unfold out0_A_3
  rw [pieces_A, readAt_whole harg3 zeros2, readAt_whole harg4 zeros2, first_A]
  exact written hw f N (chunk_at f arg2 harg2 x0 N hx 0 _ _ rfl) (chunk_at f arg2 harg2 x0 N hx 256 _ _ rfl) (chunk_at f arg2 harg2 x0 N hx 512 _ _ rfl) (chunk_at f arg2 harg2 x0 N hx 768 _ _ rfl)
    (fun l => by rw [hN]; exact zero_at f l) VO0_3 _ h y l

theorem carry_A_at (hc0 : cond0_0 i) (hN : N = 0) (l : Fin 128) :
    sout0_A_0 (F := Ideal) c i arg2 harg2 arg3 harg3 arg4 harg4 arg5 harg5 arg6 harg6 hc0 x0 b w (ix2 0 l) = ∑ n ∈ Finset.range (N + 1024), f l n := by
  unfold sout0_A_0
  rw [carry_A, readAt_whole harg3 zeros2, readAt_whole harg4 zeros2, first_A]
  exact (congrFun (View.read_writes_full VS0_0 _ _ _ _) (ix2 0 l)).trans (carried hw f N (chunk_at f arg2 harg2 x0 N hx 0 _ _ rfl) (chunk_at f arg2 harg2 x0 N hx 256 _ _ rfl) (chunk_at f arg2 harg2 x0 N hx 512 _ _ rfl) (chunk_at f arg2 harg2 x0 N hx 768 _ _ rfl) (fun l => by rw [hN]; exact zero_at f l) l)

/-- A later point, from the sums the point before carried on. -/
theorem out_B (hc0 : ¬ cond0_0 i) (xs : Vec Ideal S1x128 .f32) (hk : ∀ l : Fin 128, xs (ix2 0 l) = ∑ n ∈ Finset.range N, f l n) (h : Fin 8) (y : Fin 1024) (l : Fin 128) :
    out0_B_3 (F := Ideal) c i arg2 harg2 arg3 harg3 arg4 harg4 arg5 harg5 arg6 harg6 hc0 x0 b w xs (ix3 h y l) = scaled (f ⟨h.val, by omega⟩) (N + y.val) := by
  unfold out0_B_3
  rw [pieces_B, readAt_whole harg3 zeros2, readAt_whole harg4 zeros2, readAt_whole harg6 zeros2]
  exact written hw f N (chunk_at f arg2 harg2 x0 N hx 0 _ _ rfl) (chunk_at f arg2 harg2 x0 N hx 256 _ _ rfl) (chunk_at f arg2 harg2 x0 N hx 512 _ _ rfl) (chunk_at f arg2 harg2 x0 N hx 768 _ _ rfl)
    hk VO0_3 _ h y l

theorem carry_B_at (hc0 : ¬ cond0_0 i) (xs : Vec Ideal S1x128 .f32) (hk : ∀ l : Fin 128, xs (ix2 0 l) = ∑ n ∈ Finset.range N, f l n) (l : Fin 128) :
    sout0_B_0 (F := Ideal) c i arg2 harg2 arg3 harg3 arg4 harg4 arg5 harg5 arg6 harg6 hc0 x0 b w xs (ix2 0 l) = ∑ n ∈ Finset.range (N + 1024), f l n := by
  unfold sout0_B_0
  rw [carry_B, readAt_whole harg3 zeros2, readAt_whole harg4 zeros2, readAt_whole harg6 zeros2]
  exact (congrFun (View.read_writes_full VS0_0 _ _ _ _) (ix2 0 l)).trans (carried hw f N (chunk_at f arg2 harg2 x0 N hx 0 _ _ rfl) (chunk_at f arg2 harg2 x0 N hx 256 _ _ rfl) (chunk_at f arg2 harg2 x0 N hx 512 _ _ rfl) (chunk_at f arg2 harg2 x0 N hx 768 _ _ rfl) hk l)

end Cases

end Cert.GatesSums

end
-- ==== Proof.GatesRef.lean ====
/-
  The reference's running sums, at a place: the sum of the gates' logarithms so far, over the logarithm of two.
-/
module

public import proofs.«01_k».proof.Proof.Gen.GatesRefIdeal.Run
public import proofs.«01_k».proof.Proof.GatesMath
public import proofs.«01_k».proof.Proof.FoxRow
public import Idealize.ShloMosaic.Lib.Pointwise

@[expose] public section

set_option maxRecDepth 16384

noncomputable section

namespace Cert.GatesRef

open Idealize.ShloMosaic Idealize.ShloMosaic.TcCoe Idealize.ShloMosaic.Tactic
open Idealize.SL.Sem Cert.GatesRefIdeal Cert.GatesRefIdeal.Gen Cert.GatesMath

/-- Token `n` of a batch. -/
def tok (n : ℕ) : Fin 4096 := ⟨n % 4096, Nat.mod_lt _ (by decide)⟩

/-- The logarithms of a batch's and a head's gates, token by token. -/
def seq (x : FVec Ideal S2x4096x8 .f32) (b : FVec Ideal S8 .f32) (B : Fin 2) (h : Fin 8) (n : ℕ) : EReal := gate (x (ix3 B (tok n) h) + b (ix1 h))

/-- The running sums, a row for each token and batch. -/
def level (x : FVec Ideal S2x4096x8 .f32) (b : FVec Ideal S8 .f32) : FVec Ideal S8x8192x128 .f32 := fun j =>
  scaled (seq x b ⟨(j 1).val / 4096, by have : (j 1).val < 8192 := (j 1).isLt; omega⟩ (j 0)) ((j 1).val % 4096)

/-- The forget logits with their bias. -/
def biased (x : FVec Ideal S2x4096x8 .f32) (b : FVec Ideal S8 .f32) : FVec Ideal S2x4096x8 .f32 :=
  addf x (broadcastInDim S2x4096x8 ![0, 1, 2] bcast_S1x1x8_S2x4096x8_0_1_2 (broadcastInDim S1x1x8 ![2] bcast_S8_S1x1x8_2 b))

/-- The logarithms of the gates. -/
def gates (x : FVec Ideal S2x4096x8 .f32) (b : FVec Ideal S8 .f32) : FVec Ideal S2x4096x8 .f32 :=
  Host.negf (select (cmpf .une (subf (Host.negf (biased x b)) (broadcastInDim S2x4096x8 ![] bcast_S_S2x4096x8 (constant S_ .f32 0x00000000#32))) (subf (Host.negf (biased x b)) (broadcastInDim S2x4096x8 ![] bcast_S_S2x4096x8 (constant S_ .f32 0x00000000#32)))) (addf (Host.negf (biased x b)) (broadcastInDim S2x4096x8 ![] bcast_S_S2x4096x8 (constant S_ .f32 0x00000000#32))) (addf (maximumf (Host.negf (biased x b)) (broadcastInDim S2x4096x8 ![] bcast_S_S2x4096x8 (constant S_ .f32 0x00000000#32))) (Host.log1p (Host.exp (Host.negf (Host.absf (subf (Host.negf (biased x b)) (broadcastInDim S2x4096x8 ![] bcast_S_S2x4096x8 (constant S_ .f32 0x00000000#32)))))))))

theorem biased_at (x : FVec Ideal S2x4096x8 .f32) (b : FVec Ideal S8 .f32) (B : Fin 2) (t : Fin 4096) (h : Fin 8) : biased x b (ix3 B t h) = x (ix3 B t h) + b (ix1 h) := by
  unfold biased
  pointwise

theorem gates_at (x : FVec Ideal S2x4096x8 .f32) (b : FVec Ideal S8 .f32) (B : Fin 2) (t : Fin 4096) (h : Fin 8) : gates x b (ix3 B t h) = gate (x (ix3 B t h) + b (ix1 h)) := by
  rw [← biased_at]
  unfold gates
  pointwise
  rw [if_neg (fun e => e rfl)]
  rfl

theorem fold_sum {ι : Type} (G : ι → EReal) (L : List ι) (v : EReal) : L.foldl (fun r n => r + G n) v = v + (L.map G).sum := by
  induction L generalizing v with
  | nil => simp
  | cons a L ih => simp [ih, add_assoc]

/-- A window of `N + 1` places that ends at place `t`, low padding left out. -/
theorem window_sum (F : ℕ → EReal) (N t : ℕ) (ht : t < N + 1) : (∑ n ∈ Finset.range (N + 1), if N ≤ t + n then F (t + n - N) else 0) = ∑ n ∈ Finset.range (t + 1), F n := by
  rw [show N + 1 = (N - t) + (t + 1) by omega, Finset.sum_range_add, Finset.sum_eq_zero fun n hn => if_neg (by have := Finset.mem_range.mp hn; omega), zero_add]
  refine Finset.sum_congr rfl fun n hn => ?_
  rw [if_pos (by omega), show t + (N - t + n) - N = n by omega]

/-- A window along the second of three axes. -/
abbrev win (N : ℕ) : Shape := ⟨3, ![1, N + 1, 1]⟩

theorem win_numel (N : ℕ) : (win N).numel = N + 1 := by
  simp [Shape.numel, Fin.prod_univ_three]

/-- Its places, in order. -/
theorem place (N : ℕ) (n : Fin (win N).numel) :
    ((win N).rowMajor.symm n 0).val = 0 ∧ ((win N).rowMajor.symm n 1).val = n.val ∧ ((win N).rowMajor.symm n 2).val = 0 := by
  have e := Shape.rowMajor_val_three ((win N).rowMajor.symm n)
  rw [Equiv.apply_symm_apply] at e
  have h0 : ((win N).rowMajor.symm n 0).val < 1 := ((win N).rowMajor.symm n 0).isLt
  have h2 : ((win N).rowMajor.symm n 2).val < 1 := ((win N).rowMajor.symm n 2).isLt
  have z0 : ((win N).rowMajor.symm n 0).val = 0 := by omega
  have z2 : ((win N).rowMajor.symm n 2).val = 0 := by omega
  rw [z0, z2] at e
  exact ⟨z0, by simpa using e.symm, z2⟩

/-- The running sum along the second of three axes, at a place. -/
theorem running_at {A M N C : ℕ} (hM : N + 1 = M) (h0 : 0 < M) (G : (⟨3, ![A, M, C]⟩ : Shape).Idx → EReal) (v : EReal) (hv : v = 0)
    (hw : (⟨3, ![A, M, C]⟩ : Shape).ReduceWindows (![1, M, 1] : Fin 3 → Nat) ![1, 1, 1] ![0, N, 0] ![0, 0, 0] ⟨3, ![A, M, C]⟩)
    (B : Fin A) (t : Fin M) (h : Fin C) :
    Ideal.hostReduceWindowAdd ![1, M, 1] ![1, 1, 1] ![0, N, 0] ![0, 0, 0] hw G v (ix3 B t h)
      = ∑ n ∈ Finset.range (t.val + 1), G (ix3 B ⟨n % M, Nat.mod_lt _ h0⟩ h) := by
  subst hM
  have ht := t.isLt
  have hB := B.isLt
  have hh := h.isLt
  let F : ℕ → EReal := fun k => G (ix3 B ⟨k % (N + 1), Nat.mod_lt _ (Nat.succ_pos _)⟩ h)
  unfold Ideal.hostReduceWindowAdd
  refine (List.foldl_ext _ (fun r n => r + (fun n : Fin (win N).numel => if N ≤ t.val + n.val then F (t.val + n.val - N) else 0) n) _ fun r n _ => congrArg (r + ·) ?_).trans ?_
  · obtain ⟨p0, p1, p2⟩ := place N n
    have hk : n.val < N + 1 := lt_of_lt_of_eq n.isLt (win_numel N)
    dsimp only
    split
    · next hin =>
      have h1 := hin 1
      change N ≤ t.val * 1 + ((win N).rowMajor.symm n 1).val ∧ _ at h1
      rw [p1] at h1
      rw [if_pos (by omega)]
      refine congrArg G (funext fun a => Fin.ext ?_)
      match a with
      | ⟨0, _⟩ =>
        show B.val * 1 + ((win N).rowMajor.symm n 0).val - 0 = B.val
        omega
      | ⟨1, _⟩ =>
        show t.val * 1 + ((win N).rowMajor.symm n 1).val - N = (t.val + n.val - N) % (N + 1)
        rw [p1, Nat.mod_eq_of_lt (by omega), Nat.mul_one]
      | ⟨2, _⟩ =>
        show h.val * 1 + ((win N).rowMajor.symm n 2).val - 0 = h.val
        omega
    · next hin =>
      rw [if_neg fun hle => hin fun a => by
        match a with
        | ⟨0, _⟩ =>
          show 0 ≤ B.val * 1 + ((win N).rowMajor.symm n 0).val ∧ B.val * 1 + ((win N).rowMajor.symm n 0).val - 0 < A
          omega
        | ⟨1, _⟩ =>
          show N ≤ t.val * 1 + ((win N).rowMajor.symm n 1).val ∧ t.val * 1 + ((win N).rowMajor.symm n 1).val - N < N + 1
          omega
        | ⟨2, _⟩ =>
          show 0 ≤ h.val * 1 + ((win N).rowMajor.symm n 2).val ∧ h.val * 1 + ((win N).rowMajor.symm n 2).val - 0 < C
          omega]
      exact hv
  · rw [hv, fold_sum, zero_add]
    refine (Fin.sum_univ_def _).symm.trans ((Fin.sum_univ_eq_sum_range (fun k : ℕ => if N ≤ t.val + k then F (t.val + k - N) else 0) (win N).numel).trans ?_)
    rw [win_numel]
    exact window_sum F N t.val ht

/-- The reference's running sum. -/
def running (G : FVec Ideal S2x4096x8 .f32) : FVec Ideal S2x4096x8 .f32 :=
  Host.reduceWindowAdd ![1, 4096, 1] ![1, 1, 1] ![0, 4095, 0] ![0, 0, 0] G (broadcastInDim S_ ![] bcast_S_S_ (constant S_ .f32 0x00000000#32)) reduceWindows_S2x4096x8_S2x4096x8_w1s1p0_0_w4096s1p4095_0_w1s1p0_0 h_S_

theorem running_eq (G : FVec Ideal S2x4096x8 .f32) (B : Fin 2) (t : Fin 4096) (h : Fin 8) :
    running G (ix3 B t h) = ∑ n ∈ Finset.range (t.val + 1), G (ix3 B (tok n) h) := by
  unfold running Host.reduceWindowAdd
  rw [Ideal.hostReduceWindowAdd_def]
  exact running_at (A := 2) (M := 4096) (N := 4095) (C := 8) rfl (Nat.succ_pos _) G _ Ideal.ofBits_zero_f32 _ B t h

/-- The last steps of the reference: divide by the logarithm of two, turn, and repeat along the lanes. -/
def turned (S : FVec Ideal S2x4096x8 .f32) : FVec Ideal S8x8192x128 .f32 :=
  broadcastInDim S8x8192x128 ![0, 1, 2] bcast_S8x8192x1_S8x8192x128_0_1_2 (broadcastInDim S8x8192x1 ![0, 1] bcast_S8x8192_S8x8192x1_0_1 (transpose S8x8192 [1, 0] (shapeCast S8192x8 (Host.divf S (broadcastInDim S2x4096x8 ![] bcast_S_S2x4096x8 (Host.log (constant S_ .f32 0x40000000#32)))) shapeCasts_S2x4096x8_S8192x8) transposes_S8192x8_S8x8192_1_0))

theorem turned_at (S : FVec Ideal S2x4096x8 .f32) (h : Fin 8) (T : Fin 8192) (l : Fin 128) (B : Fin 2) (t : Fin 4096) (e : T.val = B.val * 4096 + t.val) :
    turned S (ix3 h T l) = S (ix3 B t h) * (((Real.log 2)⁻¹ : ℝ) : EReal) := by
  have hl : Ideal.log (Ideal.ofBits FTy.f32 0x40000000#32) = ((Real.log 2 : ℝ) : EReal) := Cert.FoxRow.ln2_eq
  have h2 : Real.log 2 ≠ 0 := (Real.log_pos (by norm_num : (1 : ℝ) < 2)).ne'
  have eB : (⟨T.val / 4096, by omega⟩ : Fin 2) = B := Fin.ext (by dsimp only; omega)
  have et : (⟨T.val % 4096, by omega⟩ : Fin 4096) = t := Fin.ext (by dsimp only; omega)
  unfold turned
  pointwise
  rw [hl, Ideal.div_coe h2, one_div]
  exact congrArg (· * _) (congrArg₂ (fun B t => S (ix3 B t h)) eB et)

theorem reference_eq (x : FVec Ideal S2x4096x8 .f32) (b : FVec Ideal S8 .f32) : turned (running (gates x b)) = level x b := by
  funext j
  obtain ⟨h, T, l, rfl⟩ : ∃ (h : Fin 8) (T : Fin 8192) (l : Fin 128), j = ix3 h T l := ⟨j 0, j 1, j 2, eq_ix3 j⟩
  have hT := T.isLt
  rw [turned_at _ h T l ⟨T.val / 4096, by omega⟩ ⟨T.val % 4096, by omega⟩ (by dsimp only; omega), running_eq]
  refine congrArg (· * _) (Finset.sum_congr rfl fun n _ => ?_)
  exact gates_at _ _ _ _ _

end Cert.GatesRef

end
-- ==== Proof.GatesOut.lean ====
/-
  What the running sums' array holds at the end: the reference's running sums.
-/
module

public import proofs.«01_k».proof.Proof.GatesHost
public import proofs.«01_k».proof.Proof.GatesSums
public import proofs.«01_k».proof.Proof.GatesRef
public import proofs.«01_k».proof.Proof.Gen.GatesIdeal.Value
public import Idealize.ShloMosaic.Lib.Pipeline.Covers

@[expose] public section

set_option maxRecDepth 16384

noncomputable section

namespace Cert.GatesOut

open Idealize.ShloMosaic Idealize.ShloMosaic.TcCoe Idealize.ShloMosaic.Tactic
open Idealize.SL.Sem Cert.Blocks Cert.GatesIdeal Cert.GatesIdeal.Gen Cert.GatesIdeal.Value
open Cert.GatesHost Cert.GatesMath Cert.GatesSums
open Cert.GatesRef (tok seq level)

variable (m : (ℓ : Loc nD τ sig) → Buf (Elt Ideal) ℓ) (c : Dev nD)

/-! ## Where the blocks lie -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem N_lt (t : Fin cfg0.N) : t.val < 8 := lt_of_lt_of_eq t.isLt (show cfg0.N = 8 from N_0)

/-- A point's batch. -/
def batch (t : Fin cfg0.N) : Fin 2 := ⟨t.val / 4, by have := N_lt t; omega⟩

/-- The padded logits and bias. -/
abbrev logits : FVec Ideal S8192x128 .f32 := V m c main_v1
abbrev biases : FVec Ideal S1x128 .f32 := V m c main_v3

/-- The logarithms of a batch's gates in a lane, token by token. -/
def lane (B : Fin 2) (l : Fin 128) (n : ℕ) : EReal :=
  gate (logits m c (ix2 ⟨B.val * 4096 + n % 4096, by omega⟩ l) + biases m c (ix2 0 l))

/-- In a head's lane they are the reference's. -/
theorem lane_eq (B : Fin 2) (h : Fin 8) : lane m c B ⟨h.val, by omega⟩ = seq (xA m c) (bA m c) B h := by
  funext n
  exact congrArg gate (congrArg₂ (· + ·) (logit_at m c _ B (tok n) h rfl rfl) (bias_at m c _ h rfl))

/-- The blocks a point reads: logits, bias and triangle. -/
abbrev rows (t : Fin cfg0.N) : Vec Ideal S1024x128 .f32 := iblk m c 0 t
abbrev bias (t : Fin cfg0.N) : Vec Ideal S1x128 .f32 := iblk m c 1 t
abbrev tri (t : Fin cfg0.N) : Vec Ideal S256x256 .bf16 := iblk m c 2 t

/-- The logits a point reads. -/
theorem blk0 (t : Fin cfg0.N) (y : Fin 1024) (l : Fin 128) :
    rows m c t (ix2 y l) = logits m c (ix2 ⟨t.val * 1024 + y.val, by have := N_lt t; omega⟩ l) := by
  refine congrArg (logits m c) (funext fun a => Fin.ext ?_)
  match a with
  | ⟨0, _⟩ => exact ((cfg0.win 0).rect_emb_val t (ix2 y l) ⟨0, Nat.zero_lt_succ 1⟩).trans (congrArg (· * 1024 + y.val) (idx0 t).1)
  | ⟨1, _⟩ =>
    refine ((cfg0.win 0).rect_emb_val t (ix2 y l) ⟨1, Nat.lt_succ_self 1⟩).trans ((congrArg (· * 128 + l.val) (idx0 t).2).trans ?_)
    show 0 * 128 + l.val = l.val
    omega
/-- Its bias, -/
theorem blk1 (t : Fin cfg0.N) (l : Fin 128) : bias m c t (ix2 0 l) = biases m c (ix2 0 l) := by
  refine congrArg (biases m c) (funext fun a => Fin.ext ?_)
  match a with
  | ⟨0, _⟩ => exact ((cfg0.win 1).rect_emb_val t (ix2 0 l) ⟨0, Nat.zero_lt_succ 1⟩).trans (congrArg (· * 1 + 0) (idx1 t).1)
  | ⟨1, _⟩ =>
    refine ((cfg0.win 1).rect_emb_val t (ix2 0 l) ⟨1, Nat.lt_succ_self 1⟩).trans ((congrArg (· * 128 + l.val) (idx1 t).2).trans ?_)
    show 0 * 128 + l.val = l.val
    omega
/-- and its triangle. -/
theorem blk2 (t : Fin cfg0.N) (r s : Fin 256) : tri m c t (ix2 r s) = (if s.val ≤ r.val then 1 else 0 : EReal) := by
  refine Eq.trans (congrArg (V m c main_v5) (funext fun a => Fin.ext ?_)) (tri_at m c r s)
  match a with
  | ⟨0, _⟩ =>
    refine ((cfg0.win 2).rect_emb_val t (ix2 r s) ⟨0, Nat.zero_lt_succ 1⟩).trans ((congrArg (· * 256 + r.val) (idx2 t).1).trans ?_)
    show 0 * 256 + r.val = r.val
    omega
  | ⟨1, _⟩ =>
    refine ((cfg0.win 2).rect_emb_val t (ix2 r s) ⟨1, Nat.lt_succ_self 1⟩).trans ((congrArg (· * 256 + s.val) (idx2 t).2).trans ?_)
    show 0 * 256 + s.val = s.val
    omega

/-- The logarithms a point reads, counted from its batch's first token. -/
theorem chunk (t : Fin cfg0.N) (y : Fin 1024) (l : Fin 128) :
    gate (rows m c t (ix2 y l) + bias m c t (ix2 0 l)) = lane m c (batch t) l (1024 * (t.val % 4) + y.val) := by
  rw [blk0 m c t y l, blk1 m c t l]
  unfold lane batch
  refine congrArg (fun r => gate (logits m c (ix2 r l) + biases m c (ix2 0 l))) (Fin.ext ?_)
  show t.val * 1024 + y.val = t.val / 4 * 4096 + (1024 * (t.val % 4) + y.val) % 4096
  omega

/-! ## The sums carried on -/

/-- A batch's first point starts from nothing. -/
theorem carried_first (t : Fin cfg0.N) (h0 : t.val % 4 = 0) (l : Fin 128) :
    (outsAt0 m c t.val t.isLt).2 (ix2 0 l) = ∑ k ∈ Finset.range (1024 * (t.val % 4) + 1024), lane m c (batch t) l k := by
  rw [outsAt0_A m c t h0]
  exact carry_A_at (blk2 m c t) (lane m c (batch t)) c (grid0.coords t) (ms0_0 t) (hs0_0 t) (ms0_1 t) (hs0_1 t) (ms0_2 t) (hs0_2 t) (ms0_3 t) (hs0_3 t) scM0_0 (Memref.isWhole_whole _) (rows m c t) (1024 * (t.val % 4)) (chunk m c t) ((hcond0_0 t).mpr h0) (by omega) l

/-- A later point goes on from the sums carried to it. -/
theorem carried_later (t : Fin cfg0.N) (h0 : ¬ t.val % 4 = 0)
    (hk : ∀ l, (outsAt0 m c (t.val - 1) (Nat.lt_of_le_of_lt (Nat.sub_le _ _) t.isLt)).2 (ix2 0 l) = ∑ k ∈ Finset.range (1024 * (t.val % 4)), lane m c (batch t) l k) (l : Fin 128) :
    (outsAt0 m c t.val t.isLt).2 (ix2 0 l) = ∑ k ∈ Finset.range (1024 * (t.val % 4) + 1024), lane m c (batch t) l k := by
  rw [outsAt0_B m c t h0]
  exact carry_B_at (blk2 m c t) (lane m c (batch t)) c (grid0.coords t) (ms0_0 t) (hs0_0 t) (ms0_1 t) (hs0_1 t) (ms0_2 t) (hs0_2 t) (ms0_3 t) (hs0_3 t) scM0_0 (Memref.isWhole_whole _) (rows m c t) (1024 * (t.val % 4)) (chunk m c t) (fun h => h0 ((hcond0_0 t).mp h)) _ hk l

/-- The sums up to the point before are those up to this point's first token. -/
theorem before (n : ℕ) (hn : n < cfg0.N) (t : Fin cfg0.N) (e : t.val = n + 1) (h0 : ¬ t.val % 4 = 0) (l : Fin 128) :
    ∑ k ∈ Finset.range (1024 * (n % 4) + 1024), lane m c (batch ⟨n, hn⟩) l k = ∑ k ∈ Finset.range (1024 * (t.val % 4)), lane m c (batch t) l k := by
  have eb : batch ⟨n, hn⟩ = batch t := Fin.ext (by show n / 4 = t.val / 4; omega)
  rw [eb, show 1024 * (n % 4) + 1024 = 1024 * (t.val % 4) by omega]

/-- After a point the carried row holds the sums over the batch so far. -/
theorem carried_on (n : ℕ) (hn : n < cfg0.N) (l : Fin 128) :
    (outsAt0 m c n hn).2 (ix2 0 l) = ∑ k ∈ Finset.range (1024 * (n % 4) + 1024), lane m c (batch ⟨n, hn⟩) l k := by
  induction n generalizing l with
  | zero => exact carried_first m c ⟨0, hn⟩ rfl l
  | succ n ih =>
    by_cases h0 : (n + 1) % 4 = 0
    · exact carried_first m c ⟨n + 1, hn⟩ h0 l
    · exact carried_later m c ⟨n + 1, hn⟩ h0 (fun l => (ih (Nat.lt_of_succ_lt hn) l).trans (before m c n _ ⟨n + 1, hn⟩ rfl h0 l)) l

/-! ## A point's result -/

/-- What a grid point writes. -/
theorem flushed_at (t : Fin cfg0.N) (h : Fin 8) (y : Fin 1024) (l : Fin 128) :
    (dats m 0 c).flushed 3 t (ix3 h y l) = scaled (lane m c (batch t) ⟨h.val, by omega⟩) (1024 * (t.val % 4) + y.val) := by
  by_cases h0 : t.val % 4 = 0
  · rw [flushed3_A m c t h0]
    exact out_A (blk2 m c t) (lane m c (batch t)) c (grid0.coords t) (ms0_0 t) (hs0_0 t) (ms0_1 t) (hs0_1 t) (ms0_2 t) (hs0_2 t) (ms0_3 t) (hs0_3 t) scM0_0 (Memref.isWhole_whole _) (rows m c t) (1024 * (t.val % 4)) (chunk m c t) ((hcond0_0 t).mpr h0) (by omega) h y l
  · rw [flushed3_B m c t h0]
    refine out_B (blk2 m c t) (lane m c (batch t)) c (grid0.coords t) (ms0_0 t) (hs0_0 t) (ms0_1 t) (hs0_1 t) (ms0_2 t) (hs0_2 t) (ms0_3 t) (hs0_3 t) scM0_0 (Memref.isWhole_whole _) (rows m c t) (1024 * (t.val % 4)) (chunk m c t) (fun h => h0 ((hcond0_0 t).mp h)) _ (fun l => ?_) h y l
    exact (carried_on m c (t.val - 1) _ l).trans (before m c (t.val - 1) _ t (by omega) h0 l)

/-- The running sums at a place, named by head, batch and token. -/
theorem level_at (x : FVec Ideal S2x4096x8 .f32) (b : FVec Ideal S8 .f32) (j : S8x8192x128.Idx) (h : Fin 8) (B : Fin 2) (n : ℕ) (hn : n < 4096)
    (h0 : (j 0).val = h.val) (h1 : (j 1).val = B.val * 4096 + n) : level x b j = scaled (seq x b B h) n := by
  have l1 : (j 1).val < 8192 := (j 1).isLt
  have eB : (⟨(j 1).val / 4096, by omega⟩ : Fin 2) = B := Fin.ext (by dsimp only; omega)
  have eh : j 0 = h := Fin.ext h0
  have en : (j 1).val % 4096 = n := by omega
  unfold level
  rw [eB, eh, en]

/-- **The array at the end holds the running sums.** -/
theorem arr_level : (dats m 0 c).arrAt 3 cfg0.N = level (xA m c) (bA m c) := by
  refine (dats m 0 c).arrAt_eq_of_covers 3 _ ?_ fun t hfl y => ?_
  · refine (cfg0.win 3).covers_of_indexMap_surj rfl (fun a => match a with
      | ⟨0, _⟩ => (by decide : 0 < 8)
      | ⟨1, _⟩ => (by decide : 0 < 1024)
      | ⟨2, _⟩ => (by decide : 0 < 128)) fun β => ?_
    have h0 : (β ⟨0, Nat.zero_lt_succ 2⟩).val < (8 + 8 - 1) / 8 := (β ⟨0, Nat.zero_lt_succ 2⟩).isLt
    have h1 : (β ⟨1, Nat.succ_lt_succ (Nat.zero_lt_succ 1)⟩).val < (8192 + 1024 - 1) / 1024 := (β ⟨1, Nat.succ_lt_succ (Nat.zero_lt_succ 1)⟩).isLt
    have h2 : (β ⟨2, Nat.lt_succ_self 2⟩).val < (128 + 128 - 1) / 128 := (β ⟨2, Nat.lt_succ_self 2⟩).isLt
    have key : ∀ j : Fin 8, (Scalar.addi (Scalar.muli (BitVec.ofNat 32 (j.val / 4)) 4#32) (BitVec.ofNat 32 (j.val % 4))).toNat = j.val := by decide
    refine ⟨fun a => match a with
      | ⟨0, _⟩ => ⟨(β ⟨1, Nat.succ_lt_succ (Nat.zero_lt_succ 1)⟩).val / 4, by show _ < 2; omega⟩
      | ⟨1, _⟩ => ⟨(β ⟨1, Nat.succ_lt_succ (Nat.zero_lt_succ 1)⟩).val % 4, by show _ < 4; omega⟩, fun a => ?_⟩
    match a with
    | ⟨0, _⟩ => show 0 = (β ⟨0, Nat.zero_lt_succ 2⟩).val; omega
    | ⟨1, _⟩ => exact key ⟨(β ⟨1, Nat.succ_lt_succ (Nat.zero_lt_succ 1)⟩).val, by omega⟩
    | ⟨2, _⟩ => show 0 = (β ⟨2, Nat.lt_succ_self 2⟩).val; omega
  · change S8x1024x128.Idx at y
    obtain ⟨h, r, l, rfl⟩ : ∃ (h : Fin 8) (r : Fin 1024) (l : Fin 128), y = ix3 h r l := ⟨y 0, y 1, y 2, eq_ix3 y⟩
    refine (flushed_at m c t h r l).trans ((congrArg (scaled · _) (lane_eq m c (batch t) h)).trans (level_at _ _ _ _ _ _ (by omega) ?_ ?_).symm)
    · refine ((cfg0.win 3).rect_emb_val t (ix3 h r l) ⟨0, Nat.zero_lt_succ 2⟩).trans ((congrArg (· * 8 + h.val) (idx3 t).1).trans ?_)
      show 0 * 8 + h.val = h.val
      omega
    · refine ((cfg0.win 3).rect_emb_val t (ix3 h r l) ⟨1, Nat.succ_lt_succ (Nat.zero_lt_succ 1)⟩).trans ((congrArg (· * 1024 + r.val) (idx3 t).2.1).trans ?_)
      show t.val * 1024 + r.val = t.val / 4 * 4096 + (1024 * (t.val % 4) + r.val)
      omega

end Cert.GatesOut

end
-- ==== Proof.GatesClaims.lean ====
/-
  The claims about the forget gates' running sums.
-/
module

public import proofs.«01_k».proof.Defs
public import proofs.«01_k».proof.Proof.Gen.Gates.Frame
public import proofs.«01_k».proof.Proof.GatesOut
public import Idealize.ShloMosaic.Adequacy
public import Idealize.ShloMosaic.Init
public import Idealize.ShloMosaic.Lib.Quiescent

@[expose] public section

noncomputable section

namespace Cert.Proof

open Idealize.ShloMosaic Idealize.SL.Sem

theorem frame_gates : Cert.quiescent_Gates := fun m g _ => Cert.Gates.Gen.frame m g

theorem frame_gates_ideal : Cert.quiescent_GatesIdeal := fun m g _ => Cert.GatesIdeal.Gen.frame m g

theorem frame_gates_ref : Cert.quiescent_GatesRefIdeal := fun m g _ =>
  (θ_run _ _ _).mono (fun r h => ⟨fun c => (h c).2, sem_eq_zero_of_no_sems rfl r.2⟩) (Cert.GatesRefIdeal.Value.run m g)

/-- The constant the kernel multiplies by is a rounding of the reciprocal of the logarithm of two. -/
theorem named_gates : Cert.preserves_Gates_GatesIdeal := IdealRules.named_const.statement Cert.GatesIdeal.κ "log2e" .f32 0x3FB8AA3B#32 (((Real.log 2)⁻¹ : ℝ) : EReal) rfl

theorem value_gates : Cert.algebraic_GatesIdeal_GatesRefIdeal := fun m g m' g' _ harg =>
  ⟨fun c => Cert.GatesRef.level (GatesHost.xA m c) (GatesHost.bA m c),
   (θ_run _ _ _).mono (fun _ h c => ⟨(h c).1.trans (GatesOut.arr_level m c), (h c).2⟩) (Cert.GatesIdeal.Value.run_blocks m g),
   (θ_run _ _ _).mono (fun _ h c => by
      obtain ⟨e0, e1⟩ := harg c
      refine ⟨(h c).1.trans ((GatesRef.reference_eq _ _).trans ?_), (h c).2⟩
      rw [e0, e1])
    (Cert.GatesRefIdeal.Value.run m' g')⟩

end Cert.Proof

end
-- ==== Proof.RouterOut.lean ====
/-
  The routing call's first result over the extended reals: the rows of `x` normalized by the root of their mean square
  and scaled by the gain — of the kernel, 512 rows at a grid point, and of the reference.
-/
module

public import proofs.«01_k».proof.Proof.InprojOut
public import proofs.«01_k».proof.Proof.Gen.RouterIdeal.Value
public import proofs.«01_k».proof.Proof.Gen.RouterRefIdeal.Run
public import Idealize.ShloMosaic.Lib.Pointwise
public import Idealize.ShloMosaic.Lib.Pipeline.Covers

@[expose] public section

set_option maxRecDepth 16384

noncomputable section

namespace Cert.RouterOut

open Idealize.ShloMosaic Idealize.ShloMosaic.TcCoe Idealize.ShloMosaic.Tactic
open Idealize.SL.Sem Cert.Blocks
open Cert.InprojOut (normed normed_congr rowsRef rowsRef_apply)

/-- The normalized rows. -/
def normedRows (x : FVec Ideal ⟨2, ![8192, 2048]⟩ .f32) (g : FVec Ideal ⟨2, ![1, 2048]⟩ .f32) : FVec Ideal ⟨2, ![8192, 2048]⟩ .bf16 :=
  fun j => normed x g (j 0) (j 1)

section Kernel

open Cert.RouterIdeal Cert.RouterIdeal.Gen Cert.RouterIdeal.Value

/-- The body's normalized rows at one place. -/
theorem rows_apply (x : Vec Ideal S512x2048 .f32) (g : Vec Ideal S1x2048 .f32) (r : Fin 512) (k : Fin 2048) :
    k0_pay6 x g (ix2 r k) = normed x g r k := by
  unfold k0_pay6 k0_pay5 normed
  pointwise

variable (m : (ℓ : Loc nD τ sig) → Buf (Elt Ideal) ℓ) (c : Dev nD)

/-- The rows and the gain. -/
abbrev xA : FVec Ideal ⟨2, ![8192, 2048]⟩ .f32 := m ((c : Thread nD τ).loc main_arg0)
abbrev gA : FVec Ideal ⟨2, ![1, 2048]⟩ .f32 := m ((c : Thread nD τ).loc main_arg1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem N_lt (t : Fin cfg0.N) : t.val < 16 := lt_of_lt_of_eq t.isLt (show cfg0.N = 16 from N_0)

/-- The blocks a point reads for its normalized rows. -/
abbrev rows (t : Fin cfg0.N) : Vec Ideal S512x2048 .f32 := iblk m c 0 t
abbrev gain (t : Fin cfg0.N) : Vec Ideal S1x2048 .f32 := iblk m c 1 t

/-- A row of the array as a point's block holds it. -/
def rowOf (t : Fin cfg0.N) (r : Fin 512) : Fin 8192 := ⟨t.val * 512 + r.val, by have := N_lt t; omega⟩

theorem blk0 (t : Fin cfg0.N) (r : Fin 512) (k : Fin 2048) : rows m c t (ix2 r k) = xA m c (ix2 (rowOf t r) k) := by
  refine (congrFun (V_main_arg0 m c) _).trans (congrArg (xA m c) (idx2_eq _ (rowOf t r) k ?_ ?_))
  · exact ((cfg0.win 0).rect_emb_val t (ix2 r k) ⟨0, Nat.zero_lt_succ 1⟩).trans (congrArg (· * 512 + r.val) (idx0 t).1)
  · refine ((cfg0.win 0).rect_emb_val t (ix2 r k) ⟨1, Nat.lt_succ_self 1⟩).trans ((congrArg (· * 2048 + k.val) (idx0 t).2).trans ?_)
    show 0 * 2048 + k.val = k.val
    omega

theorem blk1 (t : Fin cfg0.N) (k : Fin 2048) : gain m c t (ix2 0 k) = gA m c (ix2 0 k) := by
  refine (congrFun (V_main_arg1 m c) _).trans (congrArg (gA m c) (idx2_eq _ 0 k ?_ ?_))
  · exact ((cfg0.win 1).rect_emb_val t (ix2 0 k) ⟨0, Nat.zero_lt_succ 1⟩).trans (congrArg (· * 1 + 0) (idx1 t).1)
  · refine ((cfg0.win 1).rect_emb_val t (ix2 0 k) ⟨1, Nat.lt_succ_self 1⟩).trans ((congrArg (· * 2048 + k.val) (idx1 t).2).trans ?_)
    show 0 * 2048 + k.val = k.val
    omega

/-- What any point writes: its block's normalized rows. -/
theorem flushed_eq (t : Fin cfg0.N) : (dats m 0 c).flushed 5 t = k0_pay6 (rows m c t) (gain m c t) := by
  by_cases h0 : t.val % 16 = 0
  · rw [flushed5_A m c t h0]
    unfold out0_A_5 kernelRun0_A
    refine (read_store_whole _ _ zeros2 _ _).trans ?_
    rw [readAt_whole (hs0_0 t) zeros2, readAt_whole (hs0_1 t) zeros2]
  · rw [flushed5_B m c t h0]
    unfold out0_B_5 kernelRun0_B
    refine (read_store_whole _ _ zeros2 _ _).trans ?_
    rw [readAt_whole (hs0_0 t) zeros2, readAt_whole (hs0_1 t) zeros2]

theorem flushed_at (t : Fin cfg0.N) (r : Fin 512) (k : Fin 2048) :
    (dats m 0 c).flushed 5 t (ix2 r k) = normed (xA m c) (gA m c) (rowOf t r) k := by
  refine (congrFun (flushed_eq m c t) _).trans ((rows_apply _ _ r k).trans ?_)
  exact normed_congr _ _ _ _ _ _ _ (blk0 m c t r) (blk1 m c t k)

/-- **The array at the end holds the normalized rows.** -/
theorem arr_rows : (dats m 0 c).arrAt 5 cfg0.N = normedRows (xA m c) (gA m c) := by
  refine (dats m 0 c).arrAt_eq_of_covers 5 _ ?_ fun t hfl y => ?_
  · refine (cfg0.win 5).covers_of_indexMap_surj rfl (fun a => match a with
      | ⟨0, _⟩ => (by decide : 0 < 512)
      | ⟨1, _⟩ => (by decide : 0 < 2048)) fun β => ?_
    have h0 : (β ⟨0, Nat.zero_lt_succ 1⟩).val < (8192 + 512 - 1) / 512 := (β ⟨0, Nat.zero_lt_succ 1⟩).isLt
    have h1 : (β ⟨1, Nat.lt_succ_self 1⟩).val < (2048 + 2048 - 1) / 2048 := (β ⟨1, Nat.lt_succ_self 1⟩).isLt
    have b0 : (β ⟨0, Nat.zero_lt_succ 1⟩).val < 1048576 := by omega
    refine ⟨fun a => match a with
      | ⟨0, _⟩ => ⟨(β ⟨0, Nat.zero_lt_succ 1⟩).val, by show _ < 16; omega⟩, fun a => ?_⟩
    match a with
    | ⟨0, _⟩ => exact word _ b0
    | ⟨1, _⟩ => show 0 = (β ⟨1, Nat.lt_succ_self 1⟩).val; omega
  · change S512x2048.Idx at y
    obtain ⟨r, k, rfl⟩ : ∃ (r : Fin 512) (k : Fin 2048), y = ix2 r k := ⟨y 0, y 1, eq_ix2 y⟩
    have ej : ((cfg0.win 5).blk t).view.emb (ix2 r k) = ix2 (rowOf t r) k := by
      refine idx2_eq _ _ _ ?_ ?_
      · exact ((cfg0.win 5).rect_emb_val t (ix2 r k) ⟨0, Nat.zero_lt_succ 1⟩).trans (congrArg (· * 512 + r.val) (idx5 t).1)
      · refine ((cfg0.win 5).rect_emb_val t (ix2 r k) ⟨1, Nat.lt_succ_self 1⟩).trans ((congrArg (· * 2048 + k.val) (idx5 t).2).trans ?_)
        show 0 * 2048 + k.val = k.val
        omega
    exact (flushed_at m c t r k).trans (congrArg (normedRows (xA m c) (gA m c)) ej.symm)

end Kernel

/-- The reference's rows are the projection's reference's. -/
theorem ref_eq (x : FVec Ideal ⟨2, ![8192, 2048]⟩ .f32) (g : FVec Ideal ⟨2, ![1, 2048]⟩ .f32) : rowsRef x g = normedRows x g := by
  funext j
  rw [eq_ix2 j]
  exact rowsRef_apply x g (j 0) (j 1)

end Cert.RouterOut

end
-- ==== Proof.RouterRow.lean ====
/-
  The routing call's two gates of a row, as its body computes them from the row's 128 logits: the largest lane of the
  groups' four, the two largest of the chosen group's eight, and the softmax weights made of them.
-/
module

public import proofs.«01_k».proof.Proof.RouterOut
public import proofs.«01_k».proof.Proof.FoxTile

@[expose] public section

set_option maxRecDepth 16384

noncomputable section

namespace Cert.RouterRow

open Idealize.ShloMosaic Idealize.ShloMosaic.TcCoe Idealize.ShloMosaic.Tactic
open Cert.RouterIdeal Cert.RouterIdeal.Gen

/-- `k` is the first of the places `p` at which `f` is largest. -/
def First {n : Nat} (p : Fin n → Prop) (f : Fin n → EReal) (k : Fin n) : Prop :=
  p k ∧ (∀ l, p l → f l ≤ f k) ∧ ∀ l, p l → f l = f k → k ≤ l

theorem exists_first {n : Nat} (p : Fin n → Prop) (f : Fin n → EReal) (h : ∃ l, p l) : ∃ k, First p f k := by
  classical
  obtain ⟨l0, hl0⟩ := h
  obtain ⟨k0, hk0, hmax⟩ := Finset.exists_max_image (Finset.univ.filter p) f ⟨l0, by simpa using hl0⟩
  have hk0 : p k0 := by simpa using hk0
  obtain ⟨k, hk, hmin⟩ := Finset.exists_min_image (Finset.univ.filter fun l => p l ∧ f l = f k0) id ⟨k0, by simpa using hk0⟩
  have hk : p k ∧ f k = f k0 := by simpa using hk
  exact ⟨k, hk.1, fun l hl => hk.2 ▸ hmax l (by simpa using hl), fun l hl e => hmin l (by simp [hl, e, hk.2])⟩

/-- The first largest place of a part of a row is the row's first largest place on that part. -/
theorem First.along {m n : Nat} {p : Fin n → Prop} {f : Fin n → EReal} {q : Fin m → Prop} {f' : Fin m → EReal} {k : Fin m}
    (h : First q f' k) (e : Fin m → Fin n) (he : ∀ i j, i ≤ j → e i ≤ e j) (hp : ∀ l, p l ↔ ∃ i, q i ∧ e i = l)
    (hf : ∀ i, f (e i) = f' i) : First p f (e k) := by
  refine ⟨(hp _).mpr ⟨k, h.1, rfl⟩, fun l hl => ?_, fun l hl hl' => ?_⟩
  · obtain ⟨i, hi, rfl⟩ := (hp l).mp hl
    rw [hf, hf]
    exact h.2.1 i hi
  · obtain ⟨i, hi, rfl⟩ := (hp l).mp hl
    rw [hf, hf] at hl'
    exact he _ _ (h.2.2 i hi hl')

/-- The masked maximum of a row is its value at the first largest place. -/
theorem largest {n : Nat} (c : Fin n → BitVec 1) (f : Fin n → EReal) (k : Fin n) (h : First (fun l => c l = 1#1) f k) :
    Finset.fold max (Ideal.ofBits FTy.f32 0xFF800000#32)
      (fun l => Scalar.select (c l) (f l) (Ideal.ofBits FTy.f32 0xFF800000#32)) Finset.univ = f k := by
  rw [FoxTile.fold_sup]
  refine le_antisymm (Finset.sup_le fun l _ => ?_) ?_
  · rw [FoxTile.select_bot]
    split
    · exact h.2.1 l ‹_›
    · exact bot_le
  · refine le_trans (le_of_eq ?_) (Finset.le_sup (f := fun l => Scalar.select (c l) (f l) (Ideal.ofBits FTy.f32 0xFF800000#32)) (Finset.mem_univ k))
    exact ((FoxTile.select_bot _ _).trans (if_pos h.1)).symm

theorem word_top : Ideal.ofBits FTy.f32 0x7F800000#32 = (⊤ : EReal) := by
  simp [Ideal.ofBits, Ideal.ieee]

theorem word_lanes : Ideal.ofBits FTy.f32 0x43000000#32 = ((128 : ℝ) : EReal) := by
  simp [Ideal.ofBits, Ideal.ieee]
  rw [← EReal.coe_mul]
  norm_num

theorem lane_real (l : Nat) (h : l < 128) : (FloatOps.sitofp FTy.f32 (BitVec.ofNat 32 l) : Ideal .f32) = ((l : ℝ) : EReal) := by
  show (((BitVec.ofNat 32 l).toInt : ℝ) : EReal) = _
  have hn : (BitVec.ofNat 32 l).toNat = l := by
    rw [BitVec.toNat_ofNat]
    exact Nat.mod_eq_of_lt (by omega)
  rw [BitVec.toInt_eq_toNat_of_lt (by rw [hn]; omega), hn]
  norm_cast

theorem real_lane (l : Nat) (h : l < 128) : FloatOps.fptosi (F := Ideal) (φ := .f32) 32 ((l : ℝ) : EReal) = BitVec.ofNat 32 l := by
  show BitVec.ofInt 32 (max _ (min _ (if (0 : ℝ) ≤ (l : ℝ) then ⌊(l : ℝ)⌋ else ⌈(l : ℝ)⌉))) = _
  rw [if_pos (Nat.cast_nonneg l), Int.floor_natCast]
  have : max (-((2 ^ (32 - 1) : Nat) : Int)) (min (((2 ^ (32 - 1) : Nat) : Int) - 1) (l : Int)) = (l : Int) := by
    norm_num
    omega
  rw [this, BitVec.ofInt_natCast]

theorem and_one (a b : BitVec 1) : IntOp.andi a b = 1#1 ↔ a = 1#1 ∧ b = 1#1 := by
  revert a b
  decide

theorem bool_one (b : Bool) : BitVec.ofBool b = 1#1 ↔ b = true := by
  revert b
  decide

/-- The masked first place of a value, as the body finds it: the least lane number. -/
theorem place (c : Fin 128 → BitVec 1) (f : Fin 128 → EReal) (k : Fin 128) (h : First (fun l => c l = 1#1) f k) :
    FloatOps.fptosi (F := Ideal) (φ := .f32) 32 (Finset.fold min (Ideal.ofBits FTy.f32 0x7F800000#32) (fun l : Fin 128 =>
      Scalar.select (IntOp.andi (c l) (BitVec.ofBool (decide (f l = f k)))) (FloatOps.sitofp FTy.f32 (BitVec.ofNat 32 l.val) : Ideal .f32)
        (Ideal.ofBits FTy.f32 0x43000000#32)) Finset.univ) = BitVec.ofNat 32 k.val := by
  rw [← real_lane k.val k.isLt]
  congr 1
  rw [word_top, word_lanes]
  have hs : ∀ l : Fin 128, Scalar.select (IntOp.andi (c l) (BitVec.ofBool (decide (f l = f k)))) (FloatOps.sitofp FTy.f32 (BitVec.ofNat 32 l.val) : Ideal .f32)
      ((128 : ℝ) : EReal) = if c l = 1#1 ∧ f l = f k then ((l.val : ℝ) : EReal) else ((128 : ℝ) : EReal) := fun l => by
    rw [lane_real l.val l.isLt]
    show (if _ = 1#1 then _ else _) = _
    refine if_congr ?_ rfl rfl
    rw [and_one, bool_one, decide_eq_true_iff]
  show Finset.univ.inf _ = _
  refine le_antisymm ?_ (Finset.le_inf fun l _ => ?_)
  · refine (Finset.inf_le (Finset.mem_univ k)).trans (le_of_eq ?_)
    rw [hs, if_pos ⟨h.1, rfl⟩]
  · rw [hs]
    split
    · exact EReal.coe_le_coe_iff.mpr (Nat.cast_le.mpr (h.2.2 l (‹_ ∧ _› : _ ∧ _).1 (‹_ ∧ _› : _ ∧ _).2))
    · exact EReal.coe_le_coe_iff.mpr (by exact_mod_cast k.isLt.le)

/-- A masked sum is the sum over the mask's places. -/
theorem masked_sum {m n : Nat} (c : Fin n → BitVec 1) (f : Fin n → EReal) (e : Fin m → Fin n) (he : Function.Injective e)
    (hc : ∀ l, c l = 1#1 ↔ ∃ i, e i = l) : ∑ l, Scalar.select (c l) (f l) 0 = ∑ i, f (e i) := by
  classical
  have : ∀ l, Scalar.select (c l) (f l) 0 = if c l = 1#1 then f l else 0 := fun l => rfl
  simp only [this]
  rw [← Finset.sum_filter]
  refine Eq.trans ?_ (Finset.sum_map Finset.univ ⟨e, he⟩ f)
  refine Finset.sum_congr (Finset.ext fun l => ?_) fun _ _ => rfl
  simp [hc]

/-- The weights of a row whose first largest group is `g` and whose two largest experts are `i` and `j`. -/
def gates (a : Fin 4 → EReal) (u : Fin 8 → EReal) (g : Fin 4) (i j : Fin 8) (l : Fin 128) : EReal :=
  if l.val = 0 then Ideal.div 1 (1 + Ideal.exp (u j - u i)) * Ideal.div 1 (∑ k, Ideal.exp (a k - a g))
  else if l.val = 1 then Ideal.div (Ideal.exp (u j - u i)) (1 + Ideal.exp (u j - u i)) * Ideal.div 1 (∑ k, Ideal.exp (a k - a g))
  else 0

/-- The lane of a group and the lane of an expert. -/
def laneG (k : Fin 4) : Fin 128 := ⟨k.val, by omega⟩
def laneE (k : Fin 4) (e : Fin 8) : Fin 128 := ⟨4 + 8 * k.val + e.val, by omega⟩

section Body

variable (L : FVec Ideal S512x128 .f32) (W : IVec S512x128 32) (N v37 v83 : FVec Ideal S512x128 .f32) (C : IVec S512x128 1) (r : Fin 512)
  (hW : ∀ l : Fin 128, W (ix2 r l) = BitVec.ofNat 32 l.val) (hN : ∀ l : Fin 128, N (ix2 r l) = FloatOps.sitofp FTy.f32 (BitVec.ofNat 32 l.val))
  (hC : ∀ l : Fin 128, C (ix2 r l) = BitVec.ofBool (decide (l.val < 4)))
  (h37 : ∀ l : Fin 128, v37 (ix2 r l) = Scalar.select (C (ix2 r l)) (L (ix2 r l)) (Ideal.ofBits FTy.f32 0xFF800000#32))
  (h83 : ∀ l : Fin 128, v83 (ix2 r l) = Ideal.ofBits FTy.f32 0xFF800000#32)
  (a : Fin 4 → EReal) (v : Fin 4 → Fin 8 → EReal) (g : Fin 4) (i j : Fin 8)
  (ha : ∀ k : Fin 4, L (ix2 r ⟨k.val, by omega⟩) = a k) (hv : ∀ (k : Fin 4) (e : Fin 8), L (ix2 r ⟨4 + 8 * k.val + e.val, by omega⟩) = v k e)
  (hg : First (fun _ => True) a g) (hi : First (fun _ => True) (v g) i) (hj : First (fun e => e ≠ i) (v g) j)

include hC ha hg in
theorem first_g : First (fun l => C (ix2 r l) = 1#1) (fun l => L (ix2 r l)) (laneG g) := by
  refine hg.along laneG (fun _ _ h => h) (fun l => ?_) ha
  rw [hC, bool_one, decide_eq_true_iff]
  exact ⟨fun h => ⟨⟨l.val, h⟩, trivial, rfl⟩, fun ⟨k, _, hk⟩ => hk ▸ k.isLt⟩

include hC h37 ha hg in
theorem max_group : k0_pay11 v37 (ix2 r 0) = a g := by
  refine Eq.trans ?_ ((largest _ _ _ (first_g L C r hC a g ha hg)).trans (ha g))
  unfold k0_pay11
  pointwise
  simp only [h37]

include hC h37 ha hg in
theorem prob_group : k0_pay12 L C v37 (ix2 r 0) = Ideal.div 1 (∑ k, Ideal.exp (a k - a g)) := by
  unfold k0_pay12
  pointwise
  rw [max_group L v37 C r hC h37 a g ha hg]
  congr 1
  refine (masked_sum _ _ laneG (fun x y h => Fin.ext (Fin.mk.inj h)) fun l => ?_).trans (Finset.sum_congr rfl fun k _ => ?_)
  · rw [hC, bool_one, decide_eq_true_iff]
    exact ⟨fun h => ⟨⟨l.val, h⟩, rfl⟩, fun ⟨k, hk⟩ => hk ▸ k.isLt⟩
  · exact congrArg (fun z => Ideal.exp (z - a g)) (ha k)

include hW hN hC h37 ha hg in
theorem mask_group (l : Fin 128) : k0_pay13 L W N C v37 (ix2 r l) = 1#1 ↔ ∃ e : Fin 8, laneE g e = l := by
  have hp := place _ _ _ (first_g L C r hC a g ha hg)
  have hx : k0_pay11 v37 (ix2 r 0) = L (ix2 r (laneG g)) := (max_group L v37 C r hC h37 a g ha hg).trans (ha g).symm
  unfold k0_pay13
  pointwise
  simp only [hx, hN]
  rw [hp, hW, show (laneG g).val = g.val from rfl]
  have e1 : IntOp.addi (4#32) (IntOp.muli (BitVec.ofNat 32 g.val) 8#32) = BitVec.ofNat 32 (4 + g.val * 8) := by
    show BitVec.ofNat 32 4 + BitVec.ofNat 32 g.val * BitVec.ofNat 32 8 = _
    rw [← BitVec.ofNat_mul, ← BitVec.ofNat_add]
  have e2 : IntOp.addi (BitVec.ofNat 32 (4 + g.val * 8)) (8#32) = BitVec.ofNat 32 (4 + g.val * 8 + 8) := by
    show BitVec.ofNat 32 _ + BitVec.ofNat 32 8 = _
    rw [← BitVec.ofNat_add]
  rw [e1, e2, and_one, WordCmp.cmpi_sge_ofNat_eq_one_iff (by norm_num; omega) (by norm_num; omega),
    WordCmp.cmpi_slt_ofNat_eq_one_iff (by norm_num; omega) (by norm_num; omega)]
  constructor
  · rintro ⟨h1, h2⟩
    refine ⟨⟨l.val - (4 + g.val * 8), by omega⟩, Fin.ext ?_⟩
    show 4 + 8 * g.val + (l.val - (4 + g.val * 8)) = l.val
    omega
  · rintro ⟨e, rfl⟩
    have := e.isLt
    show 4 + g.val * 8 ≤ 4 + 8 * g.val + e.val ∧ 4 + 8 * g.val + e.val < 4 + g.val * 8 + 8
    omega

include hW hN hC h37 ha hv hg hi in
theorem first_i : First (fun l => k0_pay13 L W N C v37 (ix2 r l) = 1#1) (fun l => L (ix2 r l)) (laneE g i) := by
  refine hi.along (laneE g) (fun x y h => ?_) (fun l => ?_) (hv g)
  · show 4 + 8 * g.val + x.val ≤ 4 + 8 * g.val + y.val
    exact Nat.add_le_add_left h _
  · rw [mask_group L W N v37 C r hW hN hC h37 a g ha hg]
    simp

include hW hN hC h37 ha hv hg hi in
theorem max_first : k0_pay14 L W N C v37 (ix2 r 0) = v g i := by
  refine Eq.trans ?_ ((largest _ _ _ (first_i L W N v37 C r hW hN hC h37 a v g i ha hv hg hi)).trans (hv g i))
  unfold k0_pay14
  pointwise

include hW hN hC h37 ha hv hg hi in
theorem place_first : k0_pay15 L W N C v37 (ix2 r 0) = BitVec.ofNat 32 (laneE g i).val := by
  refine Eq.trans ?_ (place _ _ _ (first_i L W N v37 C r hW hN hC h37 a v g i ha hv hg hi))
  have hx : k0_pay14 L W N C v37 (ix2 r 0) = L (ix2 r (laneE g i)) :=
    (max_first L W N v37 C r hW hN hC h37 a v g i ha hv hg hi).trans (hv g i).symm
  unfold k0_pay15
  pointwise
  simp only [hx, hN]

include hW hN hC h37 ha hv hg hi hj in
theorem first_j : First (fun l => k0_pay16 L W N C v37 (ix2 r l) = 1#1) (fun l => L (ix2 r l)) (laneE g j) := by
  refine hj.along (laneE g) (fun x y h => ?_) (fun l => ?_) (hv g)
  · show 4 + 8 * g.val + x.val ≤ 4 + 8 * g.val + y.val
    exact Nat.add_le_add_left h _
  · unfold k0_pay16
    pointwise
    rw [place_first L W N v37 C r hW hN hC h37 a v g i ha hv hg hi, hW, and_one, mask_group L W N v37 C r hW hN hC h37 a g ha hg,
      WordCmp.cmpi_ne_ofNat_eq_one_iff (by norm_num; omega) (by norm_num; omega)]
    constructor
    · rintro ⟨⟨e, rfl⟩, h⟩
      exact ⟨e, fun he => h (by rw [he]), rfl⟩
    · rintro ⟨e, he, rfl⟩
      refine ⟨⟨e, rfl⟩, fun h => he (Fin.ext ?_)⟩
      have : 4 + 8 * g.val + e.val = 4 + 8 * g.val + i.val := h
      omega

include hW hN hC h37 h83 ha hv hg hi hj in
/-- The body's gates of the row. -/
theorem body_gates (l : Fin 128) :
    k0_pay2 W
        (k0_pay20 L (k0_pay12 L C v37) (k0_pay14 L W N C v37) (k0_pay16 L W N C v37) v83)
        (k0_pay21 L (k0_pay12 L C v37) (k0_pay14 L W N C v37) (k0_pay16 L W N C v37) v83) (ix2 r l)
      = gates a (v g) g i j l := by
  have m2 : k0_pay18 L (k0_pay16 L W N C v37) v83 (ix2 r 0) = v g j := by
    refine Eq.trans ?_ ((largest _ _ _ (first_j L W N v37 C r hW hN hC h37 a v g i j ha hv hg hi hj)).trans (hv g j))
    unfold k0_pay18
    pointwise
    simp only [h83]
  unfold k0_pay2 k0_pay20 k0_pay21 k0_pay19
  pointwise
  rw [m2, prob_group L v37 C r hC h37 a g ha hg, max_first L W N v37 C r hW hN hC h37 a v g i ha hv hg hi, hW]
  unfold gates
  show (if _ = 1#1 then _ else if _ = 1#1 then _ else _) = _
  refine if_congr ?_ rfl (if_congr ?_ rfl rfl)
  · exact WordCmp.cmpi_eq_ofNat_eq_one_iff (by norm_num; omega) (by norm_num)
  · exact WordCmp.cmpi_eq_ofNat_eq_one_iff (by norm_num; omega) (by norm_num)

end Body

end Cert.RouterRow

end
-- ==== Proof.RouterTop.lean ====
/-
  What the host's two largest of a row are: the first of them sits at the first largest place, and the second is the
  largest of the others.
-/
module

public import proofs.«01_k».proof.Proof.RouterRow
public import Idealize.ShloMosaic.Lib.SortFacts

@[expose] public section

set_option maxRecDepth 16384

noncomputable section

namespace Cert.RouterTop

open Idealize.ShloMosaic Idealize.ShloMosaic.TcCoe Idealize.ShloMosaic.Tactic
open Cert.Blocks
open Cert.RouterRow (First)

/-- One place holds a larger number than another. -/
def above {n : Nat} (f : Fin n → EReal) : Fin n → Fin n → Bool := fun k k' => decide (f k' < f k)

theorem above_false {n : Nat} (f : Fin n → EReal) (a b : Fin n) : above f a b = false ↔ f a ≤ f b := by
  unfold above
  rw [decide_eq_false_iff_not, not_lt]

theorem above_true {n : Nat} (f : Fin n → EReal) (a b : Fin n) : above f a b = true ↔ f b < f a := by
  unfold above
  rw [decide_eq_true_iff]

/-- The sort's head, of an ascending list: the first of its largest. -/
theorem head_first {n : Nat} (f : Fin n → EReal) (l : List (Fin n)) : l.Pairwise (· < ·) → l ≠ [] →
    ∃ k t, stableSort (above f) l = k :: t ∧ k ∈ l ∧ (∀ b ∈ l, f b ≤ f k) ∧ ∀ b ∈ l, f b = f k → k ≤ b := by
  induction l with
  | nil => exact fun _ h => absurd rfl h
  | cons a l ih =>
    intro hp _
    rw [List.pairwise_cons] at hp
    by_cases hl : l = []
    · subst hl
      exact ⟨a, [], rfl, List.mem_singleton.mpr rfl, fun b hb => le_of_eq (congrArg f (List.mem_singleton.mp hb)), fun b hb _ => le_of_eq (List.mem_singleton.mp hb).symm⟩
    · obtain ⟨k, t, hs, hk, hmax, hmin⟩ := ih hp.2 hl
      by_cases hka : f a < f k
      · refine ⟨k, insertBefore (above f) a t, ?_, List.mem_cons_of_mem a hk, fun b hb => ?_, fun b hb he => ?_⟩
        · show insertBefore (above f) a (stableSort (above f) l) = _
          rw [hs]
          exact if_pos ((above_true f k a).mpr hka)
        · rcases List.mem_cons.mp hb with rfl | hb
          · exact hka.le
          · exact hmax b hb
        · rcases List.mem_cons.mp hb with rfl | hb
          · exact absurd he hka.ne
          · exact hmin b hb he
      · refine ⟨a, k :: t, ?_, List.mem_cons_self, fun b hb => ?_, fun b hb _ => ?_⟩
        · show insertBefore (above f) a (stableSort (above f) l) = _
          rw [hs]
          exact if_neg (fun h => hka ((above_true f k a).mp h))
        · rcases List.mem_cons.mp hb with rfl | hb
          · exact le_rfl
          · exact (hmax b hb).trans (not_lt.mp hka)
        · rcases List.mem_cons.mp hb with rfl | hb
          · exact le_rfl
          · exact (hp.1 b hb).le

/-- The place sorted to the front is the first largest. -/
theorem sorted_first {n : Nat} (f : Fin (n + 1) → EReal) (g : Fin (n + 1)) (hg : First (fun _ => True) f g) : sortedFrom (above f) 0 = g := by
  obtain ⟨k, t, hs, _, hmax, hmin⟩ := head_first f (List.finRange (n + 1)) (List.pairwise_lt_finRange _) (by simp [List.finRange_succ])
  have e : sortedFrom (above f) 0 = k := by
    have h2 : (sortPositions (n + 1) (above f)) = k :: t := hs
    unfold sortedFrom
    rw [List.get_of_eq h2]
    rfl
  rw [e]
  have h1 : f k = f g := le_antisymm (hg.2.1 k trivial) (hmax g (List.mem_finRange g))
  exact le_antisymm (hmin g (List.mem_finRange g) h1.symm) (hg.2.2 k trivial h1)

/-- The second place sorted holds the largest number of the places other than the first largest. -/
theorem sorted_second {n : Nat} (f : Fin (n + 2) → EReal) (i j : Fin (n + 2)) (hi : First (fun _ => True) f i) (hj : First (fun e => e ≠ i) f j) :
    f (sortedFrom (above f) 1) = f j := by
  have h0 := sorted_first f i hi
  have hne : sortedFrom (above f) 1 ≠ i := fun h => absurd (sortedFrom_injective (above f) (h.trans h0.symm)) (by simp [Fin.ext_iff])
  refine le_antisymm (hj.2.1 _ hne) ?_
  obtain ⟨q, hq⟩ := sortedFrom_surjective (above f) j
  have hq0 : q ≠ 0 := fun h => hj.1 (by rw [← hq, h, h0])
  by_cases h1 : q = 1
  · rw [← hq, h1]
  · have := sortedFrom_noInversion (above f) (above f) (fun a b h => (above_false f b a).mpr ((above_true f a b).mp h).le) (fun _ _ h => h)
      (fun a b c h h' => (above_false f a c).mpr (((above_false f a b).mp h).trans ((above_false f b c).mp h'))) 1 q
      (by
        have a0 : q.val ≠ 0 := fun h => hq0 (Fin.ext h)
        have a1 : q.val ≠ 1 := fun h => h1 (Fin.ext h)
        show (1 : Fin (n + 2)).val < q.val
        rw [show (1 : Fin (n + 2)).val = 1 from rfl]
        omega)
    rw [hq] at this
    exact (above_false f _ _).mp this

theorem cmp_above {n : Nat} (f : Fin n → EReal) (k k' : Fin n) : (Ideal.cmpTotal .gt (f k) (f k') == 1#1) = above f k k' := by
  show (BitVec.ofBool (decide (f k' < f k)) == 1#1) = decide (f k' < f k)
  cases decide (f k' < f k) <;> rfl

variable {M n p : Nat} (x : FVec Ideal ⟨2, ![M, n]⟩ .f32) (h : (⟨2, ![M, n]⟩ : Shape).Slices (fun _ => 0) ⟨2, ![M, p]⟩) (r : Fin M) (k : Fin p) (hk : k.val < n)

theorem along_row (k' q : Fin n) : Shape.Idx.along (s := ⟨2, ![M, n]⟩) (ix2 r k') 1 q = ix2 r q :=
  idx2_eq _ _ _ rfl rfl

theorem cut (y : (⟨2, ![M, n]⟩ : Shape).Idx → EReal) : extractStridedSlice ⟨2, ![M, p]⟩ (fun _ => 0) y h (ix2 r k) = y (ix2 r ⟨k.val, hk⟩) :=
  congrArg y (idx2_eq _ _ _ (Nat.zero_add _) (Nat.zero_add _))

theorem cut_word (y : IVec ⟨2, ![M, n]⟩ 32) : extractStridedSlice ⟨2, ![M, p]⟩ (fun _ => 0) y h (ix2 r k) = y (ix2 r ⟨k.val, hk⟩) :=
  congrArg y (idx2_eq _ _ _ (Nat.zero_add _) (Nat.zero_add _))

theorem order_eq (k' : Fin n) : (fun q q' : Fin n => Ideal.cmpTotal .gt (x (Shape.Idx.along (s := ⟨2, ![M, n]⟩) (ix2 r k') 1 q)) (x (Shape.Idx.along (s := ⟨2, ![M, n]⟩) (ix2 r k') 1 q')) == 1#1)
    = above fun q => x (ix2 r q) := by
  funext q q'
  rw [along_row, along_row]
  exact cmp_above (fun q => x (ix2 r q)) q q'

/-- The host's largest values of a row, -/
theorem top_value : (Host.topK ⟨2, ![M, p]⟩ 1 (FloatOps.cmpfTotal .gt) x h).1 (ix2 r k) = x (ix2 r (sortedFrom (above fun q => x (ix2 r q)) ⟨k.val, hk⟩)) := by
  unfold Host.topK
  dsimp only
  refine (cut h r k hk _).trans ?_
  refine Eq.trans (b := x (Shape.Idx.along (s := ⟨2, ![M, n]⟩) (ix2 r ⟨k.val, hk⟩) 1 (sortedFrom (fun q q' : Fin n => Ideal.cmpTotal .gt (x (Shape.Idx.along (s := ⟨2, ![M, n]⟩) (ix2 r ⟨k.val, hk⟩) 1 q)) (x (Shape.Idx.along (s := ⟨2, ![M, n]⟩) (ix2 r ⟨k.val, hk⟩) 1 q')) == 1#1) ⟨k.val, hk⟩))) ?_ ?_
  · unfold Host.sort2
    rw [dif_pos (show 1 < 2 by decide)]
    rfl
  · rw [order_eq]
    exact congrArg x (along_row r _ _)

/-- and their places. -/
theorem top_place : (Host.topK ⟨2, ![M, p]⟩ 1 (FloatOps.cmpfTotal .gt) x h).2 (ix2 r k) = BitVec.ofNat 32 (sortedFrom (above fun q => x (ix2 r q)) ⟨k.val, hk⟩).val := by
  unfold Host.topK
  dsimp only
  refine (cut_word h r k hk _).trans ?_
  refine Eq.trans (b := BitVec.ofNat 32 (sortedFrom (fun q q' : Fin n => Ideal.cmpTotal .gt (x (Shape.Idx.along (s := ⟨2, ![M, n]⟩) (ix2 r ⟨k.val, hk⟩) 1 q)) (x (Shape.Idx.along (s := ⟨2, ![M, n]⟩) (ix2 r ⟨k.val, hk⟩) 1 q')) == 1#1) ⟨k.val, hk⟩).val) ?_ ?_
  · unfold Host.sort2
    rw [dif_pos (show 1 < 2 by decide)]
    simp only [dif_pos (show 1 < 2 by decide)]
    refine congrArg (BitVec.ofNat 32) ?_
    exact congrArg Fin.val (Function.update_self (1 : Fin 2) _ _)
  · rw [order_eq]

end Cert.RouterTop

end
-- ==== Proof.RouterRef.lean ====
/-
  The routing call's reference: its gates, read at a row and a lane.
-/
module

public import proofs.«01_k».proof.Proof.RouterTop

@[expose] public section

set_option maxRecDepth 16384

noncomputable section

namespace Cert.RouterRef

open Idealize.ShloMosaic Idealize.ShloMosaic.TcCoe Idealize.ShloMosaic.Tactic
open Cert.Blocks Cert.RouterTop Cert.RouterRefIdeal Cert.RouterRefIdeal.Gen
open Cert.RouterRow (First gates)
open Cert.InprojOut (normed)

/-- The chosen group of every row, -/
def chosen (a : FVec Ideal S8192x4 .f32) : IVec S8192x1 32 := (Host.topK S8192x1 1 (FloatOps.cmpfTotal .gt) a sliceFits_S8192x4_S8192x1).2

/-- as a place in the groups, a negative one counted from the end, -/
def placeG (s : IVec S8192x1 32) : IVec S8192x1x1 32 :=
  shapeCast _ (select (cmpi .slt s (broadcastInDim S8192x1 ![] bcast_S_S8192x1 (constantI S_ 32 0#32))) (addi s (broadcastInDim S8192x1 ![] bcast_S_S8192x1 (constantI S_ 32 4#32))) s) shapeCasts_S8192x1_S8192x1x1

/-- and again for the experts. -/
def placeE (s : IVec S8192x1 32) : IVec S8192x1x1 32 :=
  select (cmpi .slt (broadcastInDim S8192x1x1 ![0, 1] bcast_S8192x1_S8192x1x1_0_1 s) (broadcastInDim S8192x1x1 ![] bcast_S_S8192x1x1 (constantI S_ 32 0#32))) (addi (broadcastInDim S8192x1x1 ![0, 1] bcast_S8192x1_S8192x1x1_0_1 s) (broadcastInDim S8192x1x1 ![] bcast_S_S8192x1x1 (constantI S_ 32 4#32))) (broadcastInDim S8192x1x1 ![0, 1] bcast_S8192x1_S8192x1x1_0_1 s)

/-- Whether the place is one of the four. -/
def within (q : IVec S8192x1x1 32) : IVec S8192x1 1 :=
  Host.reduce IntOp.andi (andi (cmpi .sge q (broadcastInDim S8192x1x1 ![] bcast_S_S8192x1x1 (constantI S_ 32 0#32))) (cmpi .sle q (broadcastInDim S8192x1x1 ![0, 1, 2] bcast_S1x1x1_S8192x1x1_0_1_2 (broadcastInDim S1x1x1 ![2] bcast_S1_S1x1x1_2 (constantI S1 32 3#32))))) (constantI S_ 1 1#1) reducesTo_S8192x1x1_S8192x1_d2 h_S_

/-- The groups' exponentials and probabilities. -/
def expG (a : FVec Ideal S8192x4 .f32) : FVec Ideal S8192x4 .f32 :=
  Host.exp (subf a (broadcastInDim S8192x4 ![0, 1] bcast_S8192x1_S8192x4_0_1 (broadcastInDim S8192x1 ![0] bcast_S8192_S8192x1_0 (maximumf (broadcastInDim S8192 ![] bcast_S_S8192 (constant S_ .f32 0xFF800000#32)) (Host.reduce FloatOps.maximumf a (constant S_ .f32 0xFF800000#32) reducesTo_S8192x4_S8192_d1 h_S_)))))
def probG (e : FVec Ideal S8192x4 .f32) : FVec Ideal S8192x4 .f32 :=
  Host.divf e (broadcastInDim S8192x4 ![0, 1] bcast_S8192x1_S8192x4_0_1 (broadcastInDim S8192x1 ![0] bcast_S8192_S8192x1_0 (Host.reduceAdd e (constant S_ .f32 0x00000000#32) reducesTo_S8192x4_S8192_d1 h_S_)))

/-- The chosen group's probability and its experts' logits. -/
def pickG (p : FVec Ideal S8192x4 .f32) (q : IVec S8192x1x1 32) : FVec Ideal S8192x1 .f32 :=
  select (within q) (Host.gather gather_S8192x4_S8192x1x1_S8192x1_n_1_0_0_1_2_11 p q) (broadcastInDim S8192x1 ![] bcast_S_S8192x1 (constant S_ .f32 0x7FC00000#32))
def pickE (u : FVec Ideal S8192x4x8 .f32) (q : IVec S8192x1x1 32) : FVec Ideal S8192x8 .f32 :=
  shapeCast _ (select (broadcastInDim S8192x1x8 ![0, 1] bcast_S8192x1_S8192x1x8_0_1 (within q)) (Host.gather gather_S8192x4x8_S8192x1x1_S8192x1x8_2_1_0_0_1_2_118 u q) (broadcastInDim S8192x1x8 ![] bcast_S_S8192x1x8 (constant S_ .f32 0x7FC00000#32))) shapeCasts_S8192x1x8_S8192x8

/-- The two largest of them, and their softmax. -/
def best (w : FVec Ideal S8192x8 .f32) : FVec Ideal S8192x2 .f32 := (Host.topK S8192x2 1 (FloatOps.cmpfTotal .gt) w sliceFits_S8192x8_S8192x2).1
def expT (t : FVec Ideal S8192x2 .f32) : FVec Ideal S8192x2 .f32 :=
  Host.exp (subf t (broadcastInDim S8192x2 ![0, 1] bcast_S8192x1_S8192x2_0_1 (broadcastInDim S8192x1 ![0] bcast_S8192_S8192x1_0 (maximumf (broadcastInDim S8192 ![] bcast_S_S8192 (constant S_ .f32 0xFF800000#32)) (Host.reduce FloatOps.maximumf t (constant S_ .f32 0xFF800000#32) reducesTo_S8192x2_S8192_d1 h_S_)))))
def probT (e : FVec Ideal S8192x2 .f32) : FVec Ideal S8192x2 .f32 :=
  Host.divf e (broadcastInDim S8192x2 ![0, 1] bcast_S8192x1_S8192x2_0_1 (broadcastInDim S8192x1 ![0] bcast_S8192_S8192x1_0 (Host.reduceAdd e (constant S_ .f32 0x00000000#32) reducesTo_S8192x2_S8192_d1 h_S_)))

/-- The gates of the logits. -/
def gatesOf (a : FVec Ideal S8192x4 .f32) (u : FVec Ideal S8192x4x8 .f32) : FVec Ideal S8192x128 .f32 :=
  pad S8192x128 ![0, 0] ![0, 126] ![0, 0] (mulf (probT (expT (best (pickE u (placeE (chosen a)))))) (broadcastInDim S8192x2 ![0, 1] bcast_S8192x1_S8192x2_0_1 (pickG (probG (expG a)) (placeG (chosen a)))))
    (sitofp .f32 (constantI S_ 32 0#32)) pads_S8192x2_S8192x128_000_01260 h_S_

/-- The logits of the normalized rows. -/
def rowsF (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)
def logitG (x : FVec Ideal S8192x2048 .f32) (g : FVec Ideal S1x2048 .f32) (w : FVec Ideal S2048x4 .f32) : FVec Ideal S8192x4 .f32 :=
  Host.dotGeneral dot_S8192x2048_S2048x4_S8192x4_1_0_0_1_n_n none (rowsF x g) w
def logitE (x : FVec Ideal S8192x2048 .f32) (g : FVec Ideal S1x2048 .f32) (w : FVec Ideal S2048x32 .f32) : FVec Ideal S8192x4x8 .f32 :=
  shapeCast _ (Host.dotGeneral dot_S8192x2048_S2048x32_S8192x32_1_0_0_1_n_n none (rowsF x g) w) shapeCasts_S8192x32_S8192x4x8

variable (m : (ℓ : Loc nD τ sig) → Buf (Elt Ideal) ℓ) (c : Dev nD)

theorem result_eq : Cert.RouterRefIdeal.Value.res_out1 m c
    = gatesOf (logitG (m ((c.tc : Thread nD τ).loc main_arg0)) (m ((c.tc : Thread nD τ).loc main_arg1)) (m ((c.tc : Thread nD τ).loc main_arg2)))
      (logitE (m ((c.tc : Thread nD τ).loc main_arg0)) (m ((c.tc : Thread nD τ).loc main_arg1)) (m ((c.tc : Thread nD τ).loc main_arg3))) := rfl

/-! ## At a row and a place -/

theorem rowsF_apply (x : FVec Ideal S8192x2048 .f32) (g : FVec Ideal S1x2048 .f32) (r : Fin 8192) (k : Fin 2048) : rowsF x g (ix2 r k) = normed x g r k := by
  unfold rowsF normed
  pointwise

theorem logitG_apply (x : FVec Ideal S8192x2048 .f32) (g : FVec Ideal S1x2048 .f32) (w : FVec Ideal S2048x4 .f32) (r : Fin 8192) (k : Fin 4) :
    logitG x g w (ix2 r k) = ∑ q, normed x g r q * w (ix2 q k) :=
  (StackMember.dotGeneral_plain_apply none (rowsF x g) w r k).trans (Finset.sum_congr rfl fun q _ => congrArg (· * _) (rowsF_apply x g r q))

theorem logitE_apply (x : FVec Ideal S8192x2048 .f32) (g : FVec Ideal S1x2048 .f32) (w : FVec Ideal S2048x32 .f32) (r : Fin 8192) (k : Fin 4) (e : Fin 8) :
    logitE x g w (ix3 r k e) = ∑ q, normed x g r q * w (ix2 q ⟨8 * k.val + e.val, by omega⟩) := by
  unfold logitE
  refine (shapeCast_apply _ _ _ (ix2 r (⟨8 * k.val + e.val, by omega⟩ : Fin 32)) ?_).trans ?_
  · rw [Shape.rowMajor_val_three, Shape.rowMajor_val_two]
    show r.val * 32 + (8 * k.val + e.val) = (r.val * 4 + k.val) * 8 + e.val
    omega
  · exact (StackMember.dotGeneral_plain_apply none (rowsF x g) w r _).trans (Finset.sum_congr rfl fun q _ => congrArg (· * _) (rowsF_apply x g r q))

variable (s : IVec S8192x1 32) (q : IVec S8192x1x1 32) (r : Fin 8192) (g : Fin 4)

theorem keep_word (b : BitVec 32) (hb : b = BitVec.ofNat 32 g.val) : (if IntOp.cmpi .slt b 0#32 = 1#1 then IntOp.addi b 4#32 else b) = BitVec.ofNat 32 g.val := by
  subst hb
  revert g
  decide

theorem placeG_apply (hs : s (ix2 r 0) = BitVec.ofNat 32 g.val) : placeG s (ix3 r 0 0) = BitVec.ofNat 32 g.val := by
  unfold placeG
  refine (shapeCast_apply _ _ _ (ix2 r (0 : Fin 1)) ?_).trans ?_
  · rw [Shape.rowMajor_val_three, Shape.rowMajor_val_two]
    show r.val * 1 + 0 = (r.val * 1 + 0) * 1 + 0
    omega
  · pointwise
    exact keep_word g _ hs

theorem placeE_apply (hs : s (ix2 r 0) = BitVec.ofNat 32 g.val) : placeE s (ix3 r 0 0) = BitVec.ofNat 32 g.val := by
  unfold placeE
  pointwise
  exact keep_word g _ hs

theorem in_place : IntOp.andi (IntOp.andi (IntOp.cmpi .sge (BitVec.ofNat 32 g.val) 0#32) (IntOp.cmpi .sle (BitVec.ofNat 32 g.val) 3#32)) 1#1 = 1#1 := by
  revert g
  decide

theorem within_apply (hq : q (ix3 r 0 0) = BitVec.ofNat 32 g.val) : within q (ix2 r 0) = 1#1 := by
  unfold within
  pointwise
  rw [Finset.univ_unique, Finset.fold_singleton]
  refine (congrArg (fun b => IntOp.andi (IntOp.andi (IntOp.cmpi .sge b 0#32) (IntOp.cmpi .sle b 3#32)) 1#1) hq).trans (in_place g)

abbrev dG : GatherDims S8192x4 S8192x1x1 S8192x1 := gather_S8192x4_S8192x1x1_S8192x1_n_1_0_0_1_2_11
abbrev dE : GatherDims S8192x4x8 S8192x1x1 S8192x1x8 := gather_S8192x4x8_S8192x1x1_S8192x1x8_2_1_0_0_1_2_118

/-- A word holding one of the four places, read back. -/
theorem read_place (b : BitVec 32) (hb : b = BitVec.ofNat 32 g.val) : min b.toInt.toNat 3 = g.val := by
  subst hb
  revert g
  decide

theorem pickG_apply (p : FVec Ideal S8192x4 .f32) (hq : q (ix3 r 0 0) = BitVec.ofNat 32 g.val) : pickG p q (ix2 r 0) = p (ix2 r g) := by
  refine Eq.trans (b := if within q (ix2 r 0) = 1#1 then Host.gather dG p q (ix2 r 0) else _) rfl ?_
  rw [if_pos (within_apply q r g hq)]
  unfold Host.gather
  refine congrArg p (idx2_eq _ _ _ ?_ ?_)
  · show dG.start _ q 0 + dG.batchCoord _ 0 + dG.offCoord _ 0 = r.val
    rw [dG.start_batching _ _ _ (by decide), dG.offCoord_eq_zero _ _ (by decide)]
    unfold GatherDims.batchCoord
    rw [dif_pos (by decide), Nat.zero_add, Nat.add_zero]
    unfold GatherDims.siCoord
    rfl
  · show dG.start _ q 1 + dG.batchCoord _ 1 + dG.offCoord _ 1 = g.val
    rw [dG.batchCoord_eq_zero _ _ (by decide), dG.offCoord_eq_zero _ _ (by decide)]
    unfold GatherDims.start
    rw [dif_pos (by decide)]
    refine read_place g _ (Eq.trans (congrArg q (funext fun b => Fin.ext ?_)) hq)
    match b with
    | ⟨0, _⟩ => rfl
    | ⟨1, _⟩ => rfl
    | ⟨2, _⟩ => rfl

theorem gatherE_apply (u : FVec Ideal S8192x4x8 .f32) (e : Fin 8) (hq : q (ix3 r 0 0) = BitVec.ofNat 32 g.val) : Host.gather dE u q (ix3 r 0 e) = u (ix3 r g e) := by
  unfold Host.gather
  refine congrArg u (funext fun a => Fin.ext ?_)
  match a with
  | ⟨0, _⟩ =>
    show dE.start _ q 0 + dE.batchCoord _ 0 + dE.offCoord _ 0 = r.val
    rw [dE.start_batching _ _ _ (by decide), dE.offCoord_eq_zero _ _ (by decide)]
    unfold GatherDims.batchCoord
    rw [dif_pos (by decide), Nat.zero_add, Nat.add_zero]
    unfold GatherDims.siCoord
    rfl
  | ⟨1, _⟩ =>
    show dE.start _ q 1 + dE.batchCoord _ 1 + dE.offCoord _ 1 = g.val
    rw [dE.batchCoord_eq_zero _ _ (by decide), dE.offCoord_eq_zero _ _ (by decide)]
    unfold GatherDims.start
    rw [dif_pos (by decide)]
    refine read_place g _ (Eq.trans (congrArg q (funext fun b => Fin.ext ?_)) hq)
    match b with
    | ⟨0, _⟩ => rfl
    | ⟨1, _⟩ => rfl
    | ⟨2, _⟩ => rfl
  | ⟨2, _⟩ =>
    show dE.start _ q 2 + dE.batchCoord _ 2 + dE.offCoord _ 2 = e.val
    rw [dE.batchCoord_eq_zero _ _ (by decide)]
    unfold GatherDims.start GatherDims.offCoord
    rw [dif_neg (by decide), dif_pos (by decide)]
    show 0 + 0 + e.val = e.val
    rw [Nat.zero_add]

theorem pickE_apply (u : FVec Ideal S8192x4x8 .f32) (e : Fin 8) (hq : q (ix3 r 0 0) = BitVec.ofNat 32 g.val) : pickE u q (ix2 r e) = u (ix3 r g e) := by
  unfold pickE
  refine (shapeCast_apply _ _ _ (ix3 r (0 : Fin 1) e) ?_).trans ?_
  · rw [Shape.rowMajor_val_three, Shape.rowMajor_val_two]
    show (r.val * 1 + 0) * 8 + e.val = r.val * 8 + e.val
    omega
  · pointwise
    rw [within_apply q r g hq]
    exact gatherE_apply q r g u e hq

theorem top_eq {n : Nat} (f : Fin n → EReal) (k : Fin n) (hk : ∀ l, f l ≤ f k) :
    max (Ideal.ofBits FTy.f32 0xFF800000#32) (Finset.fold max (Ideal.ofBits FTy.f32 0xFF800000#32) f Finset.univ) = f k := by
  rw [FoxTile.fold_sup, FoxTile.word_bot, max_bot_left]
  exact le_antisymm (Finset.sup_le fun l _ => hk l) (Finset.le_sup (Finset.mem_univ k))

theorem expG_apply (a : FVec Ideal S8192x4 .f32) (k : Fin 4) (hg : First (fun _ => True) (fun k => a (ix2 r k)) g) :
    expG a (ix2 r k) = Ideal.exp (a (ix2 r k) - a (ix2 r g)) := by
  unfold expG
  pointwise
  exact congrArg (fun z => Ideal.exp (a (ix2 r k) - z)) (top_eq (fun k => a (ix2 r k)) g fun l => hg.2.1 l trivial)

theorem probG_apply (e : FVec Ideal S8192x4 .f32) (k : Fin 4) : probG e (ix2 r k) = Ideal.div (e (ix2 r k)) (∑ l, e (ix2 r l)) := by
  unfold probG
  pointwise

theorem expT_apply (t : FVec Ideal S8192x2 .f32) (k : Fin 2) (ht : t (ix2 r 1) ≤ t (ix2 r 0)) :
    expT t (ix2 r k) = Ideal.exp (t (ix2 r k) - t (ix2 r 0)) := by
  unfold expT
  pointwise
  refine congrArg (fun z => Ideal.exp (t (ix2 r k) - z)) (top_eq (fun k => t (ix2 r k)) 0 fun l => ?_)
  match l with
  | ⟨0, _⟩ => exact le_rfl
  | ⟨1, _⟩ => exact ht

theorem probT_apply (e : FVec Ideal S8192x2 .f32) (k : Fin 2) : probT e (ix2 r k) = Ideal.div (e (ix2 r k)) (e (ix2 r 0) + e (ix2 r 1)) := by
  unfold probT
  pointwise
  rw [Fin.sum_univ_two]

theorem chosen_apply (a : FVec Ideal S8192x4 .f32) (hg : First (fun _ => True) (fun k => a (ix2 r k)) g) : chosen a (ix2 r 0) = BitVec.ofNat 32 g.val :=
  (top_place a sliceFits_S8192x4_S8192x1 r (0 : Fin 1) (by decide)).trans
    (congrArg (fun k : Fin 4 => BitVec.ofNat 32 k.val) (sorted_first (fun k => a (ix2 r k)) g hg))

theorem exp_same (z : EReal) (hz : ∃ y : ℝ, z = y) : Ideal.exp (z - z) = 1 := by
  obtain ⟨y, rfl⟩ := hz
  rw [← EReal.coe_sub, sub_self]
  show ((Real.exp 0 : ℝ) : EReal) = 1
  rw [Real.exp_zero]
  rfl

/-- **The reference's gates at a row and a lane.** -/
theorem gatesOf_apply (a : FVec Ideal S8192x4 .f32) (u : FVec Ideal S8192x4x8 .f32) (i j : Fin 8) (l : Fin 128)
    (hg : First (fun _ => True) (fun k => a (ix2 r k)) g) (hi : First (fun _ => True) (fun e => u (ix3 r g e)) i)
    (hj : First (fun e => e ≠ i) (fun e => u (ix3 r g e)) j) (ra : ∃ y : ℝ, a (ix2 r g) = y) (ru : ∃ y : ℝ, u (ix3 r g i) = y) :
    gatesOf a u (ix2 r l) = gates (fun k => a (ix2 r k)) (fun e => u (ix3 r g e)) g i j l := by
  have hc := chosen_apply r g a hg
  have hw : ∀ e, pickE u (placeE (chosen a)) (ix2 r e) = u (ix3 r g e) := fun e => pickE_apply _ r g u e (placeE_apply _ r g hc)
  have hp : pickG (probG (expG a)) (placeG (chosen a)) (ix2 r 0) = Ideal.div 1 (∑ k, Ideal.exp (a (ix2 r k) - a (ix2 r g))) := by
    rw [pickG_apply _ r g _ (placeG_apply _ r g hc), probG_apply, expG_apply r g a g hg, exp_same _ ra]
    exact congrArg (Ideal.div 1) (Finset.sum_congr rfl fun k _ => expG_apply r g a k hg)
  have hW : (fun e => pickE u (placeE (chosen a)) (ix2 r e)) = fun e => u (ix3 r g e) := funext hw
  have t0 : best (pickE u (placeE (chosen a))) (ix2 r 0) = u (ix3 r g i) := by
    refine (top_value _ sliceFits_S8192x8_S8192x2 r (0 : Fin 2) (by decide)).trans ((hw _).trans ?_)
    rw [hW]
    exact congrArg (fun e => u (ix3 r g e)) (sorted_first (fun e => u (ix3 r g e)) i hi)
  have t1 : best (pickE u (placeE (chosen a))) (ix2 r 1) = u (ix3 r g j) := by
    refine (top_value _ sliceFits_S8192x8_S8192x2 r (1 : Fin 2) (by decide)).trans ((hw _).trans ?_)
    rw [hW]
    exact sorted_second (fun e => u (ix3 r g e)) i j hi hj
  have ht : best (pickE u (placeE (chosen a))) (ix2 r 1) ≤ best (pickE u (placeE (chosen a))) (ix2 r 0) := by
    rw [t0, t1]
    exact hi.2.1 j trivial
  have e0 : expT (best (pickE u (placeE (chosen a)))) (ix2 r 0) = 1 := by
    rw [expT_apply r _ 0 ht, t0]
    exact exp_same _ ru
  have e1 : expT (best (pickE u (placeE (chosen a)))) (ix2 r 1) = Ideal.exp (u (ix3 r g j) - u (ix3 r g i)) := by
    rw [expT_apply r _ 1 ht, t0, t1]
  have inside : ∀ k : Fin 2, (mulf (probT (expT (best (pickE u (placeE (chosen a)))))) (broadcastInDim S8192x2 ![0, 1] bcast_S8192x1_S8192x2_0_1 (pickG (probG (expG a)) (placeG (chosen a)))) : FVec Ideal S8192x2 .f32) (ix2 r k)
      = Ideal.div (expT (best (pickE u (placeE (chosen a)))) (ix2 r k)) (1 + Ideal.exp (u (ix3 r g j) - u (ix3 r g i))) * Ideal.div 1 (∑ k, Ideal.exp (a (ix2 r k) - a (ix2 r g))) := fun k => by
    pointwise
    rw [probT_apply, hp, e0, e1]
  unfold gatesOf gates
  by_cases h0 : l.val = 0
  · rw [if_pos h0]
    refine (pad_apply_of_inside _ _ _ _ _ _ _ _ (ix2 r (0 : Fin 2)) (fun b => ?_)).trans ((inside 0).trans (by rw [e0]))
    match b with
    | ⟨0, _⟩ => show r.val = 0 + r.val * (0 + 1); omega
    | ⟨1, _⟩ => exact h0
  · rw [if_neg h0]
    by_cases h1 : l.val = 1
    · rw [if_pos h1]
      refine (pad_apply_of_inside _ _ _ _ _ _ _ _ (ix2 r (1 : Fin 2)) (fun b => ?_)).trans ((inside 1).trans (by rw [e1]))
      match b with
      | ⟨0, _⟩ => show r.val = 0 + r.val * (0 + 1); omega
      | ⟨1, _⟩ => exact h1
    · rw [if_neg h1]
      pointwise
      rw [dif_neg (by omega)]
      show (((0#32 : BitVec 32).toInt : ℝ) : EReal) = 0
      simp

end Cert.RouterRef

end
-- ==== Proof.RouterGates.lean ====
/-
  The routing call's gates over the extended reals: the weights its blocks read, the logits its body makes of them, and
  the array of gates its 16 points leave.
-/
module

public import proofs.«01_k».proof.Proof.RouterRef

@[expose] public section

set_option maxRecDepth 16384

noncomputable section

namespace Cert.RouterGates

open Idealize.ShloMosaic Idealize.ShloMosaic.TcCoe Idealize.ShloMosaic.Tactic
open Idealize.SL.Sem Cert.Blocks Cert.RouterIdeal Cert.RouterIdeal.Gen Cert.RouterIdeal.Value
open Cert.InprojOut (normed normed_congr)
open Cert.RouterOut (xA gA rows gain rowOf blk0 blk1)
open Cert.RouterRow (First exists_first gates body_gates laneG laneE)
open Cert.RouterRef (logitG logitE gatesOf)

/-! ## Real numbers -/

/-- A number that is real. -/
abbrev Real' (z : EReal) : Prop := ∃ y : ℝ, z = y

theorem real_mul {a b : EReal} (ha : Real' a) (hb : Real' b) : Real' (a * b) := by
  obtain ⟨x, rfl⟩ := ha
  obtain ⟨y, rfl⟩ := hb
  exact ⟨x * y, (EReal.coe_mul x y).symm⟩

theorem coe_sum {n : Nat} (f : Fin n → ℝ) : ((∑ k, f k : ℝ) : EReal) = ∑ k, (f k : EReal) :=
  map_sum (⟨⟨Real.toEReal, EReal.coe_zero⟩, EReal.coe_add⟩ : ℝ →+ EReal) f Finset.univ

theorem real_sum {n : Nat} (f : Fin n → EReal) (h : ∀ k, Real' (f k)) : Real' (∑ k, f k) := by
  choose y hy using h
  exact ⟨∑ k, y k, by simp only [hy, coe_sum]⟩

theorem real_sub_self {a : EReal} (ha : Real' a) : a - a = 0 := by
  obtain ⟨x, rfl⟩ := ha
  rw [← EReal.coe_sub, sub_self, EReal.coe_zero]

theorem word_width : Ideal.ofBits .f32 0x45000000#32 = ((2048 : ℝ) : EReal) := by
  simp [Ideal.ofBits, Ideal.ieee]
  rw [← EReal.coe_mul]
  norm_num

theorem word_eps : ∃ y : ℝ, 0 < y ∧ Ideal.ofBits .f32 0x358637BD#32 = (y : EReal) := by
  simp [Ideal.ofBits, Ideal.ieee]
  refine ⟨_, ?_, (EReal.coe_mul _ _).symm⟩
  positivity

theorem real_of_square {z : EReal} (h : z * z ≠ ⊤) : Real' z := by
  induction z with
  | bot => exact absurd rfl h
  | top => exact absurd rfl h
  | coe y => exact ⟨y, rfl⟩

/-- A sum of squares is ⊤ if one of its terms is. -/
theorem squares_top {n : Nat} (x : Fin n → EReal) (l : Fin n) (h : x l * x l = ⊤) : ∑ k, x k * x k = ⊤ := by
  have h0 : ∀ k, 0 ≤ x k * x k := fun k => by
    rcases le_total 0 (x k) with hk | hk
    · exact mul_nonneg hk hk
    · exact EReal.mul_nonneg_iff.mpr (Or.inr ⟨hk, hk⟩)
  exact top_unique (h ▸ Finset.single_le_sum (f := fun k => x k * x k) (fun k _ => h0 k) (Finset.mem_univ l))

/-- Under a real gain any rows at all have real normalized rows: an infinite entry makes its row zero. -/
theorem real_normed {M : Nat} (x : FVec Ideal ⟨2, ![M, 2048]⟩ .f32) (g : FVec Ideal ⟨2, ![1, 2048]⟩ .f32) (hg : ∀ i, Real' (g i))
    (r : Fin M) (k : Fin 2048) : Real' (normed x g r k) := by
  refine real_mul ?_ (hg _)
  obtain ⟨e, he, we⟩ := word_eps
  rw [word_width, we]
  by_cases ht : ∃ l : Fin 2048, x (ix2 r l) * x (ix2 r l) = ⊤
  · obtain ⟨l, hl⟩ := ht
    have hs := squares_top (fun l : Fin 2048 => x (ix2 r l)) l hl
    have hd : Ideal.div ⊤ ((2048 : ℝ) : EReal) = ⊤ := by
      unfold Ideal.div
      rw [if_neg (by norm_num), ← EReal.coe_inv]
      exact EReal.top_mul_coe_of_pos (by norm_num)
    refine ⟨0, ?_⟩
    rw [hs, hd, EReal.top_add_coe]
    exact mul_zero _
  · have hx : ∀ l : Fin 2048, Real' (x (ix2 r l)) := fun l => real_of_square (not_exists.mp ht l)
    refine real_mul (hx k) ?_
    choose y hy using hx
    have hs : ∑ l : Fin 2048, x (ix2 r l) * x (ix2 r l) = ((∑ l : Fin 2048, y l * y l : ℝ) : EReal) := by
      rw [coe_sum]
      exact Finset.sum_congr rfl fun l _ => by rw [hy, EReal.coe_mul]
    have h0 : 0 ≤ ∑ l : Fin 2048, y l * y l := Finset.sum_nonneg fun l _ => mul_self_nonneg _
    have hd : Ideal.div ((∑ l : Fin 2048, y l * y l : ℝ) : EReal) ((2048 : ℝ) : EReal) = (((∑ l : Fin 2048, y l * y l) * (2048 : ℝ)⁻¹ : ℝ) : EReal) := by
      unfold Ideal.div
      rw [if_neg (by norm_num), ← EReal.coe_inv, ← EReal.coe_mul]
    rw [hs, hd, ← EReal.coe_add]
    have hp : 0 < (∑ l : Fin 2048, y l * y l) * (2048 : ℝ)⁻¹ + e := by positivity
    exact ⟨_, (if_neg (not_lt.mpr hp.le)).trans (if_neg hp.ne')⟩

/-! ## The weights -/

/-- The two weights beside each other in the first 36 of 128 lanes, -/
def both (wg : FVec Ideal S2048x4 .f32) (we : FVec Ideal S2048x32 .f32) : FVec Ideal S2048x128 .f32 :=
  pad S2048x128 ![0, 0] ![0, 92] ![0, 0] (concatenate S2048x36 1 [⟨S2048x4, wg⟩, ⟨S2048x32, we⟩] concatenates_S2048x4_S2048x32_S2048x36_d1) (sitofp (F := Ideal) .f32 (constantI S_ 32 0#32)) pads_S2048x36_S2048x128_000_0920 h_S_

theorem both_group (wg : FVec Ideal S2048x4 .f32) (we : FVec Ideal S2048x32 .f32) (q : Fin 2048) (k : Fin 4) : both wg we (ix2 q (laneG k)) = wg (ix2 q k) := by
  show both wg we (ix2 q (⟨k.val, by omega⟩ : Fin 128)) = _
  unfold both
  pointwise
  exact dif_pos (by omega)

theorem both_expert (wg : FVec Ideal S2048x4 .f32) (we : FVec Ideal S2048x32 .f32) (q : Fin 2048) (k : Fin 4) (e : Fin 8) :
    both wg we (ix2 q (laneE k e)) = we (ix2 q ⟨8 * k.val + e.val, by omega⟩) := by
  show both wg we (ix2 q (⟨4 + 8 * k.val + e.val, by omega⟩ : Fin 128)) = _
  unfold both
  pointwise
  refine (dif_pos (by omega)).trans ((dif_neg (by omega)).trans (congrArg we (idx2_eq _ _ _ rfl ?_)))
  show 4 + 8 * k.val + e.val - 4 = 8 * k.val + e.val
  omega

variable (m : (ℓ : Loc nD τ sig) → Buf (Elt Ideal) ℓ) (c : Dev nD)

abbrev wgA : FVec Ideal S2048x4 .f32 := m ((c : Thread nD τ).loc main_arg2)
abbrev weA : FVec Ideal S2048x32 .f32 := m ((c : Thread nD τ).loc main_arg3)

/-- and the array the points read: that, and what rounding it once leaves. -/
theorem weights_eq : V m c main_v6 = (concatenate S2048x256 1 [⟨S2048x128, truncf .bf16 (both (wgA m c) (weA m c)) bitsLt_bf16_f32⟩,
    ⟨S2048x128, truncf .bf16 (subf (both (wgA m c) (weA m c)) (extf .f32 (truncf .bf16 (both (wgA m c) (weA m c)) bitsLt_bf16_f32 : FVec Ideal S2048x128 .bf16) bitsLt_bf16_f32)) bitsLt_bf16_f32⟩] concatenates_S2048x128_S2048x128_S2048x256_d1 : FVec Ideal S2048x256 .bf16) := rfl

theorem weights_first (q : Fin 2048) (l : Fin 128) : V m c main_v6 (ix2 q ⟨l.val, by omega⟩) = both (wgA m c) (weA m c) (ix2 q l) := by
  rw [weights_eq]
  pointwise

theorem weights_second (q : Fin 2048) (l : Fin 128) : V m c main_v6 (ix2 q ⟨128 + l.val, by omega⟩) = both (wgA m c) (weA m c) (ix2 q l) - both (wgA m c) (weA m c) (ix2 q l) := by
  rw [weights_eq]
  pointwise

/-! ## A point -/

/-- The first 128 columns of a block of weights. -/
def front (w : Vec Ideal S2048x256 .bf16) : Vec Ideal S2048x128 .bf16 := fun j => w (ix2 (j 0) ⟨(j 1).val, Nat.lt_of_lt_of_le (j 1).isLt (by decide)⟩)

/-- The body's logits of its blocks. -/
def logits (x : Vec Ideal S512x2048 .f32) (g : Vec Ideal S1x2048 .f32) (w : Vec Ideal S2048x256 .bf16) : FVec Ideal S512x128 .f32 := k0_pay7 x g w (front w)

theorem logits_apply (x : Vec Ideal S512x2048 .f32) (g : Vec Ideal S1x2048 .f32) (w : Vec Ideal S2048x256 .bf16) (r : Fin 512) (l : Fin 128)
    (hn : ∀ q, Real' (normed x g r q)) (hw : ∀ q, w (ix2 q ⟨128 + l.val, by omega⟩) = 0) :
    logits x g w (ix2 r l) = ∑ q, normed x g r q * w (ix2 q ⟨l.val, by omega⟩) := by
  have h6 : ∀ q, k0_pay6 x g (ix2 r q) = normed x g r q := fun q => RouterOut.rows_apply x g r q
  have h5 : ∀ q, k0_pay5 x g (ix2 r q) = normed x g r q := fun q => by
    unfold k0_pay5 normed
    pointwise
  unfold logits k0_pay7
  pointwise
  simp only [h5, h6, hw, real_sub_self (hn _), zero_mul, mul_zero, Finset.sum_const_zero, add_zero]

theorem idx2_0 : ∀ t : Fin cfg0.N, win0_2.index t 0 = 0 ∧ win0_2.index t 1 = 0 :=
  (by decide +kernel : ∀ t : Fin grid0.N, win0_2.index t 0 = 0 ∧ win0_2.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- The weights a point reads. -/
abbrev wts (t : Fin cfg0.N) : Vec Ideal S2048x256 .bf16 := iblk m c 2 t

theorem blk2 (t : Fin cfg0.N) (q : Fin 2048) (l : Fin 256) : wts m c t (ix2 q l) = V m c main_v6 (ix2 q l) := by
  refine congrArg (V m c main_v6) (idx2_eq _ q l ?_ ?_)
  · refine ((cfg0.win 2).rect_emb_val t (ix2 q l) ⟨0, Nat.zero_lt_succ 1⟩).trans ((congrArg (· * 2048 + q.val) (idx2_0 t).1).trans ?_)
    show 0 * 2048 + q.val = q.val
    omega
  · refine ((cfg0.win 2).rect_emb_val t (ix2 q l) ⟨1, Nat.lt_succ_self 1⟩).trans ((congrArg (· * 256 + l.val) (idx2_0 t).2).trans ?_)
    show 0 * 256 + l.val = l.val
    omega

/-- The body's masks and lane numbers, and its gates of the logits. -/
def lanes : IVec S512x128 32 := iota Kind.tc S512x128 32 [1] iota_S512x128_d1_w32
def body (L v37 : FVec Ideal S512x128 .f32) : FVec Ideal S512x128 .f32 :=
  k0_pay2 lanes (k0_pay20 L (k0_pay12 L k0_pay9 v37) (k0_pay14 L lanes k0_pay8 k0_pay9 v37) (k0_pay16 L lanes k0_pay8 k0_pay9 v37) k0_pay17)
    (k0_pay21 L (k0_pay12 L k0_pay9 v37) (k0_pay14 L lanes k0_pay8 k0_pay9 v37) (k0_pay16 L lanes k0_pay8 k0_pay9 v37) k0_pay17)

theorem read_front {M : Memref sig .tc .vmem S2048x256 .bf16} (h : M.IsWhole) (X : Vec Ideal S2048x256 .bf16) :
    View.readAt (Elt Ideal) M.view (Rect.unit (s := S2048x256) ![0, 0] S2048x128.size inb_S2048x256_S2048x128_0_0).toLoadRect (h.unread X) = front X := by
  funext j
  refine (h.readAt_unread X _ j).trans (congrArg X (idx2_eq _ _ _ ?_ ?_))
  · show 0 + 1 * (j 0).val = (j 0).val
    omega
  · show 0 + 1 * (j 1).val = (j 1).val
    omega

/-- What any point writes: its blocks' gates. -/
theorem flushed_eq (t : Fin cfg0.N) : (dats m 0 c).flushed 7 t
    = body (logits (rows m c t) (gain m c t) (wts m c t)) (k0_pay10 (rows m c t) (gain m c t) (wts m c t) (front (wts m c t))) := by
  by_cases h0 : t.val % 16 = 0
  · rw [flushed7_A m c t h0]
    unfold out0_A_7 kernelRun0_A
    refine (read_store_whole _ _ zeros2 _ _).trans ?_
    unfold kernelRun0_A.sl.r_7 kernelRun0_A.sl.r_6 kernelRun0_A.sl.r_5 kernelRun0_A.sl.r_3 kernelRun0_A.sl.r_2 kernelRun0_A.sl.r_1 kernelRun0_A.sl.r
    rw [readAt_whole (hs0_0 t) zeros2, readAt_whole (hs0_1 t) zeros2, readAt_whole (hs0_2 t) zeros2, read_front (hs0_2 t)]
    rfl
  · rw [flushed7_B m c t h0]
    unfold out0_B_7 kernelRun0_B
    refine (read_store_whole _ _ zeros2 _ _).trans ?_
    unfold kernelRun0_B.sl.r_7 kernelRun0_B.sl.r_6 kernelRun0_B.sl.r_5 kernelRun0_B.sl.r_3 kernelRun0_B.sl.r_2 kernelRun0_B.sl.r_1 kernelRun0_B.sl.r
    rw [readAt_whole (hs0_0 t) zeros2, readAt_whole (hs0_1 t) zeros2, readAt_whole (hs0_2 t) zeros2, read_front (hs0_2 t)]
    rfl

theorem lanes_apply (r : Fin 512) (l : Fin 128) : lanes (ix2 r l) = BitVec.ofNat 32 l.val := by
  unfold lanes
  pointwise

theorem number_apply (r : Fin 512) (l : Fin 128) : (k0_pay8 : FVec Ideal S512x128 .f32) (ix2 r l) = FloatOps.sitofp FTy.f32 (BitVec.ofNat 32 l.val) := by
  unfold k0_pay8
  pointwise

theorem four_apply (r : Fin 512) (l : Fin 128) : k0_pay9 (ix2 r l) = BitVec.ofBool (decide (l.val < 4)) := by
  unfold k0_pay9
  pointwise
  have h := WordCmp.cmpi_slt_ofNat_eq_one_iff (w := 32) (a := l.val) (b := 4) (by norm_num; omega) (by norm_num)
  refine congrArg BitVec.ofBool (Bool.eq_iff_iff.mpr ((RouterRow.bool_one _).symm.trans (h.trans decide_eq_true_iff.symm)))

/-- A point's gates are the reference's of its rows, where the reference's logits are real. -/
theorem body_eq (r : Fin 512) (R : Fin 8192) (L v37 : FVec Ideal S512x128 .f32) (a : FVec Ideal ⟨2, ![8192, 4]⟩ .f32) (u : FVec Ideal ⟨3, ![8192, 4, 8]⟩ .f32)
    (h37 : ∀ l : Fin 128, v37 (ix2 r l) = Scalar.select (k0_pay9 (ix2 r l)) (L (ix2 r l)) (Ideal.ofBits FTy.f32 0xFF800000#32))
    (ha : ∀ k, L (ix2 r (laneG k)) = a (ix2 R k)) (hu : ∀ k e, L (ix2 r (laneE k e)) = u (ix3 R k e))
    (ra : ∀ k, Real' (a (ix2 R k))) (ru : ∀ k e, Real' (u (ix3 R k e))) (l : Fin 128) : body L v37 (ix2 r l) = gatesOf a u (ix2 R l) := by
  obtain ⟨g, hg⟩ := exists_first (fun _ => True) (fun k => a (ix2 R k)) ⟨0, trivial⟩
  obtain ⟨i, hi⟩ := exists_first (fun _ => True) (fun e => u (ix3 R g e)) ⟨0, trivial⟩
  obtain ⟨j, hj⟩ := exists_first (fun e => e ≠ i) (fun e => u (ix3 R g e)) (exists_ne i)
  refine Eq.trans ?_ (RouterRef.gatesOf_apply R g a u i j l hg hi hj (ra g) (ru g i)).symm
  exact body_gates L lanes k0_pay8 v37 k0_pay17 k0_pay9 r (lanes_apply r) (number_apply r) (four_apply r) h37
    (fun l => by unfold k0_pay17; pointwise) (fun k => a (ix2 R k)) (fun k e => u (ix3 R k e)) g i j ha hu hg hi hj l

/-- The gain and the routing weights are real. -/
structure Finite : Prop where
  g : ∀ i, Real' (gA m c i)
  wg : ∀ i, Real' (wgA m c i)
  we : ∀ i, Real' (weA m c i)

/-- The reference's gates of the arguments. -/
def target : FVec Ideal S8192x128 .f32 := gatesOf (logitG (xA m c) (gA m c) (wgA m c)) (logitE (xA m c) (gA m c) (weA m c))

variable {m c} in
/-- A point's logits at a lane of real weights. -/
theorem point_logits (hf : Finite m c) (t : Fin cfg0.N) (r : Fin 512) (l : Fin 128) (hl : ∀ q, Real' (both (wgA m c) (weA m c) (ix2 q l))) :
    logits (rows m c t) (gain m c t) (wts m c t) (ix2 r l) = ∑ q, normed (xA m c) (gA m c) (rowOf t r) q * both (wgA m c) (weA m c) (ix2 q l) := by
  have hn : ∀ q, normed (rows m c t) (gain m c t) r q = normed (xA m c) (gA m c) (rowOf t r) q := fun q =>
    normed_congr _ _ _ _ _ _ _ (blk0 m c t r) (blk1 m c t q)
  refine (logits_apply _ _ _ r l (fun q => ?_) fun q => ?_).trans (Finset.sum_congr rfl fun q _ => congrArg₂ (· * ·) (hn q) ?_)
  · rw [hn]
    exact real_normed _ _ hf.g _ _
  · exact (blk2 m c t q _).trans ((weights_second m c q l).trans (real_sub_self (hl q)))
  · exact (blk2 m c t q _).trans (weights_first m c q l)

variable {m c} in
theorem flushed_at (hf : Finite m c) (t : Fin cfg0.N) (r : Fin 512) (l : Fin 128) : (dats m 0 c).flushed 7 t (ix2 r l) = target m c (ix2 (rowOf t r) l) := by
  have hn := real_normed (xA m c) (gA m c) hf.g (rowOf t r)
  refine (congrFun (flushed_eq m c t) _).trans (body_eq r (rowOf t r) _ _ _ _ (fun l => ?_) (fun k => ?_) (fun k e => ?_) (fun k => ?_) (fun k e => ?_) l)
  · unfold k0_pay10
    pointwise
    rfl
  · refine (point_logits hf t r (laneG k) fun q => ?_).trans ((Finset.sum_congr rfl fun q _ => ?_).trans (RouterRef.logitG_apply _ _ _ _ k).symm)
    · rw [both_group]
      exact hf.wg _
    · rw [both_group]
  · refine (point_logits hf t r (laneE k e) fun q => ?_).trans ((Finset.sum_congr rfl fun q _ => ?_).trans (RouterRef.logitE_apply _ _ _ _ k e).symm)
    · rw [both_expert]
      exact hf.we _
    · rw [both_expert]
  · rw [RouterRef.logitG_apply]
    exact real_sum _ fun q => real_mul (hn q) (hf.wg _)
  · rw [RouterRef.logitE_apply]
    exact real_sum _ fun q => real_mul (hn q) (hf.we _)

variable {m c} in
/-- **The array at the end holds the reference's gates.** -/
theorem arr_gates (hf : Finite m c) : (dats m 0 c).arrAt 7 cfg0.N = target m c := by
  refine (dats m 0 c).arrAt_eq_of_covers 7 _ ?_ fun t hfl y => ?_
  · refine (cfg0.win 7).covers_of_indexMap_surj rfl (fun a => match a with
      | ⟨0, _⟩ => (by decide : 0 < 512)
      | ⟨1, _⟩ => (by decide : 0 < 128)) fun β => ?_
    have h0 : (β ⟨0, Nat.zero_lt_succ 1⟩).val < (8192 + 512 - 1) / 512 := (β ⟨0, Nat.zero_lt_succ 1⟩).isLt
    have h1 : (β ⟨1, Nat.lt_succ_self 1⟩).val < (128 + 128 - 1) / 128 := (β ⟨1, Nat.lt_succ_self 1⟩).isLt
    have b0 : (β ⟨0, Nat.zero_lt_succ 1⟩).val < 1048576 := by omega
    refine ⟨fun a => match a with
      | ⟨0, _⟩ => ⟨(β ⟨0, Nat.zero_lt_succ 1⟩).val, by show _ < 16; omega⟩, fun a => ?_⟩
    match a with
    | ⟨0, _⟩ => exact word _ b0
    | ⟨1, _⟩ => show 0 = (β ⟨1, Nat.lt_succ_self 1⟩).val; omega
  · change S512x128.Idx at y
    obtain ⟨r, k, rfl⟩ : ∃ (r : Fin 512) (k : Fin 128), y = ix2 r k := ⟨y 0, y 1, eq_ix2 y⟩
    have ej : ((cfg0.win 7).blk t).view.emb (ix2 r k) = ix2 (rowOf t r) k := by
      refine idx2_eq _ _ _ ?_ ?_
      · exact ((cfg0.win 7).rect_emb_val t (ix2 r k) ⟨0, Nat.zero_lt_succ 1⟩).trans (congrArg (· * 512 + r.val) (idx7 t).1)
      · refine ((cfg0.win 7).rect_emb_val t (ix2 r k) ⟨1, Nat.lt_succ_self 1⟩).trans ((congrArg (· * 128 + k.val) (idx7 t).2).trans ?_)
        show 0 * 128 + k.val = k.val
        omega
    exact (flushed_at hf t r k).trans (congrArg (target m c) ej.symm)

end Cert.RouterGates

end
-- ==== Proof.RouterClaims.lean ====
/-
  The claims about the routing call's normalized rows and gates.
-/
module

public import proofs.«01_k».proof.Defs
public import proofs.«01_k».proof.Proof.Gen.Router.Frame
public import proofs.«01_k».proof.Proof.RouterOut
public import proofs.«01_k».proof.Proof.RouterGates
public import proofs.«01_k».proof.Proof.FoxClaims
public import Idealize.ShloMosaic.Adequacy
public import Idealize.ShloMosaic.Init
public import Idealize.ShloMosaic.Lib.Quiescent

@[expose] public section

noncomputable section

namespace Cert.RouterClaims

/-- The precondition's program has its facts. -/
instance pre_facts : Cert.Pre_finite_weights.Facts := ⟨by decide, by decide, by decide⟩

end Cert.RouterClaims

namespace Cert.Proof

open Idealize.ShloMosaic Idealize.SL.Sem

/-- What the precondition says: the gain and the routing weights are real numbers. -/
theorem real_weights [Cert.Pre_finite_weights.Facts] (m : (ℓ : Loc Cert.RouterIdeal.nD Cert.RouterIdeal.τ Cert.RouterIdeal.sig) → Buf (Elt Ideal) ℓ)
    (h : Cert.Pre_RouterIdeal_finite_weights m) (c : Dev Cert.RouterIdeal.nD) : RouterGates.Finite m c :=
  ⟨fun i => real_of_lt _ (congrFun (h c).1 i), fun i => real_of_lt _ (congrFun (h c).2.1 i), fun i => real_of_lt _ (congrFun (h c).2.2 i)⟩

theorem frame_router : Cert.quiescent_Router := fun m g _ => Cert.Router.Gen.frame m g

theorem frame_router_ideal : Cert.quiescent_RouterIdeal := fun m g _ => Cert.RouterIdeal.Gen.frame m g

theorem frame_router_ideal_pre [Cert.Pre_finite_weights.Facts] : Cert.quiescent_RouterIdeal_pre_finite_weights := fun m g _ => Cert.RouterIdeal.Gen.frame m g

theorem frame_router_ref : Cert.quiescent_RouterRefIdeal := fun m g _ =>
  (θ_run _ _ _).mono (fun r h => ⟨fun c => (h c).2.2, sem_eq_zero_of_no_sems rfl r.2⟩) (Cert.RouterRefIdeal.Value.run m g)

theorem frame_router_ref_pre [Cert.Pre_finite_weights.Facts] : Cert.quiescent_RouterRefIdeal_pre_finite_weights := fun m g _ =>
  frame_router_ref m g trivial

/-- The routing call's normalized rows and gates are the reference's. -/
theorem value_router [Cert.Pre_finite_weights.Facts] : Cert.algebraic_RouterIdeal_RouterRefIdeal_pre_finite_weights := fun m g m' g' hpre harg =>
  ⟨fun c => RouterOut.normedRows (RouterOut.xA m c) (RouterOut.gA m c), fun c => RouterGates.target m c,
   (θ_run _ _ _).mono (fun _ h c => ⟨(h c).1.trans (RouterOut.arr_rows m c),
      (h c).2.2.1.trans (RouterGates.arr_gates (real_weights m hpre c)), (h c).2.2.2.2⟩) (Cert.RouterIdeal.Value.run_blocks m g),
   (θ_run _ _ _).mono (fun _ h c => by
      obtain ⟨e0, e1, e2, e3⟩ := harg c
      refine ⟨(h c).1.trans ((RouterOut.ref_eq _ _).trans ?_), (h c).2.1.trans ((RouterRef.result_eq m' c).trans ?_), (h c).2.2⟩
      · rw [e0, e1]
      · rw [e0, e1, e2, e3]
        rfl)
    (Cert.RouterRefIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.MergeIdeal.Value
public import proofs.«01_k».proof.Proof.Gen.FoxIdeal.Frame
public import proofs.«01_k».proof.Proof.Gen.Fox.Frame
public import proofs.«01_k».proof.Proof.Gen.FoxRefIdeal.Run
public import proofs.«01_k».proof.Proof.Gen.FoxIdeal.Value
public import proofs.«01_k».proof.Proof.Gen.MixoutIdeal.Value
public import proofs.«01_k».proof.Proof.Gen.MergeRefIdeal.Run
public import proofs.«01_k».proof.Proof.Gen.MixoutRefIdeal.Run
public import proofs.«01_k».proof.Proof.WprepRef
public import proofs.«01_k».proof.Proof.TailClaims
public import proofs.«01_k».proof.Proof.InprojClaims
public import proofs.«01_k».proof.Proof.FoxClaims
public import proofs.«01_k».proof.Proof.GatesClaims
public import proofs.«01_k».proof.Proof.RouterClaims
public import proofs.«01_k».proof.Proof.Gen.InprojIdeal
public import proofs.«01_k».proof.Proof.Gen.InprojRefIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The idealized program's body table is the kernel's over the extended reals: label by label the same function. -/
theorem wprep_bodies : Cert.KernelIdeal.defs₀ (F := Ideal) = Cert.Kernel.defs₀ (F := Ideal) := by
  refine congrArg Defs.onTc (funext fun l => ?_)
  match l with
  | ⟨0, _⟩ => exact funext fun _ => rfl

/-- So are its definitions, the pipelines' included. -/
theorem wprep_defs : Cert.KernelIdeal.defs (F := Ideal) = Cert.Kernel.defs (F := Ideal) :=
  congrArg (Pipeline.defs (Cert.Kernel.pcfgs (F := Ideal))) wprep_bodies

/-- The idealized preparation is the kernel's text over the extended reals: its run is the one run. -/
theorem wprep_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r => (∀ c : Dev Cert.KernelIdeal.nD,
      r.2.mem ((c.tc : Thread Cert.KernelIdeal.nD Cert.KernelIdeal.τ).loc Cert.KernelIdeal.main_v2_0) = WprepOut.outMain (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v2_1) = WprepOut.outForget (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0 :=
  wprep_defs ▸ WprepOut.run (F := Ideal) m g

theorem frame_kernel : Cert.quiescent_Kernel := fun m g _ =>
  (θ_run _ _ _).mono (fun _ h => ⟨fun c => (h.1 c).2.2, h.2⟩) (WprepOut.run m g)

theorem frame_ideal : Cert.quiescent_KernelIdeal := fun m g _ =>
  (θ_run _ _ _).mono (fun _ h => ⟨fun c => (h.1 c).2.2, h.2⟩) (wprep_ideal m g)

theorem frame_reference : Cert.quiescent_ReferenceIdeal := fun m g _ =>
  (θ_run _ _ _).mono (fun r h => ⟨fun c => (h c).2.2, sem_eq_zero_of_no_sems rfl r.2⟩) (Cert.ReferenceIdeal.Value.run m g)

theorem value : Cert.algebraic_KernelIdeal_ReferenceIdeal := fun m g m' g' _ harg =>
  ⟨fun c => WprepOut.outMain (m ((c.tc : Thread Cert.KernelIdeal.nD Cert.KernelIdeal.τ).loc Cert.KernelIdeal.main_arg0)),
   fun c => WprepOut.outForget (m ((c.tc : Thread Cert.KernelIdeal.nD Cert.KernelIdeal.τ).loc Cert.KernelIdeal.main_arg0)),
   (θ_run _ _ _).mono (fun _ h => h.1) (wprep_ideal m g),
   (θ_run _ _ _).mono (fun _ h c => ⟨(h c).1.trans ((WprepRef.main_eq _).trans (congrArg WprepOut.outMain (harg c))),
      (h c).2.1.trans ((WprepRef.forget_eq _).trans (congrArg WprepOut.outForget (harg c))), (h c).2.2⟩)
    (Cert.ReferenceIdeal.Value.run m' g')⟩

theorem claim : Cert.Claim := ⟨Cert.Kernel.Gen.facts, Cert.KernelIdeal.Gen.facts, Cert.ReferenceIdeal.Gen.facts,
  Cert.Inproj.Gen.facts, Cert.InprojIdeal.Gen.facts, Cert.InprojRefIdeal.Gen.facts,
  Cert.Merge.Gen.facts, Cert.MergeIdeal.Gen.facts, Cert.MergeRefIdeal.Gen.facts,
  Cert.Mixout.Gen.facts, Cert.MixoutIdeal.Gen.facts, Cert.MixoutRefIdeal.Gen.facts,
  Cert.Fox.Gen.facts, Cert.FoxIdeal.Gen.facts, Cert.FoxRefIdeal.Gen.facts,
  Cert.Gates.Gen.facts, Cert.GatesIdeal.Gen.facts, Cert.GatesRefIdeal.Gen.facts,
  Cert.Router.Gen.facts, Cert.RouterIdeal.Gen.facts, Cert.RouterRefIdeal.Gen.facts, Cert.FoxClaims.pre_facts, Cert.RouterClaims.pre_facts,
  frame_kernel, frame_ideal, frame_reference,
  frame_inproj, frame_inproj_ideal, frame_inproj_ref,
  frame_merge, frame_merge_ideal, frame_merge_ref, frame_mixout, frame_mixout_ideal, frame_mixout_ref,
  frame_fox, frame_fox_ideal, frame_fox_ideal_pre, frame_fox_ref, frame_fox_ref_pre,
  frame_gates, frame_gates_ideal, frame_gates_ref,
  frame_router, frame_router_ideal, frame_router_ideal_pre, frame_router_ref, frame_router_ref_pre,
  trivial, value, trivial, value_inproj, trivial, value_merge, trivial, value_mixout, trivial, value_fox, named_gates, value_gates, trivial, value_router⟩

end Cert.Proof

end
